-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Base (m : (ℓ : Loc Cert.Base.nD Cert.Base.τ Cert.Base.sig) → Buf (Elt Bits) ℓ) : Prop :=
  True

def Pre_BaseIdeal (m : (ℓ : Loc Cert.BaseIdeal.nD Cert.BaseIdeal.τ Cert.BaseIdeal.sig) → Buf (Elt Ideal) ℓ) : Prop :=
  True

def Pre_RefBaseIdeal (m : (ℓ : Loc Cert.RefBaseIdeal.nD Cert.RefBaseIdeal.τ Cert.RefBaseIdeal.sig) → Buf (Elt Ideal) ℓ) : Prop :=
  True

def Pre_Enc [hPre_tokens_in_range : Cert.Pre_tokens_in_range.Facts] (m : (ℓ : Loc Cert.Enc.nD Cert.Enc.τ Cert.Enc.sig) → Buf (Elt Bits) ℓ) : Prop :=
  ∀ c : Dev Cert.Enc.nD,
    (Cert.Pre_tokens_in_range.fn (F := Bits) (m ((c.tc : Thread Cert.Enc.nD Cert.Enc.τ).loc Cert.Enc.main_arg0)) (m ((c.tc : Thread Cert.Enc.nD Cert.Enc.τ).loc Cert.Enc.main_arg1)) (m ((c.tc : Thread Cert.Enc.nD Cert.Enc.τ).loc Cert.Enc.main_arg2)) (m ((c.tc : Thread Cert.Enc.nD Cert.Enc.τ).loc Cert.Enc.main_arg3)) (m ((c.tc : Thread Cert.Enc.nD Cert.Enc.τ).loc Cert.Enc.main_arg4)) (m ((c.tc : Thread Cert.Enc.nD Cert.Enc.τ).loc Cert.Enc.main_arg5))) = (fun _ => 1#1)

def Pre_EncIdeal [hPre_tokens_in_range : Cert.Pre_tokens_in_range.Facts] (m : (ℓ : Loc Cert.EncIdeal.nD Cert.EncIdeal.τ Cert.EncIdeal.sig) → Buf (Elt Ideal) ℓ) : Prop :=
  ∀ c : Dev Cert.EncIdeal.nD,
    (Cert.Pre_tokens_in_range.fn (F := Ideal) (m ((c.tc : Thread Cert.EncIdeal.nD Cert.EncIdeal.τ).loc Cert.EncIdeal.main_arg0)) (m ((c.tc : Thread Cert.EncIdeal.nD Cert.EncIdeal.τ).loc Cert.EncIdeal.main_arg1)) (m ((c.tc : Thread Cert.EncIdeal.nD Cert.EncIdeal.τ).loc Cert.EncIdeal.main_arg2)) (m ((c.tc : Thread Cert.EncIdeal.nD Cert.EncIdeal.τ).loc Cert.EncIdeal.main_arg3)) (m ((c.tc : Thread Cert.EncIdeal.nD Cert.EncIdeal.τ).loc Cert.EncIdeal.main_arg4)) (m ((c.tc : Thread Cert.EncIdeal.nD Cert.EncIdeal.τ).loc Cert.EncIdeal.main_arg5))) = (fun _ => 1#1)

def Pre_RefEncIdeal (m : (ℓ : Loc Cert.RefEncIdeal.nD Cert.RefEncIdeal.τ Cert.RefEncIdeal.sig) → Buf (Elt Ideal) ℓ) : Prop :=
  True

def Pre_RefEncIdeal_tokens_in_range [hPre_tokens_in_range : Cert.Pre_tokens_in_range.Facts] (m : (ℓ : Loc Cert.RefEncIdeal.nD Cert.RefEncIdeal.τ Cert.RefEncIdeal.sig) → Buf (Elt Ideal) ℓ) : Prop :=
  ∀ c : Dev Cert.RefEncIdeal.nD,
    (Cert.Pre_tokens_in_range.fn (F := Ideal) (m ((c.tc : Thread Cert.RefEncIdeal.nD Cert.RefEncIdeal.τ).loc Cert.RefEncIdeal.main_arg0)) (m ((c.tc : Thread Cert.RefEncIdeal.nD Cert.RefEncIdeal.τ).loc Cert.RefEncIdeal.main_arg1)) (m ((c.tc : Thread Cert.RefEncIdeal.nD Cert.RefEncIdeal.τ).loc Cert.RefEncIdeal.main_arg2)) (m ((c.tc : Thread Cert.RefEncIdeal.nD Cert.RefEncIdeal.τ).loc Cert.RefEncIdeal.main_arg3)) (m ((c.tc : Thread Cert.RefEncIdeal.nD Cert.RefEncIdeal.τ).loc Cert.RefEncIdeal.main_arg4)) (m ((c.tc : Thread Cert.RefEncIdeal.nD Cert.RefEncIdeal.τ).loc Cert.RefEncIdeal.main_arg5))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Base [hBase : Cert.Base.Facts] : Prop :=
  ∀ (m : (ℓ : Loc Cert.Base.nD Cert.Base.τ Cert.Base.sig) → Buf (Elt Bits) ℓ) (g : Dev Cert.Base.nD → PrngReg), Pre_Base m →
    θ_run (Cert.Base.defs (F := Bits)) (onTc (τ := Cert.Base.τ) (Cert.Base.main (F := Bits))) ⟨m, fun _ => 0, g⟩ (fun r => (∀ c : Dev Cert.Base.nD,
      r.2.mem ((c.tc : Thread Cert.Base.nD Cert.Base.τ).loc Cert.Base.main_arg0) = m ((c.tc : Thread Cert.Base.nD Cert.Base.τ).loc Cert.Base.main_arg0)
      ∧ r.2.mem ((c.tc : Thread Cert.Base.nD Cert.Base.τ).loc Cert.Base.main_arg1) = m ((c.tc : Thread Cert.Base.nD Cert.Base.τ).loc Cert.Base.main_arg1)
      ∧ r.2.mem ((c.tc : Thread Cert.Base.nD Cert.Base.τ).loc Cert.Base.main_arg2) = m ((c.tc : Thread Cert.Base.nD Cert.Base.τ).loc Cert.Base.main_arg2))
      ∧ r.2.sem = fun _ => 0)

def quiescent_BaseIdeal [hBaseIdeal : Cert.BaseIdeal.Facts] : Prop :=
  ∀ (m : (ℓ : Loc Cert.BaseIdeal.nD Cert.BaseIdeal.τ Cert.BaseIdeal.sig) → Buf (Elt Ideal) ℓ) (g : Dev Cert.BaseIdeal.nD → PrngReg), Pre_BaseIdeal m →
    θ_run (Cert.BaseIdeal.defs (F := Ideal)) (onTc (τ := Cert.BaseIdeal.τ) (Cert.BaseIdeal.main (F := Ideal))) ⟨m, fun _ => 0, g⟩ (fun r => (∀ c : Dev Cert.BaseIdeal.nD,
      r.2.mem ((c.tc : Thread Cert.BaseIdeal.nD Cert.BaseIdeal.τ).loc Cert.BaseIdeal.main_arg0) = m ((c.tc : Thread Cert.BaseIdeal.nD Cert.BaseIdeal.τ).loc Cert.BaseIdeal.main_arg0)
      ∧ r.2.mem ((c.tc : Thread Cert.BaseIdeal.nD Cert.BaseIdeal.τ).loc Cert.BaseIdeal.main_arg1) = m ((c.tc : Thread Cert.BaseIdeal.nD Cert.BaseIdeal.τ).loc Cert.BaseIdeal.main_arg1)
      ∧ r.2.mem ((c.tc : Thread Cert.BaseIdeal.nD Cert.BaseIdeal.τ).loc Cert.BaseIdeal.main_arg2) = m ((c.tc : Thread Cert.BaseIdeal.nD Cert.BaseIdeal.τ).loc Cert.BaseIdeal.main_arg2))
      ∧ r.2.sem = fun _ => 0)

def quiescent_RefBaseIdeal [hRefBaseIdeal : Cert.RefBaseIdeal.Facts] : Prop :=
  ∀ (m : (ℓ : Loc Cert.RefBaseIdeal.nD Cert.RefBaseIdeal.τ Cert.RefBaseIdeal.sig) → Buf (Elt Ideal) ℓ) (g : Dev Cert.RefBaseIdeal.nD → PrngReg), Pre_RefBaseIdeal m →
    θ_run (Cert.RefBaseIdeal.defs (F := Ideal)) (onTc (τ := Cert.RefBaseIdeal.τ) (Cert.RefBaseIdeal.main (F := Ideal))) ⟨m, fun _ => 0, g⟩ (fun r => (∀ c : Dev Cert.RefBaseIdeal.nD,
      r.2.mem ((c.tc : Thread Cert.RefBaseIdeal.nD Cert.RefBaseIdeal.τ).loc Cert.RefBaseIdeal.main_arg0) = m ((c.tc : Thread Cert.RefBaseIdeal.nD Cert.RefBaseIdeal.τ).loc Cert.RefBaseIdeal.main_arg0)
      ∧ r.2.mem ((c.tc : Thread Cert.RefBaseIdeal.nD Cert.RefBaseIdeal.τ).loc Cert.RefBaseIdeal.main_arg1) = m ((c.tc : Thread Cert.RefBaseIdeal.nD Cert.RefBaseIdeal.τ).loc Cert.RefBaseIdeal.main_arg1)
      ∧ r.2.mem ((c.tc : Thread Cert.RefBaseIdeal.nD Cert.RefBaseIdeal.τ).loc Cert.RefBaseIdeal.main_arg2) = m ((c.tc : Thread Cert.RefBaseIdeal.nD Cert.RefBaseIdeal.τ).loc Cert.RefBaseIdeal.main_arg2))
      ∧ r.2.sem = fun _ => 0)

def quiescent_Enc [hEnc : Cert.Enc.Facts] [hPre_tokens_in_range : Cert.Pre_tokens_in_range.Facts] : Prop :=
  ∀ (m : (ℓ : Loc Cert.Enc.nD Cert.Enc.τ Cert.Enc.sig) → Buf (Elt Bits) ℓ) (g : Dev Cert.Enc.nD → PrngReg), Pre_Enc m →
    θ_run (Cert.Enc.defs (F := Bits)) (onTc (τ := Cert.Enc.τ) (Cert.Enc.main (F := Bits))) ⟨m, fun _ => 0, g⟩ (fun r => (∀ c : Dev Cert.Enc.nD,
      r.2.mem ((c.tc : Thread Cert.Enc.nD Cert.Enc.τ).loc Cert.Enc.main_arg0) = m ((c.tc : Thread Cert.Enc.nD Cert.Enc.τ).loc Cert.Enc.main_arg0)
      ∧ r.2.mem ((c.tc : Thread Cert.Enc.nD Cert.Enc.τ).loc Cert.Enc.main_arg1) = m ((c.tc : Thread Cert.Enc.nD Cert.Enc.τ).loc Cert.Enc.main_arg1)
      ∧ r.2.mem ((c.tc : Thread Cert.Enc.nD Cert.Enc.τ).loc Cert.Enc.main_arg2) = m ((c.tc : Thread Cert.Enc.nD Cert.Enc.τ).loc Cert.Enc.main_arg2)
      ∧ r.2.mem ((c.tc : Thread Cert.Enc.nD Cert.Enc.τ).loc Cert.Enc.main_arg3) = m ((c.tc : Thread Cert.Enc.nD Cert.Enc.τ).loc Cert.Enc.main_arg3)
      ∧ r.2.mem ((c.tc : Thread Cert.Enc.nD Cert.Enc.τ).loc Cert.Enc.main_arg4) = m ((c.tc : Thread Cert.Enc.nD Cert.Enc.τ).loc Cert.Enc.main_arg4)
      ∧ r.2.mem ((c.tc : Thread Cert.Enc.nD Cert.Enc.τ).loc Cert.Enc.main_arg5) = m ((c.tc : Thread Cert.Enc.nD Cert.Enc.τ).loc Cert.Enc.main_arg5))
      ∧ r.2.sem = fun _ => 0)

def quiescent_EncIdeal [hEncIdeal : Cert.EncIdeal.Facts] [hPre_tokens_in_range : Cert.Pre_tokens_in_range.Facts] : Prop :=
  ∀ (m : (ℓ : Loc Cert.EncIdeal.nD Cert.EncIdeal.τ Cert.EncIdeal.sig) → Buf (Elt Ideal) ℓ) (g : Dev Cert.EncIdeal.nD → PrngReg), Pre_EncIdeal m →
    θ_run (Cert.EncIdeal.defs (F := Ideal)) (onTc (τ := Cert.EncIdeal.τ) (Cert.EncIdeal.main (F := Ideal))) ⟨m, fun _ => 0, g⟩ (fun r => (∀ c : Dev Cert.EncIdeal.nD,
      r.2.mem ((c.tc : Thread Cert.EncIdeal.nD Cert.EncIdeal.τ).loc Cert.EncIdeal.main_arg0) = m ((c.tc : Thread Cert.EncIdeal.nD Cert.EncIdeal.τ).loc Cert.EncIdeal.main_arg0)
      ∧ r.2.mem ((c.tc : Thread Cert.EncIdeal.nD Cert.EncIdeal.τ).loc Cert.EncIdeal.main_arg1) = m ((c.tc : Thread Cert.EncIdeal.nD Cert.EncIdeal.τ).loc Cert.EncIdeal.main_arg1)
      ∧ r.2.mem ((c.tc : Thread Cert.EncIdeal.nD Cert.EncIdeal.τ).loc Cert.EncIdeal.main_arg2) = m ((c.tc : Thread Cert.EncIdeal.nD Cert.EncIdeal.τ).loc Cert.EncIdeal.main_arg2)
      ∧ r.2.mem ((c.tc : Thread Cert.EncIdeal.nD Cert.EncIdeal.τ).loc Cert.EncIdeal.main_arg3) = m ((c.tc : Thread Cert.EncIdeal.nD Cert.EncIdeal.τ).loc Cert.EncIdeal.main_arg3)
      ∧ r.2.mem ((c.tc : Thread Cert.EncIdeal.nD Cert.EncIdeal.τ).loc Cert.EncIdeal.main_arg4) = m ((c.tc : Thread Cert.EncIdeal.nD Cert.EncIdeal.τ).loc Cert.EncIdeal.main_arg4)
      ∧ r.2.mem ((c.tc : Thread Cert.EncIdeal.nD Cert.EncIdeal.τ).loc Cert.EncIdeal.main_arg5) = m ((c.tc : Thread Cert.EncIdeal.nD Cert.EncIdeal.τ).loc Cert.EncIdeal.main_arg5))
      ∧ r.2.sem = fun _ => 0)

def quiescent_RefEncIdeal [hRefEncIdeal : Cert.RefEncIdeal.Facts] : Prop :=
  ∀ (m : (ℓ : Loc Cert.RefEncIdeal.nD Cert.RefEncIdeal.τ Cert.RefEncIdeal.sig) → Buf (Elt Ideal) ℓ) (g : Dev Cert.RefEncIdeal.nD → PrngReg), Pre_RefEncIdeal m →
    θ_run (Cert.RefEncIdeal.defs (F := Ideal)) (onTc (τ := Cert.RefEncIdeal.τ) (Cert.RefEncIdeal.main (F := Ideal))) ⟨m, fun _ => 0, g⟩ (fun r => (∀ c : Dev Cert.RefEncIdeal.nD,
      r.2.mem ((c.tc : Thread Cert.RefEncIdeal.nD Cert.RefEncIdeal.τ).loc Cert.RefEncIdeal.main_arg0) = m ((c.tc : Thread Cert.RefEncIdeal.nD Cert.RefEncIdeal.τ).loc Cert.RefEncIdeal.main_arg0)
      ∧ r.2.mem ((c.tc : Thread Cert.RefEncIdeal.nD Cert.RefEncIdeal.τ).loc Cert.RefEncIdeal.main_arg1) = m ((c.tc : Thread Cert.RefEncIdeal.nD Cert.RefEncIdeal.τ).loc Cert.RefEncIdeal.main_arg1)
      ∧ r.2.mem ((c.tc : Thread Cert.RefEncIdeal.nD Cert.RefEncIdeal.τ).loc Cert.RefEncIdeal.main_arg2) = m ((c.tc : Thread Cert.RefEncIdeal.nD Cert.RefEncIdeal.τ).loc Cert.RefEncIdeal.main_arg2)
      ∧ r.2.mem ((c.tc : Thread Cert.RefEncIdeal.nD Cert.RefEncIdeal.τ).loc Cert.RefEncIdeal.main_arg3) = m ((c.tc : Thread Cert.RefEncIdeal.nD Cert.RefEncIdeal.τ).loc Cert.RefEncIdeal.main_arg3)
      ∧ r.2.mem ((c.tc : Thread Cert.RefEncIdeal.nD Cert.RefEncIdeal.τ).loc Cert.RefEncIdeal.main_arg4) = m ((c.tc : Thread Cert.RefEncIdeal.nD Cert.RefEncIdeal.τ).loc Cert.RefEncIdeal.main_arg4)
      ∧ r.2.mem ((c.tc : Thread Cert.RefEncIdeal.nD Cert.RefEncIdeal.τ).loc Cert.RefEncIdeal.main_arg5) = m ((c.tc : Thread Cert.RefEncIdeal.nD Cert.RefEncIdeal.τ).loc Cert.RefEncIdeal.main_arg5))
      ∧ r.2.sem = fun _ => 0)

def quiescent_RefEncIdeal_pre_tokens_in_range [hRefEncIdeal : Cert.RefEncIdeal.Facts] [hPre_tokens_in_range : Cert.Pre_tokens_in_range.Facts] : Prop :=
  ∀ (m : (ℓ : Loc Cert.RefEncIdeal.nD Cert.RefEncIdeal.τ Cert.RefEncIdeal.sig) → Buf (Elt Ideal) ℓ) (g : Dev Cert.RefEncIdeal.nD → PrngReg), Pre_RefEncIdeal_tokens_in_range m →
    θ_run (Cert.RefEncIdeal.defs (F := Ideal)) (onTc (τ := Cert.RefEncIdeal.τ) (Cert.RefEncIdeal.main (F := Ideal))) ⟨m, fun _ => 0, g⟩ (fun r => (∀ c : Dev Cert.RefEncIdeal.nD,
      r.2.mem ((c.tc : Thread Cert.RefEncIdeal.nD Cert.RefEncIdeal.τ).loc Cert.RefEncIdeal.main_arg0) = m ((c.tc : Thread Cert.RefEncIdeal.nD Cert.RefEncIdeal.τ).loc Cert.RefEncIdeal.main_arg0)
      ∧ r.2.mem ((c.tc : Thread Cert.RefEncIdeal.nD Cert.RefEncIdeal.τ).loc Cert.RefEncIdeal.main_arg1) = m ((c.tc : Thread Cert.RefEncIdeal.nD Cert.RefEncIdeal.τ).loc Cert.RefEncIdeal.main_arg1)
      ∧ r.2.mem ((c.tc : Thread Cert.RefEncIdeal.nD Cert.RefEncIdeal.τ).loc Cert.RefEncIdeal.main_arg2) = m ((c.tc : Thread Cert.RefEncIdeal.nD Cert.RefEncIdeal.τ).loc Cert.RefEncIdeal.main_arg2)
      ∧ r.2.mem ((c.tc : Thread Cert.RefEncIdeal.nD Cert.RefEncIdeal.τ).loc Cert.RefEncIdeal.main_arg3) = m ((c.tc : Thread Cert.RefEncIdeal.nD Cert.RefEncIdeal.τ).loc Cert.RefEncIdeal.main_arg3)
      ∧ r.2.mem ((c.tc : Thread Cert.RefEncIdeal.nD Cert.RefEncIdeal.τ).loc Cert.RefEncIdeal.main_arg4) = m ((c.tc : Thread Cert.RefEncIdeal.nD Cert.RefEncIdeal.τ).loc Cert.RefEncIdeal.main_arg4)
      ∧ r.2.mem ((c.tc : Thread Cert.RefEncIdeal.nD Cert.RefEncIdeal.τ).loc Cert.RefEncIdeal.main_arg5) = m ((c.tc : Thread Cert.RefEncIdeal.nD Cert.RefEncIdeal.τ).loc Cert.RefEncIdeal.main_arg5))
      ∧ r.2.sem = fun _ => 0)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Base_BaseIdeal : Prop :=
  True

def algebraic_BaseIdeal_RefBaseIdeal [hBaseIdeal : Cert.BaseIdeal.Facts] [hRefBaseIdeal : Cert.RefBaseIdeal.Facts] : Prop :=
  ∀ (m : (ℓ : Loc Cert.BaseIdeal.nD Cert.BaseIdeal.τ Cert.BaseIdeal.sig) → Buf (Elt Ideal) ℓ) (g : Dev Cert.BaseIdeal.nD → PrngReg)
    (m' : (ℓ : Loc Cert.RefBaseIdeal.nD Cert.RefBaseIdeal.τ Cert.RefBaseIdeal.sig) → Buf (Elt Ideal) ℓ) (g' : Dev Cert.RefBaseIdeal.nD → PrngReg), Pre_BaseIdeal m →
    (∀ c : Dev Cert.BaseIdeal.nD,
      m' ((c.tc : Thread Cert.RefBaseIdeal.nD Cert.RefBaseIdeal.τ).loc Cert.RefBaseIdeal.main_arg0) = m ((c.tc : Thread Cert.BaseIdeal.nD Cert.BaseIdeal.τ).loc Cert.BaseIdeal.main_arg0)
      ∧ m' ((c.tc : Thread Cert.RefBaseIdeal.nD Cert.RefBaseIdeal.τ).loc Cert.RefBaseIdeal.main_arg1) = m ((c.tc : Thread Cert.BaseIdeal.nD Cert.BaseIdeal.τ).loc Cert.BaseIdeal.main_arg1)
      ∧ m' ((c.tc : Thread Cert.RefBaseIdeal.nD Cert.RefBaseIdeal.τ).loc Cert.RefBaseIdeal.main_arg2) = m ((c.tc : Thread Cert.BaseIdeal.nD Cert.BaseIdeal.τ).loc Cert.BaseIdeal.main_arg2)) →
    ∃ (v0 : (c : Dev Cert.BaseIdeal.nD) → Buf (Elt Ideal) ((c.tc : Thread Cert.BaseIdeal.nD Cert.BaseIdeal.τ).loc Cert.BaseIdeal.main_v0_0)) (v1 : (c : Dev Cert.BaseIdeal.nD) → Buf (Elt Ideal) ((c.tc : Thread Cert.BaseIdeal.nD Cert.BaseIdeal.τ).loc Cert.BaseIdeal.main_v0_1)),
      θ_run (Cert.BaseIdeal.defs (F := Ideal)) (onTc (τ := Cert.BaseIdeal.τ) (Cert.BaseIdeal.main (F := Ideal))) ⟨m, fun _ => 0, g⟩ (fun r => ∀ c : Dev Cert.BaseIdeal.nD,
          r.2.mem ((c.tc : Thread Cert.BaseIdeal.nD Cert.BaseIdeal.τ).loc Cert.BaseIdeal.main_v0_0) = v0 c
          ∧ r.2.mem ((c.tc : Thread Cert.BaseIdeal.nD Cert.BaseIdeal.τ).loc Cert.BaseIdeal.main_v0_1) = v1 c
          ∧ r.2.mem ((c.tc : Thread Cert.BaseIdeal.nD Cert.BaseIdeal.τ).loc Cert.BaseIdeal.main_arg0) = m ((c.tc : Thread Cert.BaseIdeal.nD Cert.BaseIdeal.τ).loc Cert.BaseIdeal.main_arg0)
          ∧ r.2.mem ((c.tc : Thread Cert.BaseIdeal.nD Cert.BaseIdeal.τ).loc Cert.BaseIdeal.main_arg1) = m ((c.tc : Thread Cert.BaseIdeal.nD Cert.BaseIdeal.τ).loc Cert.BaseIdeal.main_arg1)
          ∧ r.2.mem ((c.tc : Thread Cert.BaseIdeal.nD Cert.BaseIdeal.τ).loc Cert.BaseIdeal.main_arg2) = m ((c.tc : Thread Cert.BaseIdeal.nD Cert.BaseIdeal.τ).loc Cert.BaseIdeal.main_arg2))
      ∧ θ_run (Cert.RefBaseIdeal.defs (F := Ideal)) (onTc (τ := Cert.RefBaseIdeal.τ) (Cert.RefBaseIdeal.main (F := Ideal))) ⟨m', fun _ => 0, g'⟩ (fun r => ∀ c : Dev Cert.RefBaseIdeal.nD,
          r.2.mem ((c.tc : Thread Cert.RefBaseIdeal.nD Cert.RefBaseIdeal.τ).loc Cert.RefBaseIdeal.main_v6) = v0 c
          ∧ r.2.mem ((c.tc : Thread Cert.RefBaseIdeal.nD Cert.RefBaseIdeal.τ).loc Cert.RefBaseIdeal.main_v8) = v1 c
          ∧ r.2.mem ((c.tc : Thread Cert.RefBaseIdeal.nD Cert.RefBaseIdeal.τ).loc Cert.RefBaseIdeal.main_arg0) = m' ((c.tc : Thread Cert.RefBaseIdeal.nD Cert.RefBaseIdeal.τ).loc Cert.RefBaseIdeal.main_arg0)
          ∧ r.2.mem ((c.tc : Thread Cert.RefBaseIdeal.nD Cert.RefBaseIdeal.τ).loc Cert.RefBaseIdeal.main_arg1) = m' ((c.tc : Thread Cert.RefBaseIdeal.nD Cert.RefBaseIdeal.τ).loc Cert.RefBaseIdeal.main_arg1)
          ∧ r.2.mem ((c.tc : Thread Cert.RefBaseIdeal.nD Cert.RefBaseIdeal.τ).loc Cert.RefBaseIdeal.main_arg2) = m' ((c.tc : Thread Cert.RefBaseIdeal.nD Cert.RefBaseIdeal.τ).loc Cert.RefBaseIdeal.main_arg2))

def preserves_Enc_EncIdeal : Prop :=
  True

def algebraic_EncIdeal_RefEncIdeal [hEncIdeal : Cert.EncIdeal.Facts] [hRefEncIdeal : Cert.RefEncIdeal.Facts] [hPre_tokens_in_range : Cert.Pre_tokens_in_range.Facts] : Prop :=
  ∀ (m : (ℓ : Loc Cert.EncIdeal.nD Cert.EncIdeal.τ Cert.EncIdeal.sig) → Buf (Elt Ideal) ℓ) (g : Dev Cert.EncIdeal.nD → PrngReg)
    (m' : (ℓ : Loc Cert.RefEncIdeal.nD Cert.RefEncIdeal.τ Cert.RefEncIdeal.sig) → Buf (Elt Ideal) ℓ) (g' : Dev Cert.RefEncIdeal.nD → PrngReg), Pre_EncIdeal m →
    (∀ c : Dev Cert.EncIdeal.nD,
      m' ((c.tc : Thread Cert.RefEncIdeal.nD Cert.RefEncIdeal.τ).loc Cert.RefEncIdeal.main_arg0) = m ((c.tc : Thread Cert.EncIdeal.nD Cert.EncIdeal.τ).loc Cert.EncIdeal.main_arg0)
      ∧ m' ((c.tc : Thread Cert.RefEncIdeal.nD Cert.RefEncIdeal.τ).loc Cert.RefEncIdeal.main_arg1) = m ((c.tc : Thread Cert.EncIdeal.nD Cert.EncIdeal.τ).loc Cert.EncIdeal.main_arg1)
      ∧ m' ((c.tc : Thread Cert.RefEncIdeal.nD Cert.RefEncIdeal.τ).loc Cert.RefEncIdeal.main_arg2) = m ((c.tc : Thread Cert.EncIdeal.nD Cert.EncIdeal.τ).loc Cert.EncIdeal.main_arg2)
      ∧ m' ((c.tc : Thread Cert.RefEncIdeal.nD Cert.RefEncIdeal.τ).loc Cert.RefEncIdeal.main_arg3) = m ((c.tc : Thread Cert.EncIdeal.nD Cert.EncIdeal.τ).loc Cert.EncIdeal.main_arg3)
      ∧ m' ((c.tc : Thread Cert.RefEncIdeal.nD Cert.RefEncIdeal.τ).loc Cert.RefEncIdeal.main_arg4) = m ((c.tc : Thread Cert.EncIdeal.nD Cert.EncIdeal.τ).loc Cert.EncIdeal.main_arg4)
      ∧ m' ((c.tc : Thread Cert.RefEncIdeal.nD Cert.RefEncIdeal.τ).loc Cert.RefEncIdeal.main_arg5) = m ((c.tc : Thread Cert.EncIdeal.nD Cert.EncIdeal.τ).loc Cert.EncIdeal.main_arg5)) →
    ∃ (v0 : (c : Dev Cert.EncIdeal.nD) → Buf (Elt Ideal) ((c.tc : Thread Cert.EncIdeal.nD Cert.EncIdeal.τ).loc Cert.EncIdeal.main_v0)),
      θ_run (Cert.EncIdeal.defs (F := Ideal)) (onTc (τ := Cert.EncIdeal.τ) (Cert.EncIdeal.main (F := Ideal))) ⟨m, fun _ => 0, g⟩ (fun r => ∀ c : Dev Cert.EncIdeal.nD,
          r.2.mem ((c.tc : Thread Cert.EncIdeal.nD Cert.EncIdeal.τ).loc Cert.EncIdeal.main_v0) = v0 c
          ∧ r.2.mem ((c.tc : Thread Cert.EncIdeal.nD Cert.EncIdeal.τ).loc Cert.EncIdeal.main_arg0) = m ((c.tc : Thread Cert.EncIdeal.nD Cert.EncIdeal.τ).loc Cert.EncIdeal.main_arg0)
          ∧ r.2.mem ((c.tc : Thread Cert.EncIdeal.nD Cert.EncIdeal.τ).loc Cert.EncIdeal.main_arg1) = m ((c.tc : Thread Cert.EncIdeal.nD Cert.EncIdeal.τ).loc Cert.EncIdeal.main_arg1)
          ∧ r.2.mem ((c.tc : Thread Cert.EncIdeal.nD Cert.EncIdeal.τ).loc Cert.EncIdeal.main_arg2) = m ((c.tc : Thread Cert.EncIdeal.nD Cert.EncIdeal.τ).loc Cert.EncIdeal.main_arg2)
          ∧ r.2.mem ((c.tc : Thread Cert.EncIdeal.nD Cert.EncIdeal.τ).loc Cert.EncIdeal.main_arg3) = m ((c.tc : Thread Cert.EncIdeal.nD Cert.EncIdeal.τ).loc Cert.EncIdeal.main_arg3)
          ∧ r.2.mem ((c.tc : Thread Cert.EncIdeal.nD Cert.EncIdeal.τ).loc Cert.EncIdeal.main_arg4) = m ((c.tc : Thread Cert.EncIdeal.nD Cert.EncIdeal.τ).loc Cert.EncIdeal.main_arg4)
          ∧ r.2.mem ((c.tc : Thread Cert.EncIdeal.nD Cert.EncIdeal.τ).loc Cert.EncIdeal.main_arg5) = m ((c.tc : Thread Cert.EncIdeal.nD Cert.EncIdeal.τ).loc Cert.EncIdeal.main_arg5))
      ∧ θ_run (Cert.RefEncIdeal.defs (F := Ideal)) (onTc (τ := Cert.RefEncIdeal.τ) (Cert.RefEncIdeal.main (F := Ideal))) ⟨m', fun _ => 0, g'⟩ (fun r => ∀ c : Dev Cert.RefEncIdeal.nD,
          r.2.mem ((c.tc : Thread Cert.RefEncIdeal.nD Cert.RefEncIdeal.τ).loc Cert.RefEncIdeal.main_v2_7) = v0 c
          ∧ r.2.mem ((c.tc : Thread Cert.RefEncIdeal.nD Cert.RefEncIdeal.τ).loc Cert.RefEncIdeal.main_arg0) = m' ((c.tc : Thread Cert.RefEncIdeal.nD Cert.RefEncIdeal.τ).loc Cert.RefEncIdeal.main_arg0)
          ∧ r.2.mem ((c.tc : Thread Cert.RefEncIdeal.nD Cert.RefEncIdeal.τ).loc Cert.RefEncIdeal.main_arg1) = m' ((c.tc : Thread Cert.RefEncIdeal.nD Cert.RefEncIdeal.τ).loc Cert.RefEncIdeal.main_arg1)
          ∧ r.2.mem ((c.tc : Thread Cert.RefEncIdeal.nD Cert.RefEncIdeal.τ).loc Cert.RefEncIdeal.main_arg2) = m' ((c.tc : Thread Cert.RefEncIdeal.nD Cert.RefEncIdeal.τ).loc Cert.RefEncIdeal.main_arg2)
          ∧ r.2.mem ((c.tc : Thread Cert.RefEncIdeal.nD Cert.RefEncIdeal.τ).loc Cert.RefEncIdeal.main_arg3) = m' ((c.tc : Thread Cert.RefEncIdeal.nD Cert.RefEncIdeal.τ).loc Cert.RefEncIdeal.main_arg3)
          ∧ r.2.mem ((c.tc : Thread Cert.RefEncIdeal.nD Cert.RefEncIdeal.τ).loc Cert.RefEncIdeal.main_arg4) = m' ((c.tc : Thread Cert.RefEncIdeal.nD Cert.RefEncIdeal.τ).loc Cert.RefEncIdeal.main_arg4)
          ∧ r.2.mem ((c.tc : Thread Cert.RefEncIdeal.nD Cert.RefEncIdeal.τ).loc Cert.RefEncIdeal.main_arg5) = m' ((c.tc : Thread Cert.RefEncIdeal.nD Cert.RefEncIdeal.τ).loc Cert.RefEncIdeal.main_arg5))

def Claim : Prop :=
  ∃ (hKernelIdeal : Cert.KernelIdeal.Facts) (hReferenceIdeal : Cert.ReferenceIdeal.Facts) (hBase : Cert.Base.Facts) (hBaseIdeal : Cert.BaseIdeal.Facts) (hRefBaseIdeal : Cert.RefBaseIdeal.Facts) (hEnc : Cert.Enc.Facts) (hEncIdeal : Cert.EncIdeal.Facts) (hRefEncIdeal : Cert.RefEncIdeal.Facts) (hPre_finite_args : Cert.Pre_finite_args.Facts) (hPre_tokens_in_range : Cert.Pre_tokens_in_range.Facts),
    quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Base (hBase := hBase)
    ∧ quiescent_BaseIdeal (hBaseIdeal := hBaseIdeal)
    ∧ quiescent_RefBaseIdeal (hRefBaseIdeal := hRefBaseIdeal)
    ∧ quiescent_Enc (hEnc := hEnc) (hPre_tokens_in_range := hPre_tokens_in_range)
    ∧ quiescent_EncIdeal (hEncIdeal := hEncIdeal) (hPre_tokens_in_range := hPre_tokens_in_range)
    ∧ quiescent_RefEncIdeal (hRefEncIdeal := hRefEncIdeal)
    ∧ quiescent_RefEncIdeal_pre_tokens_in_range (hRefEncIdeal := hRefEncIdeal) (hPre_tokens_in_range := hPre_tokens_in_range)
    ∧ algebraic_KernelIdeal_ReferenceIdeal_pre_finite_args (hKernelIdeal := hKernelIdeal) (hReferenceIdeal := hReferenceIdeal) (hPre_finite_args := hPre_finite_args)
    ∧ preserves_Base_BaseIdeal
    ∧ algebraic_BaseIdeal_RefBaseIdeal (hBaseIdeal := hBaseIdeal) (hRefBaseIdeal := hRefBaseIdeal)
    ∧ preserves_Enc_EncIdeal
    ∧ algebraic_EncIdeal_RefEncIdeal (hEncIdeal := hEncIdeal) (hRefEncIdeal := hRefEncIdeal) (hPre_tokens_in_range := hPre_tokens_in_range)
-- ==== Pre_finite_args.lean ====
abbrev S32000x768 : Shape := ⟨2, ![32000, 768]⟩
abbrev S5x16x6400 : Shape := ⟨3, ![5, 16, 6400]⟩
abbrev S1536x768 : Shape := ⟨2, ![1536, 768]⟩
abbrev S1536x512 : Shape := ⟨2, ![1536, 512]⟩
abbrev S1x1536 : Shape := ⟨2, ![1, 1536]⟩
abbrev S16x512 : Shape := ⟨2, ![16, 512]⟩
abbrev S32000x256 : Shape := ⟨2, ![32000, 256]⟩
abbrev S_ : Shape := ⟨0, ![]⟩

class Facts : Prop where
  bitsLt_bf16_f32 : FTy.bits .bf16 < FTy.bits .f32
  bcast_S_S32000x768 : S_.BroadcastsInDim S32000x768 (![] : Fin 0 → Fin S32000x768.rank)
  reducesTo_S32000x768_S_d0_1 : S32000x768.ReducesTo [0, 1] S_
  h_S_ : 0 < S_.numel
  bcast_S_S5x16x6400 : S_.BroadcastsInDim S5x16x6400 (![] : Fin 0 → Fin S5x16x6400.rank)
  reducesTo_S5x16x6400_S_d0_1_2 : S5x16x6400.ReducesTo [0, 1, 2] S_
  bcast_S_S16x512 : S_.BroadcastsInDim S16x512 (![] : Fin 0 → Fin S16x512.rank)
  reducesTo_S16x512_S_d0_1 : S16x512.ReducesTo [0, 1] S_
  bcast_S_S32000x256 : S_.BroadcastsInDim S32000x256 (![] : Fin 0 → Fin S32000x256.rank)
  reducesTo_S32000x256_S_d0_1 : S32000x256.ReducesTo [0, 1] S_

variable [Facts]

def fn_part1 {F : FTy → Type} [FloatOps F] (main_v14 : IVec S_ 1) (main_v15 : FVec F S32000x256 .f32) (main_v16 : FVec F S32000x256 .f32) : IVec S_ 1 :=
  let main_v17 : IVec S32000x256 1 := cmpf .olt main_v15 main_v16
  let main_c_5 : IVec S_ 1 := constantI S_ 1 1#1
  let main_v18 : IVec S_ 1 := (fun x v => Host.reduce IntOp.andi x v reducesTo_S32000x256_S_d0_1 h_S_) main_v17 main_c_5
  let main_v19 : IVec S_ 1 := andi main_v14 main_v18
  main_v19

def fn {F : FTy → Type} [FloatOps F] (main_arg0 : FVec F S32000x768 .bf16) (main_arg1 : FVec F S5x16x6400 .f32) (main_arg2 : FVec F S1536x768 .f32) (main_arg3 : FVec F S1536x512 .f32) (main_arg4 : FVec F S1x1536 .f32) (main_arg5 : FVec F S1x1536 .f32) (main_arg6 : FVec F S16x512 .f32) (main_arg7 : FVec F S32000x256 .f32) : IVec S_ 1 :=
  let main_v0 : FVec F S32000x768 .f32 := (extf .f32 · bitsLt_bf16_f32) main_arg0
  let main_v1 : FVec F S32000x768 .f32 := Host.absf main_v0
  let main_cst : FVec F S_ .f32 := constant S_ .f32 0x7F800000#32
  let main_v2 : FVec F S32000x768 .f32 := broadcastInDim S32000x768 ![] bcast_S_S32000x768 main_cst
  let main_v3 : IVec S32000x768 1 := cmpf .olt main_v1 main_v2
  let main_c : IVec S_ 1 := constantI S_ 1 1#1
  let main_v4 : IVec S_ 1 := (fun x v => Host.reduce IntOp.andi x v reducesTo_S32000x768_S_d0_1 h_S_) main_v3 main_c
  let main_v5 : FVec F S5x16x6400 .f32 := Host.absf main_arg1
  let main_cst_0 : FVec F S_ .f32 := constant S_ .f32 0x7F800000#32
  let main_v6 : FVec F S5x16x6400 .f32 := broadcastInDim S5x16x6400 ![] bcast_S_S5x16x6400 main_cst_0
  let main_v7 : IVec S5x16x6400 1 := cmpf .olt main_v5 main_v6
  let main_c_1 : IVec S_ 1 := constantI S_ 1 1#1
  let main_v8 : IVec S_ 1 := (fun x v => Host.reduce IntOp.andi x v reducesTo_S5x16x6400_S_d0_1_2 h_S_) main_v7 main_c_1
  let main_v9 : IVec S_ 1 := andi main_v4 main_v8
  let main_v10 : FVec F S16x512 .f32 := Host.absf main_arg6
  let main_cst_2 : FVec F S_ .f32 := constant S_ .f32 0x7F800000#32
  let main_v11 : FVec F S16x512 .f32 := broadcastInDim S16x512 ![] bcast_S_S16x512 main_cst_2
  let main_v12 : IVec S16x512 1 := cmpf .olt main_v10 main_v11
  let main_c_3 : IVec S_ 1 := constantI S_ 1 1#1
  let main_v13 : IVec S_ 1 := (fun x v => Host.reduce IntOp.andi x v reducesTo_S16x512_S_d0_1 h_S_) main_v12 main_c_3
  let main_v14 : IVec S_ 1 := andi main_v9 main_v13
  let main_v15 : FVec F S32000x256 .f32 := Host.absf main_arg7
  let main_cst_4 : FVec F S_ .f32 := constant S_ .f32 0x7F800000#32
  let main_v16 : FVec F S32000x256 .f32 := broadcastInDim S32000x256 ![] bcast_S_S32000x256 main_cst_4
  fn_part1 (F := F) main_v14 main_v15 main_v16
-- ==== Pre_tokens_in_range.lean ====
abbrev S2048 : Shape := ⟨1, ![2048]⟩
abbrev S32000x256 : Shape := ⟨2, ![32000, 256]⟩
abbrev S1536x256 : Shape := ⟨2, ![1536, 256]⟩
abbrev S1536x512 : Shape := ⟨2, ![1536, 512]⟩
abbrev S1x1536 : Shape := ⟨2, ![1, 1536]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S32000x256 .f32) (main_arg2 : FVec F S1536x256 .f32) (main_arg3 : FVec F S1536x512 .f32) (main_arg4 : FVec F S1x1536 .f32) (main_arg5 : FVec F S1x1536 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32000#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== KernelIdeal.lean ====
abbrev S32000x768 : Shape := ⟨2, ![32000, 768]⟩
abbrev S5x16x6400 : Shape := ⟨3, ![5, 16, 6400]⟩
abbrev S1536x768 : Shape := ⟨2, ![1536, 768]⟩
abbrev S1536x512 : Shape := ⟨2, ![1536, 512]⟩
abbrev S1x1536 : Shape := ⟨2, ![1, 1536]⟩
abbrev S16x512 : Shape := ⟨2, ![16, 512]⟩
abbrev S32000x256 : Shape := ⟨2, ![32000, 256]⟩
abbrev S16x32 : Shape := ⟨2, ![16, 32]⟩
abbrev S6400x768 : Shape := ⟨2, ![6400, 768]⟩
abbrev S5x32x6400 : Shape := ⟨3, ![5, 32, 6400]⟩
abbrev S32x512 : Shape := ⟨2, ![32, 512]⟩
abbrev S32x256 : Shape := ⟨2, ![32, 256]⟩
abbrev S32x1 : Shape := ⟨2, ![32, 1]⟩
abbrev S32x32 : Shape := ⟨2, ![32, 32]⟩
abbrev S_ : Shape := ⟨0, ![]⟩
abbrev S1x1 : Shape := ⟨2, ![1, 1]⟩
abbrev S16x1 : Shape := ⟨2, ![16, 1]⟩
abbrev S1x256 : Shape := ⟨2, ![1, 256]⟩
abbrev S256 : Shape := ⟨1, ![256]⟩
abbrev S32x768 : Shape := ⟨2, ![32, 768]⟩
abbrev S32x1536 : Shape := ⟨2, ![32, 1536]⟩
abbrev S1x16x6400 : Shape := ⟨3, ![1, 16, 6400]⟩
abbrev S16x6400 : Shape := ⟨2, ![16, 6400]⟩
abbrev S32x6400 : Shape := ⟨2, ![32, 6400]⟩
abbrev S1x32x6400 : Shape := ⟨3, ![1, 32, 6400]⟩
abbrev S32 : Shape := ⟨1, ![32]⟩

abbrev nBuf : Space → Nat
  | .hbm => 10
  | .vmem => 20
  | .smem => 1
  | _ => 0

abbrev bufTy : (tb : Table) → Fin (tcTables nBuf tb) → BufTy
  | .hbm, ⟨0, _⟩ => ⟨S32000x768, .bf16⟩
  | .hbm, ⟨1, _⟩ => ⟨S5x16x6400, .f32⟩
  | .hbm, ⟨2, _⟩ => ⟨S1536x768, .f32⟩
  | .hbm, ⟨3, _⟩ => ⟨S1536x512, .f32⟩
  | .hbm, ⟨4, _⟩ => ⟨S1x1536, .f32⟩
  | .hbm, ⟨5, _⟩ => ⟨S1x1536, .f32⟩
  | .hbm, ⟨6, _⟩ => ⟨S16x512, .f32⟩
  | .hbm, ⟨7, _⟩ => ⟨S32000x256, .f32⟩
  | .hbm, ⟨8, _⟩ => ⟨S16x32, .i32⟩
  | .hbm, ⟨9, _⟩ => ⟨S16x32, .f32⟩
  | .local _ .vmem, ⟨0, _⟩ => ⟨S6400x768, .bf16⟩
  | .local _ .vmem, ⟨1, _⟩ => ⟨S6400x768, .bf16⟩
  | .local _ .vmem, ⟨2, _⟩ => ⟨S5x16x6400, .f32⟩
  | .local _ .vmem, ⟨3, _⟩ => ⟨S1536x768, .f32⟩
  | .local _ .vmem, ⟨4, _⟩ => ⟨S1536x512, .f32⟩
  | .local _ .vmem, ⟨5, _⟩ => ⟨S1x1536, .f32⟩
  | .local _ .vmem, ⟨6, _⟩ => ⟨S1x1536, .f32⟩
  | .local _ .vmem, ⟨7, _⟩ => ⟨S16x512, .f32⟩
  | .local _ .vmem, ⟨8, _⟩ => ⟨S16x32, .i32⟩
  | .local _ .vmem, ⟨9, _⟩ => ⟨S16x32, .f32⟩
  | .local _ .vmem, ⟨10, _⟩ => ⟨S5x32x6400, .f32⟩
  | .local _ .vmem, ⟨11, _⟩ => ⟨S32x512, .f32⟩
  | .local _ .vmem, ⟨12, _⟩ => ⟨S32x512, .f32⟩
  | .local _ .vmem, ⟨13, _⟩ => ⟨S32x256, .f32⟩
  | .local _ .vmem, ⟨14, _⟩ => ⟨S32x1, .i32⟩
  | .local _ .vmem, ⟨15, _⟩ => ⟨S32x1, .f32⟩
  | .local _ .vmem, ⟨16, _⟩ => ⟨S32x1, .f32⟩
  | .local _ .vmem, ⟨17, _⟩ => ⟨S32x32, .i32⟩
  | .local _ .vmem, ⟨18, _⟩ => ⟨S32x32, .f32⟩
  | .local _ .vmem, ⟨19, _⟩ => ⟨S32x1, .f32⟩
  | .local _ .smem, ⟨0, _⟩ => ⟨S32x1, .i32⟩
  | _, _ => ⟨S32000x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_scratch5 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨2, ![31, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_19 : BitVec 32 := 0#32
  let v33 : BitVec 1 := Scalar.cmpi .eq arg0 c0_i32_19
  let v34 : BitVec 32 := Scalar.extui v33
  let c0_i32_20 : BitVec 32 := 0#32
  let v35 : BitVec 1 := Scalar.cmpi .ne v34 c0_i32_20
  v35

def k0_off1 (v233 : BitVec 32) : Fin 2 → Nat :=
  let c0_i32_145 : BitVec 32 := 0#32
  ![v233.toNat, 0]

def k0_chk1 (i : grid0.Coords) (v233 : BitVec 32) : Prop :=
  (∀ (k0_h1 : k0_cond1 i = 1#1), ∀ (k0_h3 : k0_cond3 i = 1#1), ∀ a, (k0_off1 v233) a + S1x256.size a ≤ S32000x256.size a)
theorem k0_off1_inb : ∀ (i : grid0.Coords) (v233 : BitVec 32) (k0_hw1 : k0_chk1 i v233), ∀ (k0_h1 : k0_cond1 i = 1#1), ∀ (k0_h3 : k0_cond3 i = 1#1), ∀ a, (k0_off1 v233) a + S1x256.size a ≤ S32000x256.size a := fun i v233 k0_hw1 k0_h1 k0_h3 => k0_hw1 k0_h1 k0_h3

def k0_off2 (v238 : BitVec 32) : Fin 2 → Nat :=
  let c0_i32_150 : BitVec 32 := 0#32
  ![v238.toNat, 0]

def k0_chk2 (i : grid0.Coords) (v238 : BitVec 32) : Prop :=
  (∀ (k0_h1 : k0_cond1 i = 1#1), ∀ (k0_h3 : k0_cond3 i = 1#1), ∀ a, (k0_off2 v238) a + S1x256.size a ≤ S32000x256.size a)
theorem k0_off2_inb : ∀ (i : grid0.Coords) (v238 : BitVec 32) (k0_hw2 : k0_chk2 i v238), ∀ (k0_h1 : k0_cond1 i = 1#1), ∀ (k0_h3 : k0_cond3 i = 1#1), ∀ a, (k0_off2 v238) a + S1x256.size a ≤ S32000x256.size a := fun i v238 k0_hw2 k0_h1 k0_h3 => k0_hw2 k0_h1 k0_h3

def k0_off3 (v243 : BitVec 32) : Fin 2 → Nat :=
  let c0_i32_155 : BitVec 32 := 0#32
  ![v243.toNat, 0]

def k0_chk3 (i : grid0.Coords) (v243 : BitVec 32) : Prop :=
  (∀ (k0_h1 : k0_cond1 i = 1#1), ∀ (k0_h3 : k0_cond3 i = 1#1), ∀ a, (k0_off3 v243) a + S1x256.size a ≤ S32000x256.size a)
theorem k0_off3_inb : ∀ (i : grid0.Coords) (v243 : BitVec 32) (k0_hw3 : k0_chk3 i v243), ∀ (k0_h1 : k0_cond1 i = 1#1), ∀ (k0_h3 : k0_cond3 i = 1#1), ∀ a, (k0_off3 v243) a + S1x256.size a ≤ S32000x256.size a := fun i v243 k0_hw3 k0_h1 k0_h3 => k0_hw3 k0_h1 k0_h3

def k0_off4 (v248 : BitVec 32) : Fin 2 → Nat :=
  let c0_i32_160 : BitVec 32 := 0#32
  ![v248.toNat, 0]

def k0_chk4 (i : grid0.Coords) (v248 : BitVec 32) : Prop :=
  (∀ (k0_h1 : k0_cond1 i = 1#1), ∀ (k0_h3 : k0_cond3 i = 1#1), ∀ a, (k0_off4 v248) a + S1x256.size a ≤ S32000x256.size a)
theorem k0_off4_inb : ∀ (i : grid0.Coords) (v248 : BitVec 32) (k0_hw4 : k0_chk4 i v248), ∀ (k0_h1 : k0_cond1 i = 1#1), ∀ (k0_h3 : k0_cond3 i = 1#1), ∀ a, (k0_off4 v248) a + S1x256.size a ≤ S32000x256.size a := fun i v248 k0_hw4 k0_h1 k0_h3 => k0_hw4 k0_h1 k0_h3

def k0_off5 (v253 : BitVec 32) : Fin 2 → Nat :=
  let c0_i32_165 : BitVec 32 := 0#32
  ![v253.toNat, 0]

def k0_chk5 (i : grid0.Coords) (v253 : BitVec 32) : Prop :=
  (∀ (k0_h1 : k0_cond1 i = 1#1), ∀ (k0_h3 : k0_cond3 i = 1#1), ∀ a, (k0_off5 v253) a + S1x256.size a ≤ S32000x256.size a)
theorem k0_off5_inb : ∀ (i : grid0.Coords) (v253 : BitVec 32) (k0_hw5 : k0_chk5 i v253), ∀ (k0_h1 : k0_cond1 i = 1#1), ∀ (k0_h3 : k0_cond3 i = 1#1), ∀ a, (k0_off5 v253) a + S1x256.size a ≤ S32000x256.size a := fun i v253 k0_hw5 k0_h1 k0_h3 => k0_hw5 k0_h1 k0_h3

def k0_off6 (v258 : BitVec 32) : Fin 2 → Nat :=
  let c0_i32_170 : BitVec 32 := 0#32
  ![v258.toNat, 0]

def k0_chk6 (i : grid0.Coords) (v258 : BitVec 32) : Prop :=
  (∀ (k0_h1 : k0_cond1 i = 1#1), ∀ (k0_h3 : k0_cond3 i = 1#1), ∀ a, (k0_off6 v258) a + S1x256.size a ≤ S32000x256.size a)
theorem k0_off6_inb : ∀ (i : grid0.Coords) (v258 : BitVec 32) (k0_hw6 : k0_chk6 i v258), ∀ (k0_h1 : k0_cond1 i = 1#1), ∀ (k0_h3 : k0_cond3 i = 1#1), ∀ a, (k0_off6 v258) a + S1x256.size a ≤ S32000x256.size a := fun i v258 k0_hw6 k0_h1 k0_h3 => k0_hw6 k0_h1 k0_h3

def k0_off7 (v263 : BitVec 32) : Fin 2 → Nat :=
  let c0_i32_175 : BitVec 32 := 0#32
  ![v263.toNat, 0]

def k0_chk7 (i : grid0.Coords) (v263 : BitVec 32) : Prop :=
  (∀ (k0_h1 : k0_cond1 i = 1#1), ∀ (k0_h3 : k0_cond3 i = 1#1), ∀ a, (k0_off7 v263) a + S1x256.size a ≤ S32000x256.size a)
theorem k0_off7_inb : ∀ (i : grid0.Coords) (v263 : BitVec 32) (k0_hw7 : k0_chk7 i v263), ∀ (k0_h1 : k0_cond1 i = 1#1), ∀ (k0_h3 : k0_cond3 i = 1#1), ∀ a, (k0_off7 v263) a + S1x256.size a ≤ S32000x256.size a := fun i v263 k0_hw7 k0_h1 k0_h3 => k0_hw7 k0_h1 k0_h3

def k0_off8 (v268 : BitVec 32) : Fin 2 → Nat :=
  let c0_i32_180 : BitVec 32 := 0#32
  ![v268.toNat, 0]

def k0_chk8 (i : grid0.Coords) (v268 : BitVec 32) : Prop :=
  (∀ (k0_h1 : k0_cond1 i = 1#1), ∀ (k0_h3 : k0_cond3 i = 1#1), ∀ a, (k0_off8 v268) a + S1x256.size a ≤ S32000x256.size a)
theorem k0_off8_inb : ∀ (i : grid0.Coords) (v268 : BitVec 32) (k0_hw8 : k0_chk8 i v268), ∀ (k0_h1 : k0_cond1 i = 1#1), ∀ (k0_h3 : k0_cond3 i = 1#1), ∀ a, (k0_off8 v268) a + S1x256.size a ≤ S32000x256.size a := fun i v268 k0_hw8 k0_h1 k0_h3 => k0_hw8 k0_h1 k0_h3

def k0_off9 (v273 : BitVec 32) : Fin 2 → Nat :=
  let c0_i32_185 : BitVec 32 := 0#32
  ![v273.toNat, 0]

def k0_chk9 (i : grid0.Coords) (v273 : BitVec 32) : Prop :=
  (∀ (k0_h1 : k0_cond1 i = 1#1), ∀ (k0_h3 : k0_cond3 i = 1#1), ∀ a, (k0_off9 v273) a + S1x256.size a ≤ S32000x256.size a)
theorem k0_off9_inb : ∀ (i : grid0.Coords) (v273 : BitVec 32) (k0_hw9 : k0_chk9 i v273), ∀ (k0_h1 : k0_cond1 i = 1#1), ∀ (k0_h3 : k0_cond3 i = 1#1), ∀ a, (k0_off9 v273) a + S1x256.size a ≤ S32000x256.size a := fun i v273 k0_hw9 k0_h1 k0_h3 => k0_hw9 k0_h1 k0_h3

def k0_off10 (v278 : BitVec 32) : Fin 2 → Nat :=
  let c0_i32_190 : BitVec 32 := 0#32
  ![v278.toNat, 0]

def k0_chk10 (i : grid0.Coords) (v278 : BitVec 32) : Prop :=
  (∀ (k0_h1 : k0_cond1 i = 1#1), ∀ (k0_h3 : k0_cond3 i = 1#1), ∀ a, (k0_off10 v278) a + S1x256.size a ≤ S32000x256.size a)
theorem k0_off10_inb : ∀ (i : grid0.Coords) (v278 : BitVec 32) (k0_hw10 : k0_chk10 i v278), ∀ (k0_h1 : k0_cond1 i = 1#1), ∀ (k0_h3 : k0_cond3 i = 1#1), ∀ a, (k0_off10 v278) a + S1x256.size a ≤ S32000x256.size a := fun i v278 k0_hw10 k0_h1 k0_h3 => k0_hw10 k0_h1 k0_h3

def k0_off11 (v283 : BitVec 32) : Fin 2 → Nat :=
  let c0_i32_195 : BitVec 32 := 0#32
  ![v283.toNat, 0]

def k0_chk11 (i : grid0.Coords) (v283 : BitVec 32) : Prop :=
  (∀ (k0_h1 : k0_cond1 i = 1#1), ∀ (k0_h3 : k0_cond3 i = 1#1), ∀ a, (k0_off11 v283) a + S1x256.size a ≤ S32000x256.size a)
theorem k0_off11_inb : ∀ (i : grid0.Coords) (v283 : BitVec 32) (k0_hw11 : k0_chk11 i v283), ∀ (k0_h1 : k0_cond1 i = 1#1), ∀ (k0_h3 : k0_cond3 i = 1#1), ∀ a, (k0_off11 v283) a + S1x256.size a ≤ S32000x256.size a := fun i v283 k0_hw11 k0_h1 k0_h3 => k0_hw11 k0_h1 k0_h3

def k0_off12 (v288 : BitVec 32) : Fin 2 → Nat :=
  let c0_i32_200 : BitVec 32 := 0#32
  ![v288.toNat, 0]

def k0_chk12 (i : grid0.Coords) (v288 : BitVec 32) : Prop :=
  (∀ (k0_h1 : k0_cond1 i = 1#1), ∀ (k0_h3 : k0_cond3 i = 1#1), ∀ a, (k0_off12 v288) a + S1x256.size a ≤ S32000x256.size a)
theorem k0_off12_inb : ∀ (i : grid0.Coords) (v288 : BitVec 32) (k0_hw12 : k0_chk12 i v288), ∀ (k0_h1 : k0_cond1 i = 1#1), ∀ (k0_h3 : k0_cond3 i = 1#1), ∀ a, (k0_off12 v288) a + S1x256.size a ≤ S32000x256.size a := fun i v288 k0_hw12 k0_h1 k0_h3 => k0_hw12 k0_h1 k0_h3

def k0_off13 (v293 : BitVec 32) : Fin 2 → Nat :=
  let c0_i32_205 : BitVec 32 := 0#32
  ![v293.toNat, 0]

def k0_chk13 (i : grid0.Coords) (v293 : BitVec 32) : Prop :=
  (∀ (k0_h1 : k0_cond1 i = 1#1), ∀ (k0_h3 : k0_cond3 i = 1#1), ∀ a, (k0_off13 v293) a + S1x256.size a ≤ S32000x256.size a)
theorem k0_off13_inb : ∀ (i : grid0.Coords) (v293 : BitVec 32) (k0_hw13 : k0_chk13 i v293), ∀ (k0_h1 : k0_cond1 i = 1#1), ∀ (k0_h3 : k0_cond3 i = 1#1), ∀ a, (k0_off13 v293) a + S1x256.size a ≤ S32000x256.size a := fun i v293 k0_hw13 k0_h1 k0_h3 => k0_hw13 k0_h1 k0_h3

def k0_off14 (v298 : BitVec 32) : Fin 2 → Nat :=
  let c0_i32_210 : BitVec 32 := 0#32
  ![v298.toNat, 0]

def k0_chk14 (i : grid0.Coords) (v298 : BitVec 32) : Prop :=
  (∀ (k0_h1 : k0_cond1 i = 1#1), ∀ (k0_h3 : k0_cond3 i = 1#1), ∀ a, (k0_off14 v298) a + S1x256.size a ≤ S32000x256.size a)
theorem k0_off14_inb : ∀ (i : grid0.Coords) (v298 : BitVec 32) (k0_hw14 : k0_chk14 i v298), ∀ (k0_h1 : k0_cond1 i = 1#1), ∀ (k0_h3 : k0_cond3 i = 1#1), ∀ a, (k0_off14 v298) a + S1x256.size a ≤ S32000x256.size a := fun i v298 k0_hw14 k0_h1 k0_h3 => k0_hw14 k0_h1 k0_h3

def k0_off15 (v303 : BitVec 32) : Fin 2 → Nat :=
  let c0_i32_215 : BitVec 32 := 0#32
  ![v303.toNat, 0]

def k0_chk15 (i : grid0.Coords) (v303 : BitVec 32) : Prop :=
  (∀ (k0_h1 : k0_cond1 i = 1#1), ∀ (k0_h3 : k0_cond3 i = 1#1), ∀ a, (k0_off15 v303) a + S1x256.size a ≤ S32000x256.size a)
theorem k0_off15_inb : ∀ (i : grid0.Coords) (v303 : BitVec 32) (k0_hw15 : k0_chk15 i v303), ∀ (k0_h1 : k0_cond1 i = 1#1), ∀ (k0_h3 : k0_cond3 i = 1#1), ∀ a, (k0_off15 v303) a + S1x256.size a ≤ S32000x256.size a := fun i v303 k0_hw15 k0_h1 k0_h3 => k0_hw15 k0_h1 k0_h3

def k0_off16 (v308 : BitVec 32) : Fin 2 → Nat :=
  let c0_i32_220 : BitVec 32 := 0#32
  ![v308.toNat, 0]

def k0_chk16 (i : grid0.Coords) (v308 : BitVec 32) : Prop :=
  (∀ (k0_h1 : k0_cond1 i = 1#1), ∀ (k0_h3 : k0_cond3 i = 1#1), ∀ a, (k0_off16 v308) a + S1x256.size a ≤ S32000x256.size a)
theorem k0_off16_inb : ∀ (i : grid0.Coords) (v308 : BitVec 32) (k0_hw16 : k0_chk16 i v308), ∀ (k0_h1 : k0_cond1 i = 1#1), ∀ (k0_h3 : k0_cond3 i = 1#1), ∀ a, (k0_off16 v308) a + S1x256.size a ≤ S32000x256.size a := fun i v308 k0_hw16 k0_h1 k0_h3 => k0_hw16 k0_h1 k0_h3

def k0_off17 (v313 : BitVec 32) : Fin 2 → Nat :=
  let c0_i32_225 : BitVec 32 := 0#32
  ![v313.toNat, 0]

def k0_chk17 (i : grid0.Coords) (v313 : BitVec 32) : Prop :=
  (∀ (k0_h1 : k0_cond1 i = 1#1), ∀ (k0_h3 : k0_cond3 i = 1#1), ∀ a, (k0_off17 v313) a + S1x256.size a ≤ S32000x256.size a)
theorem k0_off17_inb : ∀ (i : grid0.Coords) (v313 : BitVec 32) (k0_hw17 : k0_chk17 i v313), ∀ (k0_h1 : k0_cond1 i = 1#1), ∀ (k0_h3 : k0_cond3 i = 1#1), ∀ a, (k0_off17 v313) a + S1x256.size a ≤ S32000x256.size a := fun i v313 k0_hw17 k0_h1 k0_h3 => k0_hw17 k0_h1 k0_h3

def k0_off18 (v318 : BitVec 32) : Fin 2 → Nat :=
  let c0_i32_230 : BitVec 32 := 0#32
  ![v318.toNat, 0]

def k0_chk18 (i : grid0.Coords) (v318 : BitVec 32) : Prop :=
  (∀ (k0_h1 : k0_cond1 i = 1#1), ∀ (k0_h3 : k0_cond3 i = 1#1), ∀ a, (k0_off18 v318) a + S1x256.size a ≤ S32000x256.size a)
theorem k0_off18_inb : ∀ (i : grid0.Coords) (v318 : BitVec 32) (k0_hw18 : k0_chk18 i v318), ∀ (k0_h1 : k0_cond1 i = 1#1), ∀ (k0_h3 : k0_cond3 i = 1#1), ∀ a, (k0_off18 v318) a + S1x256.size a ≤ S32000x256.size a := fun i v318 k0_hw18 k0_h1 k0_h3 => k0_hw18 k0_h1 k0_h3

def k0_off19 (v323 : BitVec 32) : Fin 2 → Nat :=
  let c0_i32_235 : BitVec 32 := 0#32
  ![v323.toNat, 0]

def k0_chk19 (i : grid0.Coords) (v323 : BitVec 32) : Prop :=
  (∀ (k0_h1 : k0_cond1 i = 1#1), ∀ (k0_h3 : k0_cond3 i = 1#1), ∀ a, (k0_off19 v323) a + S1x256.size a ≤ S32000x256.size a)
theorem k0_off19_inb : ∀ (i : grid0.Coords) (v323 : BitVec 32) (k0_hw19 : k0_chk19 i v323), ∀ (k0_h1 : k0_cond1 i = 1#1), ∀ (k0_h3 : k0_cond3 i = 1#1), ∀ a, (k0_off19 v323) a + S1x256.size a ≤ S32000x256.size a := fun i v323 k0_hw19 k0_h1 k0_h3 => k0_hw19 k0_h1 k0_h3

def k0_off20 (v328 : BitVec 32) : Fin 2 → Nat :=
  let c0_i32_240 : BitVec 32 := 0#32
  ![v328.toNat, 0]

def k0_chk20 (i : grid0.Coords) (v328 : BitVec 32) : Prop :=
  (∀ (k0_h1 : k0_cond1 i = 1#1), ∀ (k0_h3 : k0_cond3 i = 1#1), ∀ a, (k0_off20 v328) a + S1x256.size a ≤ S32000x256.size a)
theorem k0_off20_inb : ∀ (i : grid0.Coords) (v328 : BitVec 32) (k0_hw20 : k0_chk20 i v328), ∀ (k0_h1 : k0_cond1 i = 1#1), ∀ (k0_h3 : k0_cond3 i = 1#1), ∀ a, (k0_off20 v328) a + S1x256.size a ≤ S32000x256.size a := fun i v328 k0_hw20 k0_h1 k0_h3 => k0_hw20 k0_h1 k0_h3

def k0_off21 (v333 : BitVec 32) : Fin 2 → Nat :=
  let c0_i32_245 : BitVec 32 := 0#32
  ![v333.toNat, 0]

def k0_chk21 (i : grid0.Coords) (v333 : BitVec 32) : Prop :=
  (∀ (k0_h1 : k0_cond1 i = 1#1), ∀ (k0_h3 : k0_cond3 i = 1#1), ∀ a, (k0_off21 v333) a + S1x256.size a ≤ S32000x256.size a)
theorem k0_off21_inb : ∀ (i : grid0.Coords) (v333 : BitVec 32) (k0_hw21 : k0_chk21 i v333), ∀ (k0_h1 : k0_cond1 i = 1#1), ∀ (k0_h3 : k0_cond3 i = 1#1), ∀ a, (k0_off21 v333) a + S1x256.size a ≤ S32000x256.size a := fun i v333 k0_hw21 k0_h1 k0_h3 => k0_hw21 k0_h1 k0_h3

def k0_off22 (v338 : BitVec 32) : Fin 2 → Nat :=
  let c0_i32_250 : BitVec 32 := 0#32
  ![v338.toNat, 0]

def k0_chk22 (i : grid0.Coords) (v338 : BitVec 32) : Prop :=
  (∀ (k0_h1 : k0_cond1 i = 1#1), ∀ (k0_h3 : k0_cond3 i = 1#1), ∀ a, (k0_off22 v338) a + S1x256.size a ≤ S32000x256.size a)
theorem k0_off22_inb : ∀ (i : grid0.Coords) (v338 : BitVec 32) (k0_hw22 : k0_chk22 i v338), ∀ (k0_h1 : k0_cond1 i = 1#1), ∀ (k0_h3 : k0_cond3 i = 1#1), ∀ a, (k0_off22 v338) a + S1x256.size a ≤ S32000x256.size a := fun i v338 k0_hw22 k0_h1 k0_h3 => k0_hw22 k0_h1 k0_h3

def k0_off23 (v343 : BitVec 32) : Fin 2 → Nat :=
  let c0_i32_255 : BitVec 32 := 0#32
  ![v343.toNat, 0]

def k0_chk23 (i : grid0.Coords) (v343 : BitVec 32) : Prop :=
  (∀ (k0_h1 : k0_cond1 i = 1#1), ∀ (k0_h3 : k0_cond3 i = 1#1), ∀ a, (k0_off23 v343) a + S1x256.size a ≤ S32000x256.size a)
theorem k0_off23_inb : ∀ (i : grid0.Coords) (v343 : BitVec 32) (k0_hw23 : k0_chk23 i v343), ∀ (k0_h1 : k0_cond1 i = 1#1), ∀ (k0_h3 : k0_cond3 i = 1#1), ∀ a, (k0_off23 v343) a + S1x256.size a ≤ S32000x256.size a := fun i v343 k0_hw23 k0_h1 k0_h3 => k0_hw23 k0_h1 k0_h3

def k0_off24 (v348 : BitVec 32) : Fin 2 → Nat :=
  let c0_i32_260 : BitVec 32 := 0#32
  ![v348.toNat, 0]

def k0_chk24 (i : grid0.Coords) (v348 : BitVec 32) : Prop :=
  (∀ (k0_h1 : k0_cond1 i = 1#1), ∀ (k0_h3 : k0_cond3 i = 1#1), ∀ a, (k0_off24 v348) a + S1x256.size a ≤ S32000x256.size a)
theorem k0_off24_inb : ∀ (i : grid0.Coords) (v348 : BitVec 32) (k0_hw24 : k0_chk24 i v348), ∀ (k0_h1 : k0_cond1 i = 1#1), ∀ (k0_h3 : k0_cond3 i = 1#1), ∀ a, (k0_off24 v348) a + S1x256.size a ≤ S32000x256.size a := fun i v348 k0_hw24 k0_h1 k0_h3 => k0_hw24 k0_h1 k0_h3

def k0_off25 (v353 : BitVec 32) : Fin 2 → Nat :=
  let c0_i32_265 : BitVec 32 := 0#32
  ![v353.toNat, 0]

def k0_chk25 (i : grid0.Coords) (v353 : BitVec 32) : Prop :=
  (∀ (k0_h1 : k0_cond1 i = 1#1), ∀ (k0_h3 : k0_cond3 i = 1#1), ∀ a, (k0_off25 v353) a + S1x256.size a ≤ S32000x256.size a)
theorem k0_off25_inb : ∀ (i : grid0.Coords) (v353 : BitVec 32) (k0_hw25 : k0_chk25 i v353), ∀ (k0_h1 : k0_cond1 i = 1#1), ∀ (k0_h3 : k0_cond3 i = 1#1), ∀ a, (k0_off25 v353) a + S1x256.size a ≤ S32000x256.size a := fun i v353 k0_hw25 k0_h1 k0_h3 => k0_hw25 k0_h1 k0_h3

def k0_off26 (v358 : BitVec 32) : Fin 2 → Nat :=
  let c0_i32_270 : BitVec 32 := 0#32
  ![v358.toNat, 0]

def k0_chk26 (i : grid0.Coords) (v358 : BitVec 32) : Prop :=
  (∀ (k0_h1 : k0_cond1 i = 1#1), ∀ (k0_h3 : k0_cond3 i = 1#1), ∀ a, (k0_off26 v358) a + S1x256.size a ≤ S32000x256.size a)
theorem k0_off26_inb : ∀ (i : grid0.Coords) (v358 : BitVec 32) (k0_hw26 : k0_chk26 i v358), ∀ (k0_h1 : k0_cond1 i = 1#1), ∀ (k0_h3 : k0_cond3 i = 1#1), ∀ a, (k0_off26 v358) a + S1x256.size a ≤ S32000x256.size a := fun i v358 k0_hw26 k0_h1 k0_h3 => k0_hw26 k0_h1 k0_h3

def k0_off27 (v363 : BitVec 32) : Fin 2 → Nat :=
  let c0_i32_275 : BitVec 32 := 0#32
  ![v363.toNat, 0]

def k0_chk27 (i : grid0.Coords) (v363 : BitVec 32) : Prop :=
  (∀ (k0_h1 : k0_cond1 i = 1#1), ∀ (k0_h3 : k0_cond3 i = 1#1), ∀ a, (k0_off27 v363) a + S1x256.size a ≤ S32000x256.size a)
theorem k0_off27_inb : ∀ (i : grid0.Coords) (v363 : BitVec 32) (k0_hw27 : k0_chk27 i v363), ∀ (k0_h1 : k0_cond1 i = 1#1), ∀ (k0_h3 : k0_cond3 i = 1#1), ∀ a, (k0_off27 v363) a + S1x256.size a ≤ S32000x256.size a := fun i v363 k0_hw27 k0_h1 k0_h3 => k0_hw27 k0_h1 k0_h3

def k0_off28 (v368 : BitVec 32) : Fin 2 → Nat :=
  let c0_i32_280 : BitVec 32 := 0#32
  ![v368.toNat, 0]

def k0_chk28 (i : grid0.Coords) (v368 : BitVec 32) : Prop :=
  (∀ (k0_h1 : k0_cond1 i = 1#1), ∀ (k0_h3 : k0_cond3 i = 1#1), ∀ a, (k0_off28 v368) a + S1x256.size a ≤ S32000x256.size a)
theorem k0_off28_inb : ∀ (i : grid0.Coords) (v368 : BitVec 32) (k0_hw28 : k0_chk28 i v368), ∀ (k0_h1 : k0_cond1 i = 1#1), ∀ (k0_h3 : k0_cond3 i = 1#1), ∀ a, (k0_off28 v368) a + S1x256.size a ≤ S32000x256.size a := fun i v368 k0_hw28 k0_h1 k0_h3 => k0_hw28 k0_h1 k0_h3

def k0_off29 (v373 : BitVec 32) : Fin 2 → Nat :=
  let c0_i32_285 : BitVec 32 := 0#32
  ![v373.toNat, 0]

def k0_chk29 (i : grid0.Coords) (v373 : BitVec 32) : Prop :=
  (∀ (k0_h1 : k0_cond1 i = 1#1), ∀ (k0_h3 : k0_cond3 i = 1#1), ∀ a, (k0_off29 v373) a + S1x256.size a ≤ S32000x256.size a)
theorem k0_off29_inb : ∀ (i : grid0.Coords) (v373 : BitVec 32) (k0_hw29 : k0_chk29 i v373), ∀ (k0_h1 : k0_cond1 i = 1#1), ∀ (k0_h3 : k0_cond3 i = 1#1), ∀ a, (k0_off29 v373) a + S1x256.size a ≤ S32000x256.size a := fun i v373 k0_hw29 k0_h1 k0_h3 => k0_hw29 k0_h1 k0_h3

def k0_off30 (v378 : BitVec 32) : Fin 2 → Nat :=
  let c0_i32_290 : BitVec 32 := 0#32
  ![v378.toNat, 0]

def k0_chk30 (i : grid0.Coords) (v378 : BitVec 32) : Prop :=
  (∀ (k0_h1 : k0_cond1 i = 1#1), ∀ (k0_h3 : k0_cond3 i = 1#1), ∀ a, (k0_off30 v378) a + S1x256.size a ≤ S32000x256.size a)
theorem k0_off30_inb : ∀ (i : grid0.Coords) (v378 : BitVec 32) (k0_hw30 : k0_chk30 i v378), ∀ (k0_h1 : k0_cond1 i = 1#1), ∀ (k0_h3 : k0_cond3 i = 1#1), ∀ a, (k0_off30 v378) a + S1x256.size a ≤ S32000x256.size a := fun i v378 k0_hw30 k0_h1 k0_h3 => k0_hw30 k0_h1 k0_h3

def k0_off31 (v383 : BitVec 32) : Fin 2 → Nat :=
  let c0_i32_295 : BitVec 32 := 0#32
  ![v383.toNat, 0]

def k0_chk31 (i : grid0.Coords) (v383 : BitVec 32) : Prop :=
  (∀ (k0_h1 : k0_cond1 i = 1#1), ∀ (k0_h3 : k0_cond3 i = 1#1), ∀ a, (k0_off31 v383) a + S1x256.size a ≤ S32000x256.size a)
theorem k0_off31_inb : ∀ (i : grid0.Coords) (v383 : BitVec 32) (k0_hw31 : k0_chk31 i v383), ∀ (k0_h1 : k0_cond1 i = 1#1), ∀ (k0_h3 : k0_cond3 i = 1#1), ∀ a, (k0_off31 v383) a + S1x256.size a ≤ S32000x256.size a := fun i v383 k0_hw31 k0_h1 k0_h3 => k0_hw31 k0_h1 k0_h3

def k0_off32 (v388 : BitVec 32) : Fin 2 → Nat :=
  let c0_i32_300 : BitVec 32 := 0#32
  ![v388.toNat, 0]

def k0_chk32 (i : grid0.Coords) (v388 : BitVec 32) : Prop :=
  (∀ (k0_h1 : k0_cond1 i = 1#1), ∀ (k0_h3 : k0_cond3 i = 1#1), ∀ a, (k0_off32 v388) a + S1x256.size a ≤ S32000x256.size a)
theorem k0_off32_inb : ∀ (i : grid0.Coords) (v388 : BitVec 32) (k0_hw32 : k0_chk32 i v388), ∀ (k0_h1 : k0_cond1 i = 1#1), ∀ (k0_h3 : k0_cond3 i = 1#1), ∀ a, (k0_off32 v388) a + S1x256.size a ≤ S32000x256.size a := fun i v388 k0_hw32 k0_h1 k0_h3 => k0_hw32 k0_h1 k0_h3

def k0_off33 (v36 : BitVec 32) : Fin 2 → Nat :=
  let c0_i32_25 : BitVec 32 := 0#32
  ![v36.toNat, 0]

def k0_chk33 (i : grid0.Coords) (v36 : BitVec 32) : Prop :=
  (∀ (k0_h1 : k0_cond1 i = 1#1), ∀ a, (k0_off33 v36) a + S1x256.size a ≤ S32000x256.size a)
theorem k0_off33_inb : ∀ (i : grid0.Coords) (v36 : BitVec 32) (k0_hw33 : k0_chk33 i v36), ∀ (k0_h1 : k0_cond1 i = 1#1), ∀ a, (k0_off33 v36) a + S1x256.size a ≤ S32000x256.size a := fun i v36 k0_hw33 k0_h1 => k0_hw33 k0_h1

def k0_off34 (v41 : BitVec 32) : Fin 2 → Nat :=
  let c0_i32_28 : BitVec 32 := 0#32
  ![v41.toNat, 0]

def k0_chk34 (i : grid0.Coords) (v41 : BitVec 32) : Prop :=
  (∀ (k0_h1 : k0_cond1 i = 1#1), ∀ a, (k0_off34 v41) a + S1x256.size a ≤ S32000x256.size a)
theorem k0_off34_inb : ∀ (i : grid0.Coords) (v41 : BitVec 32) (k0_hw34 : k0_chk34 i v41), ∀ (k0_h1 : k0_cond1 i = 1#1), ∀ a, (k0_off34 v41) a + S1x256.size a ≤ S32000x256.size a := fun i v41 k0_hw34 k0_h1 => k0_hw34 k0_h1

def k0_off35 (v46 : BitVec 32) : Fin 2 → Nat :=
  let c0_i32_31 : BitVec 32 := 0#32
  ![v46.toNat, 0]

def k0_chk35 (i : grid0.Coords) (v46 : BitVec 32) : Prop :=
  (∀ (k0_h1 : k0_cond1 i = 1#1), ∀ a, (k0_off35 v46) a + S1x256.size a ≤ S32000x256.size a)
theorem k0_off35_inb : ∀ (i : grid0.Coords) (v46 : BitVec 32) (k0_hw35 : k0_chk35 i v46), ∀ (k0_h1 : k0_cond1 i = 1#1), ∀ a, (k0_off35 v46) a + S1x256.size a ≤ S32000x256.size a := fun i v46 k0_hw35 k0_h1 => k0_hw35 k0_h1

def k0_off36 (v51 : BitVec 32) : Fin 2 → Nat :=
  let c0_i32_34 : BitVec 32 := 0#32
  ![v51.toNat, 0]

def k0_chk36 (i : grid0.Coords) (v51 : BitVec 32) : Prop :=
  (∀ (k0_h1 : k0_cond1 i = 1#1), ∀ a, (k0_off36 v51) a + S1x256.size a ≤ S32000x256.size a)
theorem k0_off36_inb : ∀ (i : grid0.Coords) (v51 : BitVec 32) (k0_hw36 : k0_chk36 i v51), ∀ (k0_h1 : k0_cond1 i = 1#1), ∀ a, (k0_off36 v51) a + S1x256.size a ≤ S32000x256.size a := fun i v51 k0_hw36 k0_h1 => k0_hw36 k0_h1

def k0_off37 (v56 : BitVec 32) : Fin 2 → Nat :=
  let c0_i32_38 : BitVec 32 := 0#32
  ![v56.toNat, 0]

def k0_chk37 (i : grid0.Coords) (v56 : BitVec 32) : Prop :=
  (∀ (k0_h1 : k0_cond1 i = 1#1), ∀ a, (k0_off37 v56) a + S1x256.size a ≤ S32000x256.size a)
theorem k0_off37_inb : ∀ (i : grid0.Coords) (v56 : BitVec 32) (k0_hw37 : k0_chk37 i v56), ∀ (k0_h1 : k0_cond1 i = 1#1), ∀ a, (k0_off37 v56) a + S1x256.size a ≤ S32000x256.size a := fun i v56 k0_hw37 k0_h1 => k0_hw37 k0_h1

def k0_off38 (v61 : BitVec 32) : Fin 2 → Nat :=
  let c0_i32_41 : BitVec 32 := 0#32
  ![v61.toNat, 0]

def k0_chk38 (i : grid0.Coords) (v61 : BitVec 32) : Prop :=
  (∀ (k0_h1 : k0_cond1 i = 1#1), ∀ a, (k0_off38 v61) a + S1x256.size a ≤ S32000x256.size a)
theorem k0_off38_inb : ∀ (i : grid0.Coords) (v61 : BitVec 32) (k0_hw38 : k0_chk38 i v61), ∀ (k0_h1 : k0_cond1 i = 1#1), ∀ a, (k0_off38 v61) a + S1x256.size a ≤ S32000x256.size a := fun i v61 k0_hw38 k0_h1 => k0_hw38 k0_h1

def k0_off39 (v66 : BitVec 32) : Fin 2 → Nat :=
  let c0_i32_44 : BitVec 32 := 0#32
  ![v66.toNat, 0]

def k0_chk39 (i : grid0.Coords) (v66 : BitVec 32) : Prop :=
  (∀ (k0_h1 : k0_cond1 i = 1#1), ∀ a, (k0_off39 v66) a + S1x256.size a ≤ S32000x256.size a)
theorem k0_off39_inb : ∀ (i : grid0.Coords) (v66 : BitVec 32) (k0_hw39 : k0_chk39 i v66), ∀ (k0_h1 : k0_cond1 i = 1#1), ∀ a, (k0_off39 v66) a + S1x256.size a ≤ S32000x256.size a := fun i v66 k0_hw39 k0_h1 => k0_hw39 k0_h1

def k0_off40 (v71 : BitVec 32) : Fin 2 → Nat :=
  let c0_i32_47 : BitVec 32 := 0#32
  ![v71.toNat, 0]

def k0_chk40 (i : grid0.Coords) (v71 : BitVec 32) : Prop :=
  (∀ (k0_h1 : k0_cond1 i = 1#1), ∀ a, (k0_off40 v71) a + S1x256.size a ≤ S32000x256.size a)
theorem k0_off40_inb : ∀ (i : grid0.Coords) (v71 : BitVec 32) (k0_hw40 : k0_chk40 i v71), ∀ (k0_h1 : k0_cond1 i = 1#1), ∀ a, (k0_off40 v71) a + S1x256.size a ≤ S32000x256.size a := fun i v71 k0_hw40 k0_h1 => k0_hw40 k0_h1

def k0_off41 (v76 : BitVec 32) : Fin 2 → Nat :=
  let c0_i32_50 : BitVec 32 := 0#32
  ![v76.toNat, 0]

def k0_chk41 (i : grid0.Coords) (v76 : BitVec 32) : Prop :=
  (∀ (k0_h1 : k0_cond1 i = 1#1), ∀ a, (k0_off41 v76) a + S1x256.size a ≤ S32000x256.size a)
theorem k0_off41_inb : ∀ (i : grid0.Coords) (v76 : BitVec 32) (k0_hw41 : k0_chk41 i v76), ∀ (k0_h1 : k0_cond1 i = 1#1), ∀ a, (k0_off41 v76) a + S1x256.size a ≤ S32000x256.size a := fun i v76 k0_hw41 k0_h1 => k0_hw41 k0_h1

def k0_off42 (v81 : BitVec 32) : Fin 2 → Nat :=
  let c0_i32_53 : BitVec 32 := 0#32
  ![v81.toNat, 0]

def k0_chk42 (i : grid0.Coords) (v81 : BitVec 32) : Prop :=
  (∀ (k0_h1 : k0_cond1 i = 1#1), ∀ a, (k0_off42 v81) a + S1x256.size a ≤ S32000x256.size a)
theorem k0_off42_inb : ∀ (i : grid0.Coords) (v81 : BitVec 32) (k0_hw42 : k0_chk42 i v81), ∀ (k0_h1 : k0_cond1 i = 1#1), ∀ a, (k0_off42 v81) a + S1x256.size a ≤ S32000x256.size a := fun i v81 k0_hw42 k0_h1 => k0_hw42 k0_h1

def k0_off43 (v86 : BitVec 32) : Fin 2 → Nat :=
  let c0_i32_56 : BitVec 32 := 0#32
  ![v86.toNat, 0]

def k0_chk43 (i : grid0.Coords) (v86 : BitVec 32) : Prop :=
  (∀ (k0_h1 : k0_cond1 i = 1#1), ∀ a, (k0_off43 v86) a + S1x256.size a ≤ S32000x256.size a)
theorem k0_off43_inb : ∀ (i : grid0.Coords) (v86 : BitVec 32) (k0_hw43 : k0_chk43 i v86), ∀ (k0_h1 : k0_cond1 i = 1#1), ∀ a, (k0_off43 v86) a + S1x256.size a ≤ S32000x256.size a := fun i v86 k0_hw43 k0_h1 => k0_hw43 k0_h1

def k0_off44 (v91 : BitVec 32) : Fin 2 → Nat :=
  let c0_i32_59 : BitVec 32 := 0#32
  ![v91.toNat, 0]

def k0_chk44 (i : grid0.Coords) (v91 : BitVec 32) : Prop :=
  (∀ (k0_h1 : k0_cond1 i = 1#1), ∀ a, (k0_off44 v91) a + S1x256.size a ≤ S32000x256.size a)
theorem k0_off44_inb : ∀ (i : grid0.Coords) (v91 : BitVec 32) (k0_hw44 : k0_chk44 i v91), ∀ (k0_h1 : k0_cond1 i = 1#1), ∀ a, (k0_off44 v91) a + S1x256.size a ≤ S32000x256.size a := fun i v91 k0_hw44 k0_h1 => k0_hw44 k0_h1

def k0_off45 (v96 : BitVec 32) : Fin 2 → Nat :=
  let c0_i32_62 : BitVec 32 := 0#32
  ![v96.toNat, 0]

def k0_chk45 (i : grid0.Coords) (v96 : BitVec 32) : Prop :=
  (∀ (k0_h1 : k0_cond1 i = 1#1), ∀ a, (k0_off45 v96) a + S1x256.size a ≤ S32000x256.size a)
theorem k0_off45_inb : ∀ (i : grid0.Coords) (v96 : BitVec 32) (k0_hw45 : k0_chk45 i v96), ∀ (k0_h1 : k0_cond1 i = 1#1), ∀ a, (k0_off45 v96) a + S1x256.size a ≤ S32000x256.size a := fun i v96 k0_hw45 k0_h1 => k0_hw45 k0_h1

def k0_off46 (v101 : BitVec 32) : Fin 2 → Nat :=
  let c0_i32_65 : BitVec 32 := 0#32
  ![v101.toNat, 0]

def k0_chk46 (i : grid0.Coords) (v101 : BitVec 32) : Prop :=
  (∀ (k0_h1 : k0_cond1 i = 1#1), ∀ a, (k0_off46 v101) a + S1x256.size a ≤ S32000x256.size a)
theorem k0_off46_inb : ∀ (i : grid0.Coords) (v101 : BitVec 32) (k0_hw46 : k0_chk46 i v101), ∀ (k0_h1 : k0_cond1 i = 1#1), ∀ a, (k0_off46 v101) a + S1x256.size a ≤ S32000x256.size a := fun i v101 k0_hw46 k0_h1 => k0_hw46 k0_h1

def k0_off47 (v106 : BitVec 32) : Fin 2 → Nat :=
  let c0_i32_68 : BitVec 32 := 0#32
  ![v106.toNat, 0]

def k0_chk47 (i : grid0.Coords) (v106 : BitVec 32) : Prop :=
  (∀ (k0_h1 : k0_cond1 i = 1#1), ∀ a, (k0_off47 v106) a + S1x256.size a ≤ S32000x256.size a)
theorem k0_off47_inb : ∀ (i : grid0.Coords) (v106 : BitVec 32) (k0_hw47 : k0_chk47 i v106), ∀ (k0_h1 : k0_cond1 i = 1#1), ∀ a, (k0_off47 v106) a + S1x256.size a ≤ S32000x256.size a := fun i v106 k0_hw47 k0_h1 => k0_hw47 k0_h1

def k0_off48 (v111 : BitVec 32) : Fin 2 → Nat :=
  let c0_i32_71 : BitVec 32 := 0#32
  ![v111.toNat, 0]

def k0_chk48 (i : grid0.Coords) (v111 : BitVec 32) : Prop :=
  (∀ (k0_h1 : k0_cond1 i = 1#1), ∀ a, (k0_off48 v111) a + S1x256.size a ≤ S32000x256.size a)
theorem k0_off48_inb : ∀ (i : grid0.Coords) (v111 : BitVec 32) (k0_hw48 : k0_chk48 i v111), ∀ (k0_h1 : k0_cond1 i = 1#1), ∀ a, (k0_off48 v111) a + S1x256.size a ≤ S32000x256.size a := fun i v111 k0_hw48 k0_h1 => k0_hw48 k0_h1

def k0_off49 (v116 : BitVec 32) : Fin 2 → Nat :=
  let c0_i32_74 : BitVec 32 := 0#32
  ![v116.toNat, 0]

def k0_chk49 (i : grid0.Coords) (v116 : BitVec 32) : Prop :=
  (∀ (k0_h1 : k0_cond1 i = 1#1), ∀ a, (k0_off49 v116) a + S1x256.size a ≤ S32000x256.size a)
theorem k0_off49_inb : ∀ (i : grid0.Coords) (v116 : BitVec 32) (k0_hw49 : k0_chk49 i v116), ∀ (k0_h1 : k0_cond1 i = 1#1), ∀ a, (k0_off49 v116) a + S1x256.size a ≤ S32000x256.size a := fun i v116 k0_hw49 k0_h1 => k0_hw49 k0_h1

def k0_off50 (v121 : BitVec 32) : Fin 2 → Nat :=
  let c0_i32_77 : BitVec 32 := 0#32
  ![v121.toNat, 0]

def k0_chk50 (i : grid0.Coords) (v121 : BitVec 32) : Prop :=
  (∀ (k0_h1 : k0_cond1 i = 1#1), ∀ a, (k0_off50 v121) a + S1x256.size a ≤ S32000x256.size a)
theorem k0_off50_inb : ∀ (i : grid0.Coords) (v121 : BitVec 32) (k0_hw50 : k0_chk50 i v121), ∀ (k0_h1 : k0_cond1 i = 1#1), ∀ a, (k0_off50 v121) a + S1x256.size a ≤ S32000x256.size a := fun i v121 k0_hw50 k0_h1 => k0_hw50 k0_h1

def k0_off51 (v126 : BitVec 32) : Fin 2 → Nat :=
  let c0_i32_80 : BitVec 32 := 0#32
  ![v126.toNat, 0]

def k0_chk51 (i : grid0.Coords) (v126 : BitVec 32) : Prop :=
  (∀ (k0_h1 : k0_cond1 i = 1#1), ∀ a, (k0_off51 v126) a + S1x256.size a ≤ S32000x256.size a)
theorem k0_off51_inb : ∀ (i : grid0.Coords) (v126 : BitVec 32) (k0_hw51 : k0_chk51 i v126), ∀ (k0_h1 : k0_cond1 i = 1#1), ∀ a, (k0_off51 v126) a + S1x256.size a ≤ S32000x256.size a := fun i v126 k0_hw51 k0_h1 => k0_hw51 k0_h1

def k0_off52 (v131 : BitVec 32) : Fin 2 → Nat :=
  let c0_i32_83 : BitVec 32 := 0#32
  ![v131.toNat, 0]

def k0_chk52 (i : grid0.Coords) (v131 : BitVec 32) : Prop :=
  (∀ (k0_h1 : k0_cond1 i = 1#1), ∀ a, (k0_off52 v131) a + S1x256.size a ≤ S32000x256.size a)
theorem k0_off52_inb : ∀ (i : grid0.Coords) (v131 : BitVec 32) (k0_hw52 : k0_chk52 i v131), ∀ (k0_h1 : k0_cond1 i = 1#1), ∀ a, (k0_off52 v131) a + S1x256.size a ≤ S32000x256.size a := fun i v131 k0_hw52 k0_h1 => k0_hw52 k0_h1

def k0_off53 (v136 : BitVec 32) : Fin 2 → Nat :=
  let c0_i32_86 : BitVec 32 := 0#32
  ![v136.toNat, 0]

def k0_chk53 (i : grid0.Coords) (v136 : BitVec 32) : Prop :=
  (∀ (k0_h1 : k0_cond1 i = 1#1), ∀ a, (k0_off53 v136) a + S1x256.size a ≤ S32000x256.size a)
theorem k0_off53_inb : ∀ (i : grid0.Coords) (v136 : BitVec 32) (k0_hw53 : k0_chk53 i v136), ∀ (k0_h1 : k0_cond1 i = 1#1), ∀ a, (k0_off53 v136) a + S1x256.size a ≤ S32000x256.size a := fun i v136 k0_hw53 k0_h1 => k0_hw53 k0_h1

def k0_off54 (v141 : BitVec 32) : Fin 2 → Nat :=
  let c0_i32_89 : BitVec 32 := 0#32
  ![v141.toNat, 0]

def k0_chk54 (i : grid0.Coords) (v141 : BitVec 32) : Prop :=
  (∀ (k0_h1 : k0_cond1 i = 1#1), ∀ a, (k0_off54 v141) a + S1x256.size a ≤ S32000x256.size a)
theorem k0_off54_inb : ∀ (i : grid0.Coords) (v141 : BitVec 32) (k0_hw54 : k0_chk54 i v141), ∀ (k0_h1 : k0_cond1 i = 1#1), ∀ a, (k0_off54 v141) a + S1x256.size a ≤ S32000x256.size a := fun i v141 k0_hw54 k0_h1 => k0_hw54 k0_h1

def k0_off55 (v146 : BitVec 32) : Fin 2 → Nat :=
  let c0_i32_92 : BitVec 32 := 0#32
  ![v146.toNat, 0]

def k0_chk55 (i : grid0.Coords) (v146 : BitVec 32) : Prop :=
  (∀ (k0_h1 : k0_cond1 i = 1#1), ∀ a, (k0_off55 v146) a + S1x256.size a ≤ S32000x256.size a)
theorem k0_off55_inb : ∀ (i : grid0.Coords) (v146 : BitVec 32) (k0_hw55 : k0_chk55 i v146), ∀ (k0_h1 : k0_cond1 i = 1#1), ∀ a, (k0_off55 v146) a + S1x256.size a ≤ S32000x256.size a := fun i v146 k0_hw55 k0_h1 => k0_hw55 k0_h1

def k0_off56 (v151 : BitVec 32) : Fin 2 → Nat :=
  let c0_i32_95 : BitVec 32 := 0#32
  ![v151.toNat, 0]

def k0_chk56 (i : grid0.Coords) (v151 : BitVec 32) : Prop :=
  (∀ (k0_h1 : k0_cond1 i = 1#1), ∀ a, (k0_off56 v151) a + S1x256.size a ≤ S32000x256.size a)
theorem k0_off56_inb : ∀ (i : grid0.Coords) (v151 : BitVec 32) (k0_hw56 : k0_chk56 i v151), ∀ (k0_h1 : k0_cond1 i = 1#1), ∀ a, (k0_off56 v151) a + S1x256.size a ≤ S32000x256.size a := fun i v151 k0_hw56 k0_h1 => k0_hw56 k0_h1

def k0_off57 (v156 : BitVec 32) : Fin 2 → Nat :=
  let c0_i32_98 : BitVec 32 := 0#32
  ![v156.toNat, 0]

def k0_chk57 (i : grid0.Coords) (v156 : BitVec 32) : Prop :=
  (∀ (k0_h1 : k0_cond1 i = 1#1), ∀ a, (k0_off57 v156) a + S1x256.size a ≤ S32000x256.size a)
theorem k0_off57_inb : ∀ (i : grid0.Coords) (v156 : BitVec 32) (k0_hw57 : k0_chk57 i v156), ∀ (k0_h1 : k0_cond1 i = 1#1), ∀ a, (k0_off57 v156) a + S1x256.size a ≤ S32000x256.size a := fun i v156 k0_hw57 k0_h1 => k0_hw57 k0_h1

def k0_off58 (v161 : BitVec 32) : Fin 2 → Nat :=
  let c0_i32_101 : BitVec 32 := 0#32
  ![v161.toNat, 0]

def k0_chk58 (i : grid0.Coords) (v161 : BitVec 32) : Prop :=
  (∀ (k0_h1 : k0_cond1 i = 1#1), ∀ a, (k0_off58 v161) a + S1x256.size a ≤ S32000x256.size a)
theorem k0_off58_inb : ∀ (i : grid0.Coords) (v161 : BitVec 32) (k0_hw58 : k0_chk58 i v161), ∀ (k0_h1 : k0_cond1 i = 1#1), ∀ a, (k0_off58 v161) a + S1x256.size a ≤ S32000x256.size a := fun i v161 k0_hw58 k0_h1 => k0_hw58 k0_h1

def k0_off59 (v166 : BitVec 32) : Fin 2 → Nat :=
  let c0_i32_104 : BitVec 32 := 0#32
  ![v166.toNat, 0]

def k0_chk59 (i : grid0.Coords) (v166 : BitVec 32) : Prop :=
  (∀ (k0_h1 : k0_cond1 i = 1#1), ∀ a, (k0_off59 v166) a + S1x256.size a ≤ S32000x256.size a)
theorem k0_off59_inb : ∀ (i : grid0.Coords) (v166 : BitVec 32) (k0_hw59 : k0_chk59 i v166), ∀ (k0_h1 : k0_cond1 i = 1#1), ∀ a, (k0_off59 v166) a + S1x256.size a ≤ S32000x256.size a := fun i v166 k0_hw59 k0_h1 => k0_hw59 k0_h1

def k0_off60 (v171 : BitVec 32) : Fin 2 → Nat :=
  let c0_i32_107 : BitVec 32 := 0#32
  ![v171.toNat, 0]

def k0_chk60 (i : grid0.Coords) (v171 : BitVec 32) : Prop :=
  (∀ (k0_h1 : k0_cond1 i = 1#1), ∀ a, (k0_off60 v171) a + S1x256.size a ≤ S32000x256.size a)
theorem k0_off60_inb : ∀ (i : grid0.Coords) (v171 : BitVec 32) (k0_hw60 : k0_chk60 i v171), ∀ (k0_h1 : k0_cond1 i = 1#1), ∀ a, (k0_off60 v171) a + S1x256.size a ≤ S32000x256.size a := fun i v171 k0_hw60 k0_h1 => k0_hw60 k0_h1

def k0_off61 (v176 : BitVec 32) : Fin 2 → Nat :=
  let c0_i32_110 : BitVec 32 := 0#32
  ![v176.toNat, 0]

def k0_chk61 (i : grid0.Coords) (v176 : BitVec 32) : Prop :=
  (∀ (k0_h1 : k0_cond1 i = 1#1), ∀ a, (k0_off61 v176) a + S1x256.size a ≤ S32000x256.size a)
theorem k0_off61_inb : ∀ (i : grid0.Coords) (v176 : BitVec 32) (k0_hw61 : k0_chk61 i v176), ∀ (k0_h1 : k0_cond1 i = 1#1), ∀ a, (k0_off61 v176) a + S1x256.size a ≤ S32000x256.size a := fun i v176 k0_hw61 k0_h1 => k0_hw61 k0_h1

def k0_off62 (v181 : BitVec 32) : Fin 2 → Nat :=
  let c0_i32_113 : BitVec 32 := 0#32
  ![v181.toNat, 0]

def k0_chk62 (i : grid0.Coords) (v181 : BitVec 32) : Prop :=
  (∀ (k0_h1 : k0_cond1 i = 1#1), ∀ a, (k0_off62 v181) a + S1x256.size a ≤ S32000x256.size a)
theorem k0_off62_inb : ∀ (i : grid0.Coords) (v181 : BitVec 32) (k0_hw62 : k0_chk62 i v181), ∀ (k0_h1 : k0_cond1 i = 1#1), ∀ a, (k0_off62 v181) a + S1x256.size a ≤ S32000x256.size a := fun i v181 k0_hw62 k0_h1 => k0_hw62 k0_h1

def k0_off63 (v186 : BitVec 32) : Fin 2 → Nat :=
  let c0_i32_116 : BitVec 32 := 0#32
  ![v186.toNat, 0]

def k0_chk63 (i : grid0.Coords) (v186 : BitVec 32) : Prop :=
  (∀ (k0_h1 : k0_cond1 i = 1#1), ∀ a, (k0_off63 v186) a + S1x256.size a ≤ S32000x256.size a)
theorem k0_off63_inb : ∀ (i : grid0.Coords) (v186 : BitVec 32) (k0_hw63 : k0_chk63 i v186), ∀ (k0_h1 : k0_cond1 i = 1#1), ∀ a, (k0_off63 v186) a + S1x256.size a ≤ S32000x256.size a := fun i v186 k0_hw63 k0_h1 => k0_hw63 k0_h1

def k0_off64 (v191 : BitVec 32) : Fin 2 → Nat :=
  let c0_i32_119 : BitVec 32 := 0#32
  ![v191.toNat, 0]

def k0_chk64 (i : grid0.Coords) (v191 : BitVec 32) : Prop :=
  (∀ (k0_h1 : k0_cond1 i = 1#1), ∀ a, (k0_off64 v191) a + S1x256.size a ≤ S32000x256.size a)
theorem k0_off64_inb : ∀ (i : grid0.Coords) (v191 : BitVec 32) (k0_hw64 : k0_chk64 i v191), ∀ (k0_h1 : k0_cond1 i = 1#1), ∀ a, (k0_off64 v191) a + S1x256.size a ≤ S32000x256.size a := fun i v191 k0_hw64 k0_h1 => k0_hw64 k0_h1

def k0_off65 (i : grid0.Coords) : Fin 3 → Nat :=
  let arg1 : BitVec 32 := BitVec.ofNat 32 (i 1).val
  let v7 : Index := Scalar.indexCast arg1
  let c0_4 : Index := 0#32
  let c0_5 : Index := 0#32
  ![v7.toNat, 0, 0]
def k0_off66 (i : grid0.Coords) : Fin 3 → Nat :=
  let arg1 : BitVec 32 := BitVec.ofNat 32 (i 1).val
  let v14 : Index := Scalar.indexCast arg1
  let c0_8 : Index := 0#32
  let c0_9 : Index := 0#32
  ![v14.toNat, 0, 0]
def k0_cond4 (i : grid0.Coords) : BitVec 1 :=
  let arg1 : BitVec 32 := BitVec.ofNat 32 (i 1).val
  let c4_i32 : BitVec 32 := 4#32
  let v27 : BitVec 1 := Scalar.cmpi .eq arg1 c4_i32
  let v28 : BitVec 32 := Scalar.extui v27
  let c0_i32_16 : BitVec 32 := 0#32
  let v29 : BitVec 1 := Scalar.cmpi .ne v28 c0_i32_16
  v29

@[reducible] def k0_t1_loop : Scf.Loop 32 :=
  let c0_i32_24 : BitVec 32 := 0#32
  let c5_i32 : BitVec 32 := 5#32
  let v34 : BitVec 32 := Scalar.addi c0_i32_24 c5_i32
  let c1_i32 : BitVec 32 := 1#32
  ⟨c0_i32_24, v34, c1_i32⟩
def k0_off67 (k0_t1 : Fin k0_t1_loop.trips) : Fin 3 → Nat :=
  let c0_i32_24 : BitVec 32 := 0#32
  let c1_i32 : BitVec 32 := 1#32
  let arg25 : BitVec 32 := Scf.iv c0_i32_24 c1_i32 k0_t1
  let v190 : Index := Scalar.indexCast arg25
  let c0_84 : Index := 0#32
  let c0_85 : Index := 0#32
  ![v190.toNat, 0, 0]
@[reducible] def k0_t2_loop : Scf.Loop 32 :=
  let c0_i32_31 : BitVec 32 := 0#32
  let c5_i32_32 : BitVec 32 := 5#32
  let v40 : BitVec 32 := Scalar.addi c0_i32_31 c5_i32_32
  let c1_i32_33 : BitVec 32 := 1#32
  ⟨c0_i32_31, v40, c1_i32_33⟩
def k0_off68 (k0_t2 : Fin k0_t2_loop.trips) : Fin 3 → Nat :=
  let c0_i32_31 : BitVec 32 := 0#32
  let c1_i32_33 : BitVec 32 := 1#32
  let arg25 : BitVec 32 := Scf.iv c0_i32_31 c1_i32_33 k0_t2
  let v190 : Index := Scalar.indexCast arg25
  let c0_84 : Index := 0#32
  let c0_85 : Index := 0#32
  ![v190.toNat, 0, 0]
def k0_cond5 (i : grid0.Coords) : BitVec 1 :=
  let arg0 : BitVec 32 := BitVec.ofNat 32 (i 0).val
  let c30_i32 : BitVec 32 := 30#32
  let v184 : BitVec 1 := Scalar.cmpi .slt arg0 c30_i32
  let v185 : BitVec 32 := Scalar.extui v184
  let c0_i32_81 : BitVec 32 := 0#32
  let v186 : BitVec 1 := Scalar.cmpi .ne v185 c0_i32_81
  v186

def k0_off69 (v190 : BitVec 32) : Fin 2 → Nat :=
  let c0_i32_88 : BitVec 32 := 0#32
  ![v190.toNat, 0]

def k0_chk65 (i : grid0.Coords) (v190 : BitVec 32) : Prop :=
  (∀ (k0_h4 : k0_cond4 i = 1#1), ∀ (k0_h5 : k0_cond5 i = 1#1), ∀ a, (k0_off69 v190) a + S1x256.size a ≤ S32000x256.size a)
theorem k0_off69_inb : ∀ (i : grid0.Coords) (v190 : BitVec 32) (k0_hw65 : k0_chk65 i v190), ∀ (k0_h4 : k0_cond4 i = 1#1), ∀ (k0_h5 : k0_cond5 i = 1#1), ∀ a, (k0_off69 v190) a + S1x256.size a ≤ S32000x256.size a := fun i v190 k0_hw65 k0_h4 k0_h5 => k0_hw65 k0_h4 k0_h5

def k0_off70 (v195 : BitVec 32) : Fin 2 → Nat :=
  let c0_i32_92 : BitVec 32 := 0#32
  ![v195.toNat, 0]

def k0_chk66 (i : grid0.Coords) (v195 : BitVec 32) : Prop :=
  (∀ (k0_h4 : k0_cond4 i = 1#1), ∀ (k0_h5 : k0_cond5 i = 1#1), ∀ a, (k0_off70 v195) a + S1x256.size a ≤ S32000x256.size a)
theorem k0_off70_inb : ∀ (i : grid0.Coords) (v195 : BitVec 32) (k0_hw66 : k0_chk66 i v195), ∀ (k0_h4 : k0_cond4 i = 1#1), ∀ (k0_h5 : k0_cond5 i = 1#1), ∀ a, (k0_off70 v195) a + S1x256.size a ≤ S32000x256.size a := fun i v195 k0_hw66 k0_h4 k0_h5 => k0_hw66 k0_h4 k0_h5

def k0_off71 (v200 : BitVec 32) : Fin 2 → Nat :=
  let c0_i32_95 : BitVec 32 := 0#32
  ![v200.toNat, 0]

def k0_chk67 (i : grid0.Coords) (v200 : BitVec 32) : Prop :=
  (∀ (k0_h4 : k0_cond4 i = 1#1), ∀ (k0_h5 : k0_cond5 i = 1#1), ∀ a, (k0_off71 v200) a + S1x256.size a ≤ S32000x256.size a)
theorem k0_off71_inb : ∀ (i : grid0.Coords) (v200 : BitVec 32) (k0_hw67 : k0_chk67 i v200), ∀ (k0_h4 : k0_cond4 i = 1#1), ∀ (k0_h5 : k0_cond5 i = 1#1), ∀ a, (k0_off71 v200) a + S1x256.size a ≤ S32000x256.size a := fun i v200 k0_hw67 k0_h4 k0_h5 => k0_hw67 k0_h4 k0_h5

def k0_off72 (v205 : BitVec 32) : Fin 2 → Nat :=
  let c0_i32_99 : BitVec 32 := 0#32
  ![v205.toNat, 0]

def k0_chk68 (i : grid0.Coords) (v205 : BitVec 32) : Prop :=
  (∀ (k0_h4 : k0_cond4 i = 1#1), ∀ (k0_h5 : k0_cond5 i = 1#1), ∀ a, (k0_off72 v205) a + S1x256.size a ≤ S32000x256.size a)
theorem k0_off72_inb : ∀ (i : grid0.Coords) (v205 : BitVec 32) (k0_hw68 : k0_chk68 i v205), ∀ (k0_h4 : k0_cond4 i = 1#1), ∀ (k0_h5 : k0_cond5 i = 1#1), ∀ a, (k0_off72 v205) a + S1x256.size a ≤ S32000x256.size a := fun i v205 k0_hw68 k0_h4 k0_h5 => k0_hw68 k0_h4 k0_h5

def k0_off73 (v210 : BitVec 32) : Fin 2 → Nat :=
  let c0_i32_103 : BitVec 32 := 0#32
  ![v210.toNat, 0]

def k0_chk69 (i : grid0.Coords) (v210 : BitVec 32) : Prop :=
  (∀ (k0_h4 : k0_cond4 i = 1#1), ∀ (k0_h5 : k0_cond5 i = 1#1), ∀ a, (k0_off73 v210) a + S1x256.size a ≤ S32000x256.size a)
theorem k0_off73_inb : ∀ (i : grid0.Coords) (v210 : BitVec 32) (k0_hw69 : k0_chk69 i v210), ∀ (k0_h4 : k0_cond4 i = 1#1), ∀ (k0_h5 : k0_cond5 i = 1#1), ∀ a, (k0_off73 v210) a + S1x256.size a ≤ S32000x256.size a := fun i v210 k0_hw69 k0_h4 k0_h5 => k0_hw69 k0_h4 k0_h5

def k0_off74 (v215 : BitVec 32) : Fin 2 → Nat :=
  let c0_i32_107 : BitVec 32 := 0#32
  ![v215.toNat, 0]

def k0_chk70 (i : grid0.Coords) (v215 : BitVec 32) : Prop :=
  (∀ (k0_h4 : k0_cond4 i = 1#1), ∀ (k0_h5 : k0_cond5 i = 1#1), ∀ a, (k0_off74 v215) a + S1x256.size a ≤ S32000x256.size a)
theorem k0_off74_inb : ∀ (i : grid0.Coords) (v215 : BitVec 32) (k0_hw70 : k0_chk70 i v215), ∀ (k0_h4 : k0_cond4 i = 1#1), ∀ (k0_h5 : k0_cond5 i = 1#1), ∀ a, (k0_off74 v215) a + S1x256.size a ≤ S32000x256.size a := fun i v215 k0_hw70 k0_h4 k0_h5 => k0_hw70 k0_h4 k0_h5

def k0_off75 (v220 : BitVec 32) : Fin 2 → Nat :=
  let c0_i32_110 : BitVec 32 := 0#32
  ![v220.toNat, 0]

def k0_chk71 (i : grid0.Coords) (v220 : BitVec 32) : Prop :=
  (∀ (k0_h4 : k0_cond4 i = 1#1), ∀ (k0_h5 : k0_cond5 i = 1#1), ∀ a, (k0_off75 v220) a + S1x256.size a ≤ S32000x256.size a)
theorem k0_off75_inb : ∀ (i : grid0.Coords) (v220 : BitVec 32) (k0_hw71 : k0_chk71 i v220), ∀ (k0_h4 : k0_cond4 i = 1#1), ∀ (k0_h5 : k0_cond5 i = 1#1), ∀ a, (k0_off75 v220) a + S1x256.size a ≤ S32000x256.size a := fun i v220 k0_hw71 k0_h4 k0_h5 => k0_hw71 k0_h4 k0_h5

def k0_off76 (v225 : BitVec 32) : Fin 2 → Nat :=
  let c0_i32_113 : BitVec 32 := 0#32
  ![v225.toNat, 0]

def k0_chk72 (i : grid0.Coords) (v225 : BitVec 32) : Prop :=
  (∀ (k0_h4 : k0_cond4 i = 1#1), ∀ (k0_h5 : k0_cond5 i = 1#1), ∀ a, (k0_off76 v225) a + S1x256.size a ≤ S32000x256.size a)
theorem k0_off76_inb : ∀ (i : grid0.Coords) (v225 : BitVec 32) (k0_hw72 : k0_chk72 i v225), ∀ (k0_h4 : k0_cond4 i = 1#1), ∀ (k0_h5 : k0_cond5 i = 1#1), ∀ a, (k0_off76 v225) a + S1x256.size a ≤ S32000x256.size a := fun i v225 k0_hw72 k0_h4 k0_h5 => k0_hw72 k0_h4 k0_h5

def k0_off77 (v230 : BitVec 32) : Fin 2 → Nat :=
  let c0_i32_116 : BitVec 32 := 0#32
  ![v230.toNat, 0]

def k0_chk73 (i : grid0.Coords) (v230 : BitVec 32) : Prop :=
  (∀ (k0_h4 : k0_cond4 i = 1#1), ∀ (k0_h5 : k0_cond5 i = 1#1), ∀ a, (k0_off77 v230) a + S1x256.size a ≤ S32000x256.size a)
theorem k0_off77_inb : ∀ (i : grid0.Coords) (v230 : BitVec 32) (k0_hw73 : k0_chk73 i v230), ∀ (k0_h4 : k0_cond4 i = 1#1), ∀ (k0_h5 : k0_cond5 i = 1#1), ∀ a, (k0_off77 v230) a + S1x256.size a ≤ S32000x256.size a := fun i v230 k0_hw73 k0_h4 k0_h5 => k0_hw73 k0_h4 k0_h5

def k0_off78 (v235 : BitVec 32) : Fin 2 → Nat :=
  let c0_i32_119 : BitVec 32 := 0#32
  ![v235.toNat, 0]

def k0_chk74 (i : grid0.Coords) (v235 : BitVec 32) : Prop :=
  (∀ (k0_h4 : k0_cond4 i = 1#1), ∀ (k0_h5 : k0_cond5 i = 1#1), ∀ a, (k0_off78 v235) a + S1x256.size a ≤ S32000x256.size a)
theorem k0_off78_inb : ∀ (i : grid0.Coords) (v235 : BitVec 32) (k0_hw74 : k0_chk74 i v235), ∀ (k0_h4 : k0_cond4 i = 1#1), ∀ (k0_h5 : k0_cond5 i = 1#1), ∀ a, (k0_off78 v235) a + S1x256.size a ≤ S32000x256.size a := fun i v235 k0_hw74 k0_h4 k0_h5 => k0_hw74 k0_h4 k0_h5

def k0_off79 (v240 : BitVec 32) : Fin 2 → Nat :=
  let c0_i32_122 : BitVec 32 := 0#32
  ![v240.toNat, 0]

def k0_chk75 (i : grid0.Coords) (v240 : BitVec 32) : Prop :=
  (∀ (k0_h4 : k0_cond4 i = 1#1), ∀ (k0_h5 : k0_cond5 i = 1#1), ∀ a, (k0_off79 v240) a + S1x256.size a ≤ S32000x256.size a)
theorem k0_off79_inb : ∀ (i : grid0.Coords) (v240 : BitVec 32) (k0_hw75 : k0_chk75 i v240), ∀ (k0_h4 : k0_cond4 i = 1#1), ∀ (k0_h5 : k0_cond5 i = 1#1), ∀ a, (k0_off79 v240) a + S1x256.size a ≤ S32000x256.size a := fun i v240 k0_hw75 k0_h4 k0_h5 => k0_hw75 k0_h4 k0_h5

def k0_off80 (v245 : BitVec 32) : Fin 2 → Nat :=
  let c0_i32_125 : BitVec 32 := 0#32
  ![v245.toNat, 0]

def k0_chk76 (i : grid0.Coords) (v245 : BitVec 32) : Prop :=
  (∀ (k0_h4 : k0_cond4 i = 1#1), ∀ (k0_h5 : k0_cond5 i = 1#1), ∀ a, (k0_off80 v245) a + S1x256.size a ≤ S32000x256.size a)
theorem k0_off80_inb : ∀ (i : grid0.Coords) (v245 : BitVec 32) (k0_hw76 : k0_chk76 i v245), ∀ (k0_h4 : k0_cond4 i = 1#1), ∀ (k0_h5 : k0_cond5 i = 1#1), ∀ a, (k0_off80 v245) a + S1x256.size a ≤ S32000x256.size a := fun i v245 k0_hw76 k0_h4 k0_h5 => k0_hw76 k0_h4 k0_h5

def k0_off81 (v250 : BitVec 32) : Fin 2 → Nat :=
  let c0_i32_128 : BitVec 32 := 0#32
  ![v250.toNat, 0]

def k0_chk77 (i : grid0.Coords) (v250 : BitVec 32) : Prop :=
  (∀ (k0_h4 : k0_cond4 i = 1#1), ∀ (k0_h5 : k0_cond5 i = 1#1), ∀ a, (k0_off81 v250) a + S1x256.size a ≤ S32000x256.size a)
theorem k0_off81_inb : ∀ (i : grid0.Coords) (v250 : BitVec 32) (k0_hw77 : k0_chk77 i v250), ∀ (k0_h4 : k0_cond4 i = 1#1), ∀ (k0_h5 : k0_cond5 i = 1#1), ∀ a, (k0_off81 v250) a + S1x256.size a ≤ S32000x256.size a := fun i v250 k0_hw77 k0_h4 k0_h5 => k0_hw77 k0_h4 k0_h5

def k0_off82 (v255 : BitVec 32) : Fin 2 → Nat :=
  let c0_i32_131 : BitVec 32 := 0#32
  ![v255.toNat, 0]

def k0_chk78 (i : grid0.Coords) (v255 : BitVec 32) : Prop :=
  (∀ (k0_h4 : k0_cond4 i = 1#1), ∀ (k0_h5 : k0_cond5 i = 1#1), ∀ a, (k0_off82 v255) a + S1x256.size a ≤ S32000x256.size a)
theorem k0_off82_inb : ∀ (i : grid0.Coords) (v255 : BitVec 32) (k0_hw78 : k0_chk78 i v255), ∀ (k0_h4 : k0_cond4 i = 1#1), ∀ (k0_h5 : k0_cond5 i = 1#1), ∀ a, (k0_off82 v255) a + S1x256.size a ≤ S32000x256.size a := fun i v255 k0_hw78 k0_h4 k0_h5 => k0_hw78 k0_h4 k0_h5

def k0_off83 (v260 : BitVec 32) : Fin 2 → Nat :=
  let c0_i32_134 : BitVec 32 := 0#32
  ![v260.toNat, 0]

def k0_chk79 (i : grid0.Coords) (v260 : BitVec 32) : Prop :=
  (∀ (k0_h4 : k0_cond4 i = 1#1), ∀ (k0_h5 : k0_cond5 i = 1#1), ∀ a, (k0_off83 v260) a + S1x256.size a ≤ S32000x256.size a)
theorem k0_off83_inb : ∀ (i : grid0.Coords) (v260 : BitVec 32) (k0_hw79 : k0_chk79 i v260), ∀ (k0_h4 : k0_cond4 i = 1#1), ∀ (k0_h5 : k0_cond5 i = 1#1), ∀ a, (k0_off83 v260) a + S1x256.size a ≤ S32000x256.size a := fun i v260 k0_hw79 k0_h4 k0_h5 => k0_hw79 k0_h4 k0_h5

def k0_off84 (v265 : BitVec 32) : Fin 2 → Nat :=
  let c0_i32_137 : BitVec 32 := 0#32
  ![v265.toNat, 0]

def k0_chk80 (i : grid0.Coords) (v265 : BitVec 32) : Prop :=
  (∀ (k0_h4 : k0_cond4 i = 1#1), ∀ (k0_h5 : k0_cond5 i = 1#1), ∀ a, (k0_off84 v265) a + S1x256.size a ≤ S32000x256.size a)
theorem k0_off84_inb : ∀ (i : grid0.Coords) (v265 : BitVec 32) (k0_hw80 : k0_chk80 i v265), ∀ (k0_h4 : k0_cond4 i = 1#1), ∀ (k0_h5 : k0_cond5 i = 1#1), ∀ a, (k0_off84 v265) a + S1x256.size a ≤ S32000x256.size a := fun i v265 k0_hw80 k0_h4 k0_h5 => k0_hw80 k0_h4 k0_h5

def k0_off85 (v270 : BitVec 32) : Fin 2 → Nat :=
  let c0_i32_141 : BitVec 32 := 0#32
  ![v270.toNat, 0]

def k0_chk81 (i : grid0.Coords) (v270 : BitVec 32) : Prop :=
  (∀ (k0_h4 : k0_cond4 i = 1#1), ∀ (k0_h5 : k0_cond5 i = 1#1), ∀ a, (k0_off85 v270) a + S1x256.size a ≤ S32000x256.size a)
theorem k0_off85_inb : ∀ (i : grid0.Coords) (v270 : BitVec 32) (k0_hw81 : k0_chk81 i v270), ∀ (k0_h4 : k0_cond4 i = 1#1), ∀ (k0_h5 : k0_cond5 i = 1#1), ∀ a, (k0_off85 v270) a + S1x256.size a ≤ S32000x256.size a := fun i v270 k0_hw81 k0_h4 k0_h5 => k0_hw81 k0_h4 k0_h5

def k0_off86 (v275 : BitVec 32) : Fin 2 → Nat :=
  let c0_i32_144 : BitVec 32 := 0#32
  ![v275.toNat, 0]

def k0_chk82 (i : grid0.Coords) (v275 : BitVec 32) : Prop :=
  (∀ (k0_h4 : k0_cond4 i = 1#1), ∀ (k0_h5 : k0_cond5 i = 1#1), ∀ a, (k0_off86 v275) a + S1x256.size a ≤ S32000x256.size a)
theorem k0_off86_inb : ∀ (i : grid0.Coords) (v275 : BitVec 32) (k0_hw82 : k0_chk82 i v275), ∀ (k0_h4 : k0_cond4 i = 1#1), ∀ (k0_h5 : k0_cond5 i = 1#1), ∀ a, (k0_off86 v275) a + S1x256.size a ≤ S32000x256.size a := fun i v275 k0_hw82 k0_h4 k0_h5 => k0_hw82 k0_h4 k0_h5

def k0_off87 (v280 : BitVec 32) : Fin 2 → Nat :=
  let c0_i32_147 : BitVec 32 := 0#32
  ![v280.toNat, 0]

def k0_chk83 (i : grid0.Coords) (v280 : BitVec 32) : Prop :=
  (∀ (k0_h4 : k0_cond4 i = 1#1), ∀ (k0_h5 : k0_cond5 i = 1#1), ∀ a, (k0_off87 v280) a + S1x256.size a ≤ S32000x256.size a)
theorem k0_off87_inb : ∀ (i : grid0.Coords) (v280 : BitVec 32) (k0_hw83 : k0_chk83 i v280), ∀ (k0_h4 : k0_cond4 i = 1#1), ∀ (k0_h5 : k0_cond5 i = 1#1), ∀ a, (k0_off87 v280) a + S1x256.size a ≤ S32000x256.size a := fun i v280 k0_hw83 k0_h4 k0_h5 => k0_hw83 k0_h4 k0_h5

def k0_off88 (v285 : BitVec 32) : Fin 2 → Nat :=
  let c0_i32_150 : BitVec 32 := 0#32
  ![v285.toNat, 0]

def k0_chk84 (i : grid0.Coords) (v285 : BitVec 32) : Prop :=
  (∀ (k0_h4 : k0_cond4 i = 1#1), ∀ (k0_h5 : k0_cond5 i = 1#1), ∀ a, (k0_off88 v285) a + S1x256.size a ≤ S32000x256.size a)
theorem k0_off88_inb : ∀ (i : grid0.Coords) (v285 : BitVec 32) (k0_hw84 : k0_chk84 i v285), ∀ (k0_h4 : k0_cond4 i = 1#1), ∀ (k0_h5 : k0_cond5 i = 1#1), ∀ a, (k0_off88 v285) a + S1x256.size a ≤ S32000x256.size a := fun i v285 k0_hw84 k0_h4 k0_h5 => k0_hw84 k0_h4 k0_h5

def k0_off89 (v290 : BitVec 32) : Fin 2 → Nat :=
  let c0_i32_153 : BitVec 32 := 0#32
  ![v290.toNat, 0]

def k0_chk85 (i : grid0.Coords) (v290 : BitVec 32) : Prop :=
  (∀ (k0_h4 : k0_cond4 i = 1#1), ∀ (k0_h5 : k0_cond5 i = 1#1), ∀ a, (k0_off89 v290) a + S1x256.size a ≤ S32000x256.size a)
theorem k0_off89_inb : ∀ (i : grid0.Coords) (v290 : BitVec 32) (k0_hw85 : k0_chk85 i v290), ∀ (k0_h4 : k0_cond4 i = 1#1), ∀ (k0_h5 : k0_cond5 i = 1#1), ∀ a, (k0_off89 v290) a + S1x256.size a ≤ S32000x256.size a := fun i v290 k0_hw85 k0_h4 k0_h5 => k0_hw85 k0_h4 k0_h5

def k0_off90 (v295 : BitVec 32) : Fin 2 → Nat :=
  let c0_i32_156 : BitVec 32 := 0#32
  ![v295.toNat, 0]

def k0_chk86 (i : grid0.Coords) (v295 : BitVec 32) : Prop :=
  (∀ (k0_h4 : k0_cond4 i = 1#1), ∀ (k0_h5 : k0_cond5 i = 1#1), ∀ a, (k0_off90 v295) a + S1x256.size a ≤ S32000x256.size a)
theorem k0_off90_inb : ∀ (i : grid0.Coords) (v295 : BitVec 32) (k0_hw86 : k0_chk86 i v295), ∀ (k0_h4 : k0_cond4 i = 1#1), ∀ (k0_h5 : k0_cond5 i = 1#1), ∀ a, (k0_off90 v295) a + S1x256.size a ≤ S32000x256.size a := fun i v295 k0_hw86 k0_h4 k0_h5 => k0_hw86 k0_h4 k0_h5

def k0_off91 (v300 : BitVec 32) : Fin 2 → Nat :=
  let c0_i32_159 : BitVec 32 := 0#32
  ![v300.toNat, 0]

def k0_chk87 (i : grid0.Coords) (v300 : BitVec 32) : Prop :=
  (∀ (k0_h4 : k0_cond4 i = 1#1), ∀ (k0_h5 : k0_cond5 i = 1#1), ∀ a, (k0_off91 v300) a + S1x256.size a ≤ S32000x256.size a)
theorem k0_off91_inb : ∀ (i : grid0.Coords) (v300 : BitVec 32) (k0_hw87 : k0_chk87 i v300), ∀ (k0_h4 : k0_cond4 i = 1#1), ∀ (k0_h5 : k0_cond5 i = 1#1), ∀ a, (k0_off91 v300) a + S1x256.size a ≤ S32000x256.size a := fun i v300 k0_hw87 k0_h4 k0_h5 => k0_hw87 k0_h4 k0_h5

def k0_off92 (v305 : BitVec 32) : Fin 2 → Nat :=
  let c0_i32_162 : BitVec 32 := 0#32
  ![v305.toNat, 0]

def k0_chk88 (i : grid0.Coords) (v305 : BitVec 32) : Prop :=
  (∀ (k0_h4 : k0_cond4 i = 1#1), ∀ (k0_h5 : k0_cond5 i = 1#1), ∀ a, (k0_off92 v305) a + S1x256.size a ≤ S32000x256.size a)
theorem k0_off92_inb : ∀ (i : grid0.Coords) (v305 : BitVec 32) (k0_hw88 : k0_chk88 i v305), ∀ (k0_h4 : k0_cond4 i = 1#1), ∀ (k0_h5 : k0_cond5 i = 1#1), ∀ a, (k0_off92 v305) a + S1x256.size a ≤ S32000x256.size a := fun i v305 k0_hw88 k0_h4 k0_h5 => k0_hw88 k0_h4 k0_h5

def k0_off93 (v310 : BitVec 32) : Fin 2 → Nat :=
  let c0_i32_165 : BitVec 32 := 0#32
  ![v310.toNat, 0]

def k0_chk89 (i : grid0.Coords) (v310 : BitVec 32) : Prop :=
  (∀ (k0_h4 : k0_cond4 i = 1#1), ∀ (k0_h5 : k0_cond5 i = 1#1), ∀ a, (k0_off93 v310) a + S1x256.size a ≤ S32000x256.size a)
theorem k0_off93_inb : ∀ (i : grid0.Coords) (v310 : BitVec 32) (k0_hw89 : k0_chk89 i v310), ∀ (k0_h4 : k0_cond4 i = 1#1), ∀ (k0_h5 : k0_cond5 i = 1#1), ∀ a, (k0_off93 v310) a + S1x256.size a ≤ S32000x256.size a := fun i v310 k0_hw89 k0_h4 k0_h5 => k0_hw89 k0_h4 k0_h5

def k0_off94 (v315 : BitVec 32) : Fin 2 → Nat :=
  let c0_i32_168 : BitVec 32 := 0#32
  ![v315.toNat, 0]

def k0_chk90 (i : grid0.Coords) (v315 : BitVec 32) : Prop :=
  (∀ (k0_h4 : k0_cond4 i = 1#1), ∀ (k0_h5 : k0_cond5 i = 1#1), ∀ a, (k0_off94 v315) a + S1x256.size a ≤ S32000x256.size a)
theorem k0_off94_inb : ∀ (i : grid0.Coords) (v315 : BitVec 32) (k0_hw90 : k0_chk90 i v315), ∀ (k0_h4 : k0_cond4 i = 1#1), ∀ (k0_h5 : k0_cond5 i = 1#1), ∀ a, (k0_off94 v315) a + S1x256.size a ≤ S32000x256.size a := fun i v315 k0_hw90 k0_h4 k0_h5 => k0_hw90 k0_h4 k0_h5

def k0_off95 (v320 : BitVec 32) : Fin 2 → Nat :=
  let c0_i32_171 : BitVec 32 := 0#32
  ![v320.toNat, 0]

def k0_chk91 (i : grid0.Coords) (v320 : BitVec 32) : Prop :=
  (∀ (k0_h4 : k0_cond4 i = 1#1), ∀ (k0_h5 : k0_cond5 i = 1#1), ∀ a, (k0_off95 v320) a + S1x256.size a ≤ S32000x256.size a)
theorem k0_off95_inb : ∀ (i : grid0.Coords) (v320 : BitVec 32) (k0_hw91 : k0_chk91 i v320), ∀ (k0_h4 : k0_cond4 i = 1#1), ∀ (k0_h5 : k0_cond5 i = 1#1), ∀ a, (k0_off95 v320) a + S1x256.size a ≤ S32000x256.size a := fun i v320 k0_hw91 k0_h4 k0_h5 => k0_hw91 k0_h4 k0_h5

def k0_off96 (v325 : BitVec 32) : Fin 2 → Nat :=
  let c0_i32_174 : BitVec 32 := 0#32
  ![v325.toNat, 0]

def k0_chk92 (i : grid0.Coords) (v325 : BitVec 32) : Prop :=
  (∀ (k0_h4 : k0_cond4 i = 1#1), ∀ (k0_h5 : k0_cond5 i = 1#1), ∀ a, (k0_off96 v325) a + S1x256.size a ≤ S32000x256.size a)
theorem k0_off96_inb : ∀ (i : grid0.Coords) (v325 : BitVec 32) (k0_hw92 : k0_chk92 i v325), ∀ (k0_h4 : k0_cond4 i = 1#1), ∀ (k0_h5 : k0_cond5 i = 1#1), ∀ a, (k0_off96 v325) a + S1x256.size a ≤ S32000x256.size a := fun i v325 k0_hw92 k0_h4 k0_h5 => k0_hw92 k0_h4 k0_h5

def k0_off97 (v330 : BitVec 32) : Fin 2 → Nat :=
  let c0_i32_177 : BitVec 32 := 0#32
  ![v330.toNat, 0]

def k0_chk93 (i : grid0.Coords) (v330 : BitVec 32) : Prop :=
  (∀ (k0_h4 : k0_cond4 i = 1#1), ∀ (k0_h5 : k0_cond5 i = 1#1), ∀ a, (k0_off97 v330) a + S1x256.size a ≤ S32000x256.size a)
theorem k0_off97_inb : ∀ (i : grid0.Coords) (v330 : BitVec 32) (k0_hw93 : k0_chk93 i v330), ∀ (k0_h4 : k0_cond4 i = 1#1), ∀ (k0_h5 : k0_cond5 i = 1#1), ∀ a, (k0_off97 v330) a + S1x256.size a ≤ S32000x256.size a := fun i v330 k0_hw93 k0_h4 k0_h5 => k0_hw93 k0_h4 k0_h5

def k0_off98 (v335 : BitVec 32) : Fin 2 → Nat :=
  let c0_i32_180 : BitVec 32 := 0#32
  ![v335.toNat, 0]

def k0_chk94 (i : grid0.Coords) (v335 : BitVec 32) : Prop :=
  (∀ (k0_h4 : k0_cond4 i = 1#1), ∀ (k0_h5 : k0_cond5 i = 1#1), ∀ a, (k0_off98 v335) a + S1x256.size a ≤ S32000x256.size a)
theorem k0_off98_inb : ∀ (i : grid0.Coords) (v335 : BitVec 32) (k0_hw94 : k0_chk94 i v335), ∀ (k0_h4 : k0_cond4 i = 1#1), ∀ (k0_h5 : k0_cond5 i = 1#1), ∀ a, (k0_off98 v335) a + S1x256.size a ≤ S32000x256.size a := fun i v335 k0_hw94 k0_h4 k0_h5 => k0_hw94 k0_h4 k0_h5

def k0_off99 (v340 : BitVec 32) : Fin 2 → Nat :=
  let c0_i32_184 : BitVec 32 := 0#32
  ![v340.toNat, 0]

def k0_chk95 (i : grid0.Coords) (v340 : BitVec 32) : Prop :=
  (∀ (k0_h4 : k0_cond4 i = 1#1), ∀ (k0_h5 : k0_cond5 i = 1#1), ∀ a, (k0_off99 v340) a + S1x256.size a ≤ S32000x256.size a)
theorem k0_off99_inb : ∀ (i : grid0.Coords) (v340 : BitVec 32) (k0_hw95 : k0_chk95 i v340), ∀ (k0_h4 : k0_cond4 i = 1#1), ∀ (k0_h5 : k0_cond5 i = 1#1), ∀ a, (k0_off99 v340) a + S1x256.size a ≤ S32000x256.size a := fun i v340 k0_hw95 k0_h4 k0_h5 => k0_hw95 k0_h4 k0_h5

def k0_off100 (v345 : BitVec 32) : Fin 2 → Nat :=
  let c0_i32_187 : BitVec 32 := 0#32
  ![v345.toNat, 0]

def k0_chk96 (i : grid0.Coords) (v345 : BitVec 32) : Prop :=
  (∀ (k0_h4 : k0_cond4 i = 1#1), ∀ (k0_h5 : k0_cond5 i = 1#1), ∀ a, (k0_off100 v345) a + S1x256.size a ≤ S32000x256.size a)
theorem k0_off100_inb : ∀ (i : grid0.Coords) (v345 : BitVec 32) (k0_hw96 : k0_chk96 i v345), ∀ (k0_h4 : k0_cond4 i = 1#1), ∀ (k0_h5 : k0_cond5 i = 1#1), ∀ a, (k0_off100 v345) a + S1x256.size a ≤ S32000x256.size a := fun i v345 k0_hw96 k0_h4 k0_h5 => k0_hw96 k0_h4 k0_h5

def k0_cond6 (i : grid0.Coords) : BitVec 1 :=
  let arg0 : BitVec 32 := BitVec.ofNat 32 (i 0).val
  let c30_i32_82 : BitVec 32 := 30#32
  let v187 : BitVec 1 := Scalar.cmpi .eq arg0 c30_i32_82
  let v188 : BitVec 32 := Scalar.extui v187
  let c0_i32_83 : BitVec 32 := 0#32
  let v189 : BitVec 1 := Scalar.cmpi .ne v188 c0_i32_83
  v189

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S5x16x6400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x32 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S32000x768 : Shape := ⟨2, ![32000, 768]⟩
abbrev S5x16x6400 : Shape := ⟨3, ![5, 16, 6400]⟩
abbrev S1536x768 : Shape := ⟨2, ![1536, 768]⟩
abbrev S1536x512 : Shape := ⟨2, ![1536, 512]⟩
abbrev S1x1536 : Shape := ⟨2, ![1, 1536]⟩
abbrev S16x512 : Shape := ⟨2, ![16, 512]⟩
abbrev S32000x256 : Shape := ⟨2, ![32000, 256]⟩
abbrev S16x5x6400 : Shape := ⟨3, ![16, 5, 6400]⟩
abbrev S16x1x32000 : Shape := ⟨3, ![16, 1, 32000]⟩
abbrev S16x1x512 : Shape := ⟨3, ![16, 1, 512]⟩
abbrev S16x2x512 : Shape := ⟨3, ![16, 2, 512]⟩
abbrev S_ : Shape := ⟨0, ![]⟩
abbrev S16x2 : Shape := ⟨2, ![16, 2]⟩
abbrev S2 : Shape := ⟨1, ![2]⟩
abbrev S32 : Shape := ⟨1, ![32]⟩
abbrev S16x2x32 : Shape := ⟨3, ![16, 2, 32]⟩
abbrev S2x1 : Shape := ⟨2, ![2, 1]⟩
abbrev S1x32 : Shape := ⟨2, ![1, 32]⟩
abbrev S2x32 : Shape := ⟨2, ![2, 32]⟩
abbrev S16x2x1 : Shape := ⟨3, ![16, 2, 1]⟩
abbrev S16x2x256 : Shape := ⟨3, ![16, 2, 256]⟩
abbrev S16x2x768 : Shape := ⟨3, ![16, 2, 768]⟩
abbrev S1536 : Shape := ⟨1, ![1536]⟩
abbrev S768x1536 : Shape := ⟨2, ![768, 1536]⟩
abbrev S16x2x1536 : Shape := ⟨3, ![16, 2, 1536]⟩
abbrev S1x1x1536 : Shape := ⟨3, ![1, 1, 1536]⟩
abbrev S512x1536 : Shape := ⟨2, ![512, 1536]⟩
abbrev S768x32000 : Shape := ⟨2, ![768, 32000]⟩
abbrev S16x2x32000 : Shape := ⟨3, ![16, 2, 32000]⟩
abbrev S32000 : Shape := ⟨1, ![32000]⟩
abbrev S16x64000 : Shape := ⟨2, ![16, 64000]⟩
abbrev S16x1 : Shape := ⟨2, ![16, 1]⟩
abbrev S1x1x32 : Shape := ⟨3, ![1, 1, 32]⟩
abbrev S16x1x32 : Shape := ⟨3, ![16, 1, 32]⟩
abbrev S16 : Shape := ⟨1, ![16]⟩
abbrev S16x32 : Shape := ⟨2, ![16, 32]⟩

abbrev nBuf : Space → Nat
  | .hbm => 260
  | .vmem => 0
  | .smem => 0
  | _ => 0

abbrev hbmTy0_0 (i : Nat) : BufTy := match i % 128 with
  | 0 => ⟨S32000x768, .bf16⟩
  | 1 => ⟨S5x16x6400, .f32⟩
  | 2 => ⟨S1536x768, .f32⟩
  | 3 => ⟨S1536x512, .f32⟩
  | 4 => ⟨S1x1536, .f32⟩
  | 5 => ⟨S1x1536, .f32⟩
  | 6 => ⟨S16x512, .f32⟩
  | 7 => ⟨S32000x256, .f32⟩
  | 8 => ⟨S16x5x6400, .f32⟩
  | 9 => ⟨S16x1x32000, .f32⟩
  | 10 => ⟨S32000x768, .f32⟩
  | 11 => ⟨S16x1x512, .f32⟩
  | 12 => ⟨S16x2x512, .f32⟩
  | 13 => ⟨S_, .i32⟩
  | 14 => ⟨S16x2, .i32⟩
  | 15 => ⟨S2, .i32⟩
  | 16 => ⟨S_, .i32⟩
  | 17 => ⟨S2, .i32⟩
  | 18 => ⟨S2, .i1⟩
  | 19 => ⟨S_, .f32⟩
  | 20 => ⟨S_, .f32⟩
  | 21 => ⟨S2, .f32⟩
  | 22 => ⟨S2, .f32⟩
  | 23 => ⟨S2, .f32⟩
  | 24 => ⟨S16x2, .f32⟩
  | 25 => ⟨S_, .i1⟩
  | 26 => ⟨S16x2, .i1⟩
  | 27 => ⟨S32, .i32⟩
  | 28 => ⟨S_, .i32⟩
  | 29 => ⟨S32, .i32⟩
  | 30 => ⟨S32, .i1⟩
  | 31 => ⟨S_, .i32⟩
  | 32 => ⟨S_, .i32⟩
  | 33 => ⟨S32, .i32⟩
  | 34 => ⟨S32, .i32⟩
  | 35 => ⟨S32, .i32⟩
  | 36 => ⟨S16x2x32, .i32⟩
  | 37 => ⟨S2, .i32⟩
  | 38 => ⟨S2x1, .i32⟩
  | 39 => ⟨S_, .i32⟩
  | 40 => ⟨S2x1, .i32⟩
  | 41 => ⟨S2x1, .i1⟩
  | 42 => ⟨S1x32, .i32⟩
  | 43 => ⟨S_, .i32⟩
  | 44 => ⟨S1x32, .i32⟩
  | 45 => ⟨S1x32, .i1⟩
  | 46 => ⟨S2x32, .i1⟩
  | 47 => ⟨S2x32, .i1⟩
  | 48 => ⟨S2x32, .i1⟩
  | 49 => ⟨S_, .f32⟩
  | 50 => ⟨S_, .f32⟩
  | 51 => ⟨S2x32, .f32⟩
  | 52 => ⟨S2x32, .f32⟩
  | 53 => ⟨S2x32, .f32⟩
  | 54 => ⟨S16x2x32, .f32⟩
  | 55 => ⟨S_, .i32⟩
  | 56 => ⟨S_, .i32⟩
  | 57 => ⟨S32000x256, .f32⟩
  | 58 => ⟨S16x2x512, .f32⟩
  | 59 => ⟨S1x1536, .f32⟩
  | 60 => ⟨S1x1536, .f32⟩
  | 61 => ⟨S1536x768, .f32⟩
  | 62 => ⟨S1536x512, .f32⟩
  | 63 => ⟨S32000x768, .f32⟩
  | 64 => ⟨S16x1x32000, .f32⟩
  | 65 => ⟨S32, .i32⟩
  | 66 => ⟨S_, .i32⟩
  | 67 => ⟨S_, .i32⟩
  | 68 => ⟨S16x2, .i32⟩
  | 69 => ⟨S16x2, .f32⟩
  | 70 => ⟨S16x2x512, .f32⟩
  | 71 => ⟨S16x2, .i1⟩
  | 72 => ⟨S16x2x32, .i32⟩
  | 73 => ⟨S16x2x32, .f32⟩
  | 74 => ⟨S_, .i32⟩
  | 75 => ⟨S_, .i1⟩
  | 76 => ⟨S_, .i32⟩
  | 77 => ⟨S_, .i32⟩
  | 78 => ⟨S_, .i32⟩
  | 79 => ⟨S16x2, .i32⟩
  | 80 => ⟨S16x2, .i1⟩
  | 81 => ⟨S_, .i32⟩
  | 82 => ⟨S16x2, .i32⟩
  | 83 => ⟨S16x2, .i32⟩
  | 84 => ⟨S16x2, .i32⟩
  | 85 => ⟨S16x2x1, .i32⟩
  | 86 => ⟨S16x2x256, .f32⟩
  | 87 => ⟨S16x2x768, .f32⟩
  | 88 => ⟨S1536, .f32⟩
  | 89 => ⟨S1536, .f32⟩
  | 90 => ⟨S768x1536, .f32⟩
  | 91 => ⟨S16x2x1536, .f32⟩
  | 92 => ⟨S1x1x1536, .f32⟩
  | 93 => ⟨S16x2x1536, .f32⟩
  | 94 => ⟨S16x2x1536, .f32⟩
  | 95 => ⟨S512x1536, .f32⟩
  | 96 => ⟨S16x2x1536, .f32⟩
  | 97 => ⟨S1x1x1536, .f32⟩
  | 98 => ⟨S16x2x1536, .f32⟩
  | 99 => ⟨S16x2x1536, .f32⟩
  | 100 => ⟨S16x2x512, .f32⟩
  | 101 => ⟨S16x2x512, .f32⟩
  | 102 => ⟨S16x2x512, .f32⟩
  | 103 => ⟨S16x2x512, .f32⟩
  | 104 => ⟨S16x2x512, .f32⟩
  | 105 => ⟨S16x2x512, .f32⟩
  | 106 => ⟨S16x2x512, .f32⟩
  | 107 => ⟨S16x2x512, .f32⟩
  | 108 => ⟨S16x2x512, .f32⟩
  | 109 => ⟨S_, .f32⟩
  | 110 => ⟨S16x2x512, .f32⟩
  | 111 => ⟨S16x2x512, .f32⟩
  | 112 => ⟨S_, .f32⟩
  | 113 => ⟨S16x2x512, .f32⟩
  | 114 => ⟨S16x2x512, .f32⟩
  | 115 => ⟨S16x2x512, .f32⟩
  | 116 => ⟨S16x2x512, .f32⟩
  | 117 => ⟨S16x2x512, .f32⟩
  | 118 => ⟨S_, .f32⟩
  | 119 => ⟨S16x2x512, .f32⟩
  | 120 => ⟨S16x2x512, .f32⟩
  | 121 => ⟨S_, .f32⟩
  | 122 => ⟨S16x2x512, .f32⟩
  | 123 => ⟨S16x2x512, .f32⟩
  | 124 => ⟨S16x2x512, .f32⟩
  | 125 => ⟨S16x2x512, .f32⟩
  | 126 => ⟨S16x2x512, .f32⟩
  | 127 => ⟨S_, .f32⟩
  | _ => ⟨S32000x768, .bf16⟩

abbrev hbmTy0_1 (i : Nat) : BufTy := match i % 128 with
  | 0 => ⟨S16x2x512, .f32⟩
  | 1 => ⟨S16x2x512, .f32⟩
  | 2 => ⟨S16x2x512, .f32⟩
  | 3 => ⟨S16x2x512, .f32⟩
  | 4 => ⟨S16x2x512, .f32⟩
  | 5 => ⟨S16x2x768, .f32⟩
  | 6 => ⟨S768x32000, .f32⟩
  | 7 => ⟨S16x2x32000, .f32⟩
  | 8 => ⟨S16x2x32000, .f32⟩
  | 9 => ⟨S16x2x32000, .f32⟩
  | 10 => ⟨S_, .f32⟩
  | 11 => ⟨S16x2, .f32⟩
  | 12 => ⟨S16x2x1, .f32⟩
  | 13 => ⟨S16x2x32000, .f32⟩
  | 14 => ⟨S16x2x32000, .f32⟩
  | 15 => ⟨S16x2x32000, .f32⟩
  | 16 => ⟨S_, .f32⟩
  | 17 => ⟨S16x2, .f32⟩
  | 18 => ⟨S16x2x1, .f32⟩
  | 19 => ⟨S16x2x32000, .f32⟩
  | 20 => ⟨S16x2x32000, .f32⟩
  | 21 => ⟨S16x2x1, .f32⟩
  | 22 => ⟨S16x2x1, .f32⟩
  | 23 => ⟨S16x2x32000, .f32⟩
  | 24 => ⟨S16x2x32000, .f32⟩
  | 25 => ⟨S32000, .i32⟩
  | 26 => ⟨S_, .i32⟩
  | 27 => ⟨S32000, .i32⟩
  | 28 => ⟨S32000, .i1⟩
  | 29 => ⟨S16x2x1, .f32⟩
  | 30 => ⟨S_, .f32⟩
  | 31 => ⟨S16x2x32000, .i1⟩
  | 32 => ⟨S16x2x32000, .f32⟩
  | 33 => ⟨S16x2x32000, .f32⟩
  | 34 => ⟨S16x2x32000, .f32⟩
  | 35 => ⟨S16x2x1, .i1⟩
  | 36 => ⟨S16x2x32000, .f32⟩
  | 37 => ⟨S16x2x32000, .i1⟩
  | 38 => ⟨S16x2x32000, .f32⟩
  | 39 => ⟨S16x64000, .f32⟩
  | 40 => ⟨S16x2, .f32⟩
  | 41 => ⟨S16x2, .i32⟩
  | 42 => ⟨S_, .i32⟩
  | 43 => ⟨S16x2, .i32⟩
  | 44 => ⟨S16x2, .i32⟩
  | 45 => ⟨S_, .i32⟩
  | 46 => ⟨S16x2, .i32⟩
  | 47 => ⟨S16x2, .i32⟩
  | 48 => ⟨S_, .i32⟩
  | 49 => ⟨S16x2, .i32⟩
  | 50 => ⟨S16x2, .i1⟩
  | 51 => ⟨S16x1, .i1⟩
  | 52 => ⟨S16x1, .i1⟩
  | 53 => ⟨S16x2, .i1⟩
  | 54 => ⟨S16x2, .i1⟩
  | 55 => ⟨S16x2, .i1⟩
  | 56 => ⟨S_, .i32⟩
  | 57 => ⟨S32, .i32⟩
  | 58 => ⟨S32, .i1⟩
  | 59 => ⟨S16x2x1, .i1⟩
  | 60 => ⟨S16x2x1, .i1⟩
  | 61 => ⟨S1x1x32, .i1⟩
  | 62 => ⟨S16x2x32, .i1⟩
  | 63 => ⟨S16x2x32, .i1⟩
  | 64 => ⟨S16x2x32, .i1⟩
  | 65 => ⟨S16x2x1, .i32⟩
  | 66 => ⟨S16x2x1, .i32⟩
  | 67 => ⟨S_, .i32⟩
  | 68 => ⟨S16x2x1, .i32⟩
  | 69 => ⟨S16x2x1, .i1⟩
  | 70 => ⟨S16x1x32, .i32⟩
  | 71 => ⟨S16x1x32, .i32⟩
  | 72 => ⟨S16x2x32, .i1⟩
  | 73 => ⟨S16x2x32, .i32⟩
  | 74 => ⟨S16x2x32, .i32⟩
  | 75 => ⟨S16x2x32, .i32⟩
  | 76 => ⟨S16x2x32, .i32⟩
  | 77 => ⟨S16x2x32, .i32⟩
  | 78 => ⟨S16x2x32, .i32⟩
  | 79 => ⟨S_, .f32⟩
  | 80 => ⟨S_, .f32⟩
  | 81 => ⟨S16x2, .f32⟩
  | 82 => ⟨S16x2, .f32⟩
  | 83 => ⟨S16x2x1, .f32⟩
  | 84 => ⟨S16x2x1, .i32⟩
  | 85 => ⟨S_, .i32⟩
  | 86 => ⟨S16x2x1, .i32⟩
  | 87 => ⟨S16x2x1, .i1⟩
  | 88 => ⟨S16x1x32, .f32⟩
  | 89 => ⟨S16x1x32, .f32⟩
  | 90 => ⟨S16x2x32, .i1⟩
  | 91 => ⟨S16x2x32, .f32⟩
  | 92 => ⟨S16x2x32, .f32⟩
  | 93 => ⟨S16x2x32, .f32⟩
  | 94 => ⟨S16x2x32, .f32⟩
  | 95 => ⟨S16x2x32, .i1⟩
  | 96 => ⟨S16x2x32, .f32⟩
  | 97 => ⟨S16x2x32, .f32⟩
  | 98 => ⟨S16x2x1, .i32⟩
  | 99 => ⟨S_, .i32⟩
  | 100 => ⟨S16x2x1, .i32⟩
  | 101 => ⟨S16x2x1, .i1⟩
  | 102 => ⟨S16x1x512, .f32⟩
  | 103 => ⟨S16x1x512, .f32⟩
  | 104 => ⟨S16x2x512, .i1⟩
  | 105 => ⟨S16x2x512, .f32⟩
  | 106 => ⟨S16x2x512, .f32⟩
  | 107 => ⟨S16x2x512, .f32⟩
  | 108 => ⟨S_, .i32⟩
  | 109 => ⟨S16x2, .i32⟩
  | 110 => ⟨S16x2, .i1⟩
  | 111 => ⟨S16x2, .i1⟩
  | 112 => ⟨S_, .i32⟩
  | 113 => ⟨S_, .i32⟩
  | 114 => ⟨S16x1, .f32⟩
  | 115 => ⟨S16, .f32⟩
  | 116 => ⟨S16x1, .f32⟩
  | 117 => ⟨S16, .f32⟩
  | 118 => ⟨S16, .i1⟩
  | 119 => ⟨S16x1, .i1⟩
  | 120 => ⟨S16x1x32, .i32⟩
  | 121 => ⟨S16x32, .i32⟩
  | 122 => ⟨S16x1x32, .i32⟩
  | 123 => ⟨S16x32, .i32⟩
  | 124 => ⟨S16x32, .i1⟩
  | 125 => ⟨S16x32, .i32⟩
  | 126 => ⟨S16x1x32, .f32⟩
  | 127 => ⟨S16x32, .f32⟩
  | _ => ⟨S32000x768, .bf16⟩

abbrev hbmTy0_2 (i : Nat) : BufTy := match i % 128 with
  | 0 => ⟨S16x1x32, .f32⟩
  | 1 => ⟨S16x32, .f32⟩
  | 2 => ⟨S16x32, .i1⟩
  | 3 => ⟨S16x32, .f32⟩
  | _ => ⟨S32000x768, .bf16⟩

abbrev hbmTy (i : Nat) : BufTy := match i / 128 with
  | 0 => hbmTy0_0 i
  | 1 => hbmTy0_1 i
  | 2 => hbmTy0_2 i
  | _ => ⟨S32000x768, .bf16⟩

abbrev bufTy : (tb : Table) → Fin (tcTables nBuf tb) → BufTy
  | .hbm, ⟨i, _⟩ => hbmTy i
  | _, _ => ⟨S32000x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_c_5 : Ref sig .tc := ⟨.hbm, 32, rfl⟩
abbrev main_call1_v0 : Ref sig .tc := ⟨.hbm, 33, rfl⟩
abbrev main_call1_v1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_7 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_8 : Ref sig .tc := ⟨.hbm, 49, rfl⟩
abbrev main_cst_9 : Ref sig .tc := ⟨.hbm, 50, rfl⟩
abbrev main_call2_v0 : Ref sig .tc := ⟨.hbm, 51, rfl⟩
abbrev main_call2_v1 : Ref sig .tc := ⟨.hbm, 52, rfl⟩
abbrev main_v27 : Ref sig .tc := ⟨.hbm, 53, rfl⟩
abbrev main_v28 : Ref sig .tc := ⟨.hbm, 54, rfl⟩
abbrev main_c_10 : Ref sig .tc := ⟨.hbm, 55, rfl⟩
abbrev main_c_11 : Ref sig .tc := ⟨.hbm, 56, rfl⟩
abbrev main_v29_0 : Ref sig .tc := ⟨.hbm, 57, rfl⟩
abbrev main_v29_1 : Ref sig .tc := ⟨.hbm, 58, rfl⟩
abbrev main_v29_2 : Ref sig .tc := ⟨.hbm, 59, rfl⟩
abbrev main_v29_3 : Ref sig .tc := ⟨.hbm, 60, rfl⟩
abbrev main_v29_4 : Ref sig .tc := ⟨.hbm, 61, rfl⟩
abbrev main_v29_5 : Ref sig .tc := ⟨.hbm, 62, rfl⟩
abbrev main_v29_6 : Ref sig .tc := ⟨.hbm, 63, rfl⟩
abbrev main_v29_7 : Ref sig .tc := ⟨.hbm, 64, rfl⟩
abbrev main_v29_8 : Ref sig .tc := ⟨.hbm, 65, rfl⟩
abbrev main_v29_9 : Ref sig .tc := ⟨.hbm, 66, rfl⟩
abbrev main_v29_10 : Ref sig .tc := ⟨.hbm, 67, rfl⟩
abbrev main_v29_11 : Ref sig .tc := ⟨.hbm, 68, rfl⟩
abbrev main_v29_12 : Ref sig .tc := ⟨.hbm, 69, rfl⟩
abbrev main_v29_13 : Ref sig .tc := ⟨.hbm, 70, rfl⟩
abbrev main_v29_14 : Ref sig .tc := ⟨.hbm, 71, rfl⟩
abbrev main_v29_15 : Ref sig .tc := ⟨.hbm, 72, rfl⟩
abbrev main_v29_16 : Ref sig .tc := ⟨.hbm, 73, rfl⟩
abbrev main_while0c_c_28 : Ref sig .tc := ⟨.hbm, 74, rfl⟩
abbrev main_while0c_v46 : Ref sig .tc := ⟨.hbm, 75, rfl⟩
abbrev main_while0b_c_28 : Ref sig .tc := ⟨.hbm, 76, rfl⟩
abbrev main_while0b_v46 : Ref sig .tc := ⟨.hbm, 77, rfl⟩
abbrev main_while0b_c_29 : Ref sig .tc := ⟨.hbm, 78, rfl⟩
abbrev main_while0b_v47 : Ref sig .tc := ⟨.hbm, 79, rfl⟩
abbrev main_while0b_v48 : Ref sig .tc := ⟨.hbm, 80, rfl⟩
abbrev main_while0b_c_30 : Ref sig .tc := ⟨.hbm, 81, rfl⟩
abbrev main_while0b_v49 : Ref sig .tc := ⟨.hbm, 82, rfl⟩
abbrev main_while0b_v50 : Ref sig .tc := ⟨.hbm, 83, rfl⟩
abbrev main_while0b_v51 : Ref sig .tc := ⟨.hbm, 84, rfl⟩
abbrev main_while0b_v52 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_v61 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_cst_31 : Ref sig .tc := ⟨.hbm, 109, rfl⟩
abbrev main_while0b_v76 : Ref sig .tc := ⟨.hbm, 110, rfl⟩
abbrev main_while0b_v77 : Ref sig .tc := ⟨.hbm, 111, rfl⟩
abbrev main_while0b_cst_32 : Ref sig .tc := ⟨.hbm, 112, rfl⟩
abbrev main_while0b_v78 : Ref sig .tc := ⟨.hbm, 113, rfl⟩
abbrev main_while0b_v79 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_cst_33 : Ref sig .tc := ⟨.hbm, 118, rfl⟩
abbrev main_while0b_v83 : Ref sig .tc := ⟨.hbm, 119, rfl⟩
abbrev main_while0b_v84 : Ref sig .tc := ⟨.hbm, 120, rfl⟩
abbrev main_while0b_cst_34 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_cst_35 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_v93 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_v98 : Ref sig .tc := ⟨.hbm, 136, rfl⟩
abbrev main_while0b_v99 : Ref sig .tc := ⟨.hbm, 137, rfl⟩
abbrev main_while0b_cst_36 : Ref sig .tc := ⟨.hbm, 138, rfl⟩
abbrev main_while0b_v100 : Ref sig .tc := ⟨.hbm, 139, rfl⟩
abbrev main_while0b_v101 : Ref sig .tc := ⟨.hbm, 140, rfl⟩
abbrev main_while0b_v102 : Ref sig .tc := ⟨.hbm, 141, rfl⟩
abbrev main_while0b_v103 : Ref sig .tc := ⟨.hbm, 142, rfl⟩
abbrev main_while0b_v104 : Ref sig .tc := ⟨.hbm, 143, rfl⟩
abbrev main_while0b_cst_37 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_v111 : Ref sig .tc := ⟨.hbm, 151, rfl⟩
abbrev main_while0b_v112 : Ref sig .tc := ⟨.hbm, 152, rfl⟩
abbrev main_while0b_v113 : Ref sig .tc := ⟨.hbm, 153, rfl⟩
abbrev main_while0b_c_38 : Ref sig .tc := ⟨.hbm, 154, rfl⟩
abbrev main_while0b_v114 : Ref sig .tc := ⟨.hbm, 155, rfl⟩
abbrev main_while0b_v115 : Ref sig .tc := ⟨.hbm, 156, rfl⟩
abbrev main_while0b_v116 : Ref sig .tc := ⟨.hbm, 157, rfl⟩
abbrev main_while0b_cst_39 : Ref sig .tc := ⟨.hbm, 158, rfl⟩
abbrev main_while0b_call3_v0 : Ref sig .tc := ⟨.hbm, 159, rfl⟩
abbrev main_while0b_call3_v1 : Ref sig .tc := ⟨.hbm, 160, rfl⟩
abbrev main_while0b_call3_v2 : Ref sig .tc := ⟨.hbm, 161, rfl⟩
abbrev main_while0b_v117 : Ref sig .tc := ⟨.hbm, 162, rfl⟩
abbrev main_while0b_v118 : Ref sig .tc := ⟨.hbm, 163, rfl⟩
abbrev main_while0b_call4_v0 : Ref sig .tc := ⟨.hbm, 164, rfl⟩
abbrev main_while0b_call4_v1 : Ref sig .tc := ⟨.hbm, 165, rfl⟩
abbrev main_while0b_v119 : Ref sig .tc := ⟨.hbm, 166, rfl⟩
abbrev main_while0b_v120 : Ref sig .tc := ⟨.hbm, 167, rfl⟩
abbrev main_while0b_values : Ref sig .tc := ⟨.hbm, 168, rfl⟩
abbrev main_while0b_indices : Ref sig .tc := ⟨.hbm, 169, rfl⟩
abbrev main_while0b_c_40 : Ref sig .tc := ⟨.hbm, 170, rfl⟩
abbrev main_while0b_v121 : Ref sig .tc := ⟨.hbm, 171, rfl⟩
abbrev main_while0b_v122 : Ref sig .tc := ⟨.hbm, 172, rfl⟩
abbrev main_while0b_c_41 : Ref sig .tc := ⟨.hbm, 173, rfl⟩
abbrev main_while0b_v123 : Ref sig .tc := ⟨.hbm, 174, rfl⟩
abbrev main_while0b_v124 : Ref sig .tc := ⟨.hbm, 175, rfl⟩
abbrev main_while0b_c_42 : Ref sig .tc := ⟨.hbm, 176, rfl⟩
abbrev main_while0b_v125 : Ref sig .tc := ⟨.hbm, 177, rfl⟩
abbrev main_while0b_v126 : Ref sig .tc := ⟨.hbm, 178, rfl⟩
abbrev main_while0b_v127 : Ref sig .tc := ⟨.hbm, 179, rfl⟩
abbrev main_while0b_v128 : Ref sig .tc := ⟨.hbm, 180, rfl⟩
abbrev main_while0b_call5_v0 : Ref sig .tc := ⟨.hbm, 181, rfl⟩
abbrev main_while0b_call5_v1 : Ref sig .tc := ⟨.hbm, 182, rfl⟩
abbrev main_while0b_v129 : Ref sig .tc := ⟨.hbm, 183, rfl⟩
abbrev main_while0b_v130 : Ref sig .tc := ⟨.hbm, 184, rfl⟩
abbrev main_while0b_v131 : Ref sig .tc := ⟨.hbm, 185, rfl⟩
abbrev main_while0b_v132 : Ref sig .tc := ⟨.hbm, 186, rfl⟩
abbrev main_while0b_v133 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_v137 : Ref sig .tc := ⟨.hbm, 191, rfl⟩
abbrev main_while0b_v138 : Ref sig .tc := ⟨.hbm, 192, rfl⟩
abbrev main_while0b_v139 : Ref sig .tc := ⟨.hbm, 193, rfl⟩
abbrev main_while0b_v140 : Ref sig .tc := ⟨.hbm, 194, rfl⟩
abbrev main_while0b_c_43 : Ref sig .tc := ⟨.hbm, 195, rfl⟩
abbrev main_while0b_v141 : Ref sig .tc := ⟨.hbm, 196, rfl⟩
abbrev main_while0b_v142 : Ref sig .tc := ⟨.hbm, 197, rfl⟩
abbrev main_while0b_v143 : Ref sig .tc := ⟨.hbm, 198, rfl⟩
abbrev main_while0b_v144 : Ref sig .tc := ⟨.hbm, 199, rfl⟩
abbrev main_while0b_call6_v0 : Ref sig .tc := ⟨.hbm, 200, rfl⟩
abbrev main_while0b_call6_v1 : Ref sig .tc := ⟨.hbm, 201, rfl⟩
abbrev main_while0b_call6_v2 : Ref sig .tc := ⟨.hbm, 202, rfl⟩
abbrev main_while0b_v145 : Ref sig .tc := ⟨.hbm, 203, rfl⟩
abbrev main_while0b_call7_v0 : Ref sig .tc := ⟨.hbm, 204, rfl⟩
abbrev main_while0b_call7_v1 : Ref sig .tc := ⟨.hbm, 205, rfl⟩
abbrev main_while0b_v146 : Ref sig .tc := ⟨.hbm, 206, rfl⟩
abbrev main_while0b_cst_44 : Ref sig .tc := ⟨.hbm, 207, rfl⟩
abbrev main_while0b_call8_v0 : Ref sig .tc := ⟨.hbm, 208, rfl⟩
abbrev main_while0b_call8_v1 : Ref sig .tc := ⟨.hbm, 209, rfl⟩
abbrev main_while0b_v147 : Ref sig .tc := ⟨.hbm, 210, rfl⟩
abbrev main_while0b_v148 : Ref sig .tc := ⟨.hbm, 211, rfl⟩
abbrev main_while0b_v149 : Ref sig .tc := ⟨.hbm, 212, rfl⟩
abbrev main_while0b_c_45 : Ref sig .tc := ⟨.hbm, 213, rfl⟩
abbrev main_while0b_v150 : Ref sig .tc := ⟨.hbm, 214, rfl⟩
abbrev main_while0b_v151 : Ref sig .tc := ⟨.hbm, 215, rfl⟩
abbrev main_while0b_v152 : Ref sig .tc := ⟨.hbm, 216, rfl⟩
abbrev main_while0b_v153 : Ref sig .tc := ⟨.hbm, 217, rfl⟩
abbrev main_while0b_call9_v0 : Ref sig .tc := ⟨.hbm, 218, rfl⟩
abbrev main_while0b_call9_v1 : Ref sig .tc := ⟨.hbm, 219, rfl⟩
abbrev main_while0b_call9_v2 : Ref sig .tc := ⟨.hbm, 220, rfl⟩
abbrev main_while0b_v154 : Ref sig .tc := ⟨.hbm, 221, rfl⟩
abbrev main_while0b_call10_v0 : Ref sig .tc := ⟨.hbm, 222, rfl⟩
abbrev main_while0b_call10_v1 : Ref sig .tc := ⟨.hbm, 223, rfl⟩
abbrev main_while0b_call10_v2 : Ref sig .tc := ⟨.hbm, 224, rfl⟩
abbrev main_while0b_v155 : Ref sig .tc := ⟨.hbm, 225, rfl⟩
abbrev main_while0b_v156 : Ref sig .tc := ⟨.hbm, 226, rfl⟩
abbrev main_while0b_c_46 : Ref sig .tc := ⟨.hbm, 227, rfl⟩
abbrev main_while0b_v157 : Ref sig .tc := ⟨.hbm, 228, rfl⟩
abbrev main_while0b_v158 : Ref sig .tc := ⟨.hbm, 229, rfl⟩
abbrev main_while0b_v159 : Ref sig .tc := ⟨.hbm, 230, rfl⟩
abbrev main_while0b_v160 : Ref sig .tc := ⟨.hbm, 231, rfl⟩
abbrev main_while0b_call11_v0 : Ref sig .tc := ⟨.hbm, 232, rfl⟩
abbrev main_while0b_call11_v1 : Ref sig .tc := ⟨.hbm, 233, rfl⟩
abbrev main_while0b_call11_v2 : Ref sig .tc := ⟨.hbm, 234, rfl⟩
abbrev main_while0b_v161 : Ref sig .tc := ⟨.hbm, 235, rfl⟩
abbrev main_while0b_c_47 : Ref sig .tc := ⟨.hbm, 236, rfl⟩
abbrev main_while0b_v162 : Ref sig .tc := ⟨.hbm, 237, rfl⟩
abbrev main_while0b_v163 : Ref sig .tc := ⟨.hbm, 238, rfl⟩
abbrev main_while0b_v164 : Ref sig .tc := ⟨.hbm, 239, rfl⟩
abbrev main_while0b_c_48 : Ref sig .tc := ⟨.hbm, 240, rfl⟩
abbrev main_while0b_v165 : Ref sig .tc := ⟨.hbm, 241, rfl⟩
abbrev main_v30 : Ref sig .tc := ⟨.hbm, 242, rfl⟩
abbrev main_v31 : Ref sig .tc := ⟨.hbm, 243, rfl⟩
abbrev main_v32 : Ref sig .tc := ⟨.hbm, 244, rfl⟩
abbrev main_v33 : Ref sig .tc := ⟨.hbm, 245, rfl⟩
abbrev main_v34 : Ref sig .tc := ⟨.hbm, 246, rfl⟩
abbrev main_v35 : Ref sig .tc := ⟨.hbm, 247, rfl⟩
abbrev main_v36 : Ref sig .tc := ⟨.hbm, 248, rfl⟩
abbrev main_v37 : Ref sig .tc := ⟨.hbm, 249, rfl⟩
abbrev main_v38 : Ref sig .tc := ⟨.hbm, 250, rfl⟩
abbrev main_v39 : Ref sig .tc := ⟨.hbm, 251, rfl⟩
abbrev main_call12_v0 : Ref sig .tc := ⟨.hbm, 252, rfl⟩
abbrev main_v40 : Ref sig .tc := ⟨.hbm, 253, rfl⟩
abbrev main_v41 : Ref sig .tc := ⟨.hbm, 254, rfl⟩
abbrev main_v42 : Ref sig .tc := ⟨.hbm, 255, rfl⟩
abbrev main_v43 : Ref sig .tc := ⟨.hbm, 256, rfl⟩
abbrev main_v44 : Ref sig .tc := ⟨.hbm, 257, rfl⟩
abbrev main_call13_v0 : Ref sig .tc := ⟨.hbm, 258, rfl⟩
abbrev main_v45 : Ref sig .tc := ⟨.hbm, 259, rfl⟩

abbrev nD : Nat := 1
abbrev τ : Topo := Topo.v7x

variable {F : FTy → Type} [FloatOps F]

abbrev main_while0_count : Scf.Loop 32 := ⟨0#32, 31#32, 1#32⟩
-- ==== Base.lean ====
abbrev S32000x1280 : Shape := ⟨2, ![32000, 1280]⟩
abbrev S16x512 : Shape := ⟨2, ![16, 512]⟩
abbrev S25x1x1280 : Shape := ⟨3, ![25, 1, 1280]⟩
abbrev S16x32000 : Shape := ⟨2, ![16, 32000]⟩
abbrev S32000x768 : Shape := ⟨2, ![32000, 768]⟩
abbrev S1280x1280 : Shape := ⟨2, ![1280, 1280]⟩
abbrev S1x1x1280 : Shape := ⟨3, ![1, 1, 1280]⟩
abbrev S16x1280 : Shape := ⟨2, ![16, 1280]⟩
abbrev S1280x768 : Shape := ⟨2, ![1280, 768]⟩
abbrev S1280x512 : Shape := ⟨2, ![1280, 512]⟩
abbrev S1x1280 : Shape := ⟨2, ![1, 1280]⟩

abbrev nBuf : Space → Nat
  | .hbm => 5
  | .vmem => 9
  | .smem => 0
  | _ => 0

abbrev bufTy : (tb : Table) → Fin (tcTables nBuf tb) → BufTy
  | .hbm, ⟨0, _⟩ => ⟨S32000x1280, .f32⟩
  | .hbm, ⟨1, _⟩ => ⟨S16x512, .f32⟩
  | .hbm, ⟨2, _⟩ => ⟨S25x1x1280, .f32⟩
  | .hbm, ⟨3, _⟩ => ⟨S16x32000, .f32⟩
  | .hbm, ⟨4, _⟩ => ⟨S32000x768, .bf16⟩
  | .local _ .vmem, ⟨0, _⟩ => ⟨S1280x1280, .f32⟩
  | .local _ .vmem, ⟨1, _⟩ => ⟨S1280x1280, .f32⟩
  | .local _ .vmem, ⟨2, _⟩ => ⟨S16x512, .f32⟩
  | .local _ .vmem, ⟨3, _⟩ => ⟨S1x1x1280, .f32⟩
  | .local _ .vmem, ⟨4, _⟩ => ⟨S1x1x1280, .f32⟩
  | .local _ .vmem, ⟨5, _⟩ => ⟨S16x1280, .f32⟩
  | .local _ .vmem, ⟨6, _⟩ => ⟨S16x1280, .f32⟩
  | .local _ .vmem, ⟨7, _⟩ => ⟨S1280x768, .bf16⟩
  | .local _ .vmem, ⟨8, _⟩ => ⟨S1280x768, .bf16⟩
  | _, _ => ⟨S32000x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefBaseIdeal.lean ====
abbrev S32000x1280 : Shape := ⟨2, ![32000, 1280]⟩
abbrev S16x512 : Shape := ⟨2, ![16, 512]⟩
abbrev S25x1x1280 : Shape := ⟨3, ![25, 1, 1280]⟩
abbrev S32000x512 : Shape := ⟨2, ![32000, 512]⟩
abbrev S512x32000 : Shape := ⟨2, ![512, 32000]⟩
abbrev S16x32000 : Shape := ⟨2, ![16, 32000]⟩
abbrev S32000 : Shape := ⟨1, ![32000]⟩
abbrev S1x32000 : Shape := ⟨2, ![1, 32000]⟩
abbrev S32000x768 : Shape := ⟨2, ![32000, 768]⟩

abbrev nBuf : Space → Nat
  | .hbm => 12
  | .vmem => 0
  | .smem => 0
  | _ => 0

abbrev bufTy : (tb : Table) → Fin (tcTables nBuf tb) → BufTy
  | .hbm, ⟨0, _⟩ => ⟨S32000x1280, .f32⟩
  | .hbm, ⟨1, _⟩ => ⟨S16x512, .f32⟩
  | .hbm, ⟨2, _⟩ => ⟨S25x1x1280, .f32⟩
  | .hbm, ⟨3, _⟩ => ⟨S32000x512, .f32⟩
  | .hbm, ⟨4, _⟩ => ⟨S512x32000, .f32⟩
  | .hbm, ⟨5, _⟩ => ⟨S16x32000, .f32⟩
  | .hbm, ⟨6, _⟩ => ⟨S32000, .f32⟩
  | .hbm, ⟨7, _⟩ => ⟨S1x32000, .f32⟩
  | .hbm, ⟨8, _⟩ => ⟨S16x32000, .f32⟩
  | .hbm, ⟨9, _⟩ => ⟨S16x32000, .f32⟩
  | .hbm, ⟨10, _⟩ => ⟨S32000x768, .f32⟩
  | .hbm, ⟨11, _⟩ => ⟨S32000x768, .bf16⟩
  | _, _ => ⟨S32000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Enc.lean ====
abbrev S2048 : Shape := ⟨1, ![2048]⟩
abbrev S32000x256 : Shape := ⟨2, ![32000, 256]⟩
abbrev S1536x256 : Shape := ⟨2, ![1536, 256]⟩
abbrev S1536x512 : Shape := ⟨2, ![1536, 512]⟩
abbrev S1x1536 : Shape := ⟨2, ![1, 1536]⟩
abbrev S16x512 : Shape := ⟨2, ![16, 512]⟩
abbrev S2048x256 : Shape := ⟨2, ![2048, 256]⟩
abbrev S2048x1536 : Shape := ⟨2, ![2048, 1536]⟩
abbrev S_ : Shape := ⟨0, ![]⟩
abbrev S1 : Shape := ⟨1, ![1]⟩
abbrev S1x256 : Shape := ⟨2, ![1, 256]⟩
abbrev S256 : Shape := ⟨1, ![256]⟩
abbrev S16x1536 : Shape := ⟨2, ![16, 1536]⟩

abbrev nBuf : Space → Nat
  | .hbm => 7
  | .vmem => 8
  | .smem => 1
  | _ => 0

abbrev bufTy : (tb : Table) → Fin (tcTables nBuf tb) → BufTy
  | .hbm, ⟨0, _⟩ => ⟨S2048, .i32⟩
  | .hbm, ⟨1, _⟩ => ⟨S32000x256, .f32⟩
  | .hbm, ⟨2, _⟩ => ⟨S1536x256, .f32⟩
  | .hbm, ⟨3, _⟩ => ⟨S1536x512, .f32⟩
  | .hbm, ⟨4, _⟩ => ⟨S1x1536, .f32⟩
  | .hbm, ⟨5, _⟩ => ⟨S1x1536, .f32⟩
  | .hbm, ⟨6, _⟩ => ⟨S16x512, .f32⟩
  | .local _ .vmem, ⟨0, _⟩ => ⟨S1536x256, .f32⟩
  | .local _ .vmem, ⟨1, _⟩ => ⟨S1536x512, .f32⟩
  | .local _ .vmem, ⟨2, _⟩ => ⟨S1x1536, .f32⟩
  | .local _ .vmem, ⟨3, _⟩ => ⟨S1x1536, .f32⟩
  | .local _ .vmem, ⟨4, _⟩ => ⟨S16x512, .f32⟩
  | .local _ .vmem, ⟨5, _⟩ => ⟨S2048x256, .f32⟩
  | .local _ .vmem, ⟨6, _⟩ => ⟨S2048x1536, .f32⟩
  | .local _ .vmem, ⟨7, _⟩ => ⟨S16x512, .f32⟩
  | .local _ .smem, ⟨0, _⟩ => ⟨S2048, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2048_i32 : BitVec 32 := 2048#32
  let v0 : BitVec 32 := Scalar.addi c0_i32 c2048_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg11 : BitVec 32 := Scf.iv c0_i32 c1_i32 k0_t1
  let v18 : Index := Scalar.indexCast arg11
  ![v18.toNat]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c0_i32_22 : BitVec 32 := 0#32
  ![arg11.toNat, 0]
def k0_off3 (v19 : BitVec 32) : Fin 2 → Nat :=
  let c0_i32_23 : BitVec 32 := 0#32
  ![v19.toNat, 0]

def k0_chk1 (v19 : BitVec 32) : Prop :=
  (∀ a, (k0_off3 v19) a + S1x256.size a ≤ S32000x256.size a)
theorem k0_off3_inb : ∀ (v19 : BitVec 32) (k0_hw1 : k0_chk1 v19), ∀ a, (k0_off3 v19) a + S1x256.size a ≤ S32000x256.size a := fun v19 k0_hw1 => k0_hw1

@[reducible] def k0_t2_loop : Scf.Loop 32 :=
  let c0_i32_1 : BitVec 32 := 0#32
  let c2048_i32_2 : BitVec 32 := 2048#32
  let v1 : BitVec 32 := Scalar.addi c0_i32_1 c2048_i32_2
  let c1_i32_3 : BitVec 32 := 1#32
  ⟨c0_i32_1, v1, c1_i32_3⟩
def k0_off4 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let v18 : Index := Scalar.indexCast arg11
  ![v18.toNat]
def k0_off5 (k0_t2 : Fin k0_t2_loop.trips) : Fin 2 → Nat :=
  let c0_i32_1 : BitVec 32 := 0#32
  let c1_i32_3 : BitVec 32 := 1#32
  let arg11 : BitVec 32 := Scf.iv c0_i32_1 c1_i32_3 k0_t2
  let c0_i32_22 : BitVec 32 := 0#32
  ![arg11.toNat, 0]
def k0_off6 (v19 : BitVec 32) : Fin 2 → Nat :=
  let c0_i32_23 : BitVec 32 := 0#32
  ![v19.toNat, 0]

def k0_chk2 (v19 : BitVec 32) : Prop :=
  (∀ a, (k0_off6 v19) a + S1x256.size a ≤ S32000x256.size a)
theorem k0_off6_inb : ∀ (v19 : BitVec 32) (k0_hw2 : k0_chk2 v19), ∀ a, (k0_off6 v19) a + S1x256.size a ≤ S32000x256.size a := fun v19 k0_hw2 => k0_hw2

@[reducible] def k0_t3_loop : Scf.Loop 32 :=
  let c0_i32_15 : BitVec 32 := 0#32
  let c128_i32 : BitVec 32 := 128#32
  let v15 : BitVec 32 := Scalar.addi c0_i32_15 c128_i32
  let c1_i32_16 : BitVec 32 := 1#32
  ⟨c0_i32_15, v15, c1_i32_16⟩
def k0_off7 (k0_t3 : Fin k0_t3_loop.trips) : Fin 2 → Nat :=
  let c0_i32_15 : BitVec 32 := 0#32
  let c1_i32_16 : BitVec 32 := 1#32
  let arg11 : BitVec 32 := Scf.iv c0_i32_15 c1_i32_16 k0_t3
  let c16_i32 : BitVec 32 := 16#32
  let v19 : BitVec 32 := Scalar.muli arg11 c16_i32
  let v20 : Index := Scalar.indexCast v19
  let c0_24 : Index := 0#32
  ![v20.toNat, 0]
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== RefEncIdeal.lean ====
abbrev S2048 : Shape := ⟨1, ![2048]⟩
abbrev S32000x256 : Shape := ⟨2, ![32000, 256]⟩
abbrev S1536x256 : Shape := ⟨2, ![1536, 256]⟩
abbrev S1536x512 : Shape := ⟨2, ![1536, 512]⟩
abbrev S1x1536 : Shape := ⟨2, ![1, 1536]⟩
abbrev S_ : Shape := ⟨0, ![]⟩
abbrev S16x512 : Shape := ⟨2, ![16, 512]⟩
abbrev S128x16 : Shape := ⟨2, ![128, 16]⟩
abbrev S1x16 : Shape := ⟨2, ![1, 16]⟩
abbrev S16 : Shape := ⟨1, ![16]⟩
abbrev S16x1 : Shape := ⟨2, ![16, 1]⟩
abbrev S16x256 : Shape := ⟨2, ![16, 256]⟩
abbrev S1536 : Shape := ⟨1, ![1536]⟩
abbrev S256x1536 : Shape := ⟨2, ![256, 1536]⟩
abbrev S16x1536 : Shape := ⟨2, ![16, 1536]⟩
abbrev S512x1536 : Shape := ⟨2, ![512, 1536]⟩

abbrev nBuf : Space → Nat
  | .hbm => 79
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32000x256, .f32⟩
  | .hbm, ⟨2, _⟩ => ⟨S1536x256, .f32⟩
  | .hbm, ⟨3, _⟩ => ⟨S1536x512, .f32⟩
  | .hbm, ⟨4, _⟩ => ⟨S1x1536, .f32⟩
  | .hbm, ⟨5, _⟩ => ⟨S1x1536, .f32⟩
  | .hbm, ⟨6, _⟩ => ⟨S_, .f32⟩
  | .hbm, ⟨7, _⟩ => ⟨S16x512, .f32⟩
  | .hbm, ⟨8, _⟩ => ⟨S128x16, .i32⟩
  | .hbm, ⟨9, _⟩ => ⟨S_, .i32⟩
  | .hbm, ⟨10, _⟩ => ⟨S128x16, .i32⟩
  | .hbm, ⟨11, _⟩ => ⟨S32000x256, .f32⟩
  | .hbm, ⟨12, _⟩ => ⟨S1x1536, .f32⟩
  | .hbm, ⟨13, _⟩ => ⟨S1x1536, .f32⟩
  | .hbm, ⟨14, _⟩ => ⟨S1536x256, .f32⟩
  | .hbm, ⟨15, _⟩ => ⟨S1536x512, .f32⟩
  | .hbm, ⟨16, _⟩ => ⟨S_, .i32⟩
  | .hbm, ⟨17, _⟩ => ⟨S16x512, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S1x16, .i32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i1⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S16, .i32⟩
  | .hbm, ⟨30, _⟩ => ⟨S16x1, .i32⟩
  | .hbm, ⟨31, _⟩ => ⟨S16x256, .f32⟩
  | .hbm, ⟨32, _⟩ => ⟨S1536, .f32⟩
  | .hbm, ⟨33, _⟩ => ⟨S1536, .f32⟩
  | .hbm, ⟨34, _⟩ => ⟨S256x1536, .f32⟩
  | .hbm, ⟨35, _⟩ => ⟨S16x1536, .f32⟩
  | .hbm, ⟨36, _⟩ => ⟨S1x1536, .f32⟩
  | .hbm, ⟨37, _⟩ => ⟨S16x1536, .f32⟩
  | .hbm, ⟨38, _⟩ => ⟨S16x1536, .f32⟩
  | .hbm, ⟨39, _⟩ => ⟨S512x1536, .f32⟩
  | .hbm, ⟨40, _⟩ => ⟨S16x1536, .f32⟩
  | .hbm, ⟨41, _⟩ => ⟨S1x1536, .f32⟩
  | .hbm, ⟨42, _⟩ => ⟨S16x1536, .f32⟩
  | .hbm, ⟨43, _⟩ => ⟨S16x1536, .f32⟩
  | .hbm, ⟨44, _⟩ => ⟨S16x512, .f32⟩
  | .hbm, ⟨45, _⟩ => ⟨S16x512, .f32⟩
  | .hbm, ⟨46, _⟩ => ⟨S16x512, .f32⟩
  | .hbm, ⟨47, _⟩ => ⟨S16x512, .f32⟩
  | .hbm, ⟨48, _⟩ => ⟨S16x512, .f32⟩
  | .hbm, ⟨49, _⟩ => ⟨S16x512, .f32⟩
  | .hbm, ⟨50, _⟩ => ⟨S16x512, .f32⟩
  | .hbm, ⟨51, _⟩ => ⟨S16x512, .f32⟩
  | .hbm, ⟨52, _⟩ => ⟨S16x512, .f32⟩
  | .hbm, ⟨53, _⟩ => ⟨S_, .f32⟩
  | .hbm, ⟨54, _⟩ => ⟨S16x512, .f32⟩
  | .hbm, ⟨55, _⟩ => ⟨S16x512, .f32⟩
  | .hbm, ⟨56, _⟩ => ⟨S_, .f32⟩
  | .hbm, ⟨57, _⟩ => ⟨S16x512, .f32⟩
  | .hbm, ⟨58, _⟩ => ⟨S16x512, .f32⟩
  | .hbm, ⟨59, _⟩ => ⟨S16x512, .f32⟩
  | .hbm, ⟨60, _⟩ => ⟨S16x512, .f32⟩
  | .hbm, ⟨61, _⟩ => ⟨S16x512, .f32⟩
  | .hbm, ⟨62, _⟩ => ⟨S_, .f32⟩
  | .hbm, ⟨63, _⟩ => ⟨S16x512, .f32⟩
  | .hbm, ⟨64, _⟩ => ⟨S16x512, .f32⟩
  | .hbm, ⟨65, _⟩ => ⟨S_, .f32⟩
  | .hbm, ⟨66, _⟩ => ⟨S16x512, .f32⟩
  | .hbm, ⟨67, _⟩ => ⟨S16x512, .f32⟩
  | .hbm, ⟨68, _⟩ => ⟨S16x512, .f32⟩
  | .hbm, ⟨69, _⟩ => ⟨S16x512, .f32⟩
  | .hbm, ⟨70, _⟩ => ⟨S16x512, .f32⟩
  | .hbm, ⟨71, _⟩ => ⟨S_, .f32⟩
  | .hbm, ⟨72, _⟩ => ⟨S16x512, .f32⟩
  | .hbm, ⟨73, _⟩ => ⟨S16x512, .f32⟩
  | .hbm, ⟨74, _⟩ => ⟨S16x512, .f32⟩
  | .hbm, ⟨75, _⟩ => ⟨S16x512, .f32⟩
  | .hbm, ⟨76, _⟩ => ⟨S16x512, .f32⟩
  | .hbm, ⟨77, _⟩ => ⟨S_, .i32⟩
  | .hbm, ⟨78, _⟩ => ⟨S_, .i32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_v2_7 : Ref sig .tc := ⟨.hbm, 17, rfl⟩
abbrev main_while0c_c_7 : Ref sig .tc := ⟨.hbm, 18, rfl⟩
abbrev main_while0c_v3 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_v3 : Ref sig .tc := ⟨.hbm, 22, rfl⟩
abbrev main_while0b_c_7 : Ref sig .tc := ⟨.hbm, 23, rfl⟩
abbrev main_while0b_v4 : Ref sig .tc := ⟨.hbm, 24, rfl⟩
abbrev main_while0b_v5 : Ref sig .tc := ⟨.hbm, 25, rfl⟩
abbrev main_while0b_c_8 : Ref sig .tc := ⟨.hbm, 26, rfl⟩
abbrev main_while0b_v6 : Ref sig .tc := ⟨.hbm, 27, rfl⟩
abbrev main_while0b_v7 : Ref sig .tc := ⟨.hbm, 28, rfl⟩
abbrev main_while0b_v8 : Ref sig .tc := ⟨.hbm, 29, rfl⟩
abbrev main_while0b_v9 : Ref sig .tc := ⟨.hbm, 30, rfl⟩
abbrev main_while0b_v10 : Ref sig .tc := ⟨.hbm, 31, rfl⟩
abbrev main_while0b_v11 : Ref sig .tc := ⟨.hbm, 32, rfl⟩
abbrev main_while0b_v12 : Ref sig .tc := ⟨.hbm, 33, rfl⟩
abbrev main_while0b_v13 : Ref sig .tc := ⟨.hbm, 34, rfl⟩
abbrev main_while0b_v14 : Ref sig .tc := ⟨.hbm, 35, rfl⟩
abbrev main_while0b_v15 : Ref sig .tc := ⟨.hbm, 36, rfl⟩
abbrev main_while0b_v16 : Ref sig .tc := ⟨.hbm, 37, rfl⟩
abbrev main_while0b_v17 : Ref sig .tc := ⟨.hbm, 38, rfl⟩
abbrev main_while0b_v18 : Ref sig .tc := ⟨.hbm, 39, rfl⟩
abbrev main_while0b_v19 : Ref sig .tc := ⟨.hbm, 40, rfl⟩
abbrev main_while0b_v20 : Ref sig .tc := ⟨.hbm, 41, rfl⟩
abbrev main_while0b_v21 : Ref sig .tc := ⟨.hbm, 42, rfl⟩
abbrev main_while0b_v22 : Ref sig .tc := ⟨.hbm, 43, rfl⟩
abbrev main_while0b_v23 : Ref sig .tc := ⟨.hbm, 44, rfl⟩
abbrev main_while0b_v24 : Ref sig .tc := ⟨.hbm, 45, rfl⟩
abbrev main_while0b_v25 : Ref sig .tc := ⟨.hbm, 46, rfl⟩
abbrev main_while0b_v26 : Ref sig .tc := ⟨.hbm, 47, rfl⟩
abbrev main_while0b_v27 : Ref sig .tc := ⟨.hbm, 48, rfl⟩
abbrev main_while0b_v28 : Ref sig .tc := ⟨.hbm, 49, rfl⟩
abbrev main_while0b_v29 : Ref sig .tc := ⟨.hbm, 50, rfl⟩
abbrev main_while0b_v30 : Ref sig .tc := ⟨.hbm, 51, rfl⟩
abbrev main_while0b_v31 : Ref sig .tc := ⟨.hbm, 52, rfl⟩
abbrev main_while0b_cst_9 : Ref sig .tc := ⟨.hbm, 53, rfl⟩
abbrev main_while0b_v32 : Ref sig .tc := ⟨.hbm, 54, rfl⟩
abbrev main_while0b_v33 : Ref sig .tc := ⟨.hbm, 55, rfl⟩
abbrev main_while0b_cst_10 : Ref sig .tc := ⟨.hbm, 56, rfl⟩
abbrev main_while0b_v34 : Ref sig .tc := ⟨.hbm, 57, rfl⟩
abbrev main_while0b_v35 : Ref sig .tc := ⟨.hbm, 58, rfl⟩
abbrev main_while0b_v36 : Ref sig .tc := ⟨.hbm, 59, rfl⟩
abbrev main_while0b_v37 : Ref sig .tc := ⟨.hbm, 60, rfl⟩
abbrev main_while0b_v38 : Ref sig .tc := ⟨.hbm, 61, rfl⟩
abbrev main_while0b_cst_11 : Ref sig .tc := ⟨.hbm, 62, rfl⟩
abbrev main_while0b_v39 : Ref sig .tc := ⟨.hbm, 63, rfl⟩
abbrev main_while0b_v40 : Ref sig .tc := ⟨.hbm, 64, rfl⟩
abbrev main_while0b_cst_12 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_cst_13 : Ref sig .tc := ⟨.hbm, 71, rfl⟩
abbrev main_while0b_v46 : Ref sig .tc := ⟨.hbm, 72, rfl⟩
abbrev main_while0b_v47 : Ref sig .tc := ⟨.hbm, 73, rfl⟩
abbrev main_while0b_v48 : Ref sig .tc := ⟨.hbm, 74, rfl⟩
abbrev main_while0b_v49 : Ref sig .tc := ⟨.hbm, 75, rfl⟩
abbrev main_while0b_v50 : Ref sig .tc := ⟨.hbm, 76, rfl⟩
abbrev main_while0b_c_14 : Ref sig .tc := ⟨.hbm, 77, rfl⟩
abbrev main_while0b_v51 : Ref sig .tc := ⟨.hbm, 78, rfl⟩

abbrev nD : Nat := 1
abbrev τ : Topo := Topo.v7x

variable {F : FTy → Type} [FloatOps F]

abbrev main_while0_count : Scf.Loop 32 := ⟨0#32, 128#32, 1#32⟩
-- ==== Proof.BaseClaims.lean ====
/-
  The output layer's part that does not depend on the beams: the kernel call computes, vocabulary block by
  vocabulary block, the context's part of the logits and the bf16 copy of the other columns of the weights.
  The reference takes one product over the whole vocabulary and casts the whole array.
-/
module

public import proofs.«01_k».proof.Defs
public import proofs.«01_k».proof.Proof.Gen.Base
public import proofs.«01_k».proof.Proof.Gen.Base.Frame
public import proofs.«01_k».proof.Proof.Gen.BaseIdeal
public import proofs.«01_k».proof.Proof.Gen.BaseIdeal.Frame
public import proofs.«01_k».proof.Proof.Gen.BaseIdeal.Value
public import proofs.«01_k».proof.Proof.Gen.RefBaseIdeal
public import proofs.«01_k».proof.Proof.Gen.RefBaseIdeal.Run
public import proofs.«01_k».proof.Proof.Gen.RefBaseIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.BaseIdeal.RefValue

open Cert.BaseIdeal Cert.BaseIdeal.Gen

variable (m : (ℓ : Loc nD τ sig) → Buf (Elt Ideal) ℓ) (ρ : Dev nD → PrngReg)

/-- The context's part of the logits: `ctx · W_outᵀ` over the last 512 columns, plus the bias. -/
def baseOf (w : Vec Ideal S32000x1280 .f32) (x : Vec Ideal S16x512 .f32) (b : Vec Ideal S25x1x1280 .f32) :
    Vec Ideal S16x32000 .f32 := fun i =>
  (∑ k : Fin 512, x (ix2 (i 0) k)
      * w (ix2 (i 1) (⟨768 + k.val, by omega⟩ : Fin 1280)))
    + b (ix3 (⟨(i 1).val / 1280, by have : (i 1).val < 32000 := (i 1).isLt; omega⟩ : Fin 25) (0 : Fin 1)
        (⟨(i 1).val % 1280, Nat.mod_lt _ (by decide)⟩ : Fin 1280))

/-- The first 768 columns of the weights (the cast to bf16 changes nothing at extended reals). -/
def w16Of (w : Vec Ideal S32000x1280 .f32) : Vec Ideal S32000x768 .bf16 := fun i =>
  w (ix2 (i 0) (⟨(i 1).val, by have : (i 1).val < 768 := (i 1).isLt; omega⟩ : Fin 1280))

theorem hz2 : (![0, 0] : Fin 2 → Nat) = fun _ => 0 := funext fun a => by fin_cases a <;> rfl
theorem hz3 : (![0, 0, 0] : Fin 3 → Nat) = fun _ => 0 := funext fun a => by fin_cases a <;> rfl

/-- One block of the logits' part, from one block of the weights, the context and one block of the bias. -/
theorem pay2_apply (w : Vec Ideal S1280x1280 .f32) (x : Vec Ideal S16x512 .f32) (b : Vec Ideal S1x1x1280 .f32)
    (r : Fin 16) (l : Fin 1280) :
    k0_pay2 w x b (ix2 r l) = (∑ k : Fin 512, x (ix2 r k) * w (ix2 l (⟨768 + k.val, by omega⟩ : Fin 1280)))
      + b (ix3 (0 : Fin 1) (0 : Fin 1) l) := by
  pointwise [k0_pay2]

/-- The index maps' values at a grid point. -/
theorem idx_facts : ∀ t : Fin cfg0.N, win0_0.index t 0 = t.val ∧ win0_0.index t 1 = 0
    ∧ win0_1.index t 0 = 0 ∧ win0_1.index t 1 = 0
    ∧ win0_2.index t 0 = t.val ∧ win0_2.index t 1 = 0 ∧ win0_2.index t 2 = 0
    ∧ win0_3.index t 0 = 0 ∧ win0_3.index t 1 = t.val
    ∧ win0_4.index t 0 = t.val ∧ win0_4.index t 1 = 0 :=
  (by decide +kernel : ∀ t : Fin grid0.N, _)

/-- The blocks the body reads, at an index. -/
theorem iblk0_apply (c : Dev nD) (t : Fin cfg0.N) (l k : Fin 1280) :
    iblk m c 0 t (ix2 l k) = (m ((c : Thread nD τ).loc main_arg0) : S32000x1280.Idx → EReal)
      (ix2 (⟨t.val * 1280 + l.val, by have := t.isLt; have : cfg0.N = 25 := N_0; omega⟩ : Fin 32000) k) := by
  obtain ⟨h0, h1, -⟩ := idx_facts t
  refine congrArg (m ((c : Thread nD τ).loc main_arg0)) (funext fun a => Fin.ext ?_)
  match a with
  | ⟨0, _⟩ => show win0_0.index t 0 * 1280 + 1 * l.val = t.val * 1280 + l.val; omega
  | ⟨1, _⟩ => show win0_0.index t 1 * 1280 + 1 * k.val = k.val; omega

theorem iblk1_apply (c : Dev nD) (t : Fin cfg0.N) (r : Fin 16) (k : Fin 512) :
    iblk m c 1 t (ix2 r k) = (m ((c : Thread nD τ).loc main_arg1) : S16x512.Idx → EReal) (ix2 r k) := by
  obtain ⟨-, -, h0, h1, -⟩ := idx_facts t
  refine congrArg (m ((c : Thread nD τ).loc main_arg1)) (funext fun a => Fin.ext ?_)
  match a with
  | ⟨0, _⟩ => show win0_1.index t 0 * 16 + 1 * r.val = r.val; omega
  | ⟨1, _⟩ => show win0_1.index t 1 * 512 + 1 * k.val = k.val; omega

theorem iblk2_apply (c : Dev nD) (t : Fin cfg0.N) (l : Fin 1280) :
    iblk m c 2 t (ix3 (0 : Fin 1) (0 : Fin 1) l) = (m ((c : Thread nD τ).loc main_arg2) : S25x1x1280.Idx → EReal)
      (ix3 (⟨t.val, by have := t.isLt; have : cfg0.N = 25 := N_0; omega⟩ : Fin 25) (0 : Fin 1) l) := by
  obtain ⟨-, -, -, -, h0, h1, h2, -⟩ := idx_facts t
  refine congrArg (m ((c : Thread nD τ).loc main_arg2)) (funext fun a => Fin.ext ?_)
  match a with
  | ⟨0, _⟩ => show win0_2.index t 0 * 1 + 1 * 0 = t.val; omega
  | ⟨1, _⟩ => show win0_2.index t 1 * 1 + 1 * 0 = 0; omega
  | ⟨2, _⟩ => show win0_2.index t 2 * 1280 + 1 * l.val = l.val; omega

/-- What point `t` writes back of the first result is its block of the whole array. -/
theorem flushed3_eq (c : Dev nD) (t : Fin cfg0.N) :
    (dats m 0 c).flushed 3 t = (win0_3.blk t).view.read (Elt Ideal)
      (baseOf (m ((c : Thread nD τ).loc main_arg0)) (m ((c : Thread nD τ).loc main_arg1)) (m ((c : Thread nD τ).loc main_arg2))) := by
  rw [Value.flushed3]
  unfold out0_3
  rw [View.canon_unit_zero hz2, View.ld_unit_zero hz2, View.ld_unit_zero hz2, View.ld_unit_zero hz3]
  funext j
  idx_vars j
  obtain ⟨-, -, -, -, -, -, -, h0, h1, -⟩ := idx_facts t
  have ht : t.val < 25 := by have := t.isLt; have : cfg0.N = 25 := N_0; omega
  have hi : ((win0_3.blk t).view.emb (ix2 j0 j1) : S16x32000.Idx)
      = ix2 j0 (⟨t.val * 1280 + j1.val, by omega⟩ : Fin 32000) := funext fun a => Fin.ext (by
    match a with
    | ⟨0, _⟩ => show win0_3.index t 0 * 16 + 1 * j0.val = j0.val; omega
    | ⟨1, _⟩ => show win0_3.index t 1 * 1280 + 1 * j1.val = t.val * 1280 + j1.val; omega)
  show k0_pay2 (iblk m c 0 t) (iblk m c 1 t) (iblk m c 2 t) (ix2 j0 j1) = baseOf _ _ _ ((win0_3.blk t).view.emb (ix2 j0 j1))
  rw [hi, pay2_apply]
  simp only [iblk0_apply, iblk1_apply, iblk2_apply]
  unfold baseOf
  have e1 : (t.val * 1280 + j1.val) / 1280 = t.val := by omega
  have e2 : (t.val * 1280 + j1.val) % 1280 = j1.val := by omega
  pointwise [e1, e2]

/-- What point `t` writes back of the second result is its block of the whole array. -/
theorem flushed4_eq (c : Dev nD) (t : Fin cfg0.N) :
    (dats m 0 c).flushed 4 t = (win0_4.blk t).view.read (Elt Ideal) (w16Of (m ((c : Thread nD τ).loc main_arg0))) := by
  rw [Value.flushed4]
  unfold out0_4
  rw [View.canon_unit_zero hz2, View.ld_unit_zero hz2]
  funext j
  idx_vars j
  obtain ⟨-, -, -, -, -, -, -, -, -, h0, h1⟩ := idx_facts t
  have ht : t.val < 25 := by have := t.isLt; have : cfg0.N = 25 := N_0; omega
  have hi : ((win0_4.blk t).view.emb (ix2 j0 j1) : S32000x768.Idx)
      = ix2 (⟨t.val * 1280 + j0.val, by omega⟩ : Fin 32000) j1 := funext fun a => Fin.ext (by
    match a with
    | ⟨0, _⟩ => show win0_4.index t 0 * 1280 + 1 * j0.val = t.val * 1280 + j0.val; omega
    | ⟨1, _⟩ => show win0_4.index t 1 * 768 + 1 * j1.val = j1.val; omega)
  show k0_pay1 (iblk m c 0 t) (ix2 j0 j1) = w16Of _ ((win0_4.blk t).view.emb (ix2 j0 j1))
  rw [hi]
  have e : k0_pay1 (iblk m c 0 t) (ix2 j0 j1) = iblk m c 0 t (ix2 j0 (⟨j1.val, by omega⟩ : Fin 1280)) := by
    generalize (iblk m c 0 t : Vec Ideal S1280x1280 .f32) = w
    pointwise [k0_pay1]
  rw [e, iblk0_apply]
  rfl

theorem mem_blk3 (t : Fin cfg0.N) (i : S16x32000.Idx) :
    i ∈ ((cfg0.win 3).blk t).view.set ↔ t.val * 1280 ≤ (i 1 : Nat) ∧ (i 1 : Nat) < t.val * 1280 + 1280 := by
  show i ∈ ((View.whole main_v0_0).slice (win0_3.rect t)).set ↔ _
  rw [View.set_slice_whole, Rect.mem_set_unit]
  obtain ⟨-, -, -, -, -, -, -, e0, e1, -⟩ := idx_facts t
  have h0 : (i 0 : Nat) < 16 := (i 0).isLt
  refine ⟨fun h => ?_, fun h a => ?_⟩
  · have : win0_3.index t 1 * 1280 ≤ (i 1 : Nat) ∧ (i 1 : Nat) < win0_3.index t 1 * 1280 + 1280 := h 1
    omega
  · match a with
    | ⟨0, _⟩ => show win0_3.index t 0 * 16 ≤ (i 0 : Nat) ∧ (i 0 : Nat) < win0_3.index t 0 * 16 + 16; omega
    | ⟨1, _⟩ => show win0_3.index t 1 * 1280 ≤ (i 1 : Nat) ∧ (i 1 : Nat) < win0_3.index t 1 * 1280 + 1280; omega

theorem mem_blk4 (t : Fin cfg0.N) (i : S32000x768.Idx) :
    i ∈ ((cfg0.win 4).blk t).view.set ↔ t.val * 1280 ≤ (i 0 : Nat) ∧ (i 0 : Nat) < t.val * 1280 + 1280 := by
  show i ∈ ((View.whole main_v0_1).slice (win0_4.rect t)).set ↔ _
  rw [View.set_slice_whole, Rect.mem_set_unit]
  obtain ⟨-, -, -, -, -, -, -, -, -, e0, e1⟩ := idx_facts t
  have h0 : (i 1 : Nat) < 768 := (i 1).isLt
  refine ⟨fun h => ?_, fun h a => ?_⟩
  · have : win0_4.index t 0 * 1280 ≤ (i 0 : Nat) ∧ (i 0 : Nat) < win0_4.index t 0 * 1280 + 1280 := h 0
    omega
  · match a with
    | ⟨0, _⟩ => show win0_4.index t 0 * 1280 ≤ (i 0 : Nat) ∧ (i 0 : Nat) < win0_4.index t 0 * 1280 + 1280; omega
    | ⟨1, _⟩ => show win0_4.index t 1 * 768 ≤ (i 1 : Nat) ∧ (i 1 : Nat) < win0_4.index t 1 * 768 + 768; omega

theorem cover3 (i : S16x32000.Idx) : ∃ t : Fin cfg0.N, (cfg0.win 3).flush t = true ∧ i ∈ ((cfg0.win 3).blk t).view.set := by
  have h1 : (i 1 : Nat) < 32000 := (i 1).isLt
  have hN : cfg0.N = 25 := N_0
  refine ⟨⟨(i 1 : Nat) / 1280, by omega⟩, flush0_3 _, ?_⟩
  rw [mem_blk3]
  dsimp only
  omega

theorem cover4 (i : S32000x768.Idx) : ∃ t : Fin cfg0.N, (cfg0.win 4).flush t = true ∧ i ∈ ((cfg0.win 4).blk t).view.set := by
  have h1 : (i 0 : Nat) < 32000 := (i 0).isLt
  have hN : cfg0.N = 25 := N_0
  refine ⟨⟨(i 0 : Nat) / 1280, by omega⟩, flush0_4 _, ?_⟩
  rw [mem_blk4]
  dsimp only
  omega

/-- The kernel's run with both results named. -/
theorem run : θ_run defs (onTc (τ := τ) (main (F := Ideal))) ⟨m, fun _ => 0, ρ⟩ fun r => ∀ c : Dev nD,
      r.2.mem ((c : Thread nD τ).loc main_v0_0)
        = baseOf (m ((c : Thread nD τ).loc main_arg0)) (m ((c : Thread nD τ).loc main_arg1)) (m ((c : Thread nD τ).loc main_arg2))
      ∧ r.2.mem ((c : Thread nD τ).loc main_v0_1) = w16Of (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed3_eq m c t) cover3),
      (h c).2.1.trans ((dats m 0 c).arrAt_eq_of_cover 4 _ (fun t _ => flushed4_eq m c t) cover4), (h c).2.2⟩)
    (Value.run_blocks m ρ)

end Cert.BaseIdeal.RefValue

namespace Cert.Proof.BaseClaims

open Cert.BaseIdeal.RefValue in
/-- The reference's first result is the same function of the arguments. -/
theorem ref_base (w : Vec Ideal Cert.RefBaseIdeal.S32000x1280 .f32) (x : Vec Ideal Cert.RefBaseIdeal.S16x512 .f32)
    (b : Vec Ideal Cert.RefBaseIdeal.S25x1x1280 .f32) :
    Cert.RefBaseIdeal.Read.val_main_v6 (F := Ideal) w x b = baseOf w x b := by
  funext i
  rw [Cert.RefBaseIdeal.Read.val_main_v6_apply, Cert.RefBaseIdeal.Read.val_main_v2_apply, Cert.RefBaseIdeal.Read.val_main_v5_apply,
    Cert.RefBaseIdeal.Read.val_main_v4_apply, Cert.RefBaseIdeal.Read.val_main_v3_apply]
  simp only [Cert.RefBaseIdeal.Read.val_main_v1_apply, Cert.RefBaseIdeal.Read.val_main_v0_apply]
  unfold baseOf
  refine congrArg₂ (fun a b : EReal => a + b) (Finset.sum_congr rfl fun k _ => congrArg₂ (fun a b : EReal => a * b) ?_ ?_) ?_
  · exact congrArg x (funext fun a => by match a with | ⟨0, _⟩ => rfl | ⟨1, _⟩ => rfl)
  · exact congrArg w (funext fun a => by match a with | ⟨0, _⟩ => rfl | ⟨1, _⟩ => rfl)
  · exact congrArg b (funext fun a => by match a with | ⟨0, _⟩ => rfl | ⟨1, _⟩ => rfl | ⟨2, _⟩ => rfl)

open Cert.BaseIdeal.RefValue in
/-- The reference's second result is the same function of the arguments. -/
theorem ref_w16 (w : Vec Ideal Cert.RefBaseIdeal.S32000x1280 .f32) :
    Cert.RefBaseIdeal.Read.val_main_v8 (F := Ideal) w = w16Of w := by
  funext i
  rw [Cert.RefBaseIdeal.Read.val_main_v8_apply, Cert.RefBaseIdeal.Read.val_main_v7_apply]
  exact congrArg w (funext fun a => by match a with | ⟨0, _⟩ => rfl | ⟨1, _⟩ => rfl)

theorem frame_p : Cert.quiescent_Base := fun m ρ _ => Cert.Base.Gen.frame m ρ
theorem frame_pi : Cert.quiescent_BaseIdeal := fun m ρ _ => Cert.BaseIdeal.Gen.frame m ρ
/-- The reference declares no semaphore; its run is read at the arguments. -/
theorem frame_ri : Cert.quiescent_RefBaseIdeal := fun m ρ _ =>
  (θ_run Cert.RefBaseIdeal.defs _ _).mono (fun r h => ⟨fun c => (h c).2.2,
      Idealize.ShloMosaic.sem_eq_zero_of_no_sems (by decide) r.2⟩)
    (Cert.RefBaseIdeal.Value.run (F := Ideal) m ρ)
theorem preserves : Cert.preserves_Base_BaseIdeal := trivial

/-- At extended reals both programs end with the same two arrays. -/
theorem algebraic : Cert.algebraic_BaseIdeal_RefBaseIdeal := by
  intro m ρ m' ρ' _ hag
  refine ⟨_, _, Cert.BaseIdeal.RefValue.run m ρ, ?_⟩
  refine (θ_run Cert.RefBaseIdeal.defs _ _).mono (fun _ h c => ⟨(h c).1.trans ?_, (h c).2.1.trans ?_, (h c).2.2⟩)
    (Cert.RefBaseIdeal.Value.run (F := Ideal) m' ρ')
  · rw [(hag c).1, (hag c).2.1, (hag c).2.2]
    exact ref_base _ _ _
  · rw [(hag c).1]
    exact ref_w16 _

end Cert.Proof.BaseClaims

end
-- ==== Proof.DecRules.lean ====
/-
  The rules by which the beam decoder's body is run: a load, a store and a word read on a memref held at named values,
  and the two ends of a row copy out of the embedding table. Every rule has the form "from the state before, the rest of
  the program is met from the state after".
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Batch
public import Idealize.ShloMosaic.Lib.VecWindow
public import Idealize.ShloMosaic.Lib.Tactic

@[expose] public section

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

/-- The weakest precondition of a piece of the body on core `c`. -/
abbrev wpb {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

variable (c : Dev nD)

theorem ret_intro {α : Type} {x : α} {Q : α → sProp 𝕄} : Q x ⊢ wpb c (.ret x) Q := by
  iintro H
  unfold wpb
  rw [wp_ret]; imodintro
  iexact H

theorem seq {α β : Type} {S : sProp 𝕄} {p : Prog (TpuEff nD τ sig (Elt F) Λ₀ .tc) β} {R : β → sProp 𝕄}
    {k : β → Prog (TpuEff nD τ sig (Elt F) Λ₀ .tc) α} {Q : α → sProp 𝕄}
    (h1 : S ⊢ wpb c p R) (h2 : ∀ x, R x ⊢ wpb c (k x) Q) : S ⊢ wpb c (p >>= k) Q :=
  by
  unfold wpb
  rw [wp_bind]
  exact h1.trans (wp_mono _ _ _ h2)

theorem seqw {α β : Type} {S : sProp 𝕄} {p : Prog (TpuEff nD τ sig (Elt F) Λ₀ .tc) β} {R : β → sProp 𝕄}
    {k : β → Prog (TpuEff nD τ sig (Elt F) Λ₀ .tc) α} {Q : α → sProp 𝕄}
    (h1 : S ⊢ wpb c p R) : S ⊢ iprop((∀ x, R x -∗ wpb c (k x) Q) -∗ wpb c (p >>= k) Q) := by
  unfold wpb
  rw [wp_bind]
  iintro HS Hk
  iapply (wp_wand_r frame (wpE (defs₀ (F := F)) Variants.none (c : Thread nD τ) none) Set.univ)
  isplitl [HS]
  · iapply h1; iexact HS
  · iexact Hk

section Access
variable {cs : CoreSpace} {s : Shape} {e : EltTy} {m : Memref sig .tc cs s e} {α : Type}

/-- A load of the memref's own sizes reads what it is held at. -/
theorem ld_full {off : Fin s.rank → ℕ} {inb : ∀ a, off a + s.size a ≤ s.size a} {hl : m.view.LoadsAt (Rect.unit off s.size inb).toLoadRect}
    {k : (s.Idx → Elt F e) → Prog (TpuEff nD τ sig (Elt F) Λ₀ .tc) α} {v : s.Idx → Elt F e} {Q : α → sProp 𝕄} :
    (owns (c : Thread nD τ) m fullShare v : sProp 𝕄)
      ⊢ iprop((owns (c : Thread nD τ) m fullShare v -∗ wpb c (k v) Q) -∗ wpb c (.op (.load m (Rect.unit off s.size inb).toLoadRect hl) k) Q) := by
  unfold owns
  iintro ⟨%f, %hf, H⟩ Hk
  iapply (wp_load Variants.none (c : Thread nD τ) none Set.univ (S := m.view.set) (q := fullShare) (f := f) (View.setOn_subset_set _ _)) $$ H
  iintro H
  rw [View.readAt_full, hf]
  iapply Hk
  iexists f
  isplitr; · ipureintro; exact hf
  iexact H

/-- A load at a unit-stride rectangle reads that window of what the memref is held at. -/
theorem ld_win {off size : Fin s.rank → ℕ} {inb : ∀ a, off a + size a ≤ s.size a} {hl : m.view.LoadsAt (Rect.unit off size inb).toLoadRect}
    {k : ((Rect.unit off size inb).shape.Idx → Elt F e) → Prog (TpuEff nD τ sig (Elt F) Λ₀ .tc) α} {v : s.Idx → Elt F e} {Q : α → sProp 𝕄} :
    (owns (c : Thread nD τ) m fullShare v : sProp 𝕄)
      ⊢ iprop((owns (c : Thread nD τ) m fullShare v -∗ wpb c (k (VecWindow.window v off size inb)) Q)
          -∗ wpb c (.op (.load m (Rect.unit off size inb).toLoadRect hl) k) Q) := by
  unfold owns
  iintro ⟨%f, %hf, H⟩ Hk
  iapply (wp_load Variants.none (c : Thread nD τ) none Set.univ (S := m.view.set) (q := fullShare) (f := f) (View.setOn_subset_set _ _)) $$ H
  iintro H
  rw [View.readAt_unit m.view f inb rfl inb, hf]
  iapply Hk
  iexists f
  isplitr; · ipureintro; exact hf
  iexact H

/-- An unmasked store of the memref's own sizes leaves the payload. -/
theorem st_full {off : Fin s.rank → ℕ} {inb : ∀ a, off a + s.size a ≤ s.size a} {w : s.Idx → Elt F e}
    {hx : (m.access (Rect.unit off s.size inb)).Stores Finset.univ} {hm : Finset.univ = Finset.univ ∨ ∀ a, (Rect.unit off s.size inb).stride a = 1}
    {k : PUnit → Prog (TpuEff nD τ sig (Elt F) Λ₀ .tc) α} {v : s.Idx → Elt F e} {Q : α → sProp 𝕄} :
    (owns (c : Thread nD τ) m fullShare v : sProp 𝕄)
      ⊢ iprop((owns (c : Thread nD τ) m fullShare w -∗ wpb c (k ⟨⟩) Q)
          -∗ wpb c (.op (.store m (Rect.unit off s.size inb) w Finset.univ hx hm) k) Q) := by
  unfold owns
  iintro ⟨%f, %hf, H⟩ Hk
  iapply (wp_store Variants.none (c : Thread nD τ) none Set.univ (m := m)
    (r := Rect.unit off s.size inb) (S := m.view.set) (f := f)
    (by rw [View.setOn_univ]; exact View.set_slice_subset _ _)) $$ H
  iintro H
  iapply Hk
  iexists _
  isplitr; swap; · iexact H
  ipureintro
  exact View.read_writes_full m.view f inb w []

/-- An unmasked store at a unit-stride rectangle puts the payload over that window. -/
theorem st_win {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} {v : s.Idx → Elt F e} {Q : α → sProp 𝕄} :
    (owns (c : Thread nD τ) m fullShare v : sProp 𝕄)
      ⊢ iprop((owns (c : Thread nD τ) m fullShare (VecWindow.put v off size w) -∗ wpb c (k ⟨⟩) Q)
          -∗ wpb c (.op (.store m (Rect.unit off size inb) w Finset.univ hx hm) k) Q) := by
  unfold owns
  iintro ⟨%f, %hf, H⟩ Hk
  iapply (wp_store Variants.none (c : Thread nD τ) none Set.univ (m := m)
    (r := Rect.unit off size inb) (S := m.view.set) (f := f)
    (by rw [View.setOn_univ]; exact View.set_slice_subset _ _)) $$ H
  iintro H
  iapply Hk
  iexists _
  isplitr; swap; · iexact H
  ipureintro
  exact (View.read_writes_cons_put m.view f inb w [] rfl).trans (by rw [View.writes_nil, hf])

end Access

/-! ## The row copies out of the embedding table -/

section Rows

/-- The counters of the transfers, in the proof's algebra. -/
abbrev EC : UEmb Counters 𝕄 := countersEmb (U := Pipeline.UD sig nD τ)

theorem tok_inb (r : ℕ) (hr : r < 32) : ∀ a, (![r, 0] : Fin 2 → ℕ) a + S1x1.size a ≤ S32x1.size a := by
  intro a; match a with
  | 0 => show r + 1 ≤ 32; omega
  | 1 => show 0 + 1 ≤ 1; omega
theorem dst_inb (r : ℕ) (hr : r < 32) : ∀ a, (![r, 0] : Fin 2 → ℕ) a + S1x256.size a ≤ S32x256.size a := by
  intro a; match a with
  | 0 => show r + 1 ≤ 32; omega
  | 1 => show 0 + 256 ≤ 256; omega
theorem row_inb (n : ℕ) (hn : n < 32000) : ∀ a, (![n, 0] : Fin 2 → ℕ) a + S1x256.size a ≤ S32000x256.size a := by
  intro a; match a with
  | 0 => show n + 1 ≤ 32000; omega
  | 1 => show 0 + 256 ≤ 256; omega

/-- The token of row `r`. -/
def tokAt (t : S32x1.Idx → BitVec 32) (r : ℕ) (hr : r < 32) : BitVec 32 :=
  t ((Rect.unit (s := S32x1) ![r, 0] S1x1.size (tok_inb r hr)).emb (Shape.Idx.first (numel1_S1x1.symm ▸ Nat.one_pos)))

/-- Every token names a row of the embedding table. -/
def TokOk (t : S32x1.Idx → BitVec 32) : Prop := ∀ r (hr : r < 32), (tokAt t r hr).toNat < 32000

variable (A9 : Memref sig .tc .hbm S32000x256 .f32) (A15 : Memref sig .tc .vmem S32x256 .f32)
  (A17 : Memref sig .tc .smem S32x1 .i32) (A23 : DmaSems sig S_)

/-- Row `r` of the gathered block. -/
abbrev dstRow (r : ℕ) (hr : r < 32) : Memref sig .tc .vmem S256 .f32 :=
  (A15.slice (Rect.unit (s := S32x256) ![r, 0] S1x256.size (dst_inb r hr)) (fun _ => rfl)).squeeze S256 squeezes_S1x256_S256
/-- Row `n` of the embedding table. -/
abbrev srcRow (n : ℕ) (hn : n < 32000) : Memref sig .tc .hbm S256 .f32 :=
  (A9.slice (Rect.unit (s := S32000x256) ![n, 0] S1x256.size (row_inb n hn)) (fun _ => rfl)).squeeze S256 squeezes_S1x256_S256

/-- The shares the copies borrow of the table: half of what is left, one after another. -/
def restSh : ℕ → PosShare TreeShare
  | 0 => fullShare
  | n + 1 => (restSh n).right
def lendSh (n : ℕ) : PosShare TreeShare := (restSh n).left

variable (E : Buf (Elt F) (A9.view.loc (c : Thread nD τ))) (t : S32x1.Idx → BitVec 32) (ht : TokOk t)

/-- What the copy of row `r` takes. -/
def Give (r : Fin 32) : sProp 𝕄 :=
  iprop((((srcRow A9 (tokAt t r.val r.isLt).toNat (ht r.val r.isLt)).view.loc (c : Thread nD τ))
      ↦[(srcRow A9 (tokAt t r.val r.isLt).toNat (ht r.val r.isLt)).view.set]{lendSh r.val} E)
    ∗ ∃ fd, (((dstRow A15 r.val r.isLt).view.loc (c : Thread nD τ)) ↦[(dstRow A15 r.val r.isLt).view.set]{fullShare} fd))

/-- What it brings: the row of the table in the block's row, and the table's row back. -/
def Deliv (r : Fin 32) : sProp 𝕄 :=
  iprop(owns (c : Thread nD τ) (dstRow A15 r.val r.isLt) fullShare
      ((srcRow A9 (tokAt t r.val r.isLt).toNat (ht r.val r.isLt)).view.read (Elt F) E)
    ∗ ((srcRow A9 (tokAt t r.val r.isLt).toNat (ht r.val r.isLt)).view.loc (c : Thread nD τ))
      ↦[(srcRow A9 (tokAt t r.val r.isLt).toNat (ht r.val r.isLt)).view.set]{lendSh r.val} E)

instance (r : Fin 32) : BI.Storable (upEmb : UEmb _ 𝕄) (Deliv c A9 A15 E t ht r) := by
  unfold Deliv owns; infer_instance

/-- The units of one row. -/
abbrev rowN : ℕ := A15.view.ref.dmaCredit S256 .f32

/-- Copies `r, …, 31` not yet issued. -/
def Iss (r : ℕ) : sProp 𝕄 :=
  iprop(owns (c : Thread nD τ) A17 fullShare t ∗ bigSep (Transfers.pending r) (Give c A9 A15 E t ht)
    ∗ Transfers.Batch EC (c : Thread nD τ) (.dma A23.sem) () (rowN A15) (Deliv c A9 A15 E t ht) r 0)

theorem iss_row {α : Type} (r : ℕ) (hr : r < 32) {inbF : ∀ a, (![(tokAt t r hr).toNat, 0] : Fin 2 → ℕ) a + S1x256.size a ≤ S32000x256.size a}
    {hs} {hd} {hc}
    {k : PUnit → Prog (TpuEff nD τ sig (Elt F) Λ₀ .tc) α} {Q : α → sProp 𝕄}
    (h : Iss c A9 A15 A17 A23 E t ht (r + 1) ⊢ wpb c (k ⟨⟩) Q) :
    Iss c A9 A15 A17 A23 E t ht r ⊢ wpb c (Prog.lift (TpuEff.enqueueDma
      ((A9.slice (Rect.unit (s := S32000x256) ![(tokAt t r hr).toNat, 0] S1x256.size inbF) (fun _ => rfl)).squeeze S256 squeezes_S1x256_S256)
      (.here (dstRow A15 r hr)) (.dma A23.sem) hs hd hc) >>= k) Q := by
  unfold Iss
  rw [Transfers.bigSep_pending_step _ r hr]
  unfold Give
  iintro ⟨HT, ⟨⟨Hs, %fd, Hd⟩, HP⟩, HB⟩
  iapply (Transfers.wp_dmaBatch EC Variants.none (c : Thread nD τ) none
    (src := srcRow A9 (tokAt t r hr).toNat (ht r hr)) (dst := dstRow A15 r hr) (q := lendSh r) (fs := E) (fd := fd)
    (D := Deliv c A9 A15 E t ht) (Sd := (dstRow A15 r hr).view.set) () (rowN A15) rfl subset_rfl hr (Nat.zero_le _) (by
      unfold Deliv
      iintro ⟨Hd, Hs⟩
      isplitl [Hd]
      · unfold owns
        iexists _
        isplitr; swap; · iexact Hd
        ipureintro
        exact View.read_write_univ _ _
      · iexact Hs)) $$ [Hs Hd HB]
  · isplitl [Hs]; · iexact Hs
    isplitl [Hd]; · iexact Hd
    iexact HB
  · iintro HB
    iapply h
    unfold Iss
    isplitl [HT]; · iexact HT
    isplitl [HP]; · iexact HP
    iexact HB

/-- The word of row `r` read, and the condition of its copy checked. -/
theorem word_row {α : Type} {R : sProp 𝕄} (r : ℕ) (hr : r < 32) {inb : ∀ a, (![r, 0] : Fin 2 → ℕ) a + S1x1.size a ≤ S32x1.size a}
    {h1} {hp} {P : BitVec 32 → Prop} {d : ∀ v, Decidable (P v)} (hP : P (tokAt t r hr))
    {k : ∀ v, PLift (P v) → Prog (TpuEff nD τ sig (Elt F) Λ₀ .tc) α} {Q : α → sProp 𝕄}
    (h : iprop(owns (c : Thread nD τ) A17 fullShare t ∗ R) ⊢ wpb c (k (tokAt t r hr) ⟨hP⟩) Q) :
    iprop(owns (c : Thread nD τ) A17 fullShare t ∗ R) ⊢ wpb c (smemLoad A17 (Rect.unit (s := S32x1) ![r, 0] S1x1.size inb) h1 hp >>= fun v =>
      Prog.lift (TpuEff.assume (P v) (d v)) >>= k v) Q := by
  iintro ⟨HT, HR⟩
  iapply (ld_win c (m := A17)) $$ HT
  iintro HT
  iapply (wp_assume Variants.none (c : Thread nD τ) none Set.univ hP)
  iapply h
  isplitl [HT]; · iexact HT
  iexact HR

/-- The copies waited for: `r` rows' units taken off the semaphore so far. -/
def Wai (r : ℕ) : sProp 𝕄 :=
  iprop(owns (c : Thread nD τ) A17 fullShare t
    ∗ (Transfers.Batch EC (c : Thread nD τ) (.dma A23.sem) () (rowN A15) (Deliv c A9 A15 E t ht) 32 (r * rowN A15)
      ∗ ∃ W, owes (c : Thread nD τ) 0 W))

theorem row_units {r n : ℕ} (hr : r + 1 < 32) (hpos : 0 < n) : r * n + n < n * 32 := by
  have h := Nat.mul_lt_mul_of_pos_right hr hpos
  rw [Nat.add_mul, Nat.one_mul] at h
  rw [Nat.mul_comm n 32]; exact h

theorem wai_row {α : Type} (r : ℕ) (hr : r + 1 < 32) (hpos : 0 < rowN A15) {src : Memref sig .tc .hbm S256 .f32}
    {hs} {hd} {k : PUnit → Prog (TpuEff nD τ sig (Elt F) Λ₀ .tc) α} {Q : α → sProp 𝕄}
    (h : Wai c A9 A15 A17 A23 E t ht (r + 1) ⊢ wpb c (k ⟨⟩) Q) :
    Wai c A9 A15 A17 A23 E t ht r ⊢ wpb c (Prog.lift (TpuEff.waitDma2 A23.sem src (dstRow A15 r (Nat.lt_of_succ_lt hr)) hs hd) >>= k) Q := by
  unfold Wai
  iintro ⟨HT, HB, %W, HO⟩
  iapply (Transfers.wp_waitBatch EC Variants.none (c : Thread nD τ) none () (N := rowN A15) rfl
    (D := Deliv c A9 A15 E t ht) (W := W)
    (u := r * rowN A15) (row_units hr hpos)) $$ [HB HO]
  · isplitl [HB]; · iexact HB
    iexact HO
  · iintro ⟨HB, HO⟩
    iapply h
    unfold Wai
    isplitl [HT]; · iexact HT
    isplitl [HB]
    · rw [Nat.add_mul, Nat.one_mul]; iexact HB
    · iexists _; iexact HO

/-- After the last wait everything is back. -/
def Col : sProp 𝕄 :=
  iprop(owns (c : Thread nD τ) A17 fullShare t
    ∗ (bigSep Finset.univ (Deliv c A9 A15 E t ht) ∗ semVal ((c : Thread nD τ), (SemLoc.dma A23.sem)) 0
      ∗ ∃ W, owes (c : Thread nD τ) 0 W))

theorem wai_last {α : Type} (hpos : 0 < rowN A15) {src : Memref sig .tc .hbm S256 .f32}
    {hs} {hd} {k : PUnit → Prog (TpuEff nD τ sig (Elt F) Λ₀ .tc) α} {Q : α → sProp 𝕄}
    (h : Col c A9 A15 A17 A23 E t ht ⊢ wpb c (k ⟨⟩) Q) :
    Wai c A9 A15 A17 A23 E t ht 31 ⊢ wpb c (Prog.lift (TpuEff.waitDma2 A23.sem src (dstRow A15 31 (Nat.lt_succ_self 31)) hs hd) >>= k) Q := by
  unfold Wai
  iintro ⟨HT, HB, %W, HO⟩
  iapply (Transfers.wp_waitBatchLast EC Variants.none (c : Thread nD τ) none () (N := rowN A15) rfl hpos
    (D := Deliv c A9 A15 E t ht) (W := W)
    (u := 31 * rowN A15) (by omega)) $$ [HB HO]
  · isplitl [HB]; · iexact HB
    iexact HO
  · iintro ⟨HD, HV, HO⟩
    iapply h
    unfold Col
    isplitl [HT]; · iexact HT
    isplitl [HD]; · iexact HD
    isplitl [HV]; · iexact HV
    iexists _; iexact HO

end Rows

end Cert.KernelIdeal.Dec

end
-- ==== Proof.DecState.lean ====
/-
  What the beam decoder's scratch buffers hold, as functions of its operands: one decoding step takes a state (the hidden
  rows, the beams' probabilities, the finished flags, the two token and score histories, the next tokens) to the next.
-/
module

public import proofs.«01_k».proof.Proof.DecRules
public import Idealize.ShloMosaic.Lib.Pointwise

@[expose] public section

set_option maxRecDepth 16384

noncomputable section

namespace Cert.KernelIdeal.Dec

open Cert.KernelIdeal Cert.KernelIdeal.Gen
open Idealize.ShloMosaic Idealize.ShloMosaic.TcCoe

variable {F : FTy → Type} [FloatOps F]

/-- The state carried from one decoding step to the next. -/
structure St (F : FTy → Type) [FloatOps F] where
  h : Vec F S32x512 .f32
  prob : Vec F S32x1 .f32
  fin : Vec F S32x1 .f32
  th : Vec F S32x32 .i32
  sh : Vec F S32x32 .f32
  tok : Vec F S32x1 .i32

/-- The first state, from the context rows. -/
def st0 (ctx : Vec F S16x512 .f32) : St F :=
  ⟨k0_pay8 ctx, k0_pay9, k0_pay10, k0_pay11, k0_pay12, fun _ => 2#32⟩

/-- The rows of the embedding table the tokens name. -/
def gath (emb : Vec F S32000x256 .f32) (t : Vec F S32x1 .i32) : Vec F S32x256 .f32 := fun j =>
  emb (ix2 (n0 := 32000) (n1 := 256) ⟨min (tokAt t (j 0).val (j 0).isLt).toNat 31999, by omega⟩ (j 1))

/-- The gated unit's new hidden rows. -/
def nhOf (h : Vec F S32x512 .f32) (e : Vec F S32x256 .f32) (ctx : Vec F S16x512 .f32) (wih : Vec F S1536x768 .f32) (whh : Vec F S1536x512 .f32)
    (bih bhh : Vec F S1x1536 .f32) : Vec F S32x512 .f32 :=
  k0_pay1 h (k0_pay13 ctx ctx e wih bih) whh bhh

abbrev topHalf {n : ℕ} {α : Type} (x : (⟨2, ![32, n]⟩ : Shape).Idx → α) : (⟨2, ![16, n]⟩ : Shape).Idx → α :=
  VecWindow.window (s := ⟨2, ![32, n]⟩) x ![0, 0] ![16, n] (by intro a; match a with | 0 => show 0 + 16 ≤ 32; omega | 1 => show 0 + n ≤ n; omega)
abbrev botHalf {n : ℕ} {α : Type} (x : (⟨2, ![32, n]⟩ : Shape).Idx → α) : (⟨2, ![16, n]⟩ : Shape).Idx → α :=
  VecWindow.window (s := ⟨2, ![32, n]⟩) x ![16, 0] ![16, n] (by intro a; match a with | 0 => show 16 + 16 ≤ 32; omega | 1 => show 0 + n ≤ n; omega)
/-- Both halves overwritten. -/
abbrev halves {n : ℕ} {α : Type} (x : (⟨2, ![32, n]⟩ : Shape).Idx → α) (a b : (⟨2, ![16, n]⟩ : Shape).Idx → α) : (⟨2, ![32, n]⟩ : Shape).Idx → α :=
  VecWindow.put (s := ⟨2, ![32, n]⟩) (VecWindow.put (s := ⟨2, ![32, n]⟩) x ![0, 0] ![16, n] a) ![16, 0] ![16, n] b

/-- The five logit blocks' exponentials summed, block after block. -/
def sumTo (m : Vec F S32x1 .f32) (blk : Fin k0_t1_loop.trips → Vec F S1x32x6400 .f32) : ℕ → FVec F S32x1 .f32
  | 0 => k0_pay22
  | k + 1 => if hk : k < k0_t1_loop.trips then k0_pay25 m (sumTo m blk k) (blk ⟨k, hk⟩) else sumTo m blk k

abbrev Quad (F : FTy → Type) [FloatOps F] := FVec F S32x1 .f32 × IVec S32x1 32 × FVec F S32x1 .f32 × IVec S32x1 32

/-- One block's two best candidates merged into the two best so far. -/
def selStep (prob fin : Vec F S32x1 .f32) (s : FVec F S32x1 .f32) (u : Fin k0_t2_loop.trips) (e : Vec F S1x32x6400 .f32) (a : Quad F) : Quad F :=
  (k0_pay30 a.1 (k0_pay16 prob fin s 0#32 1#32 u e) (k0_pay21 prob fin s 0#32 1#32 u a.1 e),
   k0_pay31 a.2.1 (k0_pay17 prob fin s 1073741824#32 0#32 1#32 u e) (k0_pay21 prob fin s 0#32 1#32 u a.1 e),
   k0_pay35 a.1 a.2.2.1 (k0_pay16 prob fin s 0#32 1#32 u e)
     (k0_pay19 prob fin s 1073741824#32 (Scalar.ofBits .f32 0xFF800000#32) 0#32 1#32 u e) (k0_pay21 prob fin s 0#32 1#32 u a.1 e),
   k0_pay36 a.1 a.2.1 a.2.2.1 a.2.2.2 (k0_pay16 prob fin s 0#32 1#32 u e) (k0_pay17 prob fin s 1073741824#32 0#32 1#32 u e)
     (k0_pay19 prob fin s 1073741824#32 (Scalar.ofBits .f32 0xFF800000#32) 0#32 1#32 u e)
     (k0_pay20 prob fin s 1073741824#32 (Scalar.ofBits .f32 0xFF800000#32) 0#32 1#32 u e) (k0_pay21 prob fin s 0#32 1#32 u a.1 e))

def selTo (prob fin : Vec F S32x1 .f32) (s : FVec F S32x1 .f32) (eb : Fin k0_t2_loop.trips → Vec F S1x32x6400 .f32) : ℕ → Quad F
  | 0 => (k0_pay26, k0_pay27, k0_pay28, k0_pay29)
  | k + 1 => if hk : k < k0_t2_loop.trips then selStep prob fin s ⟨k, hk⟩ (eb ⟨k, hk⟩) (selTo prob fin s eb k) else selTo prob fin s eb k

/-- The two best candidates of every beam, from the running maximum and the five logit blocks. -/
def selOf (prob fin m : Vec F S32x1 .f32) (blk : Fin k0_t1_loop.trips → Vec F S1x32x6400 .f32) : Quad F :=
  selTo prob fin (sumTo m blk k0_t1_loop.trips) (fun u => k0_pay24 m (blk u)) k0_t2_loop.trips

section Next
variable (a0 : BitVec 32) (fin : Vec F S32x1 .f32) (q : Quad F) (nh : Vec F S32x512 .f32) (th : Vec F S32x32 .i32) (sh : Vec F S32x32 .f32)

def x55 : FVec F S16x1 .f32 := k0_pay42 q.1
def x56 : IVec S16x1 32 := k0_pay43 q.1 q.2.1
def x62 : FVec F S16x1 .f32 := k0_pay47 q.1 q.2.2.1
def x63 : IVec S16x1 32 := k0_pay48 q.1 q.2.1 q.2.2.1 q.2.2.2
def x65 : IVec S16x1 1 := k0_pay49 q.1 q.2.1
def x69 : IVec S16x1 32 := k0_pay51 (x56 q) (x65 q)
def x72 : IVec S16x1 32 := k0_pay52 (x63 q)
def x75 : IVec S16x1 32 := k0_pay53 (x63 q)
def x88 : FVec F S16x1 .f32 := k0_pay57 fin (x65 q)
def x97 : Vec F S16x512 .f32 := k0_pay59 (x65 q) (topHalf (n := 512) nh) (botHalf (n := 512) nh)
def x106 : IVec S16x32 32 := k0_pay60 a0 fin (x56 q) (x65 q) (topHalf (n := 32) th) (botHalf (n := 32) th)
def x115 : FVec F S16x32 .f32 :=
  k0_pay62 (x55 q) (iota .tc S16x32 32 [1] iota_S16x32_d1_w32) (x88 fin q) (k0_pay58 (x65 q) (topHalf (n := 32) sh) (botHalf (n := 32) sh)) (k0_pay61 a0)
def x119 : FVec F S16x1 .f32 := k0_pay63 (x69 q) (x88 fin q)
def x131 : Vec F S16x512 .f32 := k0_pay66 (x72 q) (topHalf (n := 512) nh) (botHalf (n := 512) nh)
def x140 : IVec S16x32 32 := k0_pay67 (x72 q) (x75 q) (k0_pay54 fin) (k0_pay55 fin) (topHalf (n := 32) th) (botHalf (n := 32) th)
  (iota .tc S16x32 32 [1] iota_S16x32_d1_w32) (Scalar.addi a0 1#32)
def x149 : FVec F S16x32 .f32 := k0_pay68 (x62 q) (x72 q) (k0_pay54 fin) (k0_pay55 fin) (topHalf (n := 32) sh) (botHalf (n := 32) sh)
  (iota .tc S16x32 32 [1] iota_S16x32_d1_w32) (Scalar.addi a0 1#32)
def x153 : FVec F S16x1 .f32 := k0_pay69 (x72 q) (x75 q) (k0_pay54 fin) (k0_pay55 fin)

/-- The state after the step's selection. -/
def nextOf (h : Vec F S32x512 .f32) : St F where
  h := halves (n := 512) h (k0_pay70 (x97 q nh)) (k0_pay71 (x131 q nh))
  prob := k0_pay77 (x55 q) (x62 q)
  fin := k0_pay76 (x119 fin q) (x153 fin q)
  th := halves (n := 32) th (k0_pay72 (x106 a0 fin q th)) (k0_pay73 (x140 a0 fin q th))
  sh := halves (n := 32) sh (k0_pay74 (x115 a0 fin q sh)) (k0_pay75 (x149 a0 fin q sh))
  tok := k0_pay78 (x69 q) (x75 q)
/-- The tokens the last step leaves. -/
def outT : Vec F S16x32 .i32 := k0_pay6 (x55 q) (x62 q) (x106 a0 fin q th) (x140 a0 fin q th)
/-- The scores the last step leaves. -/
def outS : Vec F S16x32 .f32 := k0_pay7 (x55 q) (x62 q) (x115 a0 fin q sh) (x149 a0 fin q sh)
end Next

/-- The decoder's operands, point by point. -/
structure Ins (F : FTy → Type) [FloatOps F] where
  slab : ℕ → Vec F S6400x768 .bf16
  base : ℕ → Vec F S5x16x6400 .f32
  wih : ℕ → Vec F S1536x768 .f32
  whh : ℕ → Vec F S1536x512 .f32
  bih : ℕ → Vec F S1x1536 .f32
  bhh : ℕ → Vec F S1x1536 .f32
  ctx : ℕ → Vec F S16x512 .f32
  emb : Vec F S32000x256 .f32

theorem gN : grid0.N = 155 := by decide
/-- The grid coordinates of point `n`. -/
def gi (n : ℕ) : grid0.Coords := grid0.coords ⟨n % 155, by rw [gN]; exact Nat.mod_lt _ (by decide)⟩
theorem gi_coords (t : Fin grid0.N) : grid0.coords t = gi t.val := by
  unfold gi
  congr 1
  exact Fin.ext (Nat.mod_eq_of_lt (lt_of_lt_of_eq t.isLt gN)).symm

namespace Ins
variable (X : Ins F)

/-- The decode position as a word. -/
def pos (t : ℕ) : BitVec 32 := BitVec.ofNat 32 (gi (5 * t + 4) 0).val
def emT (s : St F) : Vec F S32x256 .f32 := gath X.emb s.tok
def nh (t : ℕ) (s : St F) : Vec F S32x512 .f32 :=
  nhOf s.h (X.emT s) (X.ctx (5 * t)) (X.wih (5 * t)) (X.whh (5 * t)) (X.bih (5 * t)) (X.bhh (5 * t))
def bw (n : ℕ) : Vec F S1x16x6400 .f32 := VecWindow.window (X.base n) (k0_off65 (gi n)) S1x16x6400.size (k0_off65_inb (gi n))
/-- The logits' block `v` at step `t`. -/
def blk (t : ℕ) (s : St F) (v : ℕ) : Vec F S1x32x6400 .f32 := k0_pay3 (X.emT s) (X.nh t s) (X.bw (5 * t + v)) (X.slab (5 * t + v))
/-- The maximum of the blocks before block `v`. -/
def mx (t : ℕ) (s : St F) : ℕ → Vec F S32x1 .f32
  | 0 => fun _ => Scalar.ofBits .f32 0#32
  | v + 1 => k0_pay4 (gi (5 * t + v)) (X.emT s) (X.nh t s) (X.bw (5 * t + v)) (X.slab (5 * t + v)) (mx t s v)
def sel (t : ℕ) (s : St F) : Quad F := selOf s.prob s.fin (X.mx t s 5) (fun u => X.blk t s u.val)
def next (t : ℕ) (s : St F) : St F := nextOf (pos t) s.fin (X.sel t s) (X.nh t s) s.th s.sh s.h
/-- The state before step `t`. -/
def st : ℕ → St F
  | 0 => st0 (X.ctx 0)
  | t + 1 => X.next t (st t)
def resT : Vec F S16x32 .i32 := outT (pos 30) (X.st 30).fin (X.sel 30 (X.st 30)) (X.st 30).th
def resS : Vec F S16x32 .f32 := outS (pos 30) (X.st 30).fin (X.sel 30 (X.st 30)) (X.st 30).sh
end Ins

end Cert.KernelIdeal.Dec

end
-- ==== Proof.DecShare.lean ====
/-
  The embedding table lent to the thirty-two row copies in shares, and the gathered block cut into its rows: both ways.
-/
module

public import proofs.«01_k».proof.Proof.DecState
public import Idealize.ShloMosaic.Lib.Ring
public import Idealize.ShloMosaic.Lib.Pipeline.TableIdle

@[expose] public section

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

variable (c : Dev nD)

variable (A9 : Memref sig .tc .hbm S32000x256 .f32) (A15 : Memref sig .tc .vmem S32x256 .f32)
  (E : Buf (Elt F) (A9.view.loc (c : Thread nD τ))) (t : S32x1.Idx → BitVec 32) (ht : TokOk t)

/-! ## The table lent in shares -/

theorem shares_step (S : Finset (Idx (A9.view.loc (c : Thread nD τ)))) (k : ℕ) (hk : k ≤ 32) :
    ((A9.view.loc (c : Thread nD τ)) ↦[S]{restSh (32 - k)} E : sProp 𝕄)
      ⊣⊢ iprop(bigSep (Transfers.pending (n := 32) (32 - k)) (fun r => (A9.view.loc (c : Thread nD τ)) ↦[S]{lendSh r.val} E)
        ∗ (A9.view.loc (c : Thread nD τ)) ↦[S]{restSh 32} E) := by
  induction k with
  | zero =>
    have e : Transfers.pending (n := 32) (32 - 0) = ∅ := by decide
    rw [e, bigSep_empty]
    constructor
    · iintro H; isplitr; · iempintro
      iexact H
    · iintro ⟨-, H⟩; iexact H
  | succ k ih =>
    have hlt : 32 - (k + 1) < 32 := by omega
    have es : 32 - (k + 1) + 1 = 32 - k := by omega
    have ih' := ih (by omega)
    rw [Transfers.bigSep_pending_step _ (32 - (k + 1)) hlt, es]
    have hs := pointsTo_share (ℓ := A9.view.loc (c : Thread nD τ)) (I := S) (f := E) (Lvl := ℕ) (Name := ℕ) (Ix := Unit) (U := Pipeline.UD sig nD τ)
      (PosShare.mem_left_op_right (restSh (32 - (k + 1))))
    have hr : (restSh (32 - (k + 1))).right = restSh (32 - k) := by rw [← es]; rfl
    rw [hr] at hs
    constructor
    · refine hs.1.trans ?_
      iintro ⟨H1, H2⟩
      ihave H2 := ih'.1 $$ H2
      icases H2 with ⟨H2, H3⟩
      isplitr [H3]; swap; · iexact H3
      isplitl [H1]; · iexact H1
      iexact H2
    · refine BIBase.Entails.trans ?_ hs.2
      iintro ⟨⟨H1, H2⟩, H3⟩
      isplitl [H1]; · iexact H1
      iapply ih'.2
      isplitl [H2]; · iexact H2
      iexact H3

theorem shares (S : Finset (Idx (A9.view.loc (c : Thread nD τ)))) :
    ((A9.view.loc (c : Thread nD τ)) ↦[S]{fullShare} E : sProp 𝕄)
      ⊣⊢ iprop(bigSep Finset.univ (fun r : Fin 32 => (A9.view.loc (c : Thread nD τ)) ↦[S]{lendSh r.val} E)
        ∗ (A9.view.loc (c : Thread nD τ)) ↦[S]{restSh 32} E) := by
  have h := shares_step c A9 E S 32 le_rfl
  rw [Nat.sub_self, Transfers.pending_zero] at h
  exact h

/-- What of the table the copies do not take. -/
def EmbRest : sProp 𝕄 :=
  iprop(bigSep Finset.univ (fun r : Fin 32 => (A9.view.loc (c : Thread nD τ))
      ↦[A9.view.set \ (srcRow A9 (tokAt t r.val r.isLt).toNat (ht r.val r.isLt)).view.set]{lendSh r.val} E)
    ∗ (A9.view.loc (c : Thread nD τ)) ↦[A9.view.set]{restSh 32} E)

theorem src_subset (n : ℕ) (hn : n < 32000) : (srcRow A9 n hn).view.set ⊆ A9.view.set := by
  show (View.reshape _ _ _).set ⊆ _
  rw [View.set_reshape]
  exact View.set_slice_subset _ _

theorem emb_split :
    ((A9.view.loc (c : Thread nD τ)) ↦[A9.view.set]{fullShare} E : sProp 𝕄)
      ⊣⊢ iprop(bigSep Finset.univ (fun r : Fin 32 => (A9.view.loc (c : Thread nD τ))
        ↦[(srcRow A9 (tokAt t r.val r.isLt).toNat (ht r.val r.isLt)).view.set]{lendSh r.val} E) ∗ EmbRest c A9 E t ht) := by
  unfold EmbRest
  have h := shares c A9 E A9.view.set
  have e : (bigSep Finset.univ (fun r : Fin 32 => ((A9.view.loc (c : Thread nD τ)) ↦[A9.view.set]{lendSh r.val} E : sProp 𝕄)))
      = iprop(bigSep Finset.univ (fun r : Fin 32 => (A9.view.loc (c : Thread nD τ))
        ↦[(srcRow A9 (tokAt t r.val r.isLt).toNat (ht r.val r.isLt)).view.set]{lendSh r.val} E)
        ∗ bigSep Finset.univ (fun r : Fin 32 => (A9.view.loc (c : Thread nD τ))
      ↦[A9.view.set \ (srcRow A9 (tokAt t r.val r.isLt).toNat (ht r.val r.isLt)).view.set]{lendSh r.val} E)) := by
    refine Eq.trans (bigSep_congr fun r _ => ?_) (bigSep_sep _ _ _)
    have h2 := pointsTo_split_subset (ℓ := A9.view.loc (c : Thread nD τ)) (q := lendSh r.val) (f := E) (Lvl := ℕ) (Name := ℕ) (Ix := Unit) (U := Pipeline.UD sig nD τ)
      (src_subset A9 _ (ht r.val r.isLt))
    exact Idealize.SL.BI.equiv_iff.mp ⟨h2.1, h2.2⟩
  rw [e] at h
  constructor
  · refine h.1.trans ?_
    iintro ⟨⟨H1, H2⟩, H3⟩
    isplitl [H1]; · iexact H1
    isplitl [H2]; · iexact H2
    iexact H3
  · refine BIBase.Entails.trans ?_ h.2
    iintro ⟨H1, H2, H3⟩
    isplitr [H3]; swap; · iexact H3
    isplitl [H1]; · iexact H1
    iexact H2

/-! ## The gathered block in rows -/

abbrev rowI (r : Fin 32) : Finset (Idx (A15.view.loc (c : Thread nD τ))) := (dstRow A15 r.val r.isLt).view.set

theorem rowI_eq (r : Fin 32) : rowI c A15 r
    = (Rect.unit (s := S32x256) ![r.val, 0] S1x256.size (dst_inb r.val r.isLt)).set.map A15.view.emb := by
  show (View.reshape _ _ _).set = _
  rw [View.set_reshape]
  exact View.set_slice _ _

theorem rows_disjoint (b b' : Fin 32) (h : b ≠ b') : Disjoint (rowI c A15 b) (rowI c A15 b') := by
  rw [rowI_eq, rowI_eq]
  refine (Finset.disjoint_map _).mpr ?_
  exact Ring.lead_disjoint (s := S32x256) (NB := 32) (0 : Fin 2) 1 (fun b => ![b.val, 0]) S1x256.size (fun b => dst_inb b.val b.isLt)
    (fun b => (Nat.one_mul _).symm) rfl b b' h

theorem rows_cover : Finset.univ.biUnion (rowI c A15) = A15.view.set := by
  ext x
  constructor
  · intro hx
    obtain ⟨r, -, hr⟩ := Finset.mem_biUnion.mp hx
    rw [rowI_eq] at hr
    obtain ⟨y, -, rfl⟩ := Finset.mem_map.mp hr
    exact View.emb_mem_set _ y
  · intro hx
    obtain ⟨y, -, rfl⟩ := Finset.mem_map.mp hx
    refine Finset.mem_biUnion.mpr ⟨⟨(y 0).val, (y 0).isLt⟩, Finset.mem_univ _, ?_⟩
    rw [rowI_eq]
    refine Finset.mem_map_of_mem _ (Rect.mem_set_unit.mpr fun a => ?_)
    match a with
    | 0 => show (y 0).val ≤ (y 0).val ∧ (y 0).val < (y 0).val + 1; omega
    | 1 =>
      have h1 : (y 1).val < 256 := (y 1).isLt
      show 0 ≤ (y 1).val ∧ (y 1).val < 0 + 256; omega

theorem rows_split {x : Vec F S32x256 .f32} : (owns (c : Thread nD τ) A15 fullShare x : sProp 𝕄)
    ⊢ bigSep Finset.univ (fun r : Fin 32 => iprop(∃ fd, (((dstRow A15 r.val r.isLt).view.loc (c : Thread nD τ)) ↦[(dstRow A15 r.val r.isLt).view.set]{fullShare} fd))) := by
  unfold owns
  iintro ⟨%f, -, H⟩
  have ent : ∀ r : Fin 32, (((dstRow A15 r.val r.isLt).view.loc (c : Thread nD τ)) ↦[(dstRow A15 r.val r.isLt).view.set]{fullShare} f : sProp 𝕄)
      ⊢ iprop(∃ fd, (((dstRow A15 r.val r.isLt).view.loc (c : Thread nD τ)) ↦[(dstRow A15 r.val r.isLt).view.set]{fullShare} fd)) := fun r => by
    iintro H; iexists f; iexact H
  have key := (Entails.of_eq (Ring.pointsTo_sub_blocks (Lvl := ℕ) (Name := ℕ) (Ix := Unit) (U := Pipeline.UD sig nD τ) (q := fullShare) (rowI c A15) (rows_disjoint c A15) A15.view.set (rows_cover c A15) f)).trans
    (bigSep_mono fun r _ => ent r)
  iapply key
  iexact H

theorem rows_join : bigSep Finset.univ (fun r : Fin 32 => (owns (c : Thread nD τ) (dstRow A15 r.val r.isLt) fullShare
      ((srcRow A9 (tokAt t r.val r.isLt).toNat (ht r.val r.isLt)).view.read (Elt F) E) : sProp 𝕄))
    ⊢ (owns (c : Thread nD τ) A15 fullShare (gath (A9.view.read (Elt F) E) t) : sProp 𝕄) := by
  refine (Entails.of_eq (bigSep_congr fun r _ => owns_eq_rep (c : Thread nD τ) (dstRow A15 r.val r.isLt) fullShare _)).trans ?_
  let fs : Fin 32 → Buf (Elt F) (A15.view.loc (c : Thread nD τ)) := fun r =>
    (dstRow A15 r.val r.isLt).view.rep ((srcRow A9 (tokAt t r.val r.isLt).toNat (ht r.val r.isLt)).view.read (Elt F) E)
  refine (pointsTo_biUnion_join Finset.univ (rowI c A15) fs (fs 0) (fun b _ b' _ h => rows_disjoint c A15 b b' h)).trans ?_
  rw [rows_cover]
  iintro ⟨%g, %hg, H⟩
  unfold owns
  iexists g
  isplitr; swap; · iexact H
  ipureintro
  funext j
  let r : Fin 32 := ⟨(j 0).val, (j 0).isLt⟩
  let z : S1x256.Idx := ix2 (n0 := 1) (n1 := 256) 0 (j 1)
  let y : S256.Idx := (Shape.reshapeEquiv (squeezes_S1x256_S256).numel_eq).symm z
  have e1 : A15.view.emb j = (dstRow A15 r.val r.isLt).view.emb y := by
    show A15.view.emb j = A15.view.emb ((Rect.unit (s := S32x256) ![r.val, 0] S1x256.size (dst_inb r.val r.isLt)).emb (Shape.reshapeEquiv _ y))
    refine congrArg _ ?_
    rw [show Shape.reshapeEquiv (squeezes_S1x256_S256).numel_eq y = z from Equiv.apply_symm_apply _ _]
    funext a
    refine Fin.ext ?_
    match a with
    | 0 => show (j 0).val = (j 0).val + 1 * 0; omega
    | 1 => show (j 1).val = 0 + 1 * (j 1).val; omega
  have e2 : (srcRow A9 (tokAt t r.val r.isLt).toNat (ht r.val r.isLt)).view.emb y
      = A9.view.emb (ix2 (n0 := 32000) (n1 := 256) ⟨min (tokAt t r.val r.isLt).toNat 31999, by omega⟩ (j 1)) := by
    show A9.view.emb ((Rect.unit (s := S32000x256) ![(tokAt t r.val r.isLt).toNat, 0] S1x256.size (row_inb _ (ht r.val r.isLt))).emb (Shape.reshapeEquiv _ y)) = _
    refine congrArg _ ?_
    rw [show Shape.reshapeEquiv (squeezes_S1x256_S256).numel_eq y = z from Equiv.apply_symm_apply _ _]
    funext a
    refine Fin.ext ?_
    have hn := ht r.val r.isLt
    match a with
    | 0 => show (tokAt t r.val r.isLt).toNat + 1 * 0 = min (tokAt t r.val r.isLt).toNat 31999; omega
    | 1 => show 0 + 1 * (j 1).val = (j 1).val; omega
  have e3 := hg r (Finset.mem_univ _) ((dstRow A15 r.val r.isLt).view.emb y) (View.emb_mem_set _ y)
  have e4 : (dstRow A15 r.val r.isLt).view.read (Elt F) g y
      = (srcRow A9 (tokAt t r.val r.isLt).toNat (ht r.val r.isLt)).view.read (Elt F) E y := by
    refine (View.read_congr_at _ e3).trans ?_
    exact congrFun (View.read_rep _ _) y
  refine Eq.trans ?_ (e4.trans ?_)
  · rw [View.read_apply, View.read_apply, e1]
  · rw [View.read_apply, e2]; rfl

/-! ## Before the copies are issued, and after the last wait -/

variable (A17 : Memref sig .tc .smem S32x1 .i32) (A23 : DmaSems sig S_)

/-- The table and the block are what the copies take, beside the rest of the table. -/
theorem prep {x : Vec F S32x256 .f32} :
    iprop(owns (c : Thread nD τ) A15 fullShare x ∗ ((A9.view.loc (c : Thread nD τ)) ↦[A9.view.set]{fullShare} E))
      ⊢ (iprop(bigSep (Transfers.pending 0) (Give c A9 A15 E t ht) ∗ EmbRest c A9 E t ht) : sProp 𝕄) := by
  rw [Transfers.pending_zero]
  have e : bigSep Finset.univ (Give c A9 A15 E t ht)
      = (iprop(bigSep Finset.univ (fun r : Fin 32 => (A9.view.loc (c : Thread nD τ))
        ↦[(srcRow A9 (tokAt t r.val r.isLt).toNat (ht r.val r.isLt)).view.set]{lendSh r.val} E)
        ∗ bigSep Finset.univ (fun r : Fin 32 => iprop(∃ fd, (((dstRow A15 r.val r.isLt).view.loc (c : Thread nD τ)) ↦[(dstRow A15 r.val r.isLt).view.set]{fullShare} fd)))) : sProp 𝕄) :=
    bigSep_sep _ _ _
  rw [e]
  iintro ⟨H15, H9⟩
  ihave H9 := (emb_split c A9 E t ht).1 $$ H9
  icases H9 with ⟨H9, HR⟩
  isplitr [HR]; swap; · iexact HR
  isplitl [H9]; · iexact H9
  iapply (rows_split c A15)
  iexact H15

/-- The copies' rows and the rest of the table are the gathered block and the table. -/
theorem unprep : iprop(Col c A9 A15 A17 A23 E t ht ∗ EmbRest c A9 E t ht)
    ⊢ (iprop((owns (c : Thread nD τ) A17 fullShare t ∗ semVal ((c : Thread nD τ), (SemLoc.dma A23.sem)) 0 ∗ (∃ W, owes (c : Thread nD τ) 0 W)
        ∗ ((A9.view.loc (c : Thread nD τ)) ↦[A9.view.set]{fullShare} E))
      ∗ owns (c : Thread nD τ) A15 fullShare (gath (A9.view.read (Elt F) E) t)) : sProp 𝕄) := by
  unfold Col
  have e : bigSep Finset.univ (Deliv c A9 A15 E t ht)
      = (iprop(bigSep Finset.univ (fun r : Fin 32 => owns (c : Thread nD τ) (dstRow A15 r.val r.isLt) fullShare
          ((srcRow A9 (tokAt t r.val r.isLt).toNat (ht r.val r.isLt)).view.read (Elt F) E))
        ∗ bigSep Finset.univ (fun r : Fin 32 => (A9.view.loc (c : Thread nD τ))
        ↦[(srcRow A9 (tokAt t r.val r.isLt).toNat (ht r.val r.isLt)).view.set]{lendSh r.val} E)) : sProp 𝕄) :=
    bigSep_sep _ _ _
  rw [e]
  iintro ⟨⟨HT, ⟨HA, HB⟩, HV, HO⟩, HR⟩
  isplitr [HA]
  · isplitl [HT]; · iexact HT
    isplitl [HV]; · iexact HV
    isplitl [HO]; · iexact HO
    iapply (emb_split c A9 E t ht).2
    isplitl [HB]; · iexact HB
    iexact HR
  · iapply (rows_join c A9 A15 E t ht)
    iexact HA

end Cert.KernelIdeal.Dec

end
-- ==== Proof.DecGather.lean ====
/-
  The gathers of the beam decoder: the thirty-two row copies issued, and the thirty-two waits, part by part.
-/
module

public import proofs.«01_k».proof.Proof.DecRules

@[expose] public section

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

variable (c : Dev nD)

variable (i : grid0.Coords) (arg2 : Memref sig .tc .vmem S6400x768 .bf16) (harg2 : arg2.IsWhole) (arg3 : Memref sig .tc .vmem S5x16x6400 .f32) (harg3 : arg3.IsWhole) (arg4 : Memref sig .tc .vmem S1536x768 .f32) (harg4 : arg4.IsWhole) (arg5 : Memref sig .tc .vmem S1536x512 .f32) (harg5 : arg5.IsWhole) (arg6 : Memref sig .tc .vmem S1x1536 .f32) (harg6 : arg6.IsWhole) (arg7 : Memref sig .tc .vmem S1x1536 .f32) (harg7 : arg7.IsWhole) (arg8 : Memref sig .tc .vmem S16x512 .f32) (harg8 : arg8.IsWhole) (arg9 : Memref sig .tc .hbm S32000x256 .f32) (harg9 : arg9.IsWhole) (arg10 : Memref sig .tc .vmem S16x32 .i32) (harg10 : arg10.IsWhole) (arg11 : Memref sig .tc .vmem S16x32 .f32) (harg11 : arg11.IsWhole) (arg12 : Memref sig .tc .vmem S5x32x6400 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x256 .f32) (harg15 : arg15.IsWhole) (arg16 : Memref sig .tc .vmem S32x1 .i32) (harg16 : arg16.IsWhole) (arg17 : Memref sig .tc .smem S32x1 .i32) (harg17 : arg17.IsWhole) (arg18 : Memref sig .tc .vmem S32x1 .f32) (harg18 : arg18.IsWhole) (arg19 : Memref sig .tc .vmem S32x1 .f32) (harg19 : arg19.IsWhole) (arg20 : Memref sig .tc .vmem S32x32 .i32) (harg20 : arg20.IsWhole) (arg21 : Memref sig .tc .vmem S32x32 .f32) (harg21 : arg21.IsWhole) (arg22 : Memref sig .tc .vmem S32x1 .f32) (harg22 : arg22.IsWhole) (arg23 : DmaSems sig S_) (arg24 : DmaSems sig S_)
  (E : Buf (Elt F) (arg9.view.loc (c : Thread nD τ))) (t : S32x1.Idx → BitVec 32) (ht : TokOk t)

theorem part4 (h1 : k0_cond1 i = 1#1) (h3 : k0_cond3 i = 1#1) :
    Iss c arg9 arg15 arg17 arg23 E t ht 0 ⊢ wpb c (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1 h3)
      (fun _ => Iss c arg9 arg15 arg17 arg23 E t ht 5) := by
  rw [k0_part4_eq_skeleton]; unfold k0_part4_skel
  refine word_row c arg17 t 0 (by decide) (fun _ _ => row_inb _ (ht 0 (by decide))) ?_
  refine iss_row c arg9 arg15 arg17 arg23 E t ht 0 (by decide) ?_
  refine word_row c arg17 t 1 (by decide) (fun _ _ => row_inb _ (ht 1 (by decide))) ?_
  refine iss_row c arg9 arg15 arg17 arg23 E t ht 1 (by decide) ?_
  refine word_row c arg17 t 2 (by decide) (fun _ _ => row_inb _ (ht 2 (by decide))) ?_
  refine iss_row c arg9 arg15 arg17 arg23 E t ht 2 (by decide) ?_
  refine word_row c arg17 t 3 (by decide) (fun _ _ => row_inb _ (ht 3 (by decide))) ?_
  refine iss_row c arg9 arg15 arg17 arg23 E t ht 3 (by decide) ?_
  refine word_row c arg17 t 4 (by decide) (fun _ _ => row_inb _ (ht 4 (by decide))) ?_
  refine iss_row c arg9 arg15 arg17 arg23 E t ht 4 (by decide) ?_
  exact ret_intro c (Q := fun _ => Iss c arg9 arg15 arg17 arg23 E t ht 5)

theorem part5 (h1 : k0_cond1 i = 1#1) (h3 : k0_cond3 i = 1#1) :
    Iss c arg9 arg15 arg17 arg23 E t ht 5 ⊢ wpb c (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1 h3)
      (fun _ => Iss c arg9 arg15 arg17 arg23 E t ht 10) := by
  rw [k0_part5_eq_skeleton]; unfold k0_part5_skel
  refine word_row c arg17 t 5 (by decide) (fun _ _ => row_inb _ (ht 5 (by decide))) ?_
  refine iss_row c arg9 arg15 arg17 arg23 E t ht 5 (by decide) ?_
  refine word_row c arg17 t 6 (by decide) (fun _ _ => row_inb _ (ht 6 (by decide))) ?_
  refine iss_row c arg9 arg15 arg17 arg23 E t ht 6 (by decide) ?_
  refine word_row c arg17 t 7 (by decide) (fun _ _ => row_inb _ (ht 7 (by decide))) ?_
  refine iss_row c arg9 arg15 arg17 arg23 E t ht 7 (by decide) ?_
  refine word_row c arg17 t 8 (by decide) (fun _ _ => row_inb _ (ht 8 (by decide))) ?_
  refine iss_row c arg9 arg15 arg17 arg23 E t ht 8 (by decide) ?_
  refine word_row c arg17 t 9 (by decide) (fun _ _ => row_inb _ (ht 9 (by decide))) ?_
  refine iss_row c arg9 arg15 arg17 arg23 E t ht 9 (by decide) ?_
  exact ret_intro c (Q := fun _ => Iss c arg9 arg15 arg17 arg23 E t ht 10)

theorem part6 (h1 : k0_cond1 i = 1#1) (h3 : k0_cond3 i = 1#1) :
    Iss c arg9 arg15 arg17 arg23 E t ht 10 ⊢ wpb c (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1 h3)
      (fun _ => Iss c arg9 arg15 arg17 arg23 E t ht 15) := by
  rw [k0_part6_eq_skeleton]; unfold k0_part6_skel
  refine word_row c arg17 t 10 (by decide) (fun _ _ => row_inb _ (ht 10 (by decide))) ?_
  refine iss_row c arg9 arg15 arg17 arg23 E t ht 10 (by decide) ?_
  refine word_row c arg17 t 11 (by decide) (fun _ _ => row_inb _ (ht 11 (by decide))) ?_
  refine iss_row c arg9 arg15 arg17 arg23 E t ht 11 (by decide) ?_
  refine word_row c arg17 t 12 (by decide) (fun _ _ => row_inb _ (ht 12 (by decide))) ?_
  refine iss_row c arg9 arg15 arg17 arg23 E t ht 12 (by decide) ?_
  refine word_row c arg17 t 13 (by decide) (fun _ _ => row_inb _ (ht 13 (by decide))) ?_
  refine iss_row c arg9 arg15 arg17 arg23 E t ht 13 (by decide) ?_
  refine word_row c arg17 t 14 (by decide) (fun _ _ => row_inb _ (ht 14 (by decide))) ?_
  refine iss_row c arg9 arg15 arg17 arg23 E t ht 14 (by decide) ?_
  exact ret_intro c (Q := fun _ => Iss c arg9 arg15 arg17 arg23 E t ht 15)

theorem part7 (h1 : k0_cond1 i = 1#1) (h3 : k0_cond3 i = 1#1) :
    Iss c arg9 arg15 arg17 arg23 E t ht 15 ⊢ wpb c (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1 h3)
      (fun _ => Iss c arg9 arg15 arg17 arg23 E t ht 20) := by
  rw [k0_part7_eq_skeleton]; unfold k0_part7_skel
  refine word_row c arg17 t 15 (by decide) (fun _ _ => row_inb _ (ht 15 (by decide))) ?_
  refine iss_row c arg9 arg15 arg17 arg23 E t ht 15 (by decide) ?_
  refine word_row c arg17 t 16 (by decide) (fun _ _ => row_inb _ (ht 16 (by decide))) ?_
  refine iss_row c arg9 arg15 arg17 arg23 E t ht 16 (by decide) ?_
  refine word_row c arg17 t 17 (by decide) (fun _ _ => row_inb _ (ht 17 (by decide))) ?_
  refine iss_row c arg9 arg15 arg17 arg23 E t ht 17 (by decide) ?_
  refine word_row c arg17 t 18 (by decide) (fun _ _ => row_inb _ (ht 18 (by decide))) ?_
  refine iss_row c arg9 arg15 arg17 arg23 E t ht 18 (by decide) ?_
  refine word_row c arg17 t 19 (by decide) (fun _ _ => row_inb _ (ht 19 (by decide))) ?_
  refine iss_row c arg9 arg15 arg17 arg23 E t ht 19 (by decide) ?_
  exact ret_intro c (Q := fun _ => Iss c arg9 arg15 arg17 arg23 E t ht 20)

theorem part8 (h1 : k0_cond1 i = 1#1) (h3 : k0_cond3 i = 1#1) :
    Iss c arg9 arg15 arg17 arg23 E t ht 20 ⊢ wpb c (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1 h3)
      (fun _ => Iss c arg9 arg15 arg17 arg23 E t ht 25) := by
  rw [k0_part8_eq_skeleton]; unfold k0_part8_skel
  refine word_row c arg17 t 20 (by decide) (fun _ _ => row_inb _ (ht 20 (by decide))) ?_
  refine iss_row c arg9 arg15 arg17 arg23 E t ht 20 (by decide) ?_
  refine word_row c arg17 t 21 (by decide) (fun _ _ => row_inb _ (ht 21 (by decide))) ?_
  refine iss_row c arg9 arg15 arg17 arg23 E t ht 21 (by decide) ?_
  refine word_row c arg17 t 22 (by decide) (fun _ _ => row_inb _ (ht 22 (by decide))) ?_
  refine iss_row c arg9 arg15 arg17 arg23 E t ht 22 (by decide) ?_
  refine word_row c arg17 t 23 (by decide) (fun _ _ => row_inb _ (ht 23 (by decide))) ?_
  refine iss_row c arg9 arg15 arg17 arg23 E t ht 23 (by decide) ?_
  refine word_row c arg17 t 24 (by decide) (fun _ _ => row_inb _ (ht 24 (by decide))) ?_
  refine iss_row c arg9 arg15 arg17 arg23 E t ht 24 (by decide) ?_
  exact ret_intro c (Q := fun _ => Iss c arg9 arg15 arg17 arg23 E t ht 25)

theorem part9 (h1 : k0_cond1 i = 1#1) (h3 : k0_cond3 i = 1#1) :
    Iss c arg9 arg15 arg17 arg23 E t ht 25 ⊢ wpb c (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1 h3)
      (fun _ => Iss c arg9 arg15 arg17 arg23 E t ht 30) := by
  rw [k0_part9_eq_skeleton]; unfold k0_part9_skel
  refine word_row c arg17 t 25 (by decide) (fun _ _ => row_inb _ (ht 25 (by decide))) ?_
  refine iss_row c arg9 arg15 arg17 arg23 E t ht 25 (by decide) ?_
  refine word_row c arg17 t 26 (by decide) (fun _ _ => row_inb _ (ht 26 (by decide))) ?_
  refine iss_row c arg9 arg15 arg17 arg23 E t ht 26 (by decide) ?_
  refine word_row c arg17 t 27 (by decide) (fun _ _ => row_inb _ (ht 27 (by decide))) ?_
  refine iss_row c arg9 arg15 arg17 arg23 E t ht 27 (by decide) ?_
  refine word_row c arg17 t 28 (by decide) (fun _ _ => row_inb _ (ht 28 (by decide))) ?_
  refine iss_row c arg9 arg15 arg17 arg23 E t ht 28 (by decide) ?_
  refine word_row c arg17 t 29 (by decide) (fun _ _ => row_inb _ (ht 29 (by decide))) ?_
  refine iss_row c arg9 arg15 arg17 arg23 E t ht 29 (by decide) ?_
  exact ret_intro c (Q := fun _ => Iss c arg9 arg15 arg17 arg23 E t ht 30)

theorem part11 (hpos : 0 < rowN arg15) (h1 : k0_cond1 i = 1#1) :
    Wai c arg9 arg15 arg17 arg23 E t ht 4 ⊢ wpb c (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1)
      (fun _ => Wai c arg9 arg15 arg17 arg23 E t ht 9) := by
  rw [k0_part11_eq_skeleton]; unfold k0_part11_skel
  refine word_row c arg17 t 4 (by decide) (fun _ => row_inb _ (ht 4 (by decide))) ?_
  refine wai_row c arg9 arg15 arg17 arg23 E t ht 4 (by decide) hpos ?_
  refine word_row c arg17 t 5 (by decide) (fun _ => row_inb _ (ht 5 (by decide))) ?_
  refine wai_row c arg9 arg15 arg17 arg23 E t ht 5 (by decide) hpos ?_
  refine word_row c arg17 t 6 (by decide) (fun _ => row_inb _ (ht 6 (by decide))) ?_
  refine wai_row c arg9 arg15 arg17 arg23 E t ht 6 (by decide) hpos ?_
  refine word_row c arg17 t 7 (by decide) (fun _ => row_inb _ (ht 7 (by decide))) ?_
  refine wai_row c arg9 arg15 arg17 arg23 E t ht 7 (by decide) hpos ?_
  refine word_row c arg17 t 8 (by decide) (fun _ => row_inb _ (ht 8 (by decide))) ?_
  refine wai_row c arg9 arg15 arg17 arg23 E t ht 8 (by decide) hpos ?_
  exact ret_intro c (Q := fun _ => Wai c arg9 arg15 arg17 arg23 E t ht 9)

theorem part12 (hpos : 0 < rowN arg15) (h1 : k0_cond1 i = 1#1) :
    Wai c arg9 arg15 arg17 arg23 E t ht 9 ⊢ wpb c (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1)
      (fun _ => Wai c arg9 arg15 arg17 arg23 E t ht 14) := by
  rw [k0_part12_eq_skeleton]; unfold k0_part12_skel
  refine word_row c arg17 t 9 (by decide) (fun _ => row_inb _ (ht 9 (by decide))) ?_
  refine wai_row c arg9 arg15 arg17 arg23 E t ht 9 (by decide) hpos ?_
  refine word_row c arg17 t 10 (by decide) (fun _ => row_inb _ (ht 10 (by decide))) ?_
  refine wai_row c arg9 arg15 arg17 arg23 E t ht 10 (by decide) hpos ?_
  refine word_row c arg17 t 11 (by decide) (fun _ => row_inb _ (ht 11 (by decide))) ?_
  refine wai_row c arg9 arg15 arg17 arg23 E t ht 11 (by decide) hpos ?_
  refine word_row c arg17 t 12 (by decide) (fun _ => row_inb _ (ht 12 (by decide))) ?_
  refine wai_row c arg9 arg15 arg17 arg23 E t ht 12 (by decide) hpos ?_
  refine word_row c arg17 t 13 (by decide) (fun _ => row_inb _ (ht 13 (by decide))) ?_
  refine wai_row c arg9 arg15 arg17 arg23 E t ht 13 (by decide) hpos ?_
  exact ret_intro c (Q := fun _ => Wai c arg9 arg15 arg17 arg23 E t ht 14)

theorem part13 (hpos : 0 < rowN arg15) (h1 : k0_cond1 i = 1#1) :
    Wai c arg9 arg15 arg17 arg23 E t ht 14 ⊢ wpb c (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1)
      (fun _ => Wai c arg9 arg15 arg17 arg23 E t ht 19) := by
  rw [k0_part13_eq_skeleton]; unfold k0_part13_skel
  refine word_row c arg17 t 14 (by decide) (fun _ => row_inb _ (ht 14 (by decide))) ?_
  refine wai_row c arg9 arg15 arg17 arg23 E t ht 14 (by decide) hpos ?_
  refine word_row c arg17 t 15 (by decide) (fun _ => row_inb _ (ht 15 (by decide))) ?_
  refine wai_row c arg9 arg15 arg17 arg23 E t ht 15 (by decide) hpos ?_
  refine word_row c arg17 t 16 (by decide) (fun _ => row_inb _ (ht 16 (by decide))) ?_
  refine wai_row c arg9 arg15 arg17 arg23 E t ht 16 (by decide) hpos ?_
  refine word_row c arg17 t 17 (by decide) (fun _ => row_inb _ (ht 17 (by decide))) ?_
  refine wai_row c arg9 arg15 arg17 arg23 E t ht 17 (by decide) hpos ?_
  refine word_row c arg17 t 18 (by decide) (fun _ => row_inb _ (ht 18 (by decide))) ?_
  refine wai_row c arg9 arg15 arg17 arg23 E t ht 18 (by decide) hpos ?_
  exact ret_intro c (Q := fun _ => Wai c arg9 arg15 arg17 arg23 E t ht 19)

theorem part14 (hpos : 0 < rowN arg15) (h1 : k0_cond1 i = 1#1) :
    Wai c arg9 arg15 arg17 arg23 E t ht 19 ⊢ wpb c (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1)
      (fun _ => Wai c arg9 arg15 arg17 arg23 E t ht 24) := by
  rw [k0_part14_eq_skeleton]; unfold k0_part14_skel
  refine word_row c arg17 t 19 (by decide) (fun _ => row_inb _ (ht 19 (by decide))) ?_
  refine wai_row c arg9 arg15 arg17 arg23 E t ht 19 (by decide) hpos ?_
  refine word_row c arg17 t 20 (by decide) (fun _ => row_inb _ (ht 20 (by decide))) ?_
  refine wai_row c arg9 arg15 arg17 arg23 E t ht 20 (by decide) hpos ?_
  refine word_row c arg17 t 21 (by decide) (fun _ => row_inb _ (ht 21 (by decide))) ?_
  refine wai_row c arg9 arg15 arg17 arg23 E t ht 21 (by decide) hpos ?_
  refine word_row c arg17 t 22 (by decide) (fun _ => row_inb _ (ht 22 (by decide))) ?_
  refine wai_row c arg9 arg15 arg17 arg23 E t ht 22 (by decide) hpos ?_
  refine word_row c arg17 t 23 (by decide) (fun _ => row_inb _ (ht 23 (by decide))) ?_
  refine wai_row c arg9 arg15 arg17 arg23 E t ht 23 (by decide) hpos ?_
  exact ret_intro c (Q := fun _ => Wai c arg9 arg15 arg17 arg23 E t ht 24)

theorem part15 (hpos : 0 < rowN arg15) (h1 : k0_cond1 i = 1#1) :
    Wai c arg9 arg15 arg17 arg23 E t ht 24 ⊢ wpb c (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1)
      (fun _ => Wai c arg9 arg15 arg17 arg23 E t ht 29) := by
  rw [k0_part15_eq_skeleton]; unfold k0_part15_skel
  refine word_row c arg17 t 24 (by decide) (fun _ => row_inb _ (ht 24 (by decide))) ?_
  refine wai_row c arg9 arg15 arg17 arg23 E t ht 24 (by decide) hpos ?_
  refine word_row c arg17 t 25 (by decide) (fun _ => row_inb _ (ht 25 (by decide))) ?_
  refine wai_row c arg9 arg15 arg17 arg23 E t ht 25 (by decide) hpos ?_
  refine word_row c arg17 t 26 (by decide) (fun _ => row_inb _ (ht 26 (by decide))) ?_
  refine wai_row c arg9 arg15 arg17 arg23 E t ht 26 (by decide) hpos ?_
  refine word_row c arg17 t 27 (by decide) (fun _ => row_inb _ (ht 27 (by decide))) ?_
  refine wai_row c arg9 arg15 arg17 arg23 E t ht 27 (by decide) hpos ?_
  refine word_row c arg17 t 28 (by decide) (fun _ => row_inb _ (ht 28 (by decide))) ?_
  refine wai_row c arg9 arg15 arg17 arg23 E t ht 28 (by decide) hpos ?_
  exact ret_intro c (Q := fun _ => Wai c arg9 arg15 arg17 arg23 E t ht 29)

theorem part19 (h4 : k0_cond4 i = 1#1) (h5 : k0_cond5 i = 1#1) (hw) :
    Iss c arg9 arg15 arg17 arg23 E t ht 4 ⊢ wpb c (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 h5 (tokAt t 4 (by decide)) hw)
      (fun x => iprop(⌜x.1 = tokAt t 9 (by decide)⌝ ∗ Iss c arg9 arg15 arg17 arg23 E t ht 9)) := by
  rw [k0_part19_eq_skeleton]; unfold k0_part19_skel
  refine iss_row c arg9 arg15 arg17 arg23 E t ht 4 (by decide) ?_
  refine word_row c arg17 t 5 (by decide) (fun _ _ => row_inb _ (ht 5 (by decide))) ?_
  refine iss_row c arg9 arg15 arg17 arg23 E t ht 5 (by decide) ?_
  refine word_row c arg17 t 6 (by decide) (fun _ _ => row_inb _ (ht 6 (by decide))) ?_
  refine iss_row c arg9 arg15 arg17 arg23 E t ht 6 (by decide) ?_
  refine word_row c arg17 t 7 (by decide) (fun _ _ => row_inb _ (ht 7 (by decide))) ?_
  refine iss_row c arg9 arg15 arg17 arg23 E t ht 7 (by decide) ?_
  refine word_row c arg17 t 8 (by decide) (fun _ _ => row_inb _ (ht 8 (by decide))) ?_
  refine iss_row c arg9 arg15 arg17 arg23 E t ht 8 (by decide) ?_
  refine word_row c arg17 t 9 (by decide) (fun _ _ => row_inb _ (ht 9 (by decide))) ?_
  refine .trans ?_ (ret_intro c (Q := fun x : (Σ' (v : Elt F .i32), k0_chk74 i v) => iprop(⌜x.1 = tokAt t 9 (by decide)⌝ ∗ Iss c arg9 arg15 arg17 arg23 E t ht 9)))
  unfold Iss
  iintro H; isplitr; · ipureintro; rfl
  iexact H

theorem part20 (h4 : k0_cond4 i = 1#1) (h5 : k0_cond5 i = 1#1) (hw) :
    Iss c arg9 arg15 arg17 arg23 E t ht 9 ⊢ wpb c (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 h5 (tokAt t 9 (by decide)) hw)
      (fun x => iprop(⌜x.1 = tokAt t 14 (by decide)⌝ ∗ Iss c arg9 arg15 arg17 arg23 E t ht 14)) := by
  rw [k0_part20_eq_skeleton]; unfold k0_part20_skel
  refine iss_row c arg9 arg15 arg17 arg23 E t ht 9 (by decide) ?_
  refine word_row c arg17 t 10 (by decide) (fun _ _ => row_inb _ (ht 10 (by decide))) ?_
  refine iss_row c arg9 arg15 arg17 arg23 E t ht 10 (by decide) ?_
  refine word_row c arg17 t 11 (by decide) (fun _ _ => row_inb _ (ht 11 (by decide))) ?_
  refine iss_row c arg9 arg15 arg17 arg23 E t ht 11 (by decide) ?_
  refine word_row c arg17 t 12 (by decide) (fun _ _ => row_inb _ (ht 12 (by decide))) ?_
  refine iss_row c arg9 arg15 arg17 arg23 E t ht 12 (by decide) ?_
  refine word_row c arg17 t 13 (by decide) (fun _ _ => row_inb _ (ht 13 (by decide))) ?_
  refine iss_row c arg9 arg15 arg17 arg23 E t ht 13 (by decide) ?_
  refine word_row c arg17 t 14 (by decide) (fun _ _ => row_inb _ (ht 14 (by decide))) ?_
  refine .trans ?_ (ret_intro c (Q := fun x : (Σ' (v : Elt F .i32), k0_chk79 i v) => iprop(⌜x.1 = tokAt t 14 (by decide)⌝ ∗ Iss c arg9 arg15 arg17 arg23 E t ht 14)))
  unfold Iss
  iintro H; isplitr; · ipureintro; rfl
  iexact H

theorem part21 (h4 : k0_cond4 i = 1#1) (h5 : k0_cond5 i = 1#1) (hw) :
    Iss c arg9 arg15 arg17 arg23 E t ht 14 ⊢ wpb c (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 h5 (tokAt t 14 (by decide)) hw)
      (fun x => iprop(⌜x.1 = tokAt t 19 (by decide)⌝ ∗ Iss c arg9 arg15 arg17 arg23 E t ht 19)) := by
  rw [k0_part21_eq_skeleton]; unfold k0_part21_skel
  refine iss_row c arg9 arg15 arg17 arg23 E t ht 14 (by decide) ?_
  refine word_row c arg17 t 15 (by decide) (fun _ _ => row_inb _ (ht 15 (by decide))) ?_
  refine iss_row c arg9 arg15 arg17 arg23 E t ht 15 (by decide) ?_
  refine word_row c arg17 t 16 (by decide) (fun _ _ => row_inb _ (ht 16 (by decide))) ?_
  refine iss_row c arg9 arg15 arg17 arg23 E t ht 16 (by decide) ?_
  refine word_row c arg17 t 17 (by decide) (fun _ _ => row_inb _ (ht 17 (by decide))) ?_
  refine iss_row c arg9 arg15 arg17 arg23 E t ht 17 (by decide) ?_
  refine word_row c arg17 t 18 (by decide) (fun _ _ => row_inb _ (ht 18 (by decide))) ?_
  refine iss_row c arg9 arg15 arg17 arg23 E t ht 18 (by decide) ?_
  refine word_row c arg17 t 19 (by decide) (fun _ _ => row_inb _ (ht 19 (by decide))) ?_
  refine .trans ?_ (ret_intro c (Q := fun x : (Σ' (v : Elt F .i32), k0_chk84 i v) => iprop(⌜x.1 = tokAt t 19 (by decide)⌝ ∗ Iss c arg9 arg15 arg17 arg23 E t ht 19)))
  unfold Iss
  iintro H; isplitr; · ipureintro; rfl
  iexact H

theorem part22 (h4 : k0_cond4 i = 1#1) (h5 : k0_cond5 i = 1#1) (hw) :
    Iss c arg9 arg15 arg17 arg23 E t ht 19 ⊢ wpb c (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 h5 (tokAt t 19 (by decide)) hw)
      (fun x => iprop(⌜x.1 = tokAt t 24 (by decide)⌝ ∗ Iss c arg9 arg15 arg17 arg23 E t ht 24)) := by
  rw [k0_part22_eq_skeleton]; unfold k0_part22_skel
  refine iss_row c arg9 arg15 arg17 arg23 E t ht 19 (by decide) ?_
  refine word_row c arg17 t 20 (by decide) (fun _ _ => row_inb _ (ht 20 (by decide))) ?_
  refine iss_row c arg9 arg15 arg17 arg23 E t ht 20 (by decide) ?_
  refine word_row c arg17 t 21 (by decide) (fun _ _ => row_inb _ (ht 21 (by decide))) ?_
  refine iss_row c arg9 arg15 arg17 arg23 E t ht 21 (by decide) ?_
  refine word_row c arg17 t 22 (by decide) (fun _ _ => row_inb _ (ht 22 (by decide))) ?_
  refine iss_row c arg9 arg15 arg17 arg23 E t ht 22 (by decide) ?_
  refine word_row c arg17 t 23 (by decide) (fun _ _ => row_inb _ (ht 23 (by decide))) ?_
  refine iss_row c arg9 arg15 arg17 arg23 E t ht 23 (by decide) ?_
  refine word_row c arg17 t 24 (by decide) (fun _ _ => row_inb _ (ht 24 (by decide))) ?_
  refine .trans ?_ (ret_intro c (Q := fun x : (Σ' (v : Elt F .i32), k0_chk89 i v) => iprop(⌜x.1 = tokAt t 24 (by decide)⌝ ∗ Iss c arg9 arg15 arg17 arg23 E t ht 24)))
  unfold Iss
  iintro H; isplitr; · ipureintro; rfl
  iexact H

theorem part23 (h4 : k0_cond4 i = 1#1) (h5 : k0_cond5 i = 1#1) (hw) :
    Iss c arg9 arg15 arg17 arg23 E t ht 24 ⊢ wpb c (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 h5 (tokAt t 24 (by decide)) hw)
      (fun x => iprop(⌜x.1 = tokAt t 29 (by decide)⌝ ∗ Iss c arg9 arg15 arg17 arg23 E t ht 29)) := by
  rw [k0_part23_eq_skeleton]; unfold k0_part23_skel
  refine iss_row c arg9 arg15 arg17 arg23 E t ht 24 (by decide) ?_
  refine word_row c arg17 t 25 (by decide) (fun _ _ => row_inb _ (ht 25 (by decide))) ?_
  refine iss_row c arg9 arg15 arg17 arg23 E t ht 25 (by decide) ?_
  refine word_row c arg17 t 26 (by decide) (fun _ _ => row_inb _ (ht 26 (by decide))) ?_
  refine iss_row c arg9 arg15 arg17 arg23 E t ht 26 (by decide) ?_
  refine word_row c arg17 t 27 (by decide) (fun _ _ => row_inb _ (ht 27 (by decide))) ?_
  refine iss_row c arg9 arg15 arg17 arg23 E t ht 27 (by decide) ?_
  refine word_row c arg17 t 28 (by decide) (fun _ _ => row_inb _ (ht 28 (by decide))) ?_
  refine iss_row c arg9 arg15 arg17 arg23 E t ht 28 (by decide) ?_
  refine word_row c arg17 t 29 (by decide) (fun _ _ => row_inb _ (ht 29 (by decide))) ?_
  refine .trans ?_ (ret_intro c (Q := fun x : (Σ' (v : Elt F .i32), k0_chk94 i v) => iprop(⌜x.1 = tokAt t 29 (by decide)⌝ ∗ Iss c arg9 arg15 arg17 arg23 E t ht 29)))
  unfold Iss
  iintro H; isplitr; · ipureintro; rfl
  iexact H

end Cert.KernelIdeal.Dec

end
-- ==== Proof.DecParts.lean ====
/-
  The beam decoder's body run piece by piece: the first tokens, the gated unit's operands, the two loops over the logit
  blocks, the selection's values and the stores of the next state.
-/
module

public import proofs.«01_k».proof.Proof.DecGather
public import proofs.«01_k».proof.Proof.DecState

@[expose] public section

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

variable (c : Dev nD)

/-! ## The first tokens -/

theorem tokAt_put_same (t : S32x1.Idx → BitVec 32) (r : ℕ) (hr : r < 32) :
    tokAt (VecWindow.put t ![r, 0] S1x1.size (fun _ => 2#32)) r hr = 2#32 :=
  congrFun (VecWindow.window_put_same t ![r, 0] S1x1.size (tok_inb r hr) (fun _ => 2#32)) _

theorem tokAt_put_other (t : S32x1.Idx → BitVec 32) (r j : ℕ) (hj : j < 32) (h : j < r) :
    tokAt (VecWindow.put t ![r, 0] S1x1.size (fun _ => 2#32)) j hj = tokAt t j hj :=
  congrFun (VecWindow.window_put_of_disjoint t ![r, 0] S1x1.size ![j, 0] S1x1.size (tok_inb j hj) (fun _ => 2#32) (0 : Fin 2)
    (Or.inl (show j + 1 ≤ r by omega))) _

theorem eq_of_tokAt {t t' : S32x1.Idx → BitVec 32} (h : ∀ j (hj : j < 32), tokAt t j hj = tokAt t' j hj) : t = t' := by
  funext y
  have e : y = (Rect.unit (s := S32x1) ![(y 0).val, 0] S1x1.size (tok_inb (y 0).val (y 0).isLt)).emb
      (Shape.Idx.first (numel1_S1x1.symm ▸ Nat.one_pos)) := by
    funext a
    refine Fin.ext ?_
    match a with
    | 0 => exact (Nat.add_zero _).symm
    | 1 =>
      have h1 : (y 1).val < 1 := (y 1).isLt
      exact (Nat.lt_one_iff.mp h1)
  have := h (y 0).val (y 0).isLt
  unfold tokAt at this
  rw [← e] at this
  exact this

/-- The first `r` words are token 2. -/
def Two (A17 : Memref sig .tc .smem S32x1 .i32) (r : ℕ) : sProp 𝕄 :=
  iprop(∃ t, ⌜∀ j (hj : j < 32), j < r → tokAt t j hj = 2#32⌝ ∗ owns (c : Thread nD τ) A17 fullShare t)

theorem two_row {α : Type} {A17 : Memref sig .tc .smem S32x1 .i32} {R : sProp 𝕄} (r : ℕ) (hr : r < 32)
    {inb : ∀ a, (![r, 0] : Fin 2 → ℕ) a + S1x1.size a ≤ S32x1.size a} {h1} {hp} {hx} {hm}
    {k : PUnit → Prog (TpuEff nD τ sig (Elt F) Λ₀ .tc) α} {Q : α → sProp 𝕄}
    (h : iprop(Two (F := F) c A17 (r + 1) ∗ R) ⊢ wpb c (k ⟨⟩) Q) :
    iprop(Two (F := F) c A17 r ∗ R) ⊢ wpb c (smemLoad A17 (Rect.unit (s := S32x1) ![r, 0] S1x1.size inb) h1 hp >>= fun _ =>
      Prog.lift (TpuEff.store A17 (Rect.unit (s := S32x1) ![r, 0] S1x1.size inb) (fun _ => 2#32) Finset.univ hx hm) >>= k) Q := by
  unfold Two
  iintro ⟨⟨%t, %ht, HT⟩, HR⟩
  iapply (ld_win c (m := A17)) $$ HT
  iintro HT
  iapply (st_win c (m := A17)) $$ HT
  iintro HT
  iapply h
  unfold Two
  isplitl [HT]; swap; · iexact HR
  iexists _
  isplitr; swap; · iexact HT
  ipureintro
  intro j hj hjr
  rcases Nat.lt_or_ge j r with hlt | hge
  · exact (tokAt_put_other t r j hj hlt).trans (ht j hj hlt)
  · have : j = r := by omega
    subst this; exact tokAt_put_same t j hj

theorem two_full {A17 : Memref sig .tc .smem S32x1 .i32} :
    Two (F := F) c A17 32 ⊢ (owns (c : Thread nD τ) A17 fullShare (fun _ => 2#32 : S32x1.Idx → Elt F .i32) : sProp 𝕄) := by
  unfold Two
  iintro ⟨%t, %ht, HT⟩
  have e : t = fun _ => 2#32 := eq_of_tokAt (t' := fun _ => 2#32) fun j hj => ht j hj hj
  subst e
  iexact HT

theorem two_zero {A17 : Memref sig .tc .smem S32x1 .i32} {t : S32x1.Idx → Elt F .i32} :
    (owns (c : Thread nD τ) A17 fullShare t : sProp 𝕄) ⊢ Two (F := F) c A17 0 := by
  unfold Two
  iintro H
  iexists t
  isplitr; · ipureintro; intro j _ h; exact absurd h (Nat.not_lt_zero j)
  iexact H

/-! ## The rows' rules with the rest of the state set aside -/

section Wand
variable (A9 : Memref sig .tc .hbm S32000x256 .f32) (A15 : Memref sig .tc .vmem S32x256 .f32)
  (A17 : Memref sig .tc .smem S32x1 .i32) (A23 : DmaSems sig S_)
  (E : Buf (Elt F) (A9.view.loc (c : Thread nD τ))) (t : S32x1.Idx → BitVec 32) (ht : TokOk t)

theorem word_w {α : Type} (r : ℕ) (hr : r < 32) {inb : ∀ a, (![r, 0] : Fin 2 → ℕ) a + S1x1.size a ≤ S32x1.size a}
    {h1} {hp} {P : BitVec 32 → Prop} {d : ∀ v, Decidable (P v)} (hP : P (tokAt t r hr))
    {k : ∀ v, PLift (P v) → Prog (TpuEff nD τ sig (Elt F) Λ₀ .tc) α} {Q : α → sProp 𝕄} :
    (owns (c : Thread nD τ) A17 fullShare t : sProp 𝕄) ⊢ iprop((owns (c : Thread nD τ) A17 fullShare t -∗ wpb c (k (tokAt t r hr) ⟨hP⟩) Q) -∗
      wpb c (smemLoad A17 (Rect.unit (s := S32x1) ![r, 0] S1x1.size inb) h1 hp >>= fun v =>
        Prog.lift (TpuEff.assume (P v) (d v)) >>= k v) Q) := by
  iintro HT Hk
  iapply (ld_win c (m := A17)) $$ HT
  iintro HT
  iapply (wp_assume Variants.none (c : Thread nD τ) none Set.univ hP)
  iapply Hk
  iexact HT

theorem iss_w {α : Type} (r : ℕ) (hr : r < 32) {inbF : ∀ a, (![(tokAt t r hr).toNat, 0] : Fin 2 → ℕ) a + S1x256.size a ≤ S32000x256.size a}
    {hs} {hd} {hc} {k : PUnit → Prog (TpuEff nD τ sig (Elt F) Λ₀ .tc) α} {Q : α → sProp 𝕄} :
    Iss c A9 A15 A17 A23 E t ht r ⊢ iprop((Iss c A9 A15 A17 A23 E t ht (r + 1) -∗ wpb c (k ⟨⟩) Q) -∗ wpb c (Prog.lift (TpuEff.enqueueDma
      ((A9.slice (Rect.unit (s := S32000x256) ![(tokAt t r hr).toNat, 0] S1x256.size inbF) (fun _ => rfl)).squeeze S256 squeezes_S1x256_S256)
      (.here (dstRow A15 r hr)) (.dma A23.sem) hs hd hc) >>= k) Q) := by
  iintro H Hk
  iapply (seqw c (R := fun _ => Iss c A9 A15 A17 A23 E t ht (r + 1))
    (iss_row c A9 A15 A17 A23 E t ht r hr (inbF := inbF) (k := .ret) (ret_intro c (Q := fun _ => Iss c A9 A15 A17 A23 E t ht (r + 1))))) $$ H
  iintro %_ H
  iapply Hk
  iexact H

theorem wordIss_w {α : Type} (r n : ℕ) (hr : r < 32) {inb : ∀ a, (![r, 0] : Fin 2 → ℕ) a + S1x1.size a ≤ S32x1.size a}
    {h1} {hp} {P : BitVec 32 → Prop} {d : ∀ v, Decidable (P v)} (hP : P (tokAt t r hr))
    {k : ∀ v, PLift (P v) → Prog (TpuEff nD τ sig (Elt F) Λ₀ .tc) α} {Q : α → sProp 𝕄} :
    Iss c A9 A15 A17 A23 E t ht n ⊢ iprop((Iss c A9 A15 A17 A23 E t ht n -∗ wpb c (k (tokAt t r hr) ⟨hP⟩) Q) -∗
      wpb c (smemLoad A17 (Rect.unit (s := S32x1) ![r, 0] S1x1.size inb) h1 hp >>= fun v =>
        Prog.lift (TpuEff.assume (P v) (d v)) >>= k v) Q) := by
  unfold Iss
  iintro ⟨HT, HR⟩ Hk
  iapply (word_w c A17 t r hr hP) $$ HT
  iintro HT
  iapply Hk
  isplitl [HT]; · iexact HT
  iexact HR

theorem wordWai_w {α : Type} (r n : ℕ) (hr : r < 32) {inb : ∀ a, (![r, 0] : Fin 2 → ℕ) a + S1x1.size a ≤ S32x1.size a}
    {h1} {hp} {P : BitVec 32 → Prop} {d : ∀ v, Decidable (P v)} (hP : P (tokAt t r hr))
    {k : ∀ v, PLift (P v) → Prog (TpuEff nD τ sig (Elt F) Λ₀ .tc) α} {Q : α → sProp 𝕄} :
    Wai c A9 A15 A17 A23 E t ht n ⊢ iprop((Wai c A9 A15 A17 A23 E t ht n -∗ wpb c (k (tokAt t r hr) ⟨hP⟩) Q) -∗
      wpb c (smemLoad A17 (Rect.unit (s := S32x1) ![r, 0] S1x1.size inb) h1 hp >>= fun v =>
        Prog.lift (TpuEff.assume (P v) (d v)) >>= k v) Q) := by
  unfold Wai
  iintro ⟨HT, HR⟩ Hk
  iapply (word_w c A17 t r hr hP) $$ HT
  iintro HT
  iapply Hk
  isplitl [HT]; · iexact HT
  iexact HR

theorem wai_w {α : Type} (r : ℕ) (hr : r + 1 < 32) (hpos : 0 < rowN A15) {src : Memref sig .tc .hbm S256 .f32}
    {hs} {hd} {k : PUnit → Prog (TpuEff nD τ sig (Elt F) Λ₀ .tc) α} {Q : α → sProp 𝕄} :
    Wai c A9 A15 A17 A23 E t ht r ⊢ iprop((Wai c A9 A15 A17 A23 E t ht (r + 1) -∗ wpb c (k ⟨⟩) Q) -∗
      wpb c (Prog.lift (TpuEff.waitDma2 A23.sem src (dstRow A15 r (Nat.lt_of_succ_lt hr)) hs hd) >>= k) Q) := by
  iintro H Hk
  iapply (seqw c (R := fun _ => Wai c A9 A15 A17 A23 E t ht (r + 1))
    (wai_row c A9 A15 A17 A23 E t ht r hr hpos (k := .ret) (ret_intro c (Q := fun _ => Wai c A9 A15 A17 A23 E t ht (r + 1))))) $$ H
  iintro %_ H
  iapply Hk
  iexact H

theorem waiLast_w {α : Type} (hpos : 0 < rowN A15) {src : Memref sig .tc .hbm S256 .f32}
    {hs} {hd} {k : PUnit → Prog (TpuEff nD τ sig (Elt F) Λ₀ .tc) α} {Q : α → sProp 𝕄} :
    Wai c A9 A15 A17 A23 E t ht 31 ⊢ iprop((Col c A9 A15 A17 A23 E t ht -∗ wpb c (k ⟨⟩) Q) -∗
      wpb c (Prog.lift (TpuEff.waitDma2 A23.sem src (dstRow A15 31 (Nat.lt_succ_self 31)) hs hd) >>= k) Q) := by
  iintro H Hk
  iapply (seqw c (R := fun _ => Col c A9 A15 A17 A23 E t ht)
    (wai_last c A9 A15 A17 A23 E t ht hpos (k := .ret) (ret_intro c (Q := fun _ => Col c A9 A15 A17 A23 E t ht)))) $$ H
  iintro %_ H
  iapply Hk
  iexact H

end Wand

theorem off67_eq : ∀ u : Fin k0_t1_loop.trips, k0_off67 u = ![u.val, 0, 0] := by decide +kernel
theorem off68_eq : ∀ u : Fin k0_t2_loop.trips, k0_off68 u = ![u.val, 0, 0] := by decide +kernel

/-- The next tokens copied to where the row copies read them. -/
theorem tok_copy {α : Type} {A16 : Memref sig .tc .vmem S32x1 .i32} {A17 : Memref sig .tc .smem S32x1 .i32} {A24 : DmaSems sig S_}
    (hpos : 0 < A17.view.ref.dmaCredit S32x1 .i32) {hs} {hd} {hc} {hs'} {hd'} {v w : S32x1.Idx → Elt F .i32}
    {k : PUnit → Prog (TpuEff nD τ sig (Elt F) Λ₀ .tc) α} {Q : α → sProp 𝕄} :
    iprop(owns (c : Thread nD τ) A16 fullShare v ∗ owns (c : Thread nD τ) A17 fullShare w ∗ semVal ((c : Thread nD τ), (SemLoc.dma A24.sem)) 0
      ∗ ∃ W, owes (c : Thread nD τ) 0 W)
    ⊢ iprop((iprop(owns (c : Thread nD τ) A16 fullShare v ∗ owns (c : Thread nD τ) A17 fullShare v ∗ semVal ((c : Thread nD τ), (SemLoc.dma A24.sem)) 0
      ∗ ∃ W, owes (c : Thread nD τ) 0 W) -∗ wpb c (k ⟨⟩) Q) -∗
      wpb c (Prog.lift (TpuEff.enqueueDma A16 (.here A17) (.dma A24.sem) hs hd hc) >>= fun _ =>
        Prog.lift (TpuEff.waitDma2 A24.sem A16 A17 hs' hd') >>= k) Q) := by
  unfold owns
  iintro ⟨⟨%f, %hf, H16⟩, ⟨%g, %hg, H17⟩, Hs, %W, HO⟩ Hk
  imod (Transfers.batch_alloc' (Lvl := ℕ) EC (c : Thread nD τ) () (A17.view.ref.dmaCredit S32x1 .i32)
    (fun _ : Fin 1 => iprop(owns (c : Thread nD τ) A17 fullShare v ∗ owns (c : Thread nD τ) A16 fullShare v)) (sm := .dma A24.sem) (E := Set.univ)) $$ Hs with HB
  iapply (Transfers.wp_dmaBatch EC Variants.none (c : Thread nD τ) none (src := A16) (dst := A17) (q := fullShare) (fs := f) (fd := g)
    (D := fun _ : Fin 1 => iprop(owns (c : Thread nD τ) A17 fullShare v ∗ owns (c : Thread nD τ) A16 fullShare v)) (Sd := A17.view.set) () (A17.view.ref.dmaCredit S32x1 .i32) rfl subset_rfl Nat.zero_lt_one (Nat.zero_le _) (by
      iintro ⟨Hd, Hs⟩
      isplitl [Hd]
      · unfold owns
        iexists _
        isplitr; swap; · iexact Hd
        ipureintro
        exact (View.read_write_univ _ _).trans hf
      · unfold owns
        iexists f
        isplitr; · ipureintro; exact hf
        iexact Hs)) $$ [H16 H17 HB]
  · isplitl [H16]; · iexact H16
    isplitl [H17]; · iexact H17
    iexact HB
  iintro HB
  iapply (Transfers.wp_waitBatchLast EC Variants.none (c : Thread nD τ) none () (N := A17.view.ref.dmaCredit S32x1 .i32) rfl hpos
    (D := fun _ : Fin 1 => iprop(owns (c : Thread nD τ) A17 fullShare v ∗ owns (c : Thread nD τ) A16 fullShare v)) (W := W)
    (u := 0) (by omega)) $$ [HB HO]
  · isplitl [HB]; · iexact HB
    iexact HO
  iintro ⟨HD, HV, HO⟩
  iapply Hk
  ihave HD := (show bigSep (Finset.univ : Finset (Fin 1)) (fun _ => iprop(owns (c : Thread nD τ) A17 fullShare v ∗ owns (c : Thread nD τ) A16 fullShare v) : Fin 1 → sProp 𝕄)
      ⊢ iprop(owns (c : Thread nD τ) A17 fullShare v ∗ owns (c : Thread nD τ) A16 fullShare v) from
    Entails.of_eq (by rw [show (Finset.univ : Finset (Fin 1)) = {0} from rfl, bigSep_singleton])) $$ HD
  icases HD with ⟨H17, H16⟩
  unfold owns
  isplitl [H16]; · iexact H16
  isplitl [H17]; · iexact H17
  isplitl [HV]; · iexact HV
  iexists _; iexact HO

variable (i : grid0.Coords) (arg2 : Memref sig .tc .vmem S6400x768 .bf16) (harg2 : arg2.IsWhole) (arg3 : Memref sig .tc .vmem S5x16x6400 .f32) (harg3 : arg3.IsWhole) (arg4 : Memref sig .tc .vmem S1536x768 .f32) (harg4 : arg4.IsWhole) (arg5 : Memref sig .tc .vmem S1536x512 .f32) (harg5 : arg5.IsWhole) (arg6 : Memref sig .tc .vmem S1x1536 .f32) (harg6 : arg6.IsWhole) (arg7 : Memref sig .tc .vmem S1x1536 .f32) (harg7 : arg7.IsWhole) (arg8 : Memref sig .tc .vmem S16x512 .f32) (harg8 : arg8.IsWhole) (arg9 : Memref sig .tc .hbm S32000x256 .f32) (harg9 : arg9.IsWhole) (arg10 : Memref sig .tc .vmem S16x32 .i32) (harg10 : arg10.IsWhole) (arg11 : Memref sig .tc .vmem S16x32 .f32) (harg11 : arg11.IsWhole) (arg12 : Memref sig .tc .vmem S5x32x6400 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x256 .f32) (harg15 : arg15.IsWhole) (arg16 : Memref sig .tc .vmem S32x1 .i32) (harg16 : arg16.IsWhole) (arg17 : Memref sig .tc .smem S32x1 .i32) (harg17 : arg17.IsWhole) (arg18 : Memref sig .tc .vmem S32x1 .f32) (harg18 : arg18.IsWhole) (arg19 : Memref sig .tc .vmem S32x1 .f32) (harg19 : arg19.IsWhole) (arg20 : Memref sig .tc .vmem S32x32 .i32) (harg20 : arg20.IsWhole) (arg21 : Memref sig .tc .vmem S32x32 .f32) (harg21 : arg21.IsWhole) (arg22 : Memref sig .tc .vmem S32x1 .f32) (harg22 : arg22.IsWhole) (arg23 : DmaSems sig S_) (arg24 : DmaSems sig S_)

theorem part1 {R : sProp 𝕄} :
    iprop(Two (F := F) c arg17 0 ∗ R) ⊢ wpb c (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Two (F := F) c arg17 12 ∗ R)) := by
  rw [k0_part1_eq_skeleton]; unfold k0_part1_skel
  refine two_row c 0 (by decide) ?_
  refine two_row c 1 (by decide) ?_
  refine two_row c 2 (by decide) ?_
  refine two_row c 3 (by decide) ?_
  refine two_row c 4 (by decide) ?_
  refine two_row c 5 (by decide) ?_
  refine two_row c 6 (by decide) ?_
  refine two_row c 7 (by decide) ?_
  refine two_row c 8 (by decide) ?_
  refine two_row c 9 (by decide) ?_
  refine two_row c 10 (by decide) ?_
  refine two_row c 11 (by decide) ?_
  exact ret_intro c (Q := fun _ => iprop(Two (F := F) c arg17 12 ∗ R))

theorem part2 {R : sProp 𝕄} :
    iprop(Two (F := F) c arg17 12 ∗ R) ⊢ wpb c (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Two (F := F) c arg17 24 ∗ R)) := by
  rw [k0_part2_eq_skeleton]; unfold k0_part2_skel
  refine two_row c 12 (by decide) ?_
  refine two_row c 13 (by decide) ?_
  refine two_row c 14 (by decide) ?_
  refine two_row c 15 (by decide) ?_
  refine two_row c 16 (by decide) ?_
  refine two_row c 17 (by decide) ?_
  refine two_row c 18 (by decide) ?_
  refine two_row c 19 (by decide) ?_
  refine two_row c 20 (by decide) ?_
  refine two_row c 21 (by decide) ?_
  refine two_row c 22 (by decide) ?_
  refine two_row c 23 (by decide) ?_
  exact ret_intro c (Q := fun _ => iprop(Two (F := F) c arg17 24 ∗ R))

theorem part3 {ctx : Vec F S16x512 .f32} {h : Vec F S32x512 .f32} {p : Vec F S32x1 .f32} :
    iprop(Two (F := F) c arg17 24 ∗ (owns (c : Thread nD τ) arg8 fullShare ctx ∗ owns (c : Thread nD τ) arg13 fullShare h ∗ owns (c : Thread nD τ) arg18 fullShare p))
    ⊢ wpb c (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun x => iprop(⌜x = k0_pay9⌝ ∗ owns (c : Thread nD τ) arg17 fullShare (fun _ => 2#32 : S32x1.Idx → Elt F .i32) ∗ (owns (c : Thread nD τ) arg8 fullShare ctx ∗ owns (c : Thread nD τ) arg13 fullShare (k0_pay8 ctx) ∗ owns (c : Thread nD τ) arg18 fullShare p))) := by
  rw [k0_part3_eq_skeleton]; unfold k0_part3_skel
  refine two_row c 24 (by decide) ?_
  refine two_row c 25 (by decide) ?_
  refine two_row c 26 (by decide) ?_
  refine two_row c 27 (by decide) ?_
  refine two_row c 28 (by decide) ?_
  refine two_row c 29 (by decide) ?_
  refine two_row c 30 (by decide) ?_
  refine two_row c 31 (by decide) ?_
  iintro ⟨HT, H8, H13, H18⟩
  iapply (ld_full c (m := arg8)) $$ H8; iintro H8
  iapply (ld_full c (m := arg13)) $$ H13; iintro H13
  iapply (st_full c (m := arg13)) $$ H13; iintro H13
  iapply (ld_full c (m := arg18)) $$ H18; iintro H18
  iapply (ret_intro c)
  isplitr; · ipureintro; rfl
  isplitl [HT]; · iapply (two_full c); iexact HT
  isplitl [H8]; · iexact H8
  isplitl [H13]; · iexact H13
  iexact H18

section Gather
variable (E : Buf (Elt F) (arg9.view.loc (c : Thread nD τ))) (t : S32x1.Idx → BitVec 32) (ht : TokOk t)

theorem part10_later {a0 : BitVec 32} (h1 : k0_cond1 i = 1#1) (h2 : ¬ Scalar.cmpi .ne (Scalar.extui (Scalar.cmpi .eq a0 0#32) : BitVec 32) 0#32 = 1#1)
    (h3 : ¬ k0_cond3 i = 1#1) (hpos : 0 < rowN arg15) :
    Wai c arg9 arg15 arg17 arg23 E t ht 0 ⊢ wpb c (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 a0 h1) (fun _ => Wai c arg9 arg15 arg17 arg23 E t ht 4) := by
  rw [k0_part10_eq_skeleton]; unfold k0_part10_skel
  rw [dif_neg h2, dif_neg h3]
  refine word_row c arg17 t 0 (by decide) (fun _ => row_inb _ (ht 0 (by decide))) ?_
  refine wai_row c arg9 arg15 arg17 arg23 E t ht 0 (by decide) hpos ?_
  refine word_row c arg17 t 1 (by decide) (fun _ => row_inb _ (ht 1 (by decide))) ?_
  refine wai_row c arg9 arg15 arg17 arg23 E t ht 1 (by decide) hpos ?_
  refine word_row c arg17 t 2 (by decide) (fun _ => row_inb _ (ht 2 (by decide))) ?_
  refine wai_row c arg9 arg15 arg17 arg23 E t ht 2 (by decide) hpos ?_
  refine word_row c arg17 t 3 (by decide) (fun _ => row_inb _ (ht 3 (by decide))) ?_
  refine wai_row c arg9 arg15 arg17 arg23 E t ht 3 (by decide) hpos ?_
  exact ret_intro c (Q := fun _ => Wai c arg9 arg15 arg17 arg23 E t ht 4)

theorem issToWai {P : sProp 𝕄} : iprop(Iss c arg9 arg15 arg17 arg23 E t ht 32 ∗ ∃ W, owes (c : Thread nD τ) 0 W) ⊢ iprop((Wai c arg9 arg15 arg17 arg23 E t ht 0 -∗ P) -∗ P) := by
  unfold Iss Wai
  iintro ⟨⟨HT, HP, HB⟩, HO⟩ Hk
  iapply Hk
  isplitl [HT]; · iexact HT
  isplitl [HB]
  · rw [Nat.zero_mul]; iexact HB
  · iexact HO

theorem part10_first {a0 : BitVec 32} (h1 : k0_cond1 i = 1#1) (h2 : Scalar.cmpi .ne (Scalar.extui (Scalar.cmpi .eq a0 0#32) : BitVec 32) 0#32 = 1#1)
    (h3 : k0_cond3 i = 1#1) (hpos : 0 < rowN arg15) (ht : TokOk (fun _ => 2#32))
    {ctx : Vec F S16x512 .f32} {t : S32x1.Idx → Elt F .i32} {h : Vec F S32x512 .f32} {p q : Vec F S32x1 .f32} {th : Vec F S32x32 .i32} {sh : Vec F S32x32 .f32} :
    iprop(owns (c : Thread nD τ) arg17 fullShare t ∗ bigSep (Transfers.pending 0) (Give c arg9 arg15 E (fun _ => 2#32) ht)
      ∗ Transfers.Batch EC (c : Thread nD τ) (.dma arg23.sem) () (rowN arg15) (Deliv c arg9 arg15 E (fun _ => 2#32) ht) 0 0
      ∗ (∃ W, owes (c : Thread nD τ) 0 W)
      ∗ owns (c : Thread nD τ) arg8 fullShare ctx ∗ owns (c : Thread nD τ) arg13 fullShare h ∗ owns (c : Thread nD τ) arg18 fullShare p ∗ owns (c : Thread nD τ) arg19 fullShare q ∗ owns (c : Thread nD τ) arg20 fullShare th ∗ owns (c : Thread nD τ) arg21 fullShare sh)
    ⊢ wpb c (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 a0 h1) (fun _ => iprop(Wai c arg9 arg15 arg17 arg23 E (fun _ => 2#32) ht 4
      ∗ owns (c : Thread nD τ) arg8 fullShare ctx ∗ owns (c : Thread nD τ) arg13 fullShare (st0 ctx).h ∗ owns (c : Thread nD τ) arg18 fullShare (st0 ctx).prob ∗ owns (c : Thread nD τ) arg19 fullShare (st0 ctx).fin ∗ owns (c : Thread nD τ) arg20 fullShare (st0 ctx).th ∗ owns (c : Thread nD τ) arg21 fullShare (st0 ctx).sh)) := by
  rw [k0_part10_eq_skeleton]; unfold k0_part10_skel
  rw [dif_pos h2, dif_pos h3]
  iintro ⟨H17, HP, HB, HO, H8, H13, H18, H19, H20, H21⟩
  iapply (seqw c (part1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 (R := iprop(emp)))) $$ [H17]
  · isplitl [H17]; · iapply (two_zero c); iexact H17
    iempintro
  iintro %_ ⟨HT, -⟩
  iapply (seqw c (part2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 (R := iprop(emp)))) $$ [HT]
  · isplitl [HT]; · iexact HT
    iempintro
  iintro %_ ⟨HT, -⟩
  iapply (seqw c (part3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24)) $$ [HT H8 H13 H18]
  · isplitl [HT]; · iexact HT
    isplitl [H8]; · iexact H8
    isplitl [H13]; · iexact H13
    iexact H18
  iintro %x ⟨%hx, H17, H8, H13, H18⟩
  subst hx
  iapply (st_full c (m := arg18)) $$ H18; iintro H18
  iapply (ld_full c (m := arg19)) $$ H19; iintro H19
  iapply (st_full c (m := arg19)) $$ H19; iintro H19
  iapply (ld_full c (m := arg20)) $$ H20; iintro H20
  iapply (st_full c (m := arg20)) $$ H20; iintro H20
  iapply (ld_full c (m := arg21)) $$ H21; iintro H21
  iapply (st_full c (m := arg21)) $$ H21; iintro H21
  iapply (seqw c (part4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) ht h1 h3)) $$ [H17 HP HB]
  · unfold Iss
    isplitl [H17]; · iexact H17
    isplitl [HP]; · iexact HP
    iexact HB
  iintro %_ HI
  iapply (seqw c (part5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) ht h1 h3)) $$ HI
  iintro %_ HI
  iapply (seqw c (part6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) ht h1 h3)) $$ HI
  iintro %_ HI
  iapply (seqw c (part7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) ht h1 h3)) $$ HI
  iintro %_ HI
  iapply (seqw c (part8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) ht h1 h3)) $$ HI
  iintro %_ HI
  iapply (seqw c (part9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) ht h1 h3)) $$ HI
  iintro %_ HI
  iapply (wordIss_w c arg9 arg15 arg17 arg23 E (fun _ => 2#32) ht 30 30 (by decide) (fun _ _ => row_inb _ (ht 30 (by decide)))) $$ HI
  iintro HI
  iapply (iss_w c arg9 arg15 arg17 arg23 E (fun _ => 2#32) ht 30 (by decide)) $$ HI
  iintro HI
  iapply (wordIss_w c arg9 arg15 arg17 arg23 E (fun _ => 2#32) ht 31 31 (by decide) (fun _ _ => row_inb _ (ht 31 (by decide)))) $$ HI
  iintro HI
  iapply (iss_w c arg9 arg15 arg17 arg23 E (fun _ => 2#32) ht 31 (by decide)) $$ HI
  iintro HI
  iapply (issToWai c arg9 arg15 arg17 arg23 E (fun _ => 2#32) ht) $$ [HI HO]
  · isplitl [HI]; · iexact HI
    iexact HO
  iintro HI
  iapply (wordWai_w c arg9 arg15 arg17 arg23 E (fun _ => 2#32) ht 0 0 (by decide) (fun _ => row_inb _ (ht 0 (by decide)))) $$ HI
  iintro HI
  iapply (wai_w c arg9 arg15 arg17 arg23 E (fun _ => 2#32) ht 0 (by decide) hpos) $$ HI
  iintro HI
  iapply (wordWai_w c arg9 arg15 arg17 arg23 E (fun _ => 2#32) ht 1 1 (by decide) (fun _ => row_inb _ (ht 1 (by decide)))) $$ HI
  iintro HI
  iapply (wai_w c arg9 arg15 arg17 arg23 E (fun _ => 2#32) ht 1 (by decide) hpos) $$ HI
  iintro HI
  iapply (wordWai_w c arg9 arg15 arg17 arg23 E (fun _ => 2#32) ht 2 2 (by decide) (fun _ => row_inb _ (ht 2 (by decide)))) $$ HI
  iintro HI
  iapply (wai_w c arg9 arg15 arg17 arg23 E (fun _ => 2#32) ht 2 (by decide) hpos) $$ HI
  iintro HI
  iapply (wordWai_w c arg9 arg15 arg17 arg23 E (fun _ => 2#32) ht 3 3 (by decide) (fun _ => row_inb _ (ht 3 (by decide)))) $$ HI
  iintro HI
  iapply (wai_w c arg9 arg15 arg17 arg23 E (fun _ => 2#32) ht 3 (by decide) hpos) $$ HI
  iintro HI
  iapply (ret_intro c (x := PUnit.unit))
  isplitl [HI]; · iexact HI
  isplitl [H8]; · iexact H8
  isplitl [H13]; · iexact H13
  isplitl [H18]; · iexact H18
  isplitl [H19]; · iexact H19
  isplitl [H20]; · iexact H20
  iexact H21

theorem part16 (h1 : k0_cond1 i = 1#1) (hpos : 0 < rowN arg15) {R P : sProp 𝕄} {e : Vec F S32x256 .f32}
    (hJ : iprop(Col c arg9 arg15 arg17 arg23 E t ht ∗ R) ⊢ iprop(P ∗ owns (c : Thread nD τ) arg15 fullShare e))
    {ctx : Vec F S16x512 .f32} {h : Vec F S32x512 .f32} {wih : Vec F S1536x768 .f32} {bih : Vec F S1x1536 .f32} :
    iprop(Wai c arg9 arg15 arg17 arg23 E t ht 29 ∗ R ∗ owns (c : Thread nD τ) arg8 fullShare ctx ∗ owns (c : Thread nD τ) arg13 fullShare h ∗ owns (c : Thread nD τ) arg4 fullShare wih ∗ owns (c : Thread nD τ) arg6 fullShare bih)
    ⊢ wpb c (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h1) (fun x => iprop(⌜x = ⟨h, k0_pay13 ctx ctx e wih bih⟩⌝ ∗ P ∗ owns (c : Thread nD τ) arg15 fullShare e ∗ owns (c : Thread nD τ) arg8 fullShare ctx ∗ owns (c : Thread nD τ) arg13 fullShare h ∗ owns (c : Thread nD τ) arg4 fullShare wih ∗ owns (c : Thread nD τ) arg6 fullShare bih)) := by
  rw [k0_part16_eq_skeleton]; unfold k0_part16_skel
  iintro ⟨HI, HR, H8, H13, H4, H6⟩
  iapply (wordWai_w c arg9 arg15 arg17 arg23 E t ht 29 29 (by decide) (fun _ => row_inb _ (ht 29 (by decide)))) $$ HI
  iintro HI
  iapply (wai_w c arg9 arg15 arg17 arg23 E t ht 29 (by decide) hpos) $$ HI
  iintro HI
  iapply (wordWai_w c arg9 arg15 arg17 arg23 E t ht 30 30 (by decide) (fun _ => row_inb _ (ht 30 (by decide)))) $$ HI
  iintro HI
  iapply (wai_w c arg9 arg15 arg17 arg23 E t ht 30 (by decide) hpos) $$ HI
  iintro HI
  iapply (wordWai_w c arg9 arg15 arg17 arg23 E t ht 31 31 (by decide) (fun _ => row_inb _ (ht 31 (by decide)))) $$ HI
  iintro HI
  iapply (waiLast_w c arg9 arg15 arg17 arg23 E t ht hpos) $$ HI
  iintro HI
  ihave HJ := hJ $$ [HI HR]
  · isplitl [HI]; · iexact HI
    iexact HR
  icases HJ with ⟨HP, H15⟩
  iapply (ld_full c (m := arg8)) $$ H8; iintro H8
  iapply (ld_full c (m := arg8)) $$ H8; iintro H8
  iapply (ld_full c (m := arg15)) $$ H15; iintro H15
  iapply (ld_full c (m := arg13)) $$ H13; iintro H13
  iapply (ld_full c (m := arg4)) $$ H4; iintro H4
  iapply (ld_full c (m := arg6)) $$ H6; iintro H6
  iapply (ret_intro c)
  isplitr; · ipureintro; rfl
  isplitl [HP]; · iexact HP
  isplitl [H15]; · iexact H15
  isplitl [H8]; · iexact H8
  isplitl [H13]; · iexact H13
  isplitl [H4]; · iexact H4
  iexact H6
end Gather

/-! ## The two loops over the logit blocks -/

theorem t1_loop (h4 : k0_cond4 i = 1#1) (m : Vec F S32x1 .f32) (blk : Fin k0_t1_loop.trips → Vec F S1x32x6400 .f32) :
    iprop(∃ lg : S5x32x6400.Idx → Elt F .f32, ⌜∀ u, VecWindow.window lg (k0_off67 u) S1x32x6400.size (k0_off67_inb i u h4) = blk u⌝ ∗ owns (c : Thread nD τ) arg12 fullShare lg)
    ⊢ wpb c (Scf.Loop.for k0_t1_loop (k0_t1_ok i h4) (k0_pay22 (F := F)) (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 m))
      (fun acc => iprop(⌜acc = sumTo m blk k0_t1_loop.trips⌝ ∗
        ∃ lg : S5x32x6400.Idx → Elt F .f32, ⌜∀ u, VecWindow.window lg (k0_off67 u) S1x32x6400.size (k0_off67_inb i u h4) = k0_pay24 m (blk u)⌝ ∗ owns (c : Thread nD τ) arg12 fullShare lg)) := by
  iintro ⟨%lg, %hlg, H⟩
  iapply (Scf.wp_for frame (wpE (defs₀ (F := F)) Variants.none (c : Thread nD τ) none) Set.univ
    k0_t1_loop.lb k0_t1_loop.ub k0_t1_loop.st (k0_t1_ok i h4) (k0_pay22 (F := F)) (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 m)
    (fun k acc => iprop(⌜acc = sumTo m blk k⌝ ∗ ∃ lg : S5x32x6400.Idx → Elt F .f32, ⌜∀ u : Fin k0_t1_loop.trips,
      (u.val < k → VecWindow.window lg (k0_off67 u) S1x32x6400.size (k0_off67_inb i u h4) = k0_pay24 m (blk u))
      ∧ (k ≤ u.val → VecWindow.window lg (k0_off67 u) S1x32x6400.size (k0_off67_inb i u h4) = blk u)⌝ ∗ owns (c : Thread nD τ) arg12 fullShare lg)) ?_)
  · intro k acc
    unfold k0_t1_body
    iintro ⟨%ha, %lg, %hl, H⟩
    subst ha
    iapply (ld_win c (m := arg12)) $$ H; iintro H
    iapply (ld_win c (m := arg12)) $$ H; iintro H
    iapply (st_win c (m := arg12)) $$ H; iintro H
    iapply (ret_intro c)
    have hk := (hl k).2 le_rfl
    isplitr
    · ipureintro
      rw [hk]
      show _ = sumTo m blk (k.val + 1)
      rw [sumTo, dif_pos k.isLt]
    iexists _
    isplitr; swap; · iexact H
    ipureintro
    intro u
    rw [hk]
    by_cases e : u = k
    · subst e
      exact ⟨fun _ => VecWindow.window_put_same _ _ _ _ _, fun h => absurd h (by omega)⟩
    · have hne : u.val ≠ k.val := fun h => e (Fin.ext h)
      have hd := VecWindow.window_put_of_disjoint lg (k0_off67 k) S1x32x6400.size (k0_off67 u) S1x32x6400.size (k0_off67_inb i u h4) (k0_pay24 m (blk k)) (0 : Fin 3)
        (by rw [off67_eq u, off67_eq k]; show u.val + 1 ≤ k.val ∨ k.val + 1 ≤ u.val; omega)
      exact ⟨fun h => hd.trans ((hl u).1 (by omega)), fun h => hd.trans ((hl u).2 (by omega))⟩
  · isplitl [H]
    · isplitr; · ipureintro; rfl
      iexists lg
      isplitr; · ipureintro; exact fun u => ⟨fun h => absurd h (Nat.not_lt_zero _), fun _ => hlg u⟩
      iexact H
    · iintro %acc ⟨%ha, %lg', %hl, H⟩
      isplitr; · ipureintro; exact ha
      iexists lg'
      isplitr; · ipureintro; exact fun u => (hl u).1 u.isLt
      iexact H

theorem t2_loop (h4 : k0_cond4 i = 1#1) (prob fin : Vec F S32x1 .f32) (s : FVec F S32x1 .f32) (eb : Fin k0_t2_loop.trips → Vec F S1x32x6400 .f32) :
    iprop(∃ lg : S5x32x6400.Idx → Elt F .f32, ⌜∀ u, VecWindow.window lg (k0_off67 u) S1x32x6400.size (k0_off67_inb i u h4) = eb u⌝ ∗ owns (c : Thread nD τ) arg12 fullShare lg)
    ⊢ wpb c (Scf.Loop.for k0_t2_loop (k0_t2_ok i h4) (k0_pay26 (F := F), k0_pay27, k0_pay28 (F := F), k0_pay29)
        (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 prob fin s (Scalar.ofBits .f32 0xFF800000#32)))
      (fun acc => iprop(⌜acc = selTo prob fin s eb k0_t2_loop.trips⌝ ∗ ∃ lg, owns (c : Thread nD τ) arg12 fullShare lg)) := by
  iintro ⟨%lg, %hlg, H⟩
  iapply (Scf.wp_for frame (wpE (defs₀ (F := F)) Variants.none (c : Thread nD τ) none) Set.univ
    k0_t2_loop.lb k0_t2_loop.ub k0_t2_loop.st (k0_t2_ok i h4) (k0_pay26 (F := F), k0_pay27, k0_pay28 (F := F), k0_pay29)
    (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 prob fin s (Scalar.ofBits .f32 0xFF800000#32))
    (fun k acc => iprop(⌜acc = selTo prob fin s eb k⌝ ∗ owns (c : Thread nD τ) arg12 fullShare lg)) ?_)
  · intro k acc
    obtain ⟨a, b, d, e⟩ := acc
    unfold k0_t2_body
    rw [k0_part17_eq_skeleton]; unfold k0_part17_skel
    iintro ⟨%ha, H⟩
    iapply (ld_win c (m := arg12)) $$ H; iintro H
    iapply (ret_intro c)
    isplitr; swap; · iexact H
    ipureintro
    rw [show VecWindow.window lg (k0_off68 k) S1x32x6400.size (k0_off68_inb i k h4) = eb k from hlg k]
    show _ = selTo prob fin s eb (k.val + 1)
    rw [selTo, dif_pos k.isLt, ← ha]
    rfl
  · isplitl [H]
    · isplitr; · ipureintro; rfl
      iexact H
    · iintro %acc ⟨%ha, H⟩
      isplitr; · ipureintro; exact ha
      iexists lg
      iexact H

theorem part24 (h4 : k0_cond4 i = 1#1) {prob fin m : Vec F S32x1 .f32} {blk : Fin k0_t1_loop.trips → Vec F S1x32x6400 .f32} :
    iprop((∃ lg : S5x32x6400.Idx → Elt F .f32, ⌜∀ u, VecWindow.window lg (k0_off67 u) S1x32x6400.size (k0_off67_inb i u h4) = blk u⌝ ∗ owns (c : Thread nD τ) arg12 fullShare lg)
      ∗ owns (c : Thread nD τ) arg18 fullShare prob ∗ owns (c : Thread nD τ) arg19 fullShare fin ∗ owns (c : Thread nD τ) arg22 fullShare m)
    ⊢ wpb c (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4) (fun x => iprop(⌜x = ⟨fin, x55 (selOf prob fin m blk), x56 (selOf prob fin m blk), x62 (selOf prob fin m blk), x63 (selOf prob fin m blk), x65 (selOf prob fin m blk)⟩⌝
      ∗ (∃ lg, owns (c : Thread nD τ) arg12 fullShare lg) ∗ owns (c : Thread nD τ) arg18 fullShare prob ∗ owns (c : Thread nD τ) arg19 fullShare fin ∗ owns (c : Thread nD τ) arg22 fullShare m)) := by
  rw [k0_part24_eq_skeleton]; unfold k0_part24_skel
  iintro ⟨HL, H18, H19, H22⟩
  iapply (ld_full c (m := arg18)) $$ H18; iintro H18
  iapply (ld_full c (m := arg19)) $$ H19; iintro H19
  iapply (ld_full c (m := arg22)) $$ H22; iintro H22
  iapply (seqw c (t1_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 m blk)) $$ HL
  iintro %s ⟨%hs, HL⟩
  subst hs
  iapply (seqw c (t2_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 prob fin (sumTo m blk k0_t1_loop.trips) (fun u => k0_pay24 m (blk u)))) $$ HL
  iintro %q ⟨%hq, HL⟩
  have hq' : q = selOf prob fin m blk := hq
  subst hq'
  iapply (ret_intro c)
  isplitr; · ipureintro; rfl
  isplitl [HL]; · iexact HL
  isplitl [H18]; · iexact H18
  isplitl [H19]; · iexact H19
  iexact H22

theorem part25 {a0 : BitVec 32} {fin : Vec F S32x1 .f32} {v56 v63 : IVec S16x1 32} {v65 : IVec S16x1 1} {th : Vec F S32x32 .i32} {sh : Vec F S32x32 .f32} {nh : Vec F S32x512 .f32} :
    iprop(owns (c : Thread nD τ) arg20 fullShare th ∗ owns (c : Thread nD τ) arg21 fullShare sh ∗ owns (c : Thread nD τ) arg14 fullShare nh)
    ⊢ wpb c (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 a0 fin v56 v63 v65) (fun x => iprop(⌜x = ⟨k0_pay51 v56 v65, k0_pay52 v63, k0_pay53 v63, k0_pay54 fin, k0_pay55 fin,
        topHalf (n := 32) th, botHalf (n := 32) th, topHalf (n := 32) sh, botHalf (n := 32) sh, topHalf (n := 512) nh, botHalf (n := 512) nh,
        iota .tc S16x32 32 [1] iota_S16x32_d1_w32, Scalar.addi a0 1#32, k0_pay57 fin v65, k0_pay58 v65 (topHalf (n := 32) sh) (botHalf (n := 32) sh),
        k0_pay59 v65 (topHalf (n := 512) nh) (botHalf (n := 512) nh), k0_pay60 a0 fin v56 v65 (topHalf (n := 32) th) (botHalf (n := 32) th), k0_pay61 a0⟩⌝
      ∗ owns (c : Thread nD τ) arg20 fullShare th ∗ owns (c : Thread nD τ) arg21 fullShare sh ∗ owns (c : Thread nD τ) arg14 fullShare nh)) := by
  rw [k0_part25_eq_skeleton]; unfold k0_part25_skel
  iintro ⟨H20, H21, H14⟩
  iapply (ld_win c (m := arg20)) $$ H20; iintro H20
  iapply (ld_win c (m := arg20)) $$ H20; iintro H20
  iapply (ld_win c (m := arg21)) $$ H21; iintro H21
  iapply (ld_win c (m := arg21)) $$ H21; iintro H21
  iapply (ld_win c (m := arg14)) $$ H14; iintro H14
  iapply (ld_win c (m := arg14)) $$ H14; iintro H14
  iapply (ret_intro c)
  isplitr; · ipureintro; rfl
  isplitl [H20]; · iexact H20
  isplitl [H21]; · iexact H21
  iexact H14

theorem part26 {v55 v62 : FVec F S16x1 .f32} {v69 v72 v75 : IVec S16x1 32} {v76 v77 : FVec F S16x1 .f32} {v78 v79 : Vec F S16x32 .i32} {v80 v81 : Vec F S16x32 .f32}
    {v82 v83 : Vec F S16x512 .f32} {v84 : IVec S16x32 32} {v85 : BitVec 32} {v88 : FVec F S16x1 .f32} {v94 : Vec F S16x32 .f32} {v107 : IVec S16x32 32} {h : Vec F S32x512 .f32} :
    (owns (c : Thread nD τ) arg13 fullShare h : sProp 𝕄)
    ⊢ wpb c (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 v55 v62 v69 v72 v75 v76 v77 v78 v79 v80 v81 v82 v83 v84 v85 v88 v94 v107) (fun x => iprop(⌜x = ⟨k0_pay62 v55 v84 v88 v94 v107, k0_pay63 v69 v88, k0_pay66 v72 v82 v83,
        k0_pay67 v72 v75 v76 v77 v78 v79 v84 v85, k0_pay68 v62 v72 v76 v77 v80 v81 v84 v85, k0_pay69 v72 v75 v76 v77⟩⌝ ∗ owns (c : Thread nD τ) arg13 fullShare h)) := by
  rw [k0_part26_eq_skeleton]; unfold k0_part26_skel
  iintro H13
  iapply (ld_win c (m := arg13)) $$ H13; iintro H13
  iapply (ret_intro c)
  isplitr; · ipureintro; rfl
  iexact H13

section Gather
variable (E : Buf (Elt F) (arg9.view.loc (c : Thread nD τ))) (t : S32x1.Idx → BitVec 32) (ht : TokOk t)

theorem part18 (h4 : k0_cond4 i = 1#1) (h5 : k0_cond5 i = 1#1) (hpos : 0 < arg17.view.ref.dmaCredit S32x1 .i32) {w : S32x1.Idx → Elt F .i32} :
    iprop(owns (c : Thread nD τ) arg16 fullShare t ∗ owns (c : Thread nD τ) arg17 fullShare w ∗ semVal ((c : Thread nD τ), (SemLoc.dma arg24.sem)) 0 ∗ (∃ W, owes (c : Thread nD τ) 0 W)
      ∗ bigSep (Transfers.pending 0) (Give c arg9 arg15 E t ht) ∗ Transfers.Batch EC (c : Thread nD τ) (.dma arg23.sem) () (rowN arg15) (Deliv c arg9 arg15 E t ht) 0 0)
    ⊢ wpb c (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 h5) (fun x => iprop(⌜x.1 = tokAt t 4 (by decide)⌝ ∗ Iss c arg9 arg15 arg17 arg23 E t ht 4
      ∗ owns (c : Thread nD τ) arg16 fullShare t ∗ semVal ((c : Thread nD τ), (SemLoc.dma arg24.sem)) 0 ∗ (∃ W, owes (c : Thread nD τ) 0 W))) := by
  rw [k0_part18_eq_skeleton]; unfold k0_part18_skel
  iintro ⟨H16, H17, Hs, HO, HP, HB⟩
  iapply (tok_copy c hpos) $$ [H16 H17 Hs HO]
  · isplitl [H16]; · iexact H16
    isplitl [H17]; · iexact H17
    isplitl [Hs]; · iexact Hs
    iexact HO
  iintro ⟨H16, H17, Hs, HO⟩
  iapply (show iprop(owns (c : Thread nD τ) arg17 fullShare t ∗ bigSep (Transfers.pending 0) (Give c arg9 arg15 E t ht) ∗ Transfers.Batch EC (c : Thread nD τ) (.dma arg23.sem) () (rowN arg15) (Deliv c arg9 arg15 E t ht) 0 0)
      ⊢ iprop((Iss c arg9 arg15 arg17 arg23 E t ht 0 -∗ wpb c _ _) -∗ wpb c _ _) from by
    iintro H Hk; iapply Hk; unfold Iss; iexact H) $$ [H17 HP HB]
  · isplitl [H17]; · iexact H17
    isplitl [HP]; · iexact HP
    iexact HB
  iintro HI
  iapply (wordIss_w c arg9 arg15 arg17 arg23 E t ht 0 0 (by decide) (fun _ _ => row_inb _ (ht 0 (by decide)))) $$ HI
  iintro HI
  iapply (iss_w c arg9 arg15 arg17 arg23 E t ht 0 (by decide)) $$ HI
  iintro HI
  iapply (wordIss_w c arg9 arg15 arg17 arg23 E t ht 1 1 (by decide) (fun _ _ => row_inb _ (ht 1 (by decide)))) $$ HI
  iintro HI
  iapply (iss_w c arg9 arg15 arg17 arg23 E t ht 1 (by decide)) $$ HI
  iintro HI
  iapply (wordIss_w c arg9 arg15 arg17 arg23 E t ht 2 2 (by decide) (fun _ _ => row_inb _ (ht 2 (by decide)))) $$ HI
  iintro HI
  iapply (iss_w c arg9 arg15 arg17 arg23 E t ht 2 (by decide)) $$ HI
  iintro HI
  iapply (wordIss_w c arg9 arg15 arg17 arg23 E t ht 3 3 (by decide) (fun _ _ => row_inb _ (ht 3 (by decide)))) $$ HI
  iintro HI
  iapply (iss_w c arg9 arg15 arg17 arg23 E t ht 3 (by decide)) $$ HI
  iintro HI
  iapply (wordIss_w c arg9 arg15 arg17 arg23 E t ht 4 4 (by decide) (fun _ _ => row_inb _ (ht 4 (by decide)))) $$ HI
  iintro HI
  iapply (ret_intro c)
  isplitr; · ipureintro; rfl
  isplitl [HI]; · iexact HI
  isplitl [H16]; · iexact H16
  isplitl [Hs]; · iexact Hs
  iexact HO

theorem part27_last {a0 : BitVec 32} (h4 : k0_cond4 i = 1#1) (h5 : ¬ k0_cond5 i = 1#1) {v55 v62 : FVec F S16x1 .f32} {v69 v75 : IVec S16x1 32} {v97 : Vec F S16x512 .f32} {v106 : IVec S16x32 32} {v115 : FVec F S16x32 .f32} {v119 : FVec F S16x1 .f32} {v131 : Vec F S16x512 .f32} {v140 : IVec S16x32 32} {v149 : FVec F S16x32 .f32} {v153 : FVec F S16x1 .f32} {h : Vec F S32x512 .f32} {th : Vec F S32x32 .i32} {sh : Vec F S32x32 .f32} {fin prob : Vec F S32x1 .f32} {tk : Vec F S32x1 .i32} :
    iprop(owns (c : Thread nD τ) arg13 fullShare h ∗ owns (c : Thread nD τ) arg20 fullShare th ∗ owns (c : Thread nD τ) arg21 fullShare sh ∗ owns (c : Thread nD τ) arg19 fullShare fin ∗ owns (c : Thread nD τ) arg18 fullShare prob ∗ owns (c : Thread nD τ) arg16 fullShare tk)
    ⊢ wpb c (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 a0 h4 v55 v62 v69 v75 v97 v106 v115 v119 v131 v140 v149 v153) (fun _ => iprop(owns (c : Thread nD τ) arg13 fullShare (halves (n := 512) h (k0_pay70 v97) (k0_pay71 v131)) ∗ owns (c : Thread nD τ) arg20 fullShare (halves (n := 32) th (k0_pay72 v106) (k0_pay73 v140)) ∗ owns (c : Thread nD τ) arg21 fullShare (halves (n := 32) sh (k0_pay74 v115) (k0_pay75 v149)) ∗ owns (c : Thread nD τ) arg19 fullShare (k0_pay76 v119 v153) ∗ owns (c : Thread nD τ) arg18 fullShare (k0_pay77 v55 v62) ∗ owns (c : Thread nD τ) arg16 fullShare (k0_pay78 v69 v75))) := by
  rw [k0_part27_eq_skeleton]; unfold k0_part27_skel
  rw [dif_neg h5]
  iintro ⟨H13, H20, H21, H19, H18, H16⟩
  iapply (st_win c (m := arg13)) $$ H13; iintro H13
  iapply (ld_win c (m := arg13)) $$ H13; iintro H13
  iapply (st_win c (m := arg13)) $$ H13; iintro H13
  iapply (ld_win c (m := arg20)) $$ H20; iintro H20
  iapply (st_win c (m := arg20)) $$ H20; iintro H20
  iapply (ld_win c (m := arg20)) $$ H20; iintro H20
  iapply (st_win c (m := arg20)) $$ H20; iintro H20
  iapply (ld_win c (m := arg21)) $$ H21; iintro H21
  iapply (st_win c (m := arg21)) $$ H21; iintro H21
  iapply (ld_win c (m := arg21)) $$ H21; iintro H21
  iapply (st_win c (m := arg21)) $$ H21; iintro H21
  iapply (ld_full c (m := arg19)) $$ H19; iintro H19
  iapply (st_full c (m := arg19)) $$ H19; iintro H19
  iapply (ld_full c (m := arg18)) $$ H18; iintro H18
  iapply (st_full c (m := arg18)) $$ H18; iintro H18
  iapply (ld_full c (m := arg16)) $$ H16; iintro H16
  iapply (st_full c (m := arg16)) $$ H16; iintro H16
  iapply (ret_intro c (x := 30#32))
  isplitl [H13]; · iexact H13
  isplitl [H20]; · iexact H20
  isplitl [H21]; · iexact H21
  isplitl [H19]; · iexact H19
  isplitl [H18]; · iexact H18
  iexact H16

theorem part27_more {a0 : BitVec 32} (h4 : k0_cond4 i = 1#1) (h5 : k0_cond5 i = 1#1) (hpos : 0 < arg17.view.ref.dmaCredit S32x1 .i32) {v55 v62 : FVec F S16x1 .f32} {v69 v75 : IVec S16x1 32} {v97 : Vec F S16x512 .f32} {v106 : IVec S16x32 32} {v115 : FVec F S16x32 .f32} {v119 : FVec F S16x1 .f32} {v131 : Vec F S16x512 .f32} {v140 : IVec S16x32 32} {v149 : FVec F S16x32 .f32} {v153 : FVec F S16x1 .f32} {h : Vec F S32x512 .f32} {th : Vec F S32x32 .i32} {sh : Vec F S32x32 .f32} {fin prob : Vec F S32x1 .f32} {tk : Vec F S32x1 .i32}
    {w : S32x1.Idx → Elt F .i32} (ht : TokOk (k0_pay78 v69 v75)) :
    iprop((owns (c : Thread nD τ) arg13 fullShare h ∗ owns (c : Thread nD τ) arg20 fullShare th ∗ owns (c : Thread nD τ) arg21 fullShare sh ∗ owns (c : Thread nD τ) arg19 fullShare fin ∗ owns (c : Thread nD τ) arg18 fullShare prob ∗ owns (c : Thread nD τ) arg16 fullShare tk) ∗ owns (c : Thread nD τ) arg17 fullShare w ∗ semVal ((c : Thread nD τ), (SemLoc.dma arg24.sem)) 0 ∗ (∃ W, owes (c : Thread nD τ) 0 W)
      ∗ bigSep (Transfers.pending 0) (Give c arg9 arg15 E (k0_pay78 v69 v75) ht) ∗ Transfers.Batch EC (c : Thread nD τ) (.dma arg23.sem) () (rowN arg15) (Deliv c arg9 arg15 E (k0_pay78 v69 v75) ht) 0 0)
    ⊢ wpb c (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 a0 h4 v55 v62 v69 v75 v97 v106 v115 v119 v131 v140 v149 v153) (fun _ => iprop((owns (c : Thread nD τ) arg13 fullShare (halves (n := 512) h (k0_pay70 v97) (k0_pay71 v131)) ∗ owns (c : Thread nD τ) arg20 fullShare (halves (n := 32) th (k0_pay72 v106) (k0_pay73 v140)) ∗ owns (c : Thread nD τ) arg21 fullShare (halves (n := 32) sh (k0_pay74 v115) (k0_pay75 v149)) ∗ owns (c : Thread nD τ) arg19 fullShare (k0_pay76 v119 v153) ∗ owns (c : Thread nD τ) arg18 fullShare (k0_pay77 v55 v62) ∗ owns (c : Thread nD τ) arg16 fullShare (k0_pay78 v69 v75))
      ∗ Iss c arg9 arg15 arg17 arg23 E (k0_pay78 v69 v75) ht 32 ∗ semVal ((c : Thread nD τ), (SemLoc.dma arg24.sem)) 0 ∗ (∃ W, owes (c : Thread nD τ) 0 W))) := by
  rw [k0_part27_eq_skeleton]; unfold k0_part27_skel
  rw [dif_pos h5]
  iintro ⟨⟨H13, H20, H21, H19, H18, H16⟩, H17, Hs, HO, HP, HB⟩
  iapply (st_win c (m := arg13)) $$ H13; iintro H13
  iapply (ld_win c (m := arg13)) $$ H13; iintro H13
  iapply (st_win c (m := arg13)) $$ H13; iintro H13
  iapply (ld_win c (m := arg20)) $$ H20; iintro H20
  iapply (st_win c (m := arg20)) $$ H20; iintro H20
  iapply (ld_win c (m := arg20)) $$ H20; iintro H20
  iapply (st_win c (m := arg20)) $$ H20; iintro H20
  iapply (ld_win c (m := arg21)) $$ H21; iintro H21
  iapply (st_win c (m := arg21)) $$ H21; iintro H21
  iapply (ld_win c (m := arg21)) $$ H21; iintro H21
  iapply (st_win c (m := arg21)) $$ H21; iintro H21
  iapply (ld_full c (m := arg19)) $$ H19; iintro H19
  iapply (st_full c (m := arg19)) $$ H19; iintro H19
  iapply (ld_full c (m := arg18)) $$ H18; iintro H18
  iapply (st_full c (m := arg18)) $$ H18; iintro H18
  iapply (ld_full c (m := arg16)) $$ H16; iintro H16
  iapply (st_full c (m := arg16)) $$ H16; iintro H16
  iapply (seqw c (part18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (k0_pay78 v69 v75) ht h4 h5 hpos)) $$ [H16 H17 Hs HO HP HB]
  · isplitl [H16]; · iexact H16
    isplitl [H17]; · iexact H17
    isplitl [Hs]; · iexact Hs
    isplitl [HO]; · iexact HO
    isplitl [HP]; · iexact HP
    iexact HB
  iintro %x ⟨%hx, HI, H16, Hs, HO⟩
  obtain ⟨x, hw⟩ := x
  have hx' : x = tokAt (k0_pay78 v69 v75) 4 (by decide) := hx
  subst hx'
  iapply (seqw c (part19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (k0_pay78 v69 v75) ht h4 h5 hw)) $$ HI
  iintro %x ⟨%hx, HI⟩

  obtain ⟨x, hw⟩ := x
  have hx' : x = tokAt (k0_pay78 v69 v75) 9 (by decide) := hx
  subst hx'
  iapply (seqw c (part20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (k0_pay78 v69 v75) ht h4 h5 hw)) $$ HI
  iintro %x ⟨%hx, HI⟩

  obtain ⟨x, hw⟩ := x
  have hx' : x = tokAt (k0_pay78 v69 v75) 14 (by decide) := hx
  subst hx'
  iapply (seqw c (part21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (k0_pay78 v69 v75) ht h4 h5 hw)) $$ HI
  iintro %x ⟨%hx, HI⟩

  obtain ⟨x, hw⟩ := x
  have hx' : x = tokAt (k0_pay78 v69 v75) 19 (by decide) := hx
  subst hx'
  iapply (seqw c (part22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (k0_pay78 v69 v75) ht h4 h5 hw)) $$ HI
  iintro %x ⟨%hx, HI⟩

  obtain ⟨x, hw⟩ := x
  have hx' : x = tokAt (k0_pay78 v69 v75) 24 (by decide) := hx
  subst hx'
  iapply (seqw c (part23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (k0_pay78 v69 v75) ht h4 h5 hw)) $$ HI
  iintro %x ⟨%hx, HI⟩

  obtain ⟨x, hw⟩ := x
  have hx' : x = tokAt (k0_pay78 v69 v75) 29 (by decide) := hx
  subst hx'
  iapply (iss_w c arg9 arg15 arg17 arg23 E (k0_pay78 v69 v75) ht 29 (by decide)) $$ HI
  iintro HI
  iapply (wordIss_w c arg9 arg15 arg17 arg23 E (k0_pay78 v69 v75) ht 30 30 (by decide) (fun _ _ => row_inb _ (ht 30 (by decide)))) $$ HI
  iintro HI
  iapply (iss_w c arg9 arg15 arg17 arg23 E (k0_pay78 v69 v75) ht 30 (by decide)) $$ HI
  iintro HI
  iapply (wordIss_w c arg9 arg15 arg17 arg23 E (k0_pay78 v69 v75) ht 31 31 (by decide) (fun _ _ => row_inb _ (ht 31 (by decide)))) $$ HI
  iintro HI
  iapply (iss_w c arg9 arg15 arg17 arg23 E (k0_pay78 v69 v75) ht 31 (by decide)) $$ HI
  iintro HI
  iapply (ret_intro c (x := 30#32))
  isplitl [H13 H20 H21 H19 H18 H16]
  · isplitl [H13]; · iexact H13
    isplitl [H20]; · iexact H20
    isplitl [H21]; · iexact H21
    isplitl [H19]; · iexact H19
    isplitl [H18]; · iexact H18
    iexact H16
  isplitl [HI]; · iexact HI
  isplitl [Hs]; · iexact Hs
  iexact HO

end Gather
end Cert.KernelIdeal.Dec

end
-- ==== Proof.DecBody.lean ====
/-
  The beam decoder's body at each kind of grid point, from the state of the scratch buffers before it to the state after.
-/
module

public import proofs.«01_k».proof.Proof.DecShare
public import proofs.«01_k».proof.Proof.DecParts

@[expose] public section

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

variable (c : Dev nD)

variable (c : Dev nD)

theorem pos_w {α : Type} {p : Prop} {d : Decidable p} (h : p) {A : p → Prog (TpuEff nD τ sig (Elt F) Λ₀ .tc) α} {B : ¬ p → Prog (TpuEff nD τ sig (Elt F) Λ₀ .tc) α}
    {Q : α → sProp 𝕄} : wpb c (A h) Q ⊢ wpb c (@dite _ p d A B) Q := Entails.of_eq (by rw [dif_pos h])
theorem neg_w {α : Type} {p : Prop} {d : Decidable p} (h : ¬ p) {A : p → Prog (TpuEff nD τ sig (Elt F) Λ₀ .tc) α} {B : ¬ p → Prog (TpuEff nD τ sig (Elt F) Λ₀ .tc) α}
    {Q : α → sProp 𝕄} : wpb c (B h) Q ⊢ wpb c (@dite _ p d A B) Q := Entails.of_eq (by rw [dif_neg h])

theorem twoOk : TokOk (fun _ => 2#32) := fun _ _ => by show (2#32 : BitVec 32).toNat < 32000; decide

section States
variable (arg9 : Memref sig .tc .hbm S32000x256 .f32) (arg12 : Memref sig .tc .vmem S5x32x6400 .f32) (arg13 : Memref sig .tc .vmem S32x512 .f32) (arg14 : Memref sig .tc .vmem S32x512 .f32) (arg15 : Memref sig .tc .vmem S32x256 .f32) (arg16 : Memref sig .tc .vmem S32x1 .i32) (arg17 : Memref sig .tc .smem S32x1 .i32) (arg18 : Memref sig .tc .vmem S32x1 .f32) (arg19 : Memref sig .tc .vmem S32x1 .f32) (arg20 : Memref sig .tc .vmem S32x32 .i32) (arg21 : Memref sig .tc .vmem S32x32 .f32) (arg22 : Memref sig .tc .vmem S32x1 .f32) (arg23 : DmaSems sig S_) (arg24 : DmaSems sig S_)
  (E : Buf (Elt F) (arg9.view.loc (c : Thread nD τ)))

/-- Every scratch buffer at some contents, both semaphores at rest, the table whole. -/
def Any : sProp 𝕄 :=
  iprop((∃ x, owns (c : Thread nD τ) arg12 fullShare x) ∗ (∃ x, owns (c : Thread nD τ) arg13 fullShare x) ∗ (∃ x, owns (c : Thread nD τ) arg14 fullShare x) ∗ (∃ x, owns (c : Thread nD τ) arg15 fullShare x) ∗ (∃ x, owns (c : Thread nD τ) arg16 fullShare x) ∗ (∃ x, owns (c : Thread nD τ) arg17 fullShare x)
    ∗ (∃ x, owns (c : Thread nD τ) arg18 fullShare x) ∗ (∃ x, owns (c : Thread nD τ) arg19 fullShare x) ∗ (∃ x, owns (c : Thread nD τ) arg20 fullShare x) ∗ (∃ x, owns (c : Thread nD τ) arg21 fullShare x) ∗ (∃ x, owns (c : Thread nD τ) arg22 fullShare x)
    ∗ semVal ((c : Thread nD τ), (SemLoc.dma arg23.sem)) 0 ∗ semVal ((c : Thread nD τ), (SemLoc.dma arg24.sem)) 0 ∗ ((arg9.view.loc (c : Thread nD τ)) ↦[arg9.view.set]{fullShare} E))

/-- Inside a step: the state `s`, the gathered rows `e` and the new hidden rows `nh`, the logits satisfying `B` and the running
    maximum satisfying `M`. -/
def Mid (B : Vec F S5x32x6400 .f32 → Prop) (M : Vec F S32x1 .f32 → Prop) (s : St F) (e : Vec F S32x256 .f32) (nh : Vec F S32x512 .f32) : sProp 𝕄 :=
  iprop((∃ x, ⌜B x⌝ ∗ owns (c : Thread nD τ) arg12 fullShare x) ∗ owns (c : Thread nD τ) arg13 fullShare s.h ∗ owns (c : Thread nD τ) arg14 fullShare nh ∗ owns (c : Thread nD τ) arg15 fullShare e ∗ (∃ x, owns (c : Thread nD τ) arg16 fullShare x) ∗ owns (c : Thread nD τ) arg17 fullShare s.tok
    ∗ owns (c : Thread nD τ) arg18 fullShare s.prob ∗ owns (c : Thread nD τ) arg19 fullShare s.fin ∗ owns (c : Thread nD τ) arg20 fullShare s.th ∗ owns (c : Thread nD τ) arg21 fullShare s.sh ∗ (∃ x, ⌜M x⌝ ∗ owns (c : Thread nD τ) arg22 fullShare x)
    ∗ semVal ((c : Thread nD τ), (SemLoc.dma arg23.sem)) 0 ∗ semVal ((c : Thread nD τ), (SemLoc.dma arg24.sem)) 0 ∗ ((arg9.view.loc (c : Thread nD τ)) ↦[arg9.view.set]{fullShare} E))

/-- Between two steps: the state `s`, its row copies all under way. -/
def Btw (s : St F) (ht : TokOk s.tok) : sProp 𝕄 :=
  iprop((∃ x, owns (c : Thread nD τ) arg12 fullShare x) ∗ owns (c : Thread nD τ) arg13 fullShare s.h ∗ (∃ x, owns (c : Thread nD τ) arg14 fullShare x) ∗ Iss c arg9 arg15 arg17 arg23 E s.tok ht 32 ∗ (∃ x, owns (c : Thread nD τ) arg16 fullShare x)
    ∗ owns (c : Thread nD τ) arg18 fullShare s.prob ∗ owns (c : Thread nD τ) arg19 fullShare s.fin ∗ owns (c : Thread nD τ) arg20 fullShare s.th ∗ owns (c : Thread nD τ) arg21 fullShare s.sh ∗ (∃ x, owns (c : Thread nD τ) arg22 fullShare x)
    ∗ semVal ((c : Thread nD τ), (SemLoc.dma arg24.sem)) 0 ∗ EmbRest c arg9 E s.tok ht)
end States

variable (i : grid0.Coords) (arg2 : Memref sig .tc .vmem S6400x768 .bf16) (harg2 : arg2.IsWhole) (arg3 : Memref sig .tc .vmem S5x16x6400 .f32) (harg3 : arg3.IsWhole) (arg4 : Memref sig .tc .vmem S1536x768 .f32) (harg4 : arg4.IsWhole) (arg5 : Memref sig .tc .vmem S1536x512 .f32) (harg5 : arg5.IsWhole) (arg6 : Memref sig .tc .vmem S1x1536 .f32) (harg6 : arg6.IsWhole) (arg7 : Memref sig .tc .vmem S1x1536 .f32) (harg7 : arg7.IsWhole) (arg8 : Memref sig .tc .vmem S16x512 .f32) (harg8 : arg8.IsWhole) (arg9 : Memref sig .tc .hbm S32000x256 .f32) (harg9 : arg9.IsWhole) (arg10 : Memref sig .tc .vmem S16x32 .i32) (harg10 : arg10.IsWhole) (arg11 : Memref sig .tc .vmem S16x32 .f32) (harg11 : arg11.IsWhole) (arg12 : Memref sig .tc .vmem S5x32x6400 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x256 .f32) (harg15 : arg15.IsWhole) (arg16 : Memref sig .tc .vmem S32x1 .i32) (harg16 : arg16.IsWhole) (arg17 : Memref sig .tc .smem S32x1 .i32) (harg17 : arg17.IsWhole) (arg18 : Memref sig .tc .vmem S32x1 .f32) (harg18 : arg18.IsWhole) (arg19 : Memref sig .tc .vmem S32x1 .f32) (harg19 : arg19.IsWhole) (arg20 : Memref sig .tc .vmem S32x32 .i32) (harg20 : arg20.IsWhole) (arg21 : Memref sig .tc .vmem S32x32 .f32) (harg21 : arg21.IsWhole) (arg22 : Memref sig .tc .vmem S32x1 .f32) (harg22 : arg22.IsWhole) (arg23 : DmaSems sig S_) (arg24 : DmaSems sig S_)
  (E : Buf (Elt F) (arg9.view.loc (c : Thread nD τ)))
  {slab : Vec F S6400x768 .bf16} {base : Vec F S5x16x6400 .f32} {wih : Vec F S1536x768 .f32} {whh : Vec F S1536x512 .f32}
  {bih bhh : Vec F S1x1536 .f32} {ctx : Vec F S16x512 .f32}

/-- The seven operand blocks in place. -/
def Opn (slab : Vec F S6400x768 .bf16) (base : Vec F S5x16x6400 .f32) (wih : Vec F S1536x768 .f32) (whh : Vec F S1536x512 .f32)
    (bih bhh : Vec F S1x1536 .f32) (ctx : Vec F S16x512 .f32) : sProp 𝕄 :=
  iprop(owns (c : Thread nD τ) arg2 fullShare slab ∗ owns (c : Thread nD τ) arg3 fullShare base ∗ owns (c : Thread nD τ) arg4 fullShare wih ∗ owns (c : Thread nD τ) arg5 fullShare whh ∗ owns (c : Thread nD τ) arg6 fullShare bih ∗ owns (c : Thread nD τ) arg7 fullShare bhh ∗ owns (c : Thread nD τ) arg8 fullShare ctx)

/-- The point's logits put in their place. -/
def putB (i : grid0.Coords) (e : Vec F S32x256 .f32) (nh : Vec F S32x512 .f32) (base : Vec F S5x16x6400 .f32) (slab : Vec F S6400x768 .bf16)
    (lg : Vec F S5x32x6400 .f32) : Vec F S5x32x6400 .f32 :=
  VecWindow.put lg (k0_off66 i) S1x32x6400.size (k0_pay3 e nh (VecWindow.window base (k0_off65 i) S1x16x6400.size (k0_off65_inb i)) slab)
/-- The running maximum after the point. -/
def maxB (i : grid0.Coords) (e : Vec F S32x256 .f32) (nh : Vec F S32x512 .f32) (base : Vec F S5x16x6400 .f32) (slab : Vec F S6400x768 .bf16)
    (m : Vec F S32x1 .f32) : Vec F S32x1 .f32 :=
  k0_pay4 i e nh (VecWindow.window base (k0_off65 i) S1x16x6400.size (k0_off65_inb i)) slab m

/-- The first point: the state is initialised, its rows gathered, the first block of logits made. -/
theorem caseA (h1 : k0_cond1 i = 1#1) (h2 : Scalar.cmpi .ne (Scalar.extui (Scalar.cmpi .eq (BitVec.ofNat 32 (i 0).val) 0#32) : BitVec 32) 0#32 = 1#1)
    (h3 : k0_cond3 i = 1#1) (h4 : ¬ k0_cond4 i = 1#1) (hpos : 0 < rowN arg15) {o10 : Vec F S16x32 .i32} {o11 : Vec F S16x32 .f32} :
    iprop(Any c arg9 arg12 arg13 arg14 arg15 arg16 arg17 arg18 arg19 arg20 arg21 arg22 arg23 arg24 E ∗ Opn c arg2 arg3 arg4 arg5 arg6 arg7 arg8 slab base wih whh bih bhh ctx ∗ (∃ W, owes (c : Thread nD τ) 0 W) ∗ (owns (c : Thread nD τ) arg10 fullShare o10) ∗ (owns (c : Thread nD τ) arg11 fullShare o11))
    ⊢ wpb c (cc0_beam_dec (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Mid c arg9 arg12 arg13 arg14 arg15 arg16 arg17 arg18 arg19 arg20 arg21 arg22 arg23 arg24 E (fun x => ∃ y, (fun _ => True) y ∧ x = putB i (gath (arg9.view.read (Elt F) E) (st0 ctx).tok) (nhOf (st0 ctx).h (gath (arg9.view.read (Elt F) E) (st0 ctx).tok) ctx wih whh bih bhh) base slab y) (fun x => ∃ y, (fun _ => True) y ∧ x = maxB i (gath (arg9.view.read (Elt F) E) (st0 ctx).tok) (nhOf (st0 ctx).h (gath (arg9.view.read (Elt F) E) (st0 ctx).tok) ctx wih whh bih bhh) base slab y) (st0 ctx) (gath (arg9.view.read (Elt F) E) (st0 ctx).tok) (nhOf (st0 ctx).h (gath (arg9.view.read (Elt F) E) (st0 ctx).tok) ctx wih whh bih bhh) ∗ Opn c arg2 arg3 arg4 arg5 arg6 arg7 arg8 slab base wih whh bih bhh ctx ∗ (∃ W, owes (c : Thread nD τ) 0 W) ∗ (owns (c : Thread nD τ) arg10 fullShare o10) ∗ (owns (c : Thread nD τ) arg11 fullShare o11))) := by
  rw [cc0_beam_dec_eq_skeleton]; unfold cc0_beam_dec_skel Opn Any
  iintro ⟨⟨⟨%x12, H12⟩, ⟨%x13, H13⟩, ⟨%x14, H14⟩, ⟨%x15, H15⟩, ⟨%x16, H16⟩, ⟨%x17, H17⟩, ⟨%x18, H18⟩, ⟨%x19, H19⟩, ⟨%x20, H20⟩, ⟨%x21, H21⟩, ⟨%x22, H22⟩, Hs, Hs2, H9⟩, ⟨H2, H3, H4, H5, H6, H7, H8⟩, HO, H10, H11⟩
  ihave HP := (prep c arg9 arg15 E (fun _ => 2#32) twoOk) $$ [H15 H9]
  · isplitl [H15]; · iexact H15
    iexact H9
  icases HP with ⟨HP, HR⟩
  imod (Transfers.batch_alloc' (Lvl := ℕ) EC (c : Thread nD τ) () (rowN arg15) (Deliv c arg9 arg15 E (fun _ => 2#32) twoOk) (sm := .dma arg23.sem) (E := Set.univ)) $$ Hs with HB
  iapply (pos_w c h1)
  iapply (seqw c (part10_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E h1 h2 h3 hpos twoOk)) $$ [H17 HP HB HO H8 H13 H18 H19 H20 H21]
  · isplitl [H17]; · iexact H17
    isplitl [HP]; · iexact HP
    isplitl [HB]; · iexact HB
    isplitl [HO]; · iexact HO
    isplitl [H8]; · iexact H8
    isplitl [H13]; · iexact H13
    isplitl [H18]; · iexact H18
    isplitl [H19]; · iexact H19
    isplitl [H20]; · iexact H20
    iexact H21
  iintro %_ ⟨HW, H8, H13, H18, H19, H20, H21⟩
  iapply (seqw c (part11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) twoOk hpos h1)) $$ HW
  iintro %_ HW
  iapply (seqw c (part12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) twoOk hpos h1)) $$ HW
  iintro %_ HW
  iapply (seqw c (part13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) twoOk hpos h1)) $$ HW
  iintro %_ HW
  iapply (seqw c (part14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) twoOk hpos h1)) $$ HW
  iintro %_ HW
  iapply (seqw c (part15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) twoOk hpos h1)) $$ HW
  iintro %_ HW
  iapply (seqw c (part16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun _ => 2#32) twoOk h1 hpos (unprep c arg9 arg15 E (fun _ => 2#32) twoOk arg17 arg23))) $$ [HW HR H8 H13 H4 H6]
  · isplitl [HW]; · iexact HW
    isplitl [HR]; · iexact HR
    isplitl [H8]; · iexact H8
    isplitl [H13]; · iexact H13
    isplitl [H4]; · iexact H4
    iexact H6
  iintro %x ⟨%hx, ⟨H17, Hs, HO, H9⟩, H15, H8, H13, H4, H6⟩
  subst hx
  iapply (ld_full c (m := arg5)) $$ H5; iintro H5
  iapply (ld_full c (m := arg7)) $$ H7; iintro H7
  iapply (ld_full c (m := arg14)) $$ H14; iintro H14
  iapply (st_full c (m := arg14)) $$ H14; iintro H14
  iapply (ld_full c (m := arg15)) $$ H15; iintro H15
  iapply (ld_full c (m := arg14)) $$ H14; iintro H14
  iapply (ld_win c (m := arg3)) $$ H3; iintro H3
  iapply (ld_full c (m := arg2)) $$ H2; iintro H2
  iapply (ld_win c (m := arg12)) $$ H12; iintro H12
  iapply (st_win c (m := arg12)) $$ H12; iintro H12
  iapply (ld_full c (m := arg22)) $$ H22; iintro H22
  iapply (ld_full c (m := arg22)) $$ H22; iintro H22
  iapply (st_full c (m := arg22)) $$ H22; iintro H22
  iapply (neg_w c h4)
  iapply (ret_intro c)
  isplitl [H12 H13 H14 H15 H16 H17 H18 H19 H20 H21 H22 Hs Hs2 H9]
  · unfold Mid
    isplitl [H12]
    · iexists _; isplitr; swap; · iexact H12
      ipureintro; exact ⟨_, trivial, rfl⟩
    isplitl [H13]; · iexact H13
    isplitl [H14]; · iexact H14
    isplitl [H15]; · iexact H15
    isplitl [H16]; · iexists _; iexact H16
    isplitl [H17]; · iexact H17
    isplitl [H18]; · iexact H18
    isplitl [H19]; · iexact H19
    isplitl [H20]; · iexact H20
    isplitl [H21]; · iexact H21
    isplitl [H22]
    · iexists _; isplitr; swap; · iexact H22
      ipureintro; exact ⟨_, trivial, rfl⟩
    isplitl [Hs]; · iexact Hs
    isplitl [Hs2]; · iexact Hs2
    iexact H9
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [HO]; · iexact HO
  isplitl [H10]; · iexact H10
  iexact H11

/-- A later step's first point: the rows under way are awaited, the first block of logits made. -/
theorem caseB (h1 : k0_cond1 i = 1#1) (h2 : ¬ Scalar.cmpi .ne (Scalar.extui (Scalar.cmpi .eq (BitVec.ofNat 32 (i 0).val) 0#32) : BitVec 32) 0#32 = 1#1)
    (h3 : ¬ k0_cond3 i = 1#1) (h4 : ¬ k0_cond4 i = 1#1) (hpos : 0 < rowN arg15) {o10 : Vec F S16x32 .i32} {o11 : Vec F S16x32 .f32} {s : St F} (ht : TokOk s.tok) :
    iprop(Btw c arg9 arg12 arg13 arg14 arg15 arg16 arg17 arg18 arg19 arg20 arg21 arg22 arg23 arg24 E s ht ∗ Opn c arg2 arg3 arg4 arg5 arg6 arg7 arg8 slab base wih whh bih bhh ctx ∗ (∃ W, owes (c : Thread nD τ) 0 W) ∗ (owns (c : Thread nD τ) arg10 fullShare o10) ∗ (owns (c : Thread nD τ) arg11 fullShare o11))
    ⊢ wpb c (cc0_beam_dec (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Mid c arg9 arg12 arg13 arg14 arg15 arg16 arg17 arg18 arg19 arg20 arg21 arg22 arg23 arg24 E (fun x => ∃ y, (fun _ => True) y ∧ x = putB i (gath (arg9.view.read (Elt F) E) s.tok) (nhOf s.h (gath (arg9.view.read (Elt F) E) s.tok) ctx wih whh bih bhh) base slab y) (fun x => ∃ y, (fun _ => True) y ∧ x = maxB i (gath (arg9.view.read (Elt F) E) s.tok) (nhOf s.h (gath (arg9.view.read (Elt F) E) s.tok) ctx wih whh bih bhh) base slab y) s (gath (arg9.view.read (Elt F) E) s.tok) (nhOf s.h (gath (arg9.view.read (Elt F) E) s.tok) ctx wih whh bih bhh) ∗ Opn c arg2 arg3 arg4 arg5 arg6 arg7 arg8 slab base wih whh bih bhh ctx ∗ (∃ W, owes (c : Thread nD τ) 0 W) ∗ (owns (c : Thread nD τ) arg10 fullShare o10) ∗ (owns (c : Thread nD τ) arg11 fullShare o11))) := by
  rw [cc0_beam_dec_eq_skeleton]; unfold cc0_beam_dec_skel Opn Btw
  iintro ⟨⟨⟨%x12, H12⟩, H13, ⟨%x14, H14⟩, HI, ⟨%x16, H16⟩, H18, H19, H20, H21, ⟨%x22, H22⟩, Hs2, HR⟩, ⟨H2, H3, H4, H5, H6, H7, H8⟩, HO, H10, H11⟩
  iapply (issToWai c arg9 arg15 arg17 arg23 E s.tok ht) $$ [HI HO]
  · isplitl [HI]; · iexact HI
    iexact HO
  iintro HW
  iapply (pos_w c h1)
  iapply (seqw c (part10_later c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E s.tok ht h1 h2 h3 hpos)) $$ HW
  iintro %_ HW
  iapply (seqw c (part11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E s.tok ht hpos h1)) $$ HW
  iintro %_ HW
  iapply (seqw c (part12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E s.tok ht hpos h1)) $$ HW
  iintro %_ HW
  iapply (seqw c (part13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E s.tok ht hpos h1)) $$ HW
  iintro %_ HW
  iapply (seqw c (part14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E s.tok ht hpos h1)) $$ HW
  iintro %_ HW
  iapply (seqw c (part15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E s.tok ht hpos h1)) $$ HW
  iintro %_ HW
  iapply (seqw c (part16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E s.tok ht h1 hpos (unprep c arg9 arg15 E s.tok ht arg17 arg23))) $$ [HW HR H8 H13 H4 H6]
  · isplitl [HW]; · iexact HW
    isplitl [HR]; · iexact HR
    isplitl [H8]; · iexact H8
    isplitl [H13]; · iexact H13
    isplitl [H4]; · iexact H4
    iexact H6
  iintro %x ⟨%hx, ⟨H17, Hs, HO, H9⟩, H15, H8, H13, H4, H6⟩
  subst hx
  iapply (ld_full c (m := arg5)) $$ H5; iintro H5
  iapply (ld_full c (m := arg7)) $$ H7; iintro H7
  iapply (ld_full c (m := arg14)) $$ H14; iintro H14
  iapply (st_full c (m := arg14)) $$ H14; iintro H14
  iapply (ld_full c (m := arg15)) $$ H15; iintro H15
  iapply (ld_full c (m := arg14)) $$ H14; iintro H14
  iapply (ld_win c (m := arg3)) $$ H3; iintro H3
  iapply (ld_full c (m := arg2)) $$ H2; iintro H2
  iapply (ld_win c (m := arg12)) $$ H12; iintro H12
  iapply (st_win c (m := arg12)) $$ H12; iintro H12
  iapply (ld_full c (m := arg22)) $$ H22; iintro H22
  iapply (ld_full c (m := arg22)) $$ H22; iintro H22
  iapply (st_full c (m := arg22)) $$ H22; iintro H22
  iapply (neg_w c h4)
  iapply (ret_intro c)
  isplitl [H12 H13 H14 H15 H16 H17 H18 H19 H20 H21 H22 Hs Hs2 H9]
  · unfold Mid
    isplitl [H12]
    · iexists _; isplitr; swap; · iexact H12
      ipureintro; exact ⟨_, trivial, rfl⟩
    isplitl [H13]; · iexact H13
    isplitl [H14]; · iexact H14
    isplitl [H15]; · iexact H15
    isplitl [H16]; · iexists _; iexact H16
    isplitl [H17]; · iexact H17
    isplitl [H18]; · iexact H18
    isplitl [H19]; · iexact H19
    isplitl [H20]; · iexact H20
    isplitl [H21]; · iexact H21
    isplitl [H22]
    · iexists _; isplitr; swap; · iexact H22
      ipureintro; exact ⟨_, trivial, rfl⟩
    isplitl [Hs]; · iexact Hs
    isplitl [Hs2]; · iexact Hs2
    iexact H9
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [HO]; · iexact HO
  isplitl [H10]; · iexact H10
  iexact H11

/-- A point inside a step: its block of logits is made. -/
theorem caseC (h1 : ¬ k0_cond1 i = 1#1) (h4 : ¬ k0_cond4 i = 1#1) {o10 : Vec F S16x32 .i32} {o11 : Vec F S16x32 .f32} {s : St F} {e : Vec F S32x256 .f32} {nh : Vec F S32x512 .f32}
    {B : Vec F S5x32x6400 .f32 → Prop} {M : Vec F S32x1 .f32 → Prop} :
    iprop(Mid c arg9 arg12 arg13 arg14 arg15 arg16 arg17 arg18 arg19 arg20 arg21 arg22 arg23 arg24 E B M s e nh ∗ Opn c arg2 arg3 arg4 arg5 arg6 arg7 arg8 slab base wih whh bih bhh ctx ∗ (∃ W, owes (c : Thread nD τ) 0 W) ∗ (owns (c : Thread nD τ) arg10 fullShare o10) ∗ (owns (c : Thread nD τ) arg11 fullShare o11))
    ⊢ wpb c (cc0_beam_dec (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Mid c arg9 arg12 arg13 arg14 arg15 arg16 arg17 arg18 arg19 arg20 arg21 arg22 arg23 arg24 E (fun x => ∃ y, B y ∧ x = putB i e nh base slab y) (fun x => ∃ y, M y ∧ x = maxB i e nh base slab y) s e nh ∗ Opn c arg2 arg3 arg4 arg5 arg6 arg7 arg8 slab base wih whh bih bhh ctx ∗ (∃ W, owes (c : Thread nD τ) 0 W) ∗ (owns (c : Thread nD τ) arg10 fullShare o10) ∗ (owns (c : Thread nD τ) arg11 fullShare o11))) := by
  rw [cc0_beam_dec_eq_skeleton]; unfold cc0_beam_dec_skel Opn Mid
  iintro ⟨⟨⟨%x12, %hB, H12⟩, H13, H14, H15, ⟨%x16, H16⟩, H17, H18, H19, H20, H21, ⟨%x22, %hM, H22⟩, Hs, Hs2, H9⟩, ⟨H2, H3, H4, H5, H6, H7, H8⟩, HO, H10, H11⟩
  iapply (neg_w c h1)
  iapply (ld_full c (m := arg15)) $$ H15; iintro H15
  iapply (ld_full c (m := arg14)) $$ H14; iintro H14
  iapply (ld_win c (m := arg3)) $$ H3; iintro H3
  iapply (ld_full c (m := arg2)) $$ H2; iintro H2
  iapply (ld_win c (m := arg12)) $$ H12; iintro H12
  iapply (st_win c (m := arg12)) $$ H12; iintro H12
  iapply (ld_full c (m := arg22)) $$ H22; iintro H22
  iapply (ld_full c (m := arg22)) $$ H22; iintro H22
  iapply (st_full c (m := arg22)) $$ H22; iintro H22
  iapply (neg_w c h4)
  iapply (ret_intro c)
  isplitl [H12 H13 H14 H15 H16 H17 H18 H19 H20 H21 H22 Hs Hs2 H9]
  · isplitl [H12]
    · iexists _; isplitr; swap; · iexact H12
      ipureintro; exact ⟨_, hB, rfl⟩
    isplitl [H13]; · iexact H13
    isplitl [H14]; · iexact H14
    isplitl [H15]; · iexact H15
    isplitl [H16]; · iexists _; iexact H16
    isplitl [H17]; · iexact H17
    isplitl [H18]; · iexact H18
    isplitl [H19]; · iexact H19
    isplitl [H20]; · iexact H20
    isplitl [H21]; · iexact H21
    isplitl [H22]
    · iexists _; isplitr; swap; · iexact H22
      ipureintro; exact ⟨_, hM, rfl⟩
    isplitl [Hs]; · iexact Hs
    isplitl [Hs2]; · iexact Hs2
    iexact H9
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [HO]; · iexact HO
  isplitl [H10]; · iexact H10
  iexact H11

/-- A step's last point but the last step's: the selection is made and the next rows' copies are issued. -/
theorem caseD (h1 : ¬ k0_cond1 i = 1#1) (h4 : k0_cond4 i = 1#1) (h5 : k0_cond5 i = 1#1) (h6 : ¬ k0_cond6 i = 1#1) (hpos : 0 < arg17.view.ref.dmaCredit S32x1 .i32)
    {o10 : Vec F S16x32 .i32} {o11 : Vec F S16x32 .f32} {s : St F} {e : Vec F S32x256 .f32} {nh : Vec F S32x512 .f32}
    {B : Vec F S5x32x6400 .f32 → Prop} {M : Vec F S32x1 .f32 → Prop} {m : Vec F S32x1 .f32} {blk : Fin k0_t1_loop.trips → Vec F S1x32x6400 .f32}
    (hBlk : ∀ y, B y → ∀ u, VecWindow.window (putB i e nh base slab y) (k0_off67 u) S1x32x6400.size (k0_off67_inb i u h4) = blk u)
    (hMx : ∀ y, M y → maxB i e nh base slab y = m)
    (ht : TokOk (nextOf (BitVec.ofNat 32 (i 0).val) s.fin (selOf s.prob s.fin m blk) nh s.th s.sh s.h).tok) :
    iprop(Mid c arg9 arg12 arg13 arg14 arg15 arg16 arg17 arg18 arg19 arg20 arg21 arg22 arg23 arg24 E B M s e nh ∗ Opn c arg2 arg3 arg4 arg5 arg6 arg7 arg8 slab base wih whh bih bhh ctx ∗ (∃ W, owes (c : Thread nD τ) 0 W) ∗ (owns (c : Thread nD τ) arg10 fullShare o10) ∗ (owns (c : Thread nD τ) arg11 fullShare o11))
    ⊢ wpb c (cc0_beam_dec (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Btw c arg9 arg12 arg13 arg14 arg15 arg16 arg17 arg18 arg19 arg20 arg21 arg22 arg23 arg24 E (nextOf (BitVec.ofNat 32 (i 0).val) s.fin (selOf s.prob s.fin m blk) nh s.th s.sh s.h) ht ∗ Opn c arg2 arg3 arg4 arg5 arg6 arg7 arg8 slab base wih whh bih bhh ctx ∗ (∃ W, owes (c : Thread nD τ) 0 W) ∗ (owns (c : Thread nD τ) arg10 fullShare o10) ∗ (owns (c : Thread nD τ) arg11 fullShare o11))) := by
  rw [cc0_beam_dec_eq_skeleton]; unfold cc0_beam_dec_skel Opn Mid
  iintro ⟨⟨⟨%x12, %hB, H12⟩, H13, H14, H15, ⟨%x16, H16⟩, H17, H18, H19, H20, H21, ⟨%x22, %hM, H22⟩, Hs, Hs2, H9⟩, ⟨H2, H3, H4, H5, H6, H7, H8⟩, HO, H10, H11⟩
  iapply (neg_w c h1)
  iapply (ld_full c (m := arg15)) $$ H15; iintro H15
  iapply (ld_full c (m := arg14)) $$ H14; iintro H14
  iapply (ld_win c (m := arg3)) $$ H3; iintro H3
  iapply (ld_full c (m := arg2)) $$ H2; iintro H2
  iapply (ld_win c (m := arg12)) $$ H12; iintro H12
  iapply (st_win c (m := arg12)) $$ H12; iintro H12
  iapply (ld_full c (m := arg22)) $$ H22; iintro H22
  iapply (ld_full c (m := arg22)) $$ H22; iintro H22
  iapply (st_full c (m := arg22)) $$ H22; iintro H22
  iapply (pos_w c h4)
  iapply (seqw c (part24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 (m := m) (blk := blk))) $$ [H12 H18 H19 H22]
  · isplitl [H12]
    · iexists _; isplitr; swap; · iexact H12
      ipureintro; exact fun u => hBlk _ hB u
    isplitl [H18]; · iexact H18
    isplitl [H19]; · iexact H19
    have hm := hMx _ hM
    unfold maxB at hm
    rw [← hm]
    iexact H22
  iintro %x ⟨%hx, ⟨%y12, H12⟩, H18, H19, H22⟩
  subst hx
  iapply (seqw c (part25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24)) $$ [H20 H21 H14]
  · isplitl [H20]; · iexact H20
    isplitl [H21]; · iexact H21
    iexact H14
  iintro %x ⟨%hx, H20, H21, H14⟩
  subst hx
  iapply (seqw c (part26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24)) $$ H13
  iintro %x ⟨%hx, H13⟩
  subst hx
  ihave HP := (prep c arg9 arg15 E (nextOf (BitVec.ofNat 32 (i 0).val) s.fin (selOf s.prob s.fin m blk) nh s.th s.sh s.h).tok ht) $$ [H15 H9]
  · isplitl [H15]; · iexact H15
    iexact H9
  icases HP with ⟨HP, HR⟩
  imod (Transfers.batch_alloc' (Lvl := ℕ) EC (c : Thread nD τ) () (rowN arg15) (Deliv c arg9 arg15 E (nextOf (BitVec.ofNat 32 (i 0).val) s.fin (selOf s.prob s.fin m blk) nh s.th s.sh s.h).tok ht) (sm := .dma arg23.sem) (E := Set.univ)) $$ Hs with HB
  iapply (seqw c (part27_more c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E h4 h5 hpos ht)) $$ [H13 H20 H21 H19 H18 H16 H17 Hs2 HO HP HB]
  · isplitl [H13 H20 H21 H19 H18 H16]
    · isplitl [H13]; · iexact H13
      isplitl [H20]; · iexact H20
      isplitl [H21]; · iexact H21
      isplitl [H19]; · iexact H19
      isplitl [H18]; · iexact H18
      iexact H16
    isplitl [H17]; · iexact H17
    isplitl [Hs2]; · iexact Hs2
    isplitl [HO]; · iexact HO
    isplitl [HP]; · iexact HP
    iexact HB
  iintro %_ ⟨⟨H13, H20, H21, H19, H18, H16⟩, HI, Hs2, HO⟩
  iapply (neg_w c h6)
  iapply (ret_intro c)
  isplitl [H12 H13 H14 HI H16 H18 H19 H20 H21 H22 Hs2 HR]
  · unfold Btw
    isplitl [H12]; · iexists _; iexact H12
    isplitl [H13]; · iexact H13
    isplitl [H14]; · iexists _; iexact H14
    isplitl [HI]; · iexact HI
    isplitl [H16]; · iexists _; iexact H16
    isplitl [H18]; · iexact H18
    isplitl [H19]; · iexact H19
    isplitl [H20]; · iexact H20
    isplitl [H21]; · iexact H21
    isplitl [H22]; · iexists _; iexact H22
    isplitl [Hs2]; · iexact Hs2
    iexact HR
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [HO]; · iexact HO
  isplitl [H10]; · iexact H10
  iexact H11

/-- The last point: the selection is made and the better beam's tokens and scores are stored. -/
theorem caseE (h1 : ¬ k0_cond1 i = 1#1) (h4 : k0_cond4 i = 1#1) (h5 : ¬ k0_cond5 i = 1#1) (h6 : k0_cond6 i = 1#1)
    {o10 : Vec F S16x32 .i32} {o11 : Vec F S16x32 .f32} {s : St F} {e : Vec F S32x256 .f32} {nh : Vec F S32x512 .f32}
    {B : Vec F S5x32x6400 .f32 → Prop} {M : Vec F S32x1 .f32 → Prop} {m : Vec F S32x1 .f32} {blk : Fin k0_t1_loop.trips → Vec F S1x32x6400 .f32}
    (hBlk : ∀ y, B y → ∀ u, VecWindow.window (putB i e nh base slab y) (k0_off67 u) S1x32x6400.size (k0_off67_inb i u h4) = blk u)
    (hMx : ∀ y, M y → maxB i e nh base slab y = m) :
    iprop(Mid c arg9 arg12 arg13 arg14 arg15 arg16 arg17 arg18 arg19 arg20 arg21 arg22 arg23 arg24 E B M s e nh ∗ Opn c arg2 arg3 arg4 arg5 arg6 arg7 arg8 slab base wih whh bih bhh ctx ∗ (∃ W, owes (c : Thread nD τ) 0 W) ∗ (owns (c : Thread nD τ) arg10 fullShare o10) ∗ (owns (c : Thread nD τ) arg11 fullShare o11))
    ⊢ wpb c (cc0_beam_dec (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Any c arg9 arg12 arg13 arg14 arg15 arg16 arg17 arg18 arg19 arg20 arg21 arg22 arg23 arg24 E ∗ Opn c arg2 arg3 arg4 arg5 arg6 arg7 arg8 slab base wih whh bih bhh ctx ∗ (∃ W, owes (c : Thread nD τ) 0 W)
      ∗ owns (c : Thread nD τ) arg10 fullShare (outT (BitVec.ofNat 32 (i 0).val) s.fin (selOf s.prob s.fin m blk) s.th) ∗ owns (c : Thread nD τ) arg11 fullShare (outS (BitVec.ofNat 32 (i 0).val) s.fin (selOf s.prob s.fin m blk) s.sh))) := by
  rw [cc0_beam_dec_eq_skeleton]; unfold cc0_beam_dec_skel Opn Mid
  iintro ⟨⟨⟨%x12, %hB, H12⟩, H13, H14, H15, ⟨%x16, H16⟩, H17, H18, H19, H20, H21, ⟨%x22, %hM, H22⟩, Hs, Hs2, H9⟩, ⟨H2, H3, H4, H5, H6, H7, H8⟩, HO, H10, H11⟩
  iapply (neg_w c h1)
  iapply (ld_full c (m := arg15)) $$ H15; iintro H15
  iapply (ld_full c (m := arg14)) $$ H14; iintro H14
  iapply (ld_win c (m := arg3)) $$ H3; iintro H3
  iapply (ld_full c (m := arg2)) $$ H2; iintro H2
  iapply (ld_win c (m := arg12)) $$ H12; iintro H12
  iapply (st_win c (m := arg12)) $$ H12; iintro H12
  iapply (ld_full c (m := arg22)) $$ H22; iintro H22
  iapply (ld_full c (m := arg22)) $$ H22; iintro H22
  iapply (st_full c (m := arg22)) $$ H22; iintro H22
  iapply (pos_w c h4)
  iapply (seqw c (part24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 (m := m) (blk := blk))) $$ [H12 H18 H19 H22]
  · isplitl [H12]
    · iexists _; isplitr; swap; · iexact H12
      ipureintro; exact fun u => hBlk _ hB u
    isplitl [H18]; · iexact H18
    isplitl [H19]; · iexact H19
    have hm := hMx _ hM
    unfold maxB at hm
    rw [← hm]
    iexact H22
  iintro %x ⟨%hx, ⟨%y12, H12⟩, H18, H19, H22⟩
  subst hx
  iapply (seqw c (part25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24)) $$ [H20 H21 H14]
  · isplitl [H20]; · iexact H20
    isplitl [H21]; · iexact H21
    iexact H14
  iintro %x ⟨%hx, H20, H21, H14⟩
  subst hx
  iapply (seqw c (part26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24)) $$ H13
  iintro %x ⟨%hx, H13⟩
  subst hx
  iapply (seqw c (part27_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 h4 h5)) $$ [H13 H20 H21 H19 H18 H16]
  · isplitl [H13]; · iexact H13
    isplitl [H20]; · iexact H20
    isplitl [H21]; · iexact H21
    isplitl [H19]; · iexact H19
    isplitl [H18]; · iexact H18
    iexact H16
  iintro %_ ⟨H13, H20, H21, H19, H18, H16⟩
  iapply (pos_w c h6)
  iapply (ld_full c (m := arg10)) $$ H10; iintro H10
  iapply (st_full c (m := arg10)) $$ H10; iintro H10
  iapply (ld_full c (m := arg11)) $$ H11; iintro H11
  iapply (st_full c (m := arg11)) $$ H11; iintro H11
  iapply (ret_intro c)
  isplitl [H12 H13 H14 H15 H16 H17 H18 H19 H20 H21 H22 Hs Hs2 H9]
  · unfold Any
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [Hs]; · iexact Hs
    isplitl [Hs2]; · iexact Hs2
    iexact H9
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [HO]; · iexact HO
  isplitl [H10]; · iexact H10
  iexact H11

end Cert.KernelIdeal.Dec

end
-- ==== Proof.DecInv.lean ====
/-
  The beam decoder's invariant: what the scratch buffers hold before each grid point, and that the body takes every point's
  invariant to the next point's.
-/
module

public import proofs.«01_k».proof.Proof.DecBody

@[expose] public section

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

variable (c : Dev nD)

/-! ## The grid -/

theorem geo1 : ∀ n : Fin 155, k0_cond1 (gi n.val) = 1#1 ↔ n.val % 5 = 0 := by decide +kernel
theorem geo2 : ∀ n : Fin 155, Scalar.cmpi .ne (Scalar.extui (Scalar.cmpi .eq (BitVec.ofNat 32 (gi n.val 0).val) 0#32) : BitVec 32) 0#32 = 1#1 ↔ n.val / 5 = 0 := by decide +kernel
theorem geo3 : ∀ n : Fin 155, k0_cond3 (gi n.val) = 1#1 ↔ n.val / 5 = 0 := by decide +kernel
theorem geo4 : ∀ n : Fin 155, k0_cond4 (gi n.val) = 1#1 ↔ n.val % 5 = 4 := by decide +kernel
theorem geo5 : ∀ n : Fin 155, k0_cond5 (gi n.val) = 1#1 ↔ n.val / 5 < 30 := by decide +kernel
theorem geo6 : ∀ n : Fin 155, k0_cond6 (gi n.val) = 1#1 ↔ n.val / 5 = 30 := by decide +kernel
theorem geoOff : ∀ n : Fin 155, k0_off66 (gi n.val) = ![n.val % 5, 0, 0] := by decide +kernel
theorem geoV : ∀ n : Fin 155, (gi n.val 1).val = n.val % 5 := by decide +kernel

/-! ## The logits and the running maximum, point after point -/

theorem blkInb (u : ℕ) (hu : u < 5) : ∀ a, (![u, 0, 0] : Fin 3 → ℕ) a + S1x32x6400.size a ≤ S5x32x6400.size a := by
  intro a; match a with
  | 0 => show u + 1 ≤ 5; omega
  | 1 => show 0 + 32 ≤ 32; omega
  | 2 => show 0 + 6400 ≤ 6400; omega

theorem window_off {s : Shape} {α : Type} (x : s.Idx → α) {off off' size : Fin s.rank → ℕ} (e : off = off') (inb : ∀ a, off a + size a ≤ s.size a)
    (inb' : ∀ a, off' a + size a ≤ s.size a) : VecWindow.window x off size inb = VecWindow.window x off' size inb' := by
  subst e; rfl

section
variable (X : Ins F) (t : ℕ) (s : St F)

/-- The first `v` blocks of logits are made. -/
def Bp (v : ℕ) (lg : Vec F S5x32x6400 .f32) : Prop :=
  ∀ u (hu : u < 5), u < v → VecWindow.window lg ![u, 0, 0] S1x32x6400.size (blkInb u hu) = X.blk t s u
/-- The maximum is the first `v` blocks'. -/
def Mp (v : ℕ) (m : Vec F S32x1 .f32) : Prop := v ≠ 0 → m = X.mx t s v

theorem Bp_step (v n : ℕ) (hv : v < 5) (hn : 5 * t + v = n) (hN : n < 155) {y : Vec F S5x32x6400 .f32} (h : Bp X t s v y) :
    Bp X t s (v + 1) (putB (gi n) (X.emT s) (X.nh t s) (X.base n) (X.slab n) y) := by
  subst hn
  have ho : k0_off66 (gi (5 * t + v)) = ![v, 0, 0] := by
    rw [geoOff ⟨5 * t + v, hN⟩]
    have : (5 * t + v) % 5 = v := by omega
    show ![(5 * t + v) % 5, 0, 0] = _
    rw [this]
  intro u hu huv
  unfold putB
  rw [ho]
  by_cases e : u = v
  · subst e
    exact VecWindow.window_put_same _ _ _ _ _
  · exact (VecWindow.window_put_of_disjoint (s := S5x32x6400) _ _ _ _ _ (blkInb u hu) _ 0 (by
      show u + 1 ≤ v ∨ v + 1 ≤ u; omega)).trans (h u hu (by omega))

theorem pay4_first (i : grid0.Coords) (hi : (i 1).val = 0) (e : Vec F S32x256 .f32) (nh : Vec F S32x512 .f32) (b : Vec F S1x16x6400 .f32) (w : Vec F S6400x768 .bf16)
    (m m' : Vec F S32x1 .f32) : k0_pay4 i e nh b w m = k0_pay4 i e nh b w m' := by
  unfold k0_pay4
  rw [hi]
  rfl

theorem Mp_step (v n : ℕ) (hv : v < 5) (hn : 5 * t + v = n) (hN : n < 155) {y : Vec F S32x1 .f32} (h : Mp X t s v y) :
    Mp X t s (v + 1) (maxB (gi n) (X.emT s) (X.nh t s) (X.base n) (X.slab n) y) := by
  subst hn
  intro _
  unfold maxB
  show _ = k0_pay4 (gi (5 * t + v)) (X.emT s) (X.nh t s) (X.bw (5 * t + v)) (X.slab (5 * t + v)) (X.mx t s v)
  by_cases e : v = 0
  · subst e
    refine pay4_first _ ?_ _ _ _ _ _ _
    rw [geoV ⟨5 * t + 0, hN⟩]
    show (5 * t + 0) % 5 = 0
    omega
  · rw [h e]; rfl
end

variable (c : Dev nD)

section
variable (arg9 : Memref sig .tc .hbm S32000x256 .f32) (arg12 : Memref sig .tc .vmem S5x32x6400 .f32) (arg13 : Memref sig .tc .vmem S32x512 .f32) (arg14 : Memref sig .tc .vmem S32x512 .f32) (arg15 : Memref sig .tc .vmem S32x256 .f32) (arg16 : Memref sig .tc .vmem S32x1 .i32) (arg17 : Memref sig .tc .smem S32x1 .i32) (arg18 : Memref sig .tc .vmem S32x1 .f32) (arg19 : Memref sig .tc .vmem S32x1 .f32) (arg20 : Memref sig .tc .vmem S32x32 .i32) (arg21 : Memref sig .tc .vmem S32x32 .f32) (arg22 : Memref sig .tc .vmem S32x1 .f32) (arg23 : DmaSems sig S_) (arg24 : DmaSems sig S_)
  (E : Buf (Elt F) (arg9.view.loc (c : Thread nD τ)))

theorem Mid_mono {B B' : Vec F S5x32x6400 .f32 → Prop} {M M' : Vec F S32x1 .f32 → Prop} {s : St F} {e : Vec F S32x256 .f32} {nh : Vec F S32x512 .f32}
    (hB : ∀ x, B x → B' x) (hM : ∀ x, M x → M' x) : Mid c arg9 arg12 arg13 arg14 arg15 arg16 arg17 arg18 arg19 arg20 arg21 arg22 arg23 arg24 E B M s e nh ⊢ Mid c arg9 arg12 arg13 arg14 arg15 arg16 arg17 arg18 arg19 arg20 arg21 arg22 arg23 arg24 E B' M' s e nh := by
  unfold Mid
  iintro ⟨⟨%x, %h, H12⟩, H13, H14, H15, H16, H17, H18, H19, H20, H21, ⟨%y, %h', H22⟩, Hs, Hs2, H9⟩
  isplitl [H12]
  · iexists x; isplitr; swap; · iexact H12
    ipureintro; exact hB _ h
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · iexists y; isplitr; swap; · iexact H22
    ipureintro; exact hM _ h'
  isplitl [Hs]; · iexact Hs
  isplitl [Hs2]; · iexact Hs2
  iexact H9

/-- What holds before point `n`. -/
def Phi (X : Ins F) (hT : ∀ t, TokOk (X.st t).tok) (n : ℕ) : sProp 𝕄 :=
  if n = 0 ∨ 155 ≤ n then Any c arg9 arg12 arg13 arg14 arg15 arg16 arg17 arg18 arg19 arg20 arg21 arg22 arg23 arg24 E
  else if n % 5 = 0 then Btw c arg9 arg12 arg13 arg14 arg15 arg16 arg17 arg18 arg19 arg20 arg21 arg22 arg23 arg24 E (X.st (n / 5)) (hT (n / 5))
  else Mid c arg9 arg12 arg13 arg14 arg15 arg16 arg17 arg18 arg19 arg20 arg21 arg22 arg23 arg24 E (Bp X (n / 5) (X.st (n / 5)) (n % 5)) (Mp X (n / 5) (X.st (n / 5)) (n % 5)) (X.st (n / 5)) (X.emT (X.st (n / 5))) (X.nh (n / 5) (X.st (n / 5)))

variable (X : Ins F) (hT : ∀ t, TokOk (X.st t).tok)
theorem Phi_any (n : ℕ) (h : n = 0 ∨ 155 ≤ n) : Phi c arg9 arg12 arg13 arg14 arg15 arg16 arg17 arg18 arg19 arg20 arg21 arg22 arg23 arg24 E X hT n = Any c arg9 arg12 arg13 arg14 arg15 arg16 arg17 arg18 arg19 arg20 arg21 arg22 arg23 arg24 E := by
  unfold Phi; rw [if_pos h]
theorem Phi_btw (t : ℕ) (h : t ≠ 0) (h' : t < 31) : Phi c arg9 arg12 arg13 arg14 arg15 arg16 arg17 arg18 arg19 arg20 arg21 arg22 arg23 arg24 E X hT (5 * t) = Btw c arg9 arg12 arg13 arg14 arg15 arg16 arg17 arg18 arg19 arg20 arg21 arg22 arg23 arg24 E (X.st t) (hT t) := by
  have e : 5 * t / 5 = t := by omega
  unfold Phi; rw [if_neg (by omega), if_pos (by omega)]; simp only [e]
theorem Phi_mid (t v : ℕ) (h : v ≠ 0) (h' : t < 31) (hv : v < 5) : Phi c arg9 arg12 arg13 arg14 arg15 arg16 arg17 arg18 arg19 arg20 arg21 arg22 arg23 arg24 E X hT (5 * t + v)
    = Mid c arg9 arg12 arg13 arg14 arg15 arg16 arg17 arg18 arg19 arg20 arg21 arg22 arg23 arg24 E (Bp X t (X.st t) v) (Mp X t (X.st t) v) (X.st t) (X.emT (X.st t)) (X.nh t (X.st t)) := by
  have e : (5 * t + v) / 5 = t := by omega
  have e' : (5 * t + v) % 5 = v := by omega
  unfold Phi; rw [if_neg (by omega), if_neg (by omega)]; simp only [e, e']
end

variable (i : grid0.Coords) (arg2 : Memref sig .tc .vmem S6400x768 .bf16) (harg2 : arg2.IsWhole) (arg3 : Memref sig .tc .vmem S5x16x6400 .f32) (harg3 : arg3.IsWhole) (arg4 : Memref sig .tc .vmem S1536x768 .f32) (harg4 : arg4.IsWhole) (arg5 : Memref sig .tc .vmem S1536x512 .f32) (harg5 : arg5.IsWhole) (arg6 : Memref sig .tc .vmem S1x1536 .f32) (harg6 : arg6.IsWhole) (arg7 : Memref sig .tc .vmem S1x1536 .f32) (harg7 : arg7.IsWhole) (arg8 : Memref sig .tc .vmem S16x512 .f32) (harg8 : arg8.IsWhole) (arg9 : Memref sig .tc .hbm S32000x256 .f32) (harg9 : arg9.IsWhole) (arg10 : Memref sig .tc .vmem S16x32 .i32) (harg10 : arg10.IsWhole) (arg11 : Memref sig .tc .vmem S16x32 .f32) (harg11 : arg11.IsWhole) (arg12 : Memref sig .tc .vmem S5x32x6400 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x256 .f32) (harg15 : arg15.IsWhole) (arg16 : Memref sig .tc .vmem S32x1 .i32) (harg16 : arg16.IsWhole) (arg17 : Memref sig .tc .smem S32x1 .i32) (harg17 : arg17.IsWhole) (arg18 : Memref sig .tc .vmem S32x1 .f32) (harg18 : arg18.IsWhole) (arg19 : Memref sig .tc .vmem S32x1 .f32) (harg19 : arg19.IsWhole) (arg20 : Memref sig .tc .vmem S32x32 .i32) (harg20 : arg20.IsWhole) (arg21 : Memref sig .tc .vmem S32x32 .f32) (harg21 : arg21.IsWhole) (arg22 : Memref sig .tc .vmem S32x1 .f32) (harg22 : arg22.IsWhole) (arg23 : DmaSems sig S_) (arg24 : DmaSems sig S_)
  (E : Buf (Elt F) (arg9.view.loc (c : Thread nD τ)))
  (X : Ins F) (hT : ∀ t, TokOk (X.st t).tok) (hE : X.emb = arg9.view.read (Elt F) E)
  (hpos : 0 < rowN arg15) (hpos' : 0 < arg17.view.ref.dmaCredit S32x1 .i32) {o10 : Vec F S16x32 .i32} {o11 : Vec F S16x32 .f32}

include hE hpos in
theorem pointA : iprop(Phi c arg9 arg12 arg13 arg14 arg15 arg16 arg17 arg18 arg19 arg20 arg21 arg22 arg23 arg24 E X hT (0) ∗ Opn c arg2 arg3 arg4 arg5 arg6 arg7 arg8 (X.slab (0)) (X.base (0)) (X.wih (0)) (X.whh (0)) (X.bih (0)) (X.bhh (0)) (X.ctx (0)) ∗ (∃ W, owes (c : Thread nD τ) 0 W) ∗ owns (c : Thread nD τ) arg10 fullShare o10 ∗ owns (c : Thread nD τ) arg11 fullShare o11) ⊢ wpb c (cc0_beam_dec (F := F) (gi (0)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Phi c arg9 arg12 arg13 arg14 arg15 arg16 arg17 arg18 arg19 arg20 arg21 arg22 arg23 arg24 E X hT (5 * 0 + 1) ∗ Opn c arg2 arg3 arg4 arg5 arg6 arg7 arg8 (X.slab (0)) (X.base (0)) (X.wih (0)) (X.whh (0)) (X.bih (0)) (X.bhh (0)) (X.ctx (0)) ∗ (∃ W, owes (c : Thread nD τ) 0 W) ∗ owns (c : Thread nD τ) arg10 fullShare o10 ∗ owns (c : Thread nD τ) arg11 fullShare o11)) := by
  rw [Phi_any c arg9 arg12 arg13 arg14 arg15 arg16 arg17 arg18 arg19 arg20 arg21 arg22 arg23 arg24 E X hT 0 (.inl rfl), Phi_mid c arg9 arg12 arg13 arg14 arg15 arg16 arg17 arg18 arg19 arg20 arg21 arg22 arg23 arg24 E X hT 0 1 (by decide) (by decide) (by decide)]
  refine (caseA c (gi 0) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E ((geo1 0).mpr rfl) ((geo2 0).mpr rfl) ((geo3 0).mpr rfl) (fun h => absurd ((geo4 0).mp h) (by decide)) hpos).trans ?_
  rw [← hE]
  refine wp_mono _ _ _ fun _ => ?_
  iintro ⟨HM, HR⟩
  isplitl [HM]; swap; · iexact HR
  iapply (Mid_mono c arg9 arg12 arg13 arg14 arg15 arg16 arg17 arg18 arg19 arg20 arg21 arg22 arg23 arg24 E ?_ ?_) $$ HM
  · rintro x ⟨y, -, rfl⟩
    exact Bp_step X 0 (X.st 0) 0 0 (by decide) rfl (by decide) (fun u hu h => absurd h (Nat.not_lt_zero u))
  · rintro x ⟨y, -, rfl⟩
    exact Mp_step X 0 (X.st 0) 0 0 (by decide) rfl (by decide) (fun h => absurd rfl h)

include hE hpos in
theorem pointB (t : ℕ) (h0 : t ≠ 0) (h31 : t < 31) : iprop(Phi c arg9 arg12 arg13 arg14 arg15 arg16 arg17 arg18 arg19 arg20 arg21 arg22 arg23 arg24 E X hT (5 * t) ∗ Opn c arg2 arg3 arg4 arg5 arg6 arg7 arg8 (X.slab (5 * t)) (X.base (5 * t)) (X.wih (5 * t)) (X.whh (5 * t)) (X.bih (5 * t)) (X.bhh (5 * t)) (X.ctx (5 * t)) ∗ (∃ W, owes (c : Thread nD τ) 0 W) ∗ owns (c : Thread nD τ) arg10 fullShare o10 ∗ owns (c : Thread nD τ) arg11 fullShare o11) ⊢ wpb c (cc0_beam_dec (F := F) (gi (5 * t)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Phi c arg9 arg12 arg13 arg14 arg15 arg16 arg17 arg18 arg19 arg20 arg21 arg22 arg23 arg24 E X hT (5 * t + 1) ∗ Opn c arg2 arg3 arg4 arg5 arg6 arg7 arg8 (X.slab (5 * t)) (X.base (5 * t)) (X.wih (5 * t)) (X.whh (5 * t)) (X.bih (5 * t)) (X.bhh (5 * t)) (X.ctx (5 * t)) ∗ (∃ W, owes (c : Thread nD τ) 0 W) ∗ owns (c : Thread nD τ) arg10 fullShare o10 ∗ owns (c : Thread nD τ) arg11 fullShare o11)) := by
  have hn : 5 * t < 155 := by omega
  rw [Phi_btw c arg9 arg12 arg13 arg14 arg15 arg16 arg17 arg18 arg19 arg20 arg21 arg22 arg23 arg24 E X hT t h0 h31, Phi_mid c arg9 arg12 arg13 arg14 arg15 arg16 arg17 arg18 arg19 arg20 arg21 arg22 arg23 arg24 E X hT t 1 (by decide) h31 (by decide)]
  refine (caseB c (gi (5 * t)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E ((geo1 ⟨5 * t, hn⟩).mpr (by show 5 * t % 5 = 0; omega))
    (fun h => absurd ((geo2 ⟨5 * t, hn⟩).mp h) (by show ¬ 5 * t / 5 = 0; omega)) (fun h => absurd ((geo3 ⟨5 * t, hn⟩).mp h) (by show ¬ 5 * t / 5 = 0; omega))
    (fun h => absurd ((geo4 ⟨5 * t, hn⟩).mp h) (by show ¬ 5 * t % 5 = 4; omega)) hpos (hT t)).trans ?_
  rw [← hE]
  refine wp_mono _ _ _ fun _ => ?_
  iintro ⟨HM, HR⟩
  isplitl [HM]; swap; · iexact HR
  iapply (Mid_mono c arg9 arg12 arg13 arg14 arg15 arg16 arg17 arg18 arg19 arg20 arg21 arg22 arg23 arg24 E ?_ ?_) $$ HM
  · rintro x ⟨y, -, rfl⟩
    exact Bp_step X t (X.st t) 0 (5 * t) (by decide) rfl hn (fun u hu h => absurd h (Nat.not_lt_zero u))
  · rintro x ⟨y, -, rfl⟩
    exact Mp_step X t (X.st t) 0 (5 * t) (by decide) rfl hn (fun h => absurd rfl h)

theorem pointC (t v : ℕ) (h0 : v ≠ 0) (h4 : v < 4) (h31 : t < 31) : iprop(Phi c arg9 arg12 arg13 arg14 arg15 arg16 arg17 arg18 arg19 arg20 arg21 arg22 arg23 arg24 E X hT (5 * t + v) ∗ Opn c arg2 arg3 arg4 arg5 arg6 arg7 arg8 (X.slab (5 * t + v)) (X.base (5 * t + v)) (X.wih (5 * t + v)) (X.whh (5 * t + v)) (X.bih (5 * t + v)) (X.bhh (5 * t + v)) (X.ctx (5 * t + v)) ∗ (∃ W, owes (c : Thread nD τ) 0 W) ∗ owns (c : Thread nD τ) arg10 fullShare o10 ∗ owns (c : Thread nD τ) arg11 fullShare o11) ⊢ wpb c (cc0_beam_dec (F := F) (gi (5 * t + v)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Phi c arg9 arg12 arg13 arg14 arg15 arg16 arg17 arg18 arg19 arg20 arg21 arg22 arg23 arg24 E X hT (5 * t + (v + 1)) ∗ Opn c arg2 arg3 arg4 arg5 arg6 arg7 arg8 (X.slab (5 * t + v)) (X.base (5 * t + v)) (X.wih (5 * t + v)) (X.whh (5 * t + v)) (X.bih (5 * t + v)) (X.bhh (5 * t + v)) (X.ctx (5 * t + v)) ∗ (∃ W, owes (c : Thread nD τ) 0 W) ∗ owns (c : Thread nD τ) arg10 fullShare o10 ∗ owns (c : Thread nD τ) arg11 fullShare o11)) := by
  have hn : 5 * t + v < 155 := by omega
  rw [Phi_mid c arg9 arg12 arg13 arg14 arg15 arg16 arg17 arg18 arg19 arg20 arg21 arg22 arg23 arg24 E X hT t v h0 h31 (by omega), Phi_mid c arg9 arg12 arg13 arg14 arg15 arg16 arg17 arg18 arg19 arg20 arg21 arg22 arg23 arg24 E X hT t (v + 1) (by omega) h31 (by omega)]
  refine (caseC c (gi (5 * t + v)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun h => absurd ((geo1 ⟨5 * t + v, hn⟩).mp h) (by show ¬ (5 * t + v) % 5 = 0; omega))
    (fun h => absurd ((geo4 ⟨5 * t + v, hn⟩).mp h) (by show ¬ (5 * t + v) % 5 = 4; omega))).trans ?_
  refine wp_mono _ _ _ fun _ => ?_
  iintro ⟨HM, HR⟩
  isplitl [HM]; swap; · iexact HR
  iapply (Mid_mono c arg9 arg12 arg13 arg14 arg15 arg16 arg17 arg18 arg19 arg20 arg21 arg22 arg23 arg24 E ?_ ?_) $$ HM
  · rintro x ⟨y, hy, rfl⟩
    exact Bp_step X t (X.st t) v (5 * t + v) (by omega) rfl hn hy
  · rintro x ⟨y, hy, rfl⟩
    exact Mp_step X t (X.st t) v (5 * t + v) (by omega) rfl hn hy

theorem last_blk (t : ℕ) (h31 : t < 31) (h4 : k0_cond4 (gi (5 * t + 4)) = 1#1) (y : Vec F S5x32x6400 .f32) (hy : Bp X t (X.st t) 4 y) (u : Fin k0_t1_loop.trips) :
    VecWindow.window (putB (gi (5 * t + 4)) (X.emT (X.st t)) (X.nh t (X.st t)) (X.base (5 * t + 4)) (X.slab (5 * t + 4)) y) (k0_off67 u) S1x32x6400.size
      (k0_off67_inb (gi (5 * t + 4)) u h4) = X.blk t (X.st t) u.val := by
  have h := Bp_step X t (X.st t) 4 (5 * t + 4) (by decide) rfl (by omega) hy
  have hu : u.val < 5 := u.isLt
  rw [window_off _ (off67_eq u) _ (blkInb u.val hu)]
  exact h u.val hu hu

include hpos' in
theorem pointD (t : ℕ) (h30 : t < 30) : iprop(Phi c arg9 arg12 arg13 arg14 arg15 arg16 arg17 arg18 arg19 arg20 arg21 arg22 arg23 arg24 E X hT (5 * t + 4) ∗ Opn c arg2 arg3 arg4 arg5 arg6 arg7 arg8 (X.slab (5 * t + 4)) (X.base (5 * t + 4)) (X.wih (5 * t + 4)) (X.whh (5 * t + 4)) (X.bih (5 * t + 4)) (X.bhh (5 * t + 4)) (X.ctx (5 * t + 4)) ∗ (∃ W, owes (c : Thread nD τ) 0 W) ∗ owns (c : Thread nD τ) arg10 fullShare o10 ∗ owns (c : Thread nD τ) arg11 fullShare o11) ⊢ wpb c (cc0_beam_dec (F := F) (gi (5 * t + 4)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Phi c arg9 arg12 arg13 arg14 arg15 arg16 arg17 arg18 arg19 arg20 arg21 arg22 arg23 arg24 E X hT (5 * (t + 1)) ∗ Opn c arg2 arg3 arg4 arg5 arg6 arg7 arg8 (X.slab (5 * t + 4)) (X.base (5 * t + 4)) (X.wih (5 * t + 4)) (X.whh (5 * t + 4)) (X.bih (5 * t + 4)) (X.bhh (5 * t + 4)) (X.ctx (5 * t + 4)) ∗ (∃ W, owes (c : Thread nD τ) 0 W) ∗ owns (c : Thread nD τ) arg10 fullShare o10 ∗ owns (c : Thread nD τ) arg11 fullShare o11)) := by
  have hn : 5 * t + 4 < 155 := by omega
  have h4 : k0_cond4 (gi (5 * t + 4)) = 1#1 := (geo4 ⟨5 * t + 4, hn⟩).mpr (by show (5 * t + 4) % 5 = 4; omega)
  rw [Phi_mid c arg9 arg12 arg13 arg14 arg15 arg16 arg17 arg18 arg19 arg20 arg21 arg22 arg23 arg24 E X hT t 4 (by decide) (by omega) (by decide), Phi_btw c arg9 arg12 arg13 arg14 arg15 arg16 arg17 arg18 arg19 arg20 arg21 arg22 arg23 arg24 E X hT (t + 1) (by omega) (by omega)]
  exact (caseD c (gi (5 * t + 4)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun h => absurd ((geo1 ⟨5 * t + 4, hn⟩).mp h) (by show ¬ (5 * t + 4) % 5 = 0; omega)) h4
    ((geo5 ⟨5 * t + 4, hn⟩).mpr (by show (5 * t + 4) / 5 < 30; omega))
    (fun h => absurd ((geo6 ⟨5 * t + 4, hn⟩).mp h) (by show ¬ (5 * t + 4) / 5 = 30; omega)) hpos'
    (m := X.mx t (X.st t) 5) (blk := fun u => X.blk t (X.st t) u.val)
    (fun y hy u => last_blk X t (by omega) h4 y hy u)
    (fun y hy => Mp_step X t (X.st t) 4 (5 * t + 4) (by decide) rfl hn hy (by decide)) (hT (t + 1)))

theorem pointE : iprop(Phi c arg9 arg12 arg13 arg14 arg15 arg16 arg17 arg18 arg19 arg20 arg21 arg22 arg23 arg24 E X hT (5 * 30 + 4) ∗ Opn c arg2 arg3 arg4 arg5 arg6 arg7 arg8 (X.slab (5 * 30 + 4)) (X.base (5 * 30 + 4)) (X.wih (5 * 30 + 4)) (X.whh (5 * 30 + 4)) (X.bih (5 * 30 + 4)) (X.bhh (5 * 30 + 4)) (X.ctx (5 * 30 + 4)) ∗ (∃ W, owes (c : Thread nD τ) 0 W) ∗ owns (c : Thread nD τ) arg10 fullShare o10 ∗ owns (c : Thread nD τ) arg11 fullShare o11) ⊢ wpb c (cc0_beam_dec (F := F) (gi (5 * 30 + 4)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Phi c arg9 arg12 arg13 arg14 arg15 arg16 arg17 arg18 arg19 arg20 arg21 arg22 arg23 arg24 E X hT (155) ∗ Opn c arg2 arg3 arg4 arg5 arg6 arg7 arg8 (X.slab (5 * 30 + 4)) (X.base (5 * 30 + 4)) (X.wih (5 * 30 + 4)) (X.whh (5 * 30 + 4)) (X.bih (5 * 30 + 4)) (X.bhh (5 * 30 + 4)) (X.ctx (5 * 30 + 4)) ∗ (∃ W, owes (c : Thread nD τ) 0 W) ∗ owns (c : Thread nD τ) arg10 fullShare X.resT ∗ owns (c : Thread nD τ) arg11 fullShare X.resS)) := by
  have h4 : k0_cond4 (gi (5 * 30 + 4)) = 1#1 := (geo4 154).mpr rfl
  rw [Phi_mid c arg9 arg12 arg13 arg14 arg15 arg16 arg17 arg18 arg19 arg20 arg21 arg22 arg23 arg24 E X hT 30 4 (by decide) (by decide) (by decide), Phi_any c arg9 arg12 arg13 arg14 arg15 arg16 arg17 arg18 arg19 arg20 arg21 arg22 arg23 arg24 E X hT 155 (.inr le_rfl)]
  exact (caseE c (gi (5 * 30 + 4)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E (fun h => absurd ((geo1 154).mp h) (by decide)) h4
    (fun h => absurd ((geo5 154).mp h) (by decide)) ((geo6 154).mpr rfl)
    (m := X.mx 30 (X.st 30) 5) (blk := fun u => X.blk 30 (X.st 30) u.val)
    (fun y hy u => last_blk X 30 (by decide) h4 y hy u)
    (fun y hy => Mp_step X 30 (X.st 30) 4 (5 * 30 + 4) (by decide) rfl (by decide) hy (by decide)))

include hE hpos hpos' in
/-- Every point but the last: the invariant goes on, the results' buffers are left alone. -/
theorem point (n : ℕ) (hn : n < 154) : iprop(Phi c arg9 arg12 arg13 arg14 arg15 arg16 arg17 arg18 arg19 arg20 arg21 arg22 arg23 arg24 E X hT (n) ∗ Opn c arg2 arg3 arg4 arg5 arg6 arg7 arg8 (X.slab (n)) (X.base (n)) (X.wih (n)) (X.whh (n)) (X.bih (n)) (X.bhh (n)) (X.ctx (n)) ∗ (∃ W, owes (c : Thread nD τ) 0 W) ∗ owns (c : Thread nD τ) arg10 fullShare o10 ∗ owns (c : Thread nD τ) arg11 fullShare o11) ⊢ wpb c (cc0_beam_dec (F := F) (gi (n)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24) (fun _ => iprop(Phi c arg9 arg12 arg13 arg14 arg15 arg16 arg17 arg18 arg19 arg20 arg21 arg22 arg23 arg24 E X hT (n + 1) ∗ Opn c arg2 arg3 arg4 arg5 arg6 arg7 arg8 (X.slab (n)) (X.base (n)) (X.wih (n)) (X.whh (n)) (X.bih (n)) (X.bhh (n)) (X.ctx (n)) ∗ (∃ W, owes (c : Thread nD τ) 0 W) ∗ owns (c : Thread nD τ) arg10 fullShare o10 ∗ owns (c : Thread nD τ) arg11 fullShare o11)) := by
  obtain ⟨t, v, hv, rfl⟩ : ∃ t v, v < 5 ∧ n = 5 * t + v := ⟨n / 5, n % 5, by omega, by omega⟩
  by_cases h0 : v = 0
  · subst h0
    by_cases ht : t = 0
    · subst ht
      exact pointA c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E X hT hE hpos
    · exact pointB c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E X hT hE hpos t ht (by omega)
  · by_cases h4 : v = 4
    · subst h4
      exact pointD c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E X hT hpos' t (by omega)
    · exact pointC c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 E X hT t v h0 (by omega) (by omega)

end Cert.KernelIdeal.Dec

end
-- ==== Proof.DecRun.lean ====
/-
  The beam decoder's run: the pipeline with the invariant, what the results hold after it, and the frame.
-/
module

public import proofs.«01_k».proof.Proof.DecInv
public import proofs.«01_k».proof.Proof.Gen.KernelIdeal.Frame

@[expose] public section

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

variable (c : Dev nD)

variable (m : (ℓ : Loc nD τ sig) → Buf (Elt F) ℓ) (ρ : Dev nD → PrngReg)

/-! ## The operands and the scratch buffers -/

/-- Grid point `n`. -/
def pt (n : ℕ) : Fin cfg0.N := ⟨n % 155, by show _ < grid0.N; rw [gN]; exact Nat.mod_lt _ (by decide)⟩
theorem pt_val (t : Fin cfg0.N) : pt t.val = t := Fin.ext (Nat.mod_eq_of_lt (lt_of_lt_of_eq t.isLt gN))

abbrev hbM : Memref sig .tc .hbm S32000x256 .f32 := Memref.whole main_arg7
abbrev sM0 : Memref sig .tc .vmem S5x32x6400 .f32 := Memref.whole cc0_scratch0
abbrev sM1 : Memref sig .tc .vmem S32x512 .f32 := Memref.whole cc0_scratch1
abbrev sM2 : Memref sig .tc .vmem S32x512 .f32 := Memref.whole cc0_scratch2
abbrev sM3 : Memref sig .tc .vmem S32x256 .f32 := Memref.whole cc0_scratch3
abbrev sM4 : Memref sig .tc .vmem S32x1 .i32 := Memref.whole cc0_scratch4
abbrev sM5 : Memref sig .tc .smem S32x1 .i32 := Memref.whole cc0_scratch5
abbrev sM6 : Memref sig .tc .vmem S32x1 .f32 := Memref.whole cc0_scratch6
abbrev sM7 : Memref sig .tc .vmem S32x1 .f32 := Memref.whole cc0_scratch7
abbrev sM8 : Memref sig .tc .vmem S32x32 .i32 := Memref.whole cc0_scratch8
abbrev sM9 : Memref sig .tc .vmem S32x32 .f32 := Memref.whole cc0_scratch9
abbrev sM10 : Memref sig .tc .vmem S32x1 .f32 := Memref.whole cc0_scratch10

/-- The decoder's operands on core `c`. -/
def ins (c : Dev nD) : Ins F where
  slab n := iblk m c 0 (pt n)
  base n := iblk m c 1 (pt n)
  wih n := iblk m c 2 (pt n)
  whh n := iblk m c 3 (pt n)
  bih n := iblk m c 4 (pt n)
  bhh n := iblk m c 5 (pt n)
  ctx n := iblk m c 6 (pt n)
  emb := hbM.view.read (Elt F) (V m c main_arg7)

/-- Every token the decoder comes to names a row of the table. -/
def ToksOk : Prop := ∀ (c : Dev nD) (t : ℕ), TokOk ((ins m c).st t).tok

theorem hpos15 : 0 < rowN sM3 := by decide
theorem hpos17 : 0 < sM5.view.ref.dmaCredit S32x1 .i32 := by decide

/-! ## The invariant at entry and exit -/

abbrev osem0 : Fin 2 → SemLoc sig := fun j => (![.dma cc0_scratch11.sem, .dma cc0_scratch12.sem] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), (SemLoc.dma cc0_scratch11.sem)) 0 ∗ semVal ((c : Thread nD τ), (SemLoc.dma cc0_scratch12.sem)) 0) := by
  rw [Pipeline.ownSems0_eq_of_list c osem0 [0, 1] (by decide) (by decide)]; rfl
def H0 : Finset (Ref sig .tc) := {main_arg7}
theorem H0_sub : H0 ⊆ Pipeline.restRefs sig spec0 := by decide
theorem hbmPts0_eq (c : Dev nD) :
    (bigSep H0 (fun b => ((c : Thread nD τ).loc b) ↦{fullShare} V m c b) : sProp 𝕄)
      = ((c : Thread nD τ).loc main_arg7 ↦{fullShare} V m c main_arg7) := by
  rw [BI.bigSep_eq_bigSepL_of_eq [main_arg7] (by decide) (by decide)]; rfl

/-- The scratch buffers of core `c` at anything. -/
abbrev any0 (c : Dev nD) : sProp 𝕄 :=
  Any c hbM sM0 sM1 sM2 sM3 sM4 sM5 sM6 sM7 sM8 sM9 sM10 cc0_scratch11 cc0_scratch12 (V m c main_arg7)

theorem any0_eq (c : Dev nD) : any0 m c = (iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f)
    ∗ (∃ f : Buf (Elt F) ((c : Thread nD τ).loc cc0_scratch9), ((c : Thread nD τ).loc cc0_scratch9) ↦{fullShare} f)
    ∗ (∃ f : Buf (Elt F) ((c : Thread nD τ).loc cc0_scratch10), ((c : Thread nD τ).loc cc0_scratch10) ↦{fullShare} f)
    ∗ semVal ((c : Thread nD τ), (SemLoc.dma cc0_scratch11.sem)) 0 ∗ semVal ((c : Thread nD τ), (SemLoc.dma cc0_scratch12.sem)) 0
    ∗ ((c : Thread nD τ).loc main_arg7 ↦{fullShare} V m c main_arg7)) : sProp 𝕄) := by
  unfold any0 Any
  simp only [sM0, sM1, sM2, sM3, sM4, sM5, sM6, sM7, sM8, sM9, sM10, owns_whole]
  rw [show hbM.view.set = Finset.univ from View.set_whole _]
  rfl

theorem PhiD0_eq (c : Dev nD) :
    (Pipeline.ΦD osem0 spec0 H0 (V m) c : sProp 𝕄) ⊣⊢ iprop(any0 m c ∗ ∃ r, prngReg c r) := by
  rw [Pipeline.ΦD_eq, scopedRest0_eq, ownSems00_eq, hbmPts0_eq, any0_eq]
  constructor
  · iintro ⟨⟨H0, H1, H2, H3, H4, H6, H7, H8, H9, H10, H5⟩, Hg, ⟨Hs, Hs2⟩, H9'⟩
    isplitr [Hg]; swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hs]; · iexact Hs
    isplitl [Hs2]; · iexact Hs2
    iexact H9'
  · iintro ⟨⟨H0, H1, H2, H3, H4, H5, H6, H7, H8, H9, H10, Hs, Hs2, H9'⟩, Hg⟩
    isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H6]; · iexact H6
      isplitl [H7]; · iexact H7
      isplitl [H8]; · iexact H8
      isplitl [H9]; · iexact H9
      isplitl [H10]; · iexact H10
      iexact H5
    isplitl [Hg]; · iexact Hg
    isplitl [Hs Hs2]
    · isplitl [Hs]; · iexact Hs
      iexact Hs2
    iexact H9'

/-! ## The pipeline's data -/

abbrev phi0 (hT : ToksOk m) (c : Dev nD) (n : ℕ) : sProp 𝕄 :=
  Phi c hbM sM0 sM1 sM2 sM3 sM4 sM5 sM6 sM7 sM8 sM9 sM10 cc0_scratch11 cc0_scratch12 (V m c main_arg7) (ins m c) (hT c) n

variable (hT : ToksOk m)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (ins m c).resT
    | ⟨8, _⟩ => (ins m c).resS
  Φ k := iprop(phi0 m hT c k.val ∗ ∃ r, prngReg c r)
  q _ := fullShare
  owed _ := 0

theorem A_eq (c : Dev nD) (w : Fin cfg0.W) : (dats m hT 0 c).A w = V m c (Pipeline.arrRef spec0 w) := by
  dsimp only [dats]
theorem after0_0 (c : Dev nD) (t : Fin cfg0.N) : (dats m hT 0 c).after 0 t = iblk m c 0 t := by dsimp only [dats]
theorem before0_0 (c : Dev nD) (t : Fin cfg0.N) (d) : (dats m hT 0 c).before 0 t d = iblk m c 0 t :=
  ((dats m hT 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m hT 0 c).after 1 t = iblk m c 1 t := by dsimp only [dats]
theorem before0_1 (c : Dev nD) (t : Fin cfg0.N) (d) : (dats m hT 0 c).before 1 t d = iblk m c 1 t :=
  ((dats m hT 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m hT 0 c).after 2 t = iblk m c 2 t := by dsimp only [dats]
theorem before0_2 (c : Dev nD) (t : Fin cfg0.N) (d) : (dats m hT 0 c).before 2 t d = iblk m c 2 t :=
  ((dats m hT 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m hT 0 c).after 3 t = iblk m c 3 t := by dsimp only [dats]
theorem before0_3 (c : Dev nD) (t : Fin cfg0.N) (d) : (dats m hT 0 c).before 3 t d = iblk m c 3 t :=
  ((dats m hT 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m hT 0 c).after 4 t = iblk m c 4 t := by dsimp only [dats]
theorem before0_4 (c : Dev nD) (t : Fin cfg0.N) (d) : (dats m hT 0 c).before 4 t d = iblk m c 4 t :=
  ((dats m hT 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m hT 0 c).after 5 t = iblk m c 5 t := by dsimp only [dats]
theorem before0_5 (c : Dev nD) (t : Fin cfg0.N) (d) : (dats m hT 0 c).before 5 t d = iblk m c 5 t :=
  ((dats m hT 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m hT 0 c).after 6 t = iblk m c 6 t := by dsimp only [dats]
theorem before0_6 (c : Dev nD) (t : Fin cfg0.N) (d) : (dats m hT 0 c).before 6 t d = iblk m c 6 t :=
  ((dats m hT 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m hT 0 c).after 7 t = (ins m c).resT := by dsimp only [dats]
theorem after0_8 (c : Dev nD) (t : Fin cfg0.N) : (dats m hT 0 c).after 8 t = (ins m c).resS := by dsimp only [dats]

theorem idle7 : ∀ t : Fin grid0.N, t.val ≠ 154 → idle0 7 (grid0.coords t) = true := by decide +kernel
theorem idle8 : ∀ t : Fin grid0.N, t.val ≠ 154 → idle0 8 (grid0.coords t) = true := by decide +kernel
theorem idle7' : ∀ t : Fin grid0.N, t.val = 154 → idle0 7 (grid0.coords t) = false := by decide +kernel
theorem idle8' : ∀ t : Fin grid0.N, t.val = 154 → idle0 8 (grid0.coords t) = false := by decide +kernel

def bodyPre (c : Dev nD) (t : Fin cfg0.N) : sProp 𝕄 :=
  iprop((dats m hT 0 c).Φ t.castSucc ∗ (dats m hT 0 c).owesAt () t.castSucc
    ∗ (∃ d, owns (c : Thread nD τ) (st0_0 t) fullShare ((dats m hT 0 c).before 0 t d))
    ∗ (∃ d, owns (c : Thread nD τ) (st0_1 t) fullShare ((dats m hT 0 c).before 1 t d))
    ∗ (∃ d, owns (c : Thread nD τ) (st0_2 t) fullShare ((dats m hT 0 c).before 2 t d))
    ∗ (∃ d, owns (c : Thread nD τ) (st0_3 t) fullShare ((dats m hT 0 c).before 3 t d))
    ∗ (∃ d, owns (c : Thread nD τ) (st0_4 t) fullShare ((dats m hT 0 c).before 4 t d))
    ∗ (∃ d, owns (c : Thread nD τ) (st0_5 t) fullShare ((dats m hT 0 c).before 5 t d))
    ∗ (∃ d, owns (c : Thread nD τ) (st0_6 t) fullShare ((dats m hT 0 c).before 6 t d))
    ∗ (∃ d, owns (c : Thread nD τ) (st0_7 t) fullShare ((dats m hT 0 c).before 7 t d))
    ∗ (∃ d, owns (c : Thread nD τ) (st0_8 t) fullShare ((dats m hT 0 c).before 8 t d)))
def bodyPost (c : Dev nD) (t : Fin cfg0.N) : sProp 𝕄 :=
  iprop((dats m hT 0 c).Φ t.succ ∗ (dats m hT 0 c).owesAt () t.succ
    ∗ owns (c : Thread nD τ) (st0_0 t) fullShare ((dats m hT 0 c).after 0 t)
    ∗ owns (c : Thread nD τ) (st0_1 t) fullShare ((dats m hT 0 c).after 1 t)
    ∗ owns (c : Thread nD τ) (st0_2 t) fullShare ((dats m hT 0 c).after 2 t)
    ∗ owns (c : Thread nD τ) (st0_3 t) fullShare ((dats m hT 0 c).after 3 t)
    ∗ owns (c : Thread nD τ) (st0_4 t) fullShare ((dats m hT 0 c).after 4 t)
    ∗ owns (c : Thread nD τ) (st0_5 t) fullShare ((dats m hT 0 c).after 5 t)
    ∗ owns (c : Thread nD τ) (st0_6 t) fullShare ((dats m hT 0 c).after 6 t)
    ∗ (dats m hT 0 c).leavesExact 7 t ∗ (dats m hT 0 c).leavesExact 8 t)

/-- A point's run from the invariant, at any contents of the results' buffers. -/
theorem run_point (c : Dev nD) (t : Fin cfg0.N) (h : t.val ≠ 154) {o10 : Vec F S16x32 .i32} {o11 : Vec F S16x32 .f32} :
    iprop(phi0 m hT c t.val ∗ Opn c (st0_0 t) (st0_1 t) (st0_2 t) (st0_3 t) (st0_4 t) (st0_5 t) (st0_6 t) (iblk m c 0 t) (iblk m c 1 t) (iblk m c 2 t) (iblk m c 3 t) (iblk m c 4 t) (iblk m c 5 t) (iblk m c 6 t) ∗ (∃ W, owes (c : Thread nD τ) 0 W) ∗ owns (c : Thread nD τ) (st0_7 t) fullShare o10 ∗ owns (c : Thread nD τ) (st0_8 t) fullShare o11)
    ⊢ wpb c (bodyAt0 (F := F) t) (fun _ => iprop(phi0 m hT c (t.val + 1) ∗ Opn c (st0_0 t) (st0_1 t) (st0_2 t) (st0_3 t) (st0_4 t) (st0_5 t) (st0_6 t) (iblk m c 0 t) (iblk m c 1 t) (iblk m c 2 t) (iblk m c 3 t) (iblk m c 4 t) (iblk m c 5 t) (iblk m c 6 t) ∗ (∃ W, owes (c : Thread nD τ) 0 W) ∗ owns (c : Thread nD τ) (st0_7 t) fullShare o10 ∗ owns (c : Thread nD τ) (st0_8 t) fullShare o11)) := by
  have hlt : t.val < 155 := lt_of_lt_of_eq t.isLt gN
  have h0 := point (F := F) c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) hbM (Memref.isWhole_whole _) (st0_7 t) (hstage0_7 ((cfg0.slots t 7).cast nbuf0_7)) (st0_8 t) (hstage0_8 ((cfg0.slots t 8).cast nbuf0_8)) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) sM7 (Memref.isWhole_whole _) sM8 (Memref.isWhole_whole _) sM9 (Memref.isWhole_whole _) sM10 (Memref.isWhole_whole _) cc0_scratch11 cc0_scratch12 (V m c main_arg7) (ins m c) (hT c) rfl hpos15 hpos17 (o10 := o10) (o11 := o11) t.val (by omega)
  rw [← gi_coords t] at h0
  dsimp only [ins] at h0
  rw [pt_val t] at h0
  exact h0

/-- The last point's run. -/
theorem run_last (c : Dev nD) (t : Fin cfg0.N) (h : t.val = 154) {o10 : Vec F S16x32 .i32} {o11 : Vec F S16x32 .f32} :
    iprop(phi0 m hT c t.val ∗ Opn c (st0_0 t) (st0_1 t) (st0_2 t) (st0_3 t) (st0_4 t) (st0_5 t) (st0_6 t) (iblk m c 0 t) (iblk m c 1 t) (iblk m c 2 t) (iblk m c 3 t) (iblk m c 4 t) (iblk m c 5 t) (iblk m c 6 t) ∗ (∃ W, owes (c : Thread nD τ) 0 W) ∗ owns (c : Thread nD τ) (st0_7 t) fullShare o10 ∗ owns (c : Thread nD τ) (st0_8 t) fullShare o11)
    ⊢ wpb c (bodyAt0 (F := F) t) (fun _ => iprop(phi0 m hT c (t.val + 1) ∗ Opn c (st0_0 t) (st0_1 t) (st0_2 t) (st0_3 t) (st0_4 t) (st0_5 t) (st0_6 t) (iblk m c 0 t) (iblk m c 1 t) (iblk m c 2 t) (iblk m c 3 t) (iblk m c 4 t) (iblk m c 5 t) (iblk m c 6 t) ∗ (∃ W, owes (c : Thread nD τ) 0 W)
      ∗ owns (c : Thread nD τ) (st0_7 t) fullShare (ins m c).resT ∗ owns (c : Thread nD τ) (st0_8 t) fullShare (ins m c).resS)) := by
  have h0 := pointE (F := F) c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) hbM (Memref.isWhole_whole _) (st0_7 t) (hstage0_7 ((cfg0.slots t 7).cast nbuf0_7)) (st0_8 t) (hstage0_8 ((cfg0.slots t 8).cast nbuf0_8)) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) sM7 (Memref.isWhole_whole _) sM8 (Memref.isWhole_whole _) sM9 (Memref.isWhole_whole _) sM10 (Memref.isWhole_whole _) cc0_scratch11 cc0_scratch12 (V m c main_arg7) (ins m c) (hT c) (o10 := o10) (o11 := o11)
  have e : 5 * 30 + 4 = t.val := h.symm
  have e' : 155 = t.val + 1 := by rw [h]
  rw [e', e, ← gi_coords t] at h0
  dsimp only [ins] at h0
  rw [pt_val t] at h0
  exact h0

theorem sound_body (c : Dev nD) (t : Fin cfg0.N) :
    bodyPre m hT c t ⊢ wp frame (wpE (defs₀ (F := F)) Variants.none c none) Set.univ (bodyAt0 t) (fun _ => bodyPost m hT c t) := by
  unfold bodyPre bodyPost
  rw [show (dats m hT 0 c).Φ t.succ = iprop(phi0 m hT c (t.val + 1) ∗ ∃ r, prngReg c r) from rfl,
    show (dats m hT 0 c).Φ t.castSucc = iprop(phi0 m hT c t.val ∗ ∃ r, prngReg c r) from rfl]
  simp only [before0_0, before0_1, before0_2, before0_3, before0_4, before0_5, before0_6,
    after0_0, after0_1, after0_2, after0_3, after0_4, after0_5, after0_6]
  unfold Dat.owesAt Pipeline.owesWithin
  rw [show (dats m hT 0 c).owed t.castSucc = 0 from rfl, show (dats m hT 0 c).owed t.succ = 0 from rfl]
  by_cases h : t.val = 154
  · have e7 : (dats m hT 0 c).leavesExact 7 t = owns (c : Thread nD τ) (st0_7 t) fullShare (ins m c).resT := by
      unfold Dat.leavesExact; rw [show cfg0.idle 7 (cfg0.grid.coords t) = false from idle7' t h]; show owns (c : Thread nD τ) (st0_7 t) fullShare ((dats m hT 0 c).after 7 t) = _; rw [after0_7]
    have e8 : (dats m hT 0 c).leavesExact 8 t = owns (c : Thread nD τ) (st0_8 t) fullShare (ins m c).resS := by
      unfold Dat.leavesExact; rw [show cfg0.idle 8 (cfg0.grid.coords t) = false from idle8' t h]; show owns (c : Thread nD τ) (st0_8 t) fullShare ((dats m hT 0 c).after 8 t) = _; rw [after0_8]
    rw [e7, e8]
    iintro ⟨⟨HP, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame (wpE (defs₀ (F := F)) Variants.none (c : Thread nD τ) none) Set.univ)
    isplitr [Hg]
    · iapply (run_last m hT c t h)
      unfold Opn
      isplitl [HP]; · iexact HP
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [HW]; · iexists W; iexact HW
      isplitl [H7]; · iexact H7
      iexact H8
    unfold Opn
    iintro %_ ⟨HP, ⟨H0, H1, H2, H3, H4, H5, H6⟩, ⟨%W', HW⟩, H7, H8⟩
    isplitl [HP Hg]
    · isplitl [HP]; · iexact HP
      iexact Hg
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hlt : t.val < 155 := lt_of_lt_of_eq t.isLt gN
    have hm : ¬ t.val % 155 = 154 := by omega
    rw [(dats m hT 0 c).leavesExact_idle 7 t (idle7 t h) (Bool.eq_false_iff.mpr fun hf => hm ((flush0_7 t).mp hf)),
      (dats m hT 0 c).leavesExact_idle 8 t (idle8 t h) (Bool.eq_false_iff.mpr fun hf => hm ((flush0_8 t).mp hf))]
    iintro ⟨⟨HP, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame (wpE (defs₀ (F := F)) Variants.none (c : Thread nD τ) none) Set.univ)
    isplitr [Hg]
    · iapply (run_point m hT c t h)
      unfold Opn
      isplitl [HP]; · iexact HP
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [HW]; · iexists W; iexact HW
      isplitl [H7]; · iexact H7
      iexact H8
    unfold Opn
    iintro %_ ⟨HP, ⟨H0, H1, H2, H3, H4, H5, H6⟩, ⟨%W', HW⟩, H7, H8⟩
    isplitl [HP Hg]
    · isplitl [HP]; · iexact HP
      iexact Hg
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hT 0 c) (defs₀ (F := F)) Variants.none () Set.univ := fun t => by
  rw [bigSep_W0, bigSep_W0, defs₀_row]
  exact triple_restated (sound_body m hT c t) rfl .rfl fun _ => .rfl

/-! ## The run and the frame -/

theorem hmainD : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
theorem run_main : θ_run defs (onTc (τ := τ) (main (F := F))) (s₀ m ρ) (fun r => Pipeline.FramePost cfgs (dats m hT) 0 (V m) r ∧ r.2.sem = fun _ => 0) :=
  Pipeline.θ_run_frame_dma (Q' := _) cfgs (dats m hT) (0 : Fin 1) launch0 osem0 defs₀ Variants.none ownSemFacts0 H0 H0_sub m ρ main
    (hbody := fun c => (body_obligation m hT c).loose) (hshare := fun c => (dats m hT 0 c).share_full fun _ => rfl)
    (howed := fun _ _ => rfl) (V := V m) (hmain := hmainD m) (hA := A_eq m hT)
    (hin := fun c => (PhiD0_eq m c).1) (hout := fun c => (PhiD0_eq m c).2)

include hT in
/-- The frame: every operand is as it was. -/
theorem frame_of_toks : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ ⟨h, hz⟩ => ⟨fun c => ⟨
      ((h c).1 0).trans (((dats m hT 0 c).arrAt_in 0 rfl _).trans ((A_eq m hT c 0).trans rfl)),
      ((h c).1 1).trans (((dats m hT 0 c).arrAt_in 1 rfl _).trans ((A_eq m hT c 1).trans rfl)),
      ((h c).1 2).trans (((dats m hT 0 c).arrAt_in 2 rfl _).trans ((A_eq m hT c 2).trans rfl)),
      ((h c).1 3).trans (((dats m hT 0 c).arrAt_in 3 rfl _).trans ((A_eq m hT c 3).trans rfl)),
      ((h c).1 4).trans (((dats m hT 0 c).arrAt_in 4 rfl _).trans ((A_eq m hT c 4).trans rfl)),
      ((h c).1 5).trans (((dats m hT 0 c).arrAt_in 5 rfl _).trans ((A_eq m hT c 5).trans rfl)),
      ((h c).1 6).trans (((dats m hT 0 c).arrAt_in 6 rfl _).trans ((A_eq m hT c 6).trans rfl)),
      ((h c).2 main_arg7 (Pipeline.mem_restRefs_of main_arg7 (by decide) (by decide))).trans rfl⟩, hz⟩) (run_main m ρ hT)

end Cert.KernelIdeal.Dec

end
-- ==== Proof.DecTop.lean ====
/-
  The best candidate of a row of values and where it first stands, and that every token the selection yields is in the table.
-/
module

public import proofs.«01_k».proof.Proof.DecState

@[expose] public section

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## A row's greatest value and the first place it stands -/

theorem neg_inf : Ideal.ofBits .f32 0xFF800000#32 = (⊥ : EReal) := by simp [Ideal.ofBits, Ideal.ieee]

theorem foldMax_le {n : ℕ} (f : Fin n → EReal) (j : Fin n) : f j ≤ Finset.fold max (⊥ : EReal) f Finset.univ := by
  rw [Finset.le_fold_max]; exact Or.inr ⟨j, Finset.mem_univ _, le_rfl⟩

theorem foldMax_mem {n : ℕ} (hn : 0 < n) (f : Fin n → EReal) : ∃ i, f i = Finset.fold max (⊥ : EReal) f Finset.univ := by
  obtain ⟨i, -, hi⟩ := Finset.exists_max_image Finset.univ f ⟨⟨0, hn⟩, Finset.mem_univ _⟩
  exact ⟨i, le_antisymm (foldMax_le f i) ((Finset.fold_max_le _).mpr ⟨bot_le, fun x hx => hi x hx⟩)⟩

theorem minsi_cases (x y : BitVec 32) : (IntOp.minsi x y = x ∨ IntOp.minsi x y = y) ∧ (IntOp.minsi x y).toInt ≤ x.toInt ∧ (IntOp.minsi x y).toInt ≤ y.toInt := by
  unfold IntOp.minsi
  by_cases h : x.slt y
  · rw [if_pos h]; have := BitVec.slt_iff_toInt_lt.mp h; exact ⟨Or.inl rfl, le_rfl, this.le⟩
  · rw [if_neg h]; have := mt BitVec.slt_iff_toInt_lt.mpr h; exact ⟨Or.inr rfl, by omega, le_rfl⟩

theorem foldMin_spec {α : Type} [DecidableEq α] (B : BitVec 32) (g : α → BitVec 32) (s : Finset α) :
    (Finset.fold IntOp.minsi B g s = B ∨ ∃ x ∈ s, Finset.fold IntOp.minsi B g s = g x) ∧ ∀ x ∈ s, (Finset.fold IntOp.minsi B g s).toInt ≤ (g x).toInt := by
  induction s using Finset.induction_on with
  | empty => exact ⟨Or.inl rfl, fun x hx => absurd hx (Finset.notMem_empty x)⟩
  | insert a s ha ih =>
    rw [Finset.fold_insert ha]
    obtain ⟨h1, h2, h3⟩ := minsi_cases (g a) (Finset.fold IntOp.minsi B g s)
    refine ⟨?_, fun x hx => ?_⟩
    · rcases h1 with h | h
      · exact Or.inr ⟨a, Finset.mem_insert_self _ _, h⟩
      · rcases ih.1 with h' | ⟨x, hx, h'⟩
        · exact Or.inl (h.trans h')
        · exact Or.inr ⟨x, Finset.mem_insert_of_mem hx, h.trans h'⟩
    · rcases Finset.mem_insert.mp hx with rfl | hx
      · exact h2
      · exact h3.trans (ih.2 x hx)

/-- `i` is the first place of the greatest value of `f`. -/
def First {n : ℕ} (f : Fin n → EReal) (i : Fin n) : Prop := (∀ j, f j ≤ f i) ∧ ∀ j, j < i → f j < f i

theorem toInt_small {n : ℕ} (h : n < 2 ^ 31) : (BitVec.ofNat 32 n).toInt = n := by
  rw [BitVec.toInt_eq_toNat_cond, BitVec.toNat_ofNat, Nat.mod_eq_of_lt (by omega)]
  rw [if_pos (by omega)]

theorem foldMin_first {n : ℕ} (hn : 0 < n) (f : Fin n → EReal) (off : ℕ) (ho : off + n ≤ 2 ^ 30) (w : Fin n → BitVec 32)
    (hw : ∀ i, w i = BitVec.ofNat 32 (i.val + off)) (cc : EReal) (hc : cc = Finset.fold max (⊥ : EReal) f Finset.univ) :
    ∃ i : Fin n, cc = f i ∧ First f i
      ∧ Finset.fold IntOp.minsi 2147483647#32 (fun x => if f x = cc then w x else 1073741824#32) Finset.univ = BitVec.ofNat 32 (i.val + off) := by
  classical
  obtain ⟨h1, h2⟩ := foldMin_spec 2147483647#32 (fun x => if f x = cc then w x else 1073741824#32) Finset.univ
  obtain ⟨i0, hi0⟩ := foldMax_mem hn f
  have hb := h2 i0 (Finset.mem_univ _)
  rw [if_pos (hi0.trans hc.symm), hw, toInt_small (by have := i0.isLt; omega)] at hb
  rcases h1 with h1 | ⟨i, -, h1⟩
  · rw [h1] at hb
    have : (2147483647#32 : BitVec 32).toInt = 2147483647 := by decide
    have := i0.isLt
    omega
  · by_cases hi : f i = cc
    · rw [if_pos hi, hw] at h1
      refine ⟨i, hi.symm, ⟨fun j => by rw [hi, hc]; exact foldMax_le f j, fun j hj => lt_of_le_of_ne (by rw [hi, hc]; exact foldMax_le f j) fun he => ?_⟩, h1⟩
      have hb2 := h2 j (Finset.mem_univ _)
      rw [if_pos (he.trans hi), h1, hw, toInt_small (by have := i.isLt; omega), toInt_small (by have := j.isLt; omega)] at hb2
      have : j.val < i.val := hj
      omega
    · rw [if_neg hi] at h1
      rw [h1] at hb
      have : (1073741824#32 : BitVec 32).toInt = 1073741824 := by decide
      have := i0.isLt
      omega

/-! ## A block's two best candidates -/

theorem trips2 : k0_t2_loop.trips = 5 := by decide
theorem lane_word (x : Fin 6400) (u : Fin k0_t2_loop.trips) :
    IntOp.addi (BitVec.ofNat 32 x.val) (Scalar.muli (Scf.iv 0#32 1#32 u.val) 6400#32) = BitVec.ofNat 32 (x.val + 6400 * u.val) := by
  have hu : u.val < 5 := lt_of_lt_of_eq u.isLt trips2
  unfold IntOp.addi Scalar.muli IntOp.muli Scf.iv
  apply BitVec.eq_of_toNat_eq
  simp only [BitVec.toNat_add, BitVec.toNat_mul, BitVec.toNat_ofNat]
  have := x.isLt
  omega

section Block
variable (prob fin : Vec Ideal S32x1 .f32) (s : FVec Ideal S32x1 .f32) (u : Fin k0_t2_loop.trips) (e : Vec Ideal S1x32x6400 .f32) (r : Fin 32)

/-- Row `r` of the block's candidates. -/
def crow (x : Fin 6400) : EReal := k0_pay15 prob fin s 0#32 1#32 u e (ix2 (n0 := 32) (n1 := 6400) r x)

theorem best_block : ∃ i j : Fin 6400, First (crow prob fin s u e r) i
    ∧ First (fun x => if x = i then ⊥ else crow prob fin s u e r x) j
    ∧ k0_pay16 prob fin s 0#32 1#32 u e (ix2 (n0 := 32) (n1 := 1) r 0) = crow prob fin s u e r i
    ∧ k0_pay17 prob fin s 1073741824#32 0#32 1#32 u e (ix2 (n0 := 32) (n1 := 1) r 0) = BitVec.ofNat 32 (i.val + 6400 * u.val)
    ∧ k0_pay19 prob fin s 1073741824#32 (Scalar.ofBits .f32 0xFF800000#32) 0#32 1#32 u e (ix2 (n0 := 32) (n1 := 1) r 0)
        = (if j = i then ⊥ else crow prob fin s u e r j)
    ∧ k0_pay20 prob fin s 1073741824#32 (Scalar.ofBits .f32 0xFF800000#32) 0#32 1#32 u e (ix2 (n0 := 32) (n1 := 1) r 0)
        = BitVec.ofNat 32 (j.val + 6400 * u.val) := by
  have hu : u.val < 5 := lt_of_lt_of_eq u.isLt trips2
  have e16 : k0_pay16 prob fin s 0#32 1#32 u e (ix2 (n0 := 32) (n1 := 1) r 0) = Finset.fold max (⊥ : EReal) (crow prob fin s u e r) Finset.univ := by
    rw [← neg_inf]; unfold crow; pointwise [k0_pay16]
  obtain ⟨i, hi, hf, hw⟩ := foldMin_first (by decide) (crow prob fin s u e r) (6400 * u.val) (by omega)
    (fun x => IntOp.addi (BitVec.ofNat 32 x.val) (Scalar.muli (Scf.iv 0#32 1#32 u.val) 6400#32)) (fun x => lane_word x u) _ e16
  have e17 : k0_pay17 prob fin s 1073741824#32 0#32 1#32 u e (ix2 (n0 := 32) (n1 := 1) r 0) = BitVec.ofNat 32 (i.val + 6400 * u.val) := by
    rw [← hw]; unfold crow; pointwise [k0_pay17, k0_pay14]
  have eg : ∀ x : Fin 6400, k0_pay18 prob fin s 1073741824#32 (Scalar.ofBits .f32 0xFF800000#32) 0#32 1#32 u e (ix2 (n0 := 32) (n1 := 6400) r x)
      = (if x = i then ⊥ else crow prob fin s u e r x) := by
    intro x
    have h0 : k0_pay18 prob fin s 1073741824#32 (Scalar.ofBits .f32 0xFF800000#32) 0#32 1#32 u e (ix2 (n0 := 32) (n1 := 6400) r x)
      = Scalar.select (IntOp.cmpi .eq (IntOp.addi (BitVec.ofNat 32 x.val) (Scalar.muli (Scf.iv 0#32 1#32 u.val) 6400#32)) (k0_pay17 prob fin s 1073741824#32 0#32 1#32 u e (ix2 (n0 := 32) (n1 := 1) r 0)))
        (Ideal.ofBits .f32 0xFF800000#32) (crow prob fin s u e r x) := by unfold crow; pointwise [k0_pay18, k0_pay14]
    rw [h0, e17, lane_word, neg_inf]
    have hx : (BitVec.ofNat 32 (x.val + 6400 * u.val) = BitVec.ofNat 32 (i.val + 6400 * u.val)) ↔ x = i := by
      constructor
      · intro h
        have := congrArg BitVec.toNat h
        simp only [BitVec.toNat_ofNat] at this
        have := x.isLt; have := i.isLt
        exact Fin.ext (by omega)
      · rintro rfl; rfl
    by_cases hxi : x = i
    · rw [if_pos hxi, hxi]; simp [IntOp.cmpi, Scalar.select]
    · have hne := mt hx.mp hxi
      rw [if_neg hxi]
      generalize BitVec.ofNat 32 (x.val + 6400 * u.val) = p at hne ⊢
      generalize BitVec.ofNat 32 (i.val + 6400 * u.val) = p' at hne ⊢
      simp [IntOp.cmpi, Scalar.select, beq_eq_false_iff_ne.mpr hne]
  have e19 : k0_pay19 prob fin s 1073741824#32 (Scalar.ofBits .f32 0xFF800000#32) 0#32 1#32 u e (ix2 (n0 := 32) (n1 := 1) r 0)
      = Finset.fold max (⊥ : EReal) (fun x => if x = i then ⊥ else crow prob fin s u e r x) Finset.univ := by
    rw [show (fun x => if x = i then ⊥ else crow prob fin s u e r x) = fun x => k0_pay18 prob fin s 1073741824#32 (Scalar.ofBits .f32 0xFF800000#32) 0#32 1#32 u e (ix2 (n0 := 32) (n1 := 6400) r x) from funext fun x => (eg x).symm, ← neg_inf]
    pointwise [k0_pay19]
  obtain ⟨j, hj, hfj, hwj⟩ := foldMin_first (by decide) (fun x => if x = i then ⊥ else crow prob fin s u e r x) (6400 * u.val) (by omega)
    (fun x => IntOp.addi (BitVec.ofNat 32 x.val) (Scalar.muli (Scf.iv 0#32 1#32 u.val) 6400#32)) (fun x => lane_word x u) _ e19
  refine ⟨i, j, hf, hfj, hi, e17, hj, ?_⟩
  rw [← hwj]
  simp only [← eg]
  pointwise [k0_pay20, k0_pay14]

/-! ## The tokens stay in the table -/

theorem selStep_range (a : Quad Ideal) (h1 : (a.2.1 (ix2 (n0 := 32) (n1 := 1) r 0)).toNat < 32000) (h2 : (a.2.2.2 (ix2 (n0 := 32) (n1 := 1) r 0)).toNat < 32000) :
    ((selStep prob fin s u e a).2.1 (ix2 (n0 := 32) (n1 := 1) r 0)).toNat < 32000
    ∧ ((selStep prob fin s u e a).2.2.2 (ix2 (n0 := 32) (n1 := 1) r 0)).toNat < 32000 := by
  have hu : u.val < 5 := lt_of_lt_of_eq u.isLt trips2
  obtain ⟨i, j, -, -, -, e17, -, e20⟩ := best_block prob fin s u e r
  have hr : ∀ i : Fin 6400, (BitVec.ofNat 32 (i.val + 6400 * u.val)).toNat < 32000 := by
    intro i; have := i.isLt; rw [BitVec.toNat_ofNat, Nat.mod_eq_of_lt (by omega)]; omega
  have k17 := hr i; rw [← e17] at k17
  have k20 := hr j; rw [← e20] at k20
  unfold selStep
  dsimp only
  generalize k0_pay17 prob fin s 1073741824#32 0#32 1#32 u e = w17 at *
  generalize k0_pay20 prob fin s 1073741824#32 (Scalar.ofBits .f32 0xFF800000#32) 0#32 1#32 u e = w20 at *
  unfold k0_pay31 k0_pay36
  dsimp only [select, Scalar.select]
  constructor
  · split_ifs <;> assumption
  · split_ifs <;> assumption
end Block

theorem selTo_range (prob fin : Vec Ideal S32x1 .f32) (s : FVec Ideal S32x1 .f32) (eb : Fin k0_t2_loop.trips → Vec Ideal S1x32x6400 .f32) (r : Fin 32) :
    ∀ k, ((selTo prob fin s eb k).2.1 (ix2 (n0 := 32) (n1 := 1) r 0)).toNat < 32000
      ∧ ((selTo prob fin s eb k).2.2.2 (ix2 (n0 := 32) (n1 := 1) r 0)).toNat < 32000
  | 0 => by constructor <;> exact (by decide : (0#32 : BitVec 32).toNat < 32000)
  | k + 1 => by
    have ih := selTo_range prob fin s eb r k
    unfold selTo
    split_ifs with hk
    · exact selStep_range prob fin s ⟨k, hk⟩ (eb ⟨k, hk⟩) r _ ih.1 ih.2
    · exact ih

/-! ## The two beams' candidates merged -/

theorem x55_apply (q : Quad Ideal) (b : Fin 16) : x55 q (ix2 (n0 := 16) (n1 := 1) b 0)
    = (if q.1 (ix2 (n0 := 32) (n1 := 1) ⟨16 + b.val, by omega⟩ 0) ≤ q.1 (ix2 (n0 := 32) (n1 := 1) ⟨b.val, by omega⟩ 0) then q.1 (ix2 (n0 := 32) (n1 := 1) ⟨b.val, by omega⟩ 0) else q.1 (ix2 (n0 := 32) (n1 := 1) ⟨16 + b.val, by omega⟩ 0)) := by
  unfold x55
  pointwise [k0_pay42, k0_pay43, k0_pay48, k0_pay47, k0_pay46, k0_pay44, k0_pay45, k0_pay41, k0_pay38, k0_pay40, k0_pay37, k0_pay39]
theorem x56_apply (q : Quad Ideal) (b : Fin 16) : x56 q (ix2 (n0 := 16) (n1 := 1) b 0)
    = (if q.1 (ix2 (n0 := 32) (n1 := 1) ⟨16 + b.val, by omega⟩ 0) ≤ q.1 (ix2 (n0 := 32) (n1 := 1) ⟨b.val, by omega⟩ 0) then q.2.1 (ix2 (n0 := 32) (n1 := 1) ⟨b.val, by omega⟩ 0) else IntOp.addi (q.2.1 (ix2 (n0 := 32) (n1 := 1) ⟨16 + b.val, by omega⟩ 0)) 32000#32) := by
  unfold x56
  pointwise [k0_pay42, k0_pay43, k0_pay48, k0_pay47, k0_pay46, k0_pay44, k0_pay45, k0_pay41, k0_pay38, k0_pay40, k0_pay37, k0_pay39]
theorem x62_apply (q : Quad Ideal) (b : Fin 16) : x62 q (ix2 (n0 := 16) (n1 := 1) b 0)
    = (if (if q.1 (ix2 (n0 := 32) (n1 := 1) ⟨16 + b.val, by omega⟩ 0) ≤ q.1 (ix2 (n0 := 32) (n1 := 1) ⟨b.val, by omega⟩ 0) then q.1 (ix2 (n0 := 32) (n1 := 1) ⟨16 + b.val, by omega⟩ 0) else q.2.2.1 (ix2 (n0 := 32) (n1 := 1) ⟨16 + b.val, by omega⟩ 0)) ≤ (if q.1 (ix2 (n0 := 32) (n1 := 1) ⟨16 + b.val, by omega⟩ 0) ≤ q.1 (ix2 (n0 := 32) (n1 := 1) ⟨b.val, by omega⟩ 0) then q.2.2.1 (ix2 (n0 := 32) (n1 := 1) ⟨b.val, by omega⟩ 0) else q.1 (ix2 (n0 := 32) (n1 := 1) ⟨b.val, by omega⟩ 0)) then (if q.1 (ix2 (n0 := 32) (n1 := 1) ⟨16 + b.val, by omega⟩ 0) ≤ q.1 (ix2 (n0 := 32) (n1 := 1) ⟨b.val, by omega⟩ 0) then q.2.2.1 (ix2 (n0 := 32) (n1 := 1) ⟨b.val, by omega⟩ 0) else q.1 (ix2 (n0 := 32) (n1 := 1) ⟨b.val, by omega⟩ 0)) else (if q.1 (ix2 (n0 := 32) (n1 := 1) ⟨16 + b.val, by omega⟩ 0) ≤ q.1 (ix2 (n0 := 32) (n1 := 1) ⟨b.val, by omega⟩ 0) then q.1 (ix2 (n0 := 32) (n1 := 1) ⟨16 + b.val, by omega⟩ 0) else q.2.2.1 (ix2 (n0 := 32) (n1 := 1) ⟨16 + b.val, by omega⟩ 0))) := by
  unfold x62
  pointwise [k0_pay42, k0_pay43, k0_pay48, k0_pay47, k0_pay46, k0_pay44, k0_pay45, k0_pay41, k0_pay38, k0_pay40, k0_pay37, k0_pay39]
theorem x63_apply (q : Quad Ideal) (b : Fin 16) : x63 q (ix2 (n0 := 16) (n1 := 1) b 0)
    = (if (if q.1 (ix2 (n0 := 32) (n1 := 1) ⟨16 + b.val, by omega⟩ 0) ≤ q.1 (ix2 (n0 := 32) (n1 := 1) ⟨b.val, by omega⟩ 0) then q.1 (ix2 (n0 := 32) (n1 := 1) ⟨16 + b.val, by omega⟩ 0) else q.2.2.1 (ix2 (n0 := 32) (n1 := 1) ⟨16 + b.val, by omega⟩ 0)) ≤ (if q.1 (ix2 (n0 := 32) (n1 := 1) ⟨16 + b.val, by omega⟩ 0) ≤ q.1 (ix2 (n0 := 32) (n1 := 1) ⟨b.val, by omega⟩ 0) then q.2.2.1 (ix2 (n0 := 32) (n1 := 1) ⟨b.val, by omega⟩ 0) else q.1 (ix2 (n0 := 32) (n1 := 1) ⟨b.val, by omega⟩ 0)) then (if q.1 (ix2 (n0 := 32) (n1 := 1) ⟨16 + b.val, by omega⟩ 0) ≤ q.1 (ix2 (n0 := 32) (n1 := 1) ⟨b.val, by omega⟩ 0) then q.2.2.2 (ix2 (n0 := 32) (n1 := 1) ⟨b.val, by omega⟩ 0) else q.2.1 (ix2 (n0 := 32) (n1 := 1) ⟨b.val, by omega⟩ 0)) else (if q.1 (ix2 (n0 := 32) (n1 := 1) ⟨16 + b.val, by omega⟩ 0) ≤ q.1 (ix2 (n0 := 32) (n1 := 1) ⟨b.val, by omega⟩ 0) then IntOp.addi (q.2.1 (ix2 (n0 := 32) (n1 := 1) ⟨16 + b.val, by omega⟩ 0)) 32000#32 else IntOp.addi (q.2.2.2 (ix2 (n0 := 32) (n1 := 1) ⟨16 + b.val, by omega⟩ 0)) 32000#32)) := by
  unfold x63
  pointwise [k0_pay42, k0_pay43, k0_pay48, k0_pay47, k0_pay46, k0_pay44, k0_pay45, k0_pay41, k0_pay38, k0_pay40, k0_pay37, k0_pay39]

/-- The token of a candidate's place. -/
def tokW (f : BitVec 32) : BitVec 32 := IntOp.subi f (IntOp.muli (BitVec.setWidth 32 (IntOp.cmpi .sge f 32000#32)) 32000#32)

theorem sge_word (f : BitVec 32) (hf : f.toNat < 64000) : IntOp.cmpi .sge f 32000#32 = BitVec.ofBool (decide (32000 ≤ f.toNat)) := by
  unfold IntOp.cmpi
  congr 1
  have e1 : f.toInt = f.toNat := by rw [BitVec.toInt_eq_toNat_cond, if_pos (by omega)]
  have e2 : (32000#32 : BitVec 32).toInt = 32000 := by decide
  have h := BitVec.sle_iff_toInt_le (x := 32000#32) (y := f)
  rw [e1, e2] at h
  by_cases hc : 32000 ≤ f.toNat
  · rw [decide_eq_true hc]; exact h.mpr (by omega)
  · rw [decide_eq_false hc]; exact Bool.eq_false_iff.mpr fun hh => hc (by have := h.mp hh; omega)

theorem tokW_toNat (f : BitVec 32) (hf : f.toNat < 64000) : (tokW f).toNat = f.toNat % 32000 := by
  unfold tokW
  rw [sge_word f hf]
  unfold IntOp.subi IntOp.muli
  by_cases hc : 32000 ≤ f.toNat
  · rw [decide_eq_true hc, BitVec.toNat_sub]
    rw [show (BitVec.setWidth 32 (BitVec.ofBool true) * 32000#32).toNat = 32000 from by decide]
    omega
  · rw [decide_eq_false hc, BitVec.toNat_sub]
    rw [show (BitVec.setWidth 32 (BitVec.ofBool false) * 32000#32).toNat = 0 from by decide]
    omega

theorem x69_apply (q : Quad Ideal) (b : Fin 16) : x69 q (ix2 (n0 := 16) (n1 := 1) b 0) = tokW (x56 q (ix2 (n0 := 16) (n1 := 1) b 0)) := by
  unfold x69 x65 tokW
  rw [show x56 q = k0_pay43 q.1 q.2.1 from rfl]
  pointwise [k0_pay49, k0_pay50, k0_pay51]
theorem x75_apply (q : Quad Ideal) (b : Fin 16) : x75 q (ix2 (n0 := 16) (n1 := 1) b 0) = tokW (x63 q (ix2 (n0 := 16) (n1 := 1) b 0)) := by
  unfold x75 tokW
  pointwise [k0_pay52, k0_pay53]

/-- A selection whose places are tokens. -/
def Ranged (q : Quad Ideal) : Prop := ∀ r : Fin 32, (q.2.1 (ix2 (n0 := 32) (n1 := 1) r 0)).toNat < 32000 ∧ (q.2.2.2 (ix2 (n0 := 32) (n1 := 1) r 0)).toNat < 32000

theorem add_word {f : BitVec 32} (h : f.toNat < 32000) : (IntOp.addi f 32000#32).toNat = f.toNat + 32000 := by
  unfold IntOp.addi
  rw [BitVec.toNat_add, show (32000#32 : BitVec 32).toNat = 32000 from rfl]
  omega

theorem x56_range (q : Quad Ideal) (hq : Ranged q) (b : Fin 16) : (x56 q (ix2 (n0 := 16) (n1 := 1) b 0)).toNat < 64000 := by
  rw [x56_apply]
  have h1 := (hq ⟨b.val, by omega⟩).1
  have h2 := (hq ⟨16 + b.val, by omega⟩).1
  have h3 := add_word h2
  split_ifs <;> omega

theorem x63_range (q : Quad Ideal) (hq : Ranged q) (b : Fin 16) : (x63 q (ix2 (n0 := 16) (n1 := 1) b 0)).toNat < 64000 := by
  rw [x63_apply]
  have h1 := hq ⟨b.val, by omega⟩
  have h2 := hq ⟨16 + b.val, by omega⟩
  have h3 := add_word h2.1
  have h4 := add_word h2.2
  split_ifs <;> omega

theorem nextOf_tok (a0 : BitVec 32) (fin : Vec Ideal S32x1 .f32) (q : Quad Ideal) (nh : Vec Ideal S32x512 .f32) (th : Vec Ideal S32x32 .i32)
    (sh : Vec Ideal S32x32 .f32) (h : Vec Ideal S32x512 .f32) (hq : Ranged q) (r : Fin 32) :
    ((nextOf a0 fin q nh th sh h).tok (ix2 (n0 := 32) (n1 := 1) r 0)).toNat < 32000 := by
  have e : (nextOf a0 fin q nh th sh h).tok (ix2 (n0 := 32) (n1 := 1) r 0)
      = (if h : r.val < 16 then x69 q (ix2 (n0 := 16) (n1 := 1) ⟨r.val, h⟩ 0) else x75 q (ix2 (n0 := 16) (n1 := 1) ⟨r.val - 16, by omega⟩ 0)) := by
    unfold nextOf
    dsimp only
    pointwise [k0_pay78]
  rw [e]
  split_ifs with hr
  · rw [x69_apply, tokW_toNat _ (x56_range q hq _)]; exact Nat.mod_lt _ (by decide)
  · rw [x75_apply, tokW_toNat _ (x63_range q hq _)]; exact Nat.mod_lt _ (by decide)

theorem tokOk_of {t : Vec Ideal S32x1 .i32} (h : ∀ r : Fin 32, (t (ix2 (n0 := 32) (n1 := 1) r 0)).toNat < 32000) : TokOk t := by
  intro r hr
  refine lt_of_eq_of_lt (congrArg BitVec.toNat ?_) (h ⟨r, hr⟩)
  unfold tokAt
  refine congrArg t (funext fun a => Fin.ext ?_)
  match a with
  | 0 => show r + 1 * _ = r; rw [show ((Shape.Idx.first (s := S1x1) _ : S1x1.Idx) 0).val = 0 from rfl]; omega
  | 1 => rfl

/-- Every state's tokens name rows of the table. -/
theorem st_tok (X : Ins Ideal) : ∀ t, TokOk (X.st t).tok
  | 0 => tokOk_of fun r => (by decide : (2#32 : BitVec 32).toNat < 32000)
  | t + 1 => tokOk_of fun r => nextOf_tok _ _ _ _ _ _ _ (fun r => selTo_range _ _ _ _ r _) r

end Cert.KernelIdeal.Dec
end
-- ==== Proof.DecTwo.lean ====
/-
  The two best of a list of values, the earlier first among equal ones: how two stretches' best merge, and that they are
  what a stable sort by greater value puts first.
-/
module

public import Idealize.ShloMosaic.Lib.SortPrefix
public import Idealize.ShloMosaic.Lib.Pointwise

@[expose] public section

noncomputable section

namespace Cert.Two

open Idealize.ShloMosaic

/-- `i` and `j` are the first and second of the places `lo ≤ k < hi` by greater value of `c`, then earlier place. -/
structure Best (c : ℕ → EReal) (lo hi i j : ℕ) : Prop where
  i_lo : lo ≤ i
  i_hi : i < hi
  j_lo : lo ≤ j
  j_hi : j < hi
  ne : i ≠ j
  fst : ∀ k, lo ≤ k → k < hi → c k ≤ c i ∧ (k < i → c k < c i)
  snd : ∀ k, lo ≤ k → k < hi → k ≠ i → c k ≤ c j ∧ (k < j → c k < c j)

/-- Two neighbouring stretches' best, when the first of all lies in the first stretch. -/
theorem Best.left {c : ℕ → EReal} {lo mid hi i1 i2 j1 j2 : ℕ} (h : Best c lo mid i1 i2) (g : Best c mid hi j1 j2) (hc : c j1 ≤ c i1) :
    Best c lo hi i1 (if c j1 ≤ c i2 then i2 else j1) := by
  have a1 := h.i_lo; have a2 := h.i_hi; have a3 := h.j_lo; have a4 := h.j_hi
  have b1 := g.i_lo; have b2 := g.i_hi; have b3 := g.j_lo; have b4 := g.j_hi
  have hne := h.ne
  constructor
  · exact a1
  · omega
  · split_ifs <;> omega
  · split_ifs <;> omega
  · split_ifs <;> omega
  · intro k hk1 hk2
    by_cases hk : k < mid
    · exact h.fst k hk1 hk
    · exact ⟨((g.fst k (by omega) hk2).1).trans hc, fun hh => by omega⟩
  · intro k hk1 hk2 hk3
    by_cases hd : c j1 ≤ c i2
    · rw [if_pos hd]
      by_cases hk : k < mid
      · exact h.snd k hk1 hk hk3
      · exact ⟨((g.fst k (by omega) hk2).1).trans hd, fun hh => by omega⟩
    · rw [if_neg hd]
      by_cases hk : k < mid
      · have := lt_of_le_of_lt (h.snd k hk1 hk hk3).1 (not_le.mp hd)
        exact ⟨this.le, fun _ => this⟩
      · exact g.fst k (by omega) hk2

/-- Two neighbouring stretches' best, when the first of all lies in the second stretch. -/
theorem Best.right {c : ℕ → EReal} {lo mid hi i1 i2 j1 j2 : ℕ} (h : Best c lo mid i1 i2) (g : Best c mid hi j1 j2) (hc : ¬ c j1 ≤ c i1) :
    Best c lo hi j1 (if c j2 ≤ c i1 then i1 else j2) := by
  have a1 := h.i_lo; have a2 := h.i_hi; have a3 := h.j_lo; have a4 := h.j_hi
  have b1 := g.i_lo; have b2 := g.i_hi; have b3 := g.j_lo; have b4 := g.j_hi
  have hne := g.ne
  constructor
  · omega
  · exact b2
  · split_ifs <;> omega
  · split_ifs <;> omega
  · split_ifs <;> omega
  · intro k hk1 hk2
    by_cases hk : k < mid
    · have := lt_of_le_of_lt (h.fst k hk1 hk).1 (not_le.mp hc)
      exact ⟨this.le, fun _ => this⟩
    · exact g.fst k (by omega) hk2
  · intro k hk1 hk2 hk3
    by_cases hd : c j2 ≤ c i1
    · rw [if_pos hd]
      by_cases hk : k < mid
      · exact h.fst k hk1 hk
      · exact ⟨((g.snd k (by omega) hk2 hk3).1).trans hd, fun hh => by omega⟩
    · rw [if_neg hd]
      by_cases hk : k < mid
      · have := lt_of_le_of_lt (h.fst k hk1 hk).1 (not_le.mp hd)
        exact ⟨this.le, fun _ => this⟩
      · exact g.snd k (by omega) hk2 hk3

/-- The best read only the stretch. -/
theorem Best.congr {c d : ℕ → EReal} {lo hi i j : ℕ} (h : Best c lo hi i j) (e : ∀ k, lo ≤ k → k < hi → c k = d k) : Best d lo hi i j := by
  have ei := e i h.i_lo h.i_hi
  have ej := e j h.j_lo h.j_hi
  refine ⟨h.i_lo, h.i_hi, h.j_lo, h.j_hi, h.ne, fun k h1 h2 => ?_, fun k h1 h2 h3 => ?_⟩
  · rw [← ei, ← e k h1 h2]; exact h.fst k h1 h2
  · rw [← ej, ← e k h1 h2]; exact h.snd k h1 h2 h3

/-- A stretch moved along. -/
theorem Best.shift {c d : ℕ → EReal} {n i j : ℕ} (off : ℕ) (h : Best d 0 n i j) (e : ∀ k, k < n → c (off + k) = d k) :
    Best c off (off + n) (off + i) (off + j) := by
  have a2 := h.i_hi; have a4 := h.j_hi; have hne := h.ne
  refine ⟨by omega, by omega, by omega, by omega, by omega, fun k h1 h2 => ?_, fun k h1 h2 h3 => ?_⟩
  · obtain ⟨q, rfl⟩ := Nat.exists_eq_add_of_le h1
    rw [e q (by omega), e i (by omega)]
    exact ⟨(h.fst q (by omega) (by omega)).1, fun hh => (h.fst q (by omega) (by omega)).2 (by omega)⟩
  · obtain ⟨q, rfl⟩ := Nat.exists_eq_add_of_le h1
    rw [e q (by omega), e j (by omega)]
    exact ⟨(h.snd q (by omega) (by omega) (by omega)).1, fun hh => (h.snd q (by omega) (by omega) (by omega)).2 (by omega)⟩

theorem Best.unique {c : ℕ → EReal} {lo hi i j i' j' : ℕ} (h : Best c lo hi i j) (g : Best c lo hi i' j') : i = i' ∧ j = j' := by
  have e1 : i = i' := by
    rcases lt_trichotomy i i' with hh | hh | hh
    · exact absurd ((g.fst i h.i_lo h.i_hi).2 hh) (not_lt.mpr (h.fst i' g.i_lo g.i_hi).1)
    · exact hh
    · exact absurd ((h.fst i' g.i_lo g.i_hi).2 hh) (not_lt.mpr (g.fst i h.i_lo h.i_hi).1)
  subst e1
  refine ⟨rfl, ?_⟩
  rcases lt_trichotomy j j' with hh | hh | hh
  · exact absurd ((g.snd j h.j_lo h.j_hi h.ne.symm).2 hh) (not_lt.mpr (h.snd j' g.j_lo g.j_hi g.ne.symm).1)
  · exact hh
  · exact absurd ((h.snd j' g.j_lo g.j_hi g.ne.symm).2 hh) (not_lt.mpr (g.snd j h.j_lo h.j_hi h.ne.symm).1)

/-! ## The stable sort -/

theorem insertBefore_congr {ι : Type} (R R' : ι → ι → Bool) (a : ι) : ∀ l : List ι, (∀ b ∈ l, R b a = R' b a) → insertBefore R a l = insertBefore R' a l
  | [], _ => rfl
  | b :: l, h => by
    unfold insertBefore
    rw [h b List.mem_cons_self, insertBefore_congr R R' a l fun x hx => h x (List.mem_cons_of_mem _ hx)]

theorem stableSort_congr {ι : Type} (R R' : ι → ι → Bool) : ∀ l : List ι, (l.Pairwise fun a b => R b a = R' b a) → stableSort R l = stableSort R' l
  | [], _ => rfl
  | a :: l, h => by
    rw [List.pairwise_cons] at h
    show insertBefore R a (stableSort R l) = insertBefore R' a (stableSort R' l)
    rw [stableSort_congr R R' l h.2]
    exact insertBefore_congr R R' a _ fun b hb => h.1 b ((perm_stableSort R' l).mem_iff.mp hb)

/-- What a stable sort by greater value puts first and second. -/
theorem sortedFrom_best {n : ℕ} (f : Fin n → EReal) (c : ℕ → EReal) (hf : ∀ k : Fin n, f k = c k.val) {i j : ℕ} (h : Best c 0 n i j) (hn : 2 ≤ n)
    (R : Fin n → Fin n → Bool) (hR : ∀ k k', R k k' = decide (f k' < f k)) :
    sortedFrom R ⟨0, by omega⟩ = ⟨i, h.i_hi⟩ ∧ sortedFrom R ⟨1, by omega⟩ = ⟨j, h.j_hi⟩ := by
  classical
  have hB := StrictTotalBefore.of_key_then_position (n := n) (κ := EReal) (fun a b => decide (b < a)) f
    (fun a => by simp) (fun a b d hab hbd => by simp only [decide_eq_true_eq] at *; exact hbd.trans hab)
    (fun a b => by simp only [decide_eq_true_eq]; rcases lt_trichotomy a b with h | h | h; exacts [Or.inr (Or.inr h), Or.inr (Or.inl h), Or.inl h])
  have hs : ∀ k, sortedFrom R k = sortedFrom (fun k k' : Fin n => decide (f k' < f k) || (decide (f k = f k') && decide (k < k'))) k := by
    intro k
    have e : sortPositions n R = sortPositions n (fun k k' : Fin n => decide (f k' < f k) || (decide (f k = f k') && decide (k < k'))) := by
      unfold sortPositions
      refine stableSort_congr _ _ _ ((List.pairwise_lt_finRange n).imp fun {a b} hab => ?_)
      rw [hR, decide_eq_false (p := b < a) (not_lt.mpr hab.le), Bool.and_false, Bool.or_false]
    exact List.getElem_of_eq e _
  have key : ∀ a : Fin 2, sortedFrom (fun k k' : Fin n => decide (f k' < f k) || (decide (f k = f k') && decide (k < k'))) (a.castLE hn)
      = (fun a : Fin 2 => if a = 0 then (⟨i, h.i_hi⟩ : Fin n) else ⟨j, h.j_hi⟩) a := by
    refine hB.sortedFrom_eq_of_prefix hn _ ?_ ?_ ?_
    · intro a b hab
      have hne := h.ne
      fin_cases a <;> fin_cases b <;> first | rfl | (simp [Fin.ext_iff] at hab; omega)
    · intro a b hab
      have hne := h.ne
      fin_cases a <;> fin_cases b <;> first | (exfalso; revert hab; decide) | skip
      have h1 := h.fst j h.j_lo h.j_hi
      simp only [hf, Fin.mk.injEq, Bool.or_eq_false_iff, Bool.and_eq_false_iff, decide_eq_false_iff_not, not_lt]
      simp [hf, Fin.lt_def]
      refine ⟨h1.1, ?_⟩
      rcases lt_or_ge j i with hh | hh
      · exact Or.inl (h1.2 hh).ne
      · exact Or.inr hh
    · intro a p hp
      have hp0 : p.val ≠ i := fun e => hp 0 (Fin.ext e.symm)
      have hp1 : p.val ≠ j := fun e => hp 1 (Fin.ext e.symm)
      fin_cases a
      · have h1 := h.fst p.val (Nat.zero_le _) p.isLt
        simp [hf, Fin.lt_def]
        refine ⟨h1.1, fun he => ?_⟩
        rcases lt_or_ge p.val i with hh | hh
        · exact absurd he (h1.2 hh).ne
        · exact hh
      · have h1 := h.snd p.val (Nat.zero_le _) p.isLt hp0
        simp [hf, Fin.lt_def]
        refine ⟨h1.1, fun he => ?_⟩
        rcases lt_or_ge p.val j with hh | hh
        · exact absurd he (h1.2 hh).ne
        · exact hh
  exact ⟨(hs _).trans (key 0), (hs _).trans (key 1)⟩

end Cert.Two
end
-- ==== Proof.DecSpec.lean ====
/-
  Beam search over a gated unit in plain mathematics, on the extended reals: a batch entry's two beams, their candidates,
  and what a step makes of the two best of them. From finite weights every quantity stays finite.
-/
module

public import proofs.«01_k».proof.Proof.DecTwo

@[expose] public section

noncomputable section

namespace Cert.Spec

open Idealize.ShloMosaic Cert.Two

/-- The decoder's operands. -/
structure Args where
  w : Fin 32000 → Fin 768 → EReal
  base : Fin 16 → Fin 32000 → EReal
  wih : Fin 1536 → Fin 768 → EReal
  whh : Fin 1536 → Fin 512 → EReal
  bih : Fin 1536 → EReal
  bhh : Fin 1536 → EReal
  ctx : Fin 16 → Fin 512 → EReal
  emb : Fin 32000 → Fin 256 → EReal

/-- One beam: hidden row, probability, finished or not, tokens and scores so far, last token. -/
@[ext] structure Beam where
  h : Fin 512 → EReal
  prob : EReal
  fin : Prop
  th : Fin 32 → BitVec 32
  sh : Fin 32 → EReal
  tok : BitVec 32

variable (A : Args) (b : Fin 16) (x : Beam)

/-- The embedding row of the beam's last token. -/
def emb (k : Fin 256) : EReal := A.emb ⟨min x.tok.toNat 31999, by omega⟩ k
def gi (j : Fin 1536) : EReal :=
  (∑ k : Fin 256, emb A x k * A.wih j ⟨k.val, by omega⟩ + ∑ k : Fin 512, A.ctx b k * A.wih j ⟨256 + k.val, by omega⟩) + A.bih j
def gh (j : Fin 1536) : EReal := (∑ k : Fin 512, x.h k * A.whh j k) + A.bhh j
/-- The gated unit's new hidden row. -/
def nh (j : Fin 512) : EReal :=
  (1 - Ideal.logistic (gi A b x ⟨512 + j.val, by omega⟩ + gh A x ⟨512 + j.val, by omega⟩))
      * Ideal.tanh (gi A b x ⟨1024 + j.val, by omega⟩
          + Ideal.logistic (gi A b x ⟨j.val, by omega⟩ + gh A x ⟨j.val, by omega⟩) * gh A x ⟨1024 + j.val, by omega⟩)
    + Ideal.logistic (gi A b x ⟨512 + j.val, by omega⟩ + gh A x ⟨512 + j.val, by omega⟩) * x.h j
def logit (v : Fin 32000) : EReal :=
  (∑ k : Fin 256, emb A x k * A.w v ⟨k.val, by omega⟩ + ∑ k : Fin 512, nh A b x k * A.w v ⟨256 + k.val, by omega⟩) + A.base b v
def top : EReal := Finset.fold max (⊥ : EReal) (logit A b x) Finset.univ
def ex (v : Fin 32000) : EReal := Ideal.exp (logit A b x v - top A b x)
def tot : EReal := ∑ v : Fin 32000, ex A b x v
/-- The stand-in for the probability of what is ruled out. -/
def ruledOut : EReal := Ideal.ofBits .f32 0xF149F2CA#32
open Classical in
/-- The candidate that goes on with token `v`. -/
def cand (v : Fin 32000) : EReal :=
  if x.fin then (if v.val = 3 then x.prob else ruledOut) else Ideal.div (ex A b x v) (tot A b x) * x.prob

/-- The parent beam of a candidate's place. -/
def par (f : ℕ) : Fin 2 := if f < 32000 then 0 else 1
def tokN (f : ℕ) : ℕ := f % 32000
theorem tokN_lt (f : ℕ) : tokN f < 32000 := Nat.mod_lt _ (by decide)
/-- The candidates of a batch entry, both beams' one after the other. -/
def cands (y : Fin 2 → Beam) (f : ℕ) : EReal := cand A b (y (par f)) ⟨tokN f, tokN_lt f⟩

open Classical in
/-- The beam that goes on with candidate `f`, at step `t`. -/
def adv (t : ℕ) (y : Fin 2 → Beam) (f : ℕ) : Beam where
  h := nh A b (y (par f))
  prob := cands A b y f
  fin := (y (par f)).fin ∨ tokN f = 3
  th := fun k => if k.val = t + 1 ∧ ¬ (y (par f)).fin then BitVec.ofNat 32 (tokN f) else (y (par f)).th k
  sh := fun k => if k.val = t + 1 then (if (y (par f)).fin then 0 else cands A b y f) else (y (par f)).sh k
  tok := BitVec.ofNat 32 (tokN f)

/-- One step of a batch entry: the two best candidates go on. -/
def Step (t : ℕ) (y z : Fin 2 → Beam) : Prop :=
  ∃ i j, Best (cands A b y) 0 64000 i j ∧ z 0 = adv A b t y i ∧ z 1 = adv A b t y j

theorem Step.unique {t : ℕ} {y z z' : Fin 2 → Beam} (h : Step A b t y z) (g : Step A b t y z') : z = z' := by
  obtain ⟨i, j, hb, h0, h1⟩ := h
  obtain ⟨i', j', gb, g0, g1⟩ := g
  obtain ⟨rfl, rfl⟩ := hb.unique gb
  funext k
  match k with
  | 0 => exact h0.trans g0.symm
  | 1 => exact h1.trans g1.symm

/-! ## Finite values -/

/-- A real number. -/
def Re (x : EReal) : Prop := ∃ r : ℝ, x = (r : EReal)

theorem Re.add {x y : EReal} (hx : Re x) (hy : Re y) : Re (x + y) := by
  obtain ⟨a, rfl⟩ := hx; obtain ⟨c, rfl⟩ := hy; exact ⟨a + c, (EReal.coe_add a c).symm⟩
theorem Re.sub {x y : EReal} (hx : Re x) (hy : Re y) : Re (x - y) := by
  obtain ⟨a, rfl⟩ := hx; obtain ⟨c, rfl⟩ := hy; exact ⟨a - c, (EReal.coe_sub a c).symm⟩
theorem Re.mul {x y : EReal} (hx : Re x) (hy : Re y) : Re (x * y) := by
  obtain ⟨a, rfl⟩ := hx; obtain ⟨c, rfl⟩ := hy; exact ⟨a * c, (EReal.coe_mul a c).symm⟩
theorem Re.one : Re 1 := ⟨1, rfl⟩
theorem Re.zero : Re 0 := ⟨0, rfl⟩
theorem Re.sum {ι : Type} (s : Finset ι) (f : ι → EReal) (h : ∀ i ∈ s, Re (f i)) : Re (∑ i ∈ s, f i) := by
  classical
  induction s using Finset.induction_on with
  | empty => rw [Finset.sum_empty]; exact Re.zero
  | insert a s ha ih =>
    rw [Finset.sum_insert ha]
    exact (h a (Finset.mem_insert_self _ _)).add (ih fun i hi => h i (Finset.mem_insert_of_mem hi))
theorem re_logistic (x : EReal) : Re (Ideal.logistic x) := by
  induction x with
  | bot => rw [Ideal.logistic_bot]; exact Re.zero
  | top => rw [Ideal.logistic_top]; exact Re.one
  | coe r => rw [Ideal.logistic_coe]; exact ⟨_, rfl⟩
theorem re_tanh (x : EReal) : Re (Ideal.tanh x) := by
  induction x with
  | bot => rw [Ideal.tanh_bot]; exact ⟨-1, rfl⟩
  | top => rw [Ideal.tanh_top]; exact Re.one
  | coe r => rw [Ideal.tanh_coe]; exact ⟨_, rfl⟩
theorem Re.bot_lt {x : EReal} (h : Re x) : ⊥ < x := by obtain ⟨r, rfl⟩ := h; exact EReal.bot_lt_coe r
theorem re_ruledOut : Re ruledOut := by
  unfold ruledOut
  simp [Ideal.ofBits, Ideal.ieee]
  exact ⟨-(13234890 * 2 ^ 76), by push_cast; rfl⟩

/-- The operands whose values reach the candidates are finite. -/
structure Args.Fine : Prop where
  w : ∀ v k, Re (A.w v k)
  base : ∀ b v, Re (A.base b v)
  ctx : ∀ b k, Re (A.ctx b k)
  emb : ∀ v k, Re (A.emb v k)
/-- A beam of finite values whose token is in the table. -/
structure Beam.Fine : Prop where
  h : ∀ k, Re (x.h k)
  prob : Re x.prob
  tok : x.tok.toNat < 32000

variable {A x}
theorem re_nh (hx : x.Fine) (j : Fin 512) : Re (nh A b x j) :=
  ((Re.one.sub (re_logistic _)).mul (re_tanh _)).add ((re_logistic _).mul (hx.h j))
theorem re_logit (hA : A.Fine) (hx : x.Fine) (v : Fin 32000) : Re (logit A b x v) :=
  ((Re.sum _ _ fun k _ => (hA.emb _ _).mul (hA.w _ _)).add (Re.sum _ _ fun k _ => (re_nh b hx k).mul (hA.w _ _))).add (hA.base _ _)
theorem re_top (hA : A.Fine) (hx : x.Fine) : Re (top A b x) := by
  obtain ⟨i, -, hi⟩ := Finset.exists_max_image Finset.univ (logit A b x) ⟨⟨0, by decide⟩, Finset.mem_univ _⟩
  have e : top A b x = logit A b x i :=
    le_antisymm ((Finset.fold_max_le _).mpr ⟨bot_le, fun k hk => hi k hk⟩) ((Finset.le_fold_max _).mpr (Or.inr ⟨i, Finset.mem_univ _, le_rfl⟩))
  rw [e]; exact re_logit b hA hx i
theorem pos_ex (hA : A.Fine) (hx : x.Fine) (v : Fin 32000) : ∃ r : ℝ, 0 < r ∧ ex A b x v = (r : EReal) := by
  obtain ⟨r, hr⟩ := (re_logit b hA hx v).sub (re_top b hA hx)
  exact ⟨Real.exp r, Real.exp_pos r, by unfold ex; rw [hr, Ideal.exp_coe]⟩
theorem pos_tot (hA : A.Fine) (hx : x.Fine) : ∃ r : ℝ, 0 < r ∧ tot A b x = (r : EReal) := by
  choose f hf he using pos_ex b hA hx
  refine ⟨∑ v, f v, Finset.sum_pos (fun v _ => hf v) ⟨⟨0, by decide⟩, Finset.mem_univ _⟩, ?_⟩
  have key : ∀ s : Finset (Fin 32000), ∑ v ∈ s, ex A b x v = ((∑ v ∈ s, f v : ℝ) : EReal) := by
    intro s
    classical
    induction s using Finset.induction_on with
    | empty => simp
    | insert a s ha ih => rw [Finset.sum_insert ha, Finset.sum_insert ha, EReal.coe_add, ih, he]
  exact key Finset.univ
theorem re_cand (hA : A.Fine) (hx : x.Fine) (v : Fin 32000) : Re (cand A b x v) := by
  unfold cand
  split_ifs
  · exact hx.prob
  · exact re_ruledOut
  · obtain ⟨e, -, he⟩ := pos_ex b hA hx v
    obtain ⟨s, hs, hse⟩ := pos_tot b hA hx
    rw [he, hse, Ideal.div_coe hs.ne']
    exact (Re.mul ⟨e, rfl⟩ ⟨_, rfl⟩).mul hx.prob
theorem re_cands {y : Fin 2 → Beam} (hA : A.Fine) (hy : ∀ k, (y k).Fine) (f : ℕ) : Re (cands A b y f) := re_cand b hA (hy _) _

theorem toNat_tokN (f : ℕ) : (BitVec.ofNat 32 (tokN f)).toNat = tokN f := by
  rw [BitVec.toNat_ofNat]; have := tokN_lt f; omega
theorem adv_fine {y : Fin 2 → Beam} (hA : A.Fine) (hy : ∀ k, (y k).Fine) (t f : ℕ) : (adv A b t y f).Fine :=
  ⟨re_nh b (hy _), re_cands b hA hy f, by show (BitVec.ofNat 32 (tokN f)).toNat < 32000; rw [toNat_tokN]; exact tokN_lt f⟩
theorem Step.fine {y z : Fin 2 → Beam} {t : ℕ} (hA : A.Fine) (hy : ∀ k, (y k).Fine) (h : Step A b t y z) : ∀ k, (z k).Fine := by
  obtain ⟨i, j, -, h0, h1⟩ := h
  intro k
  match k with
  | 0 => rw [h0]; exact adv_fine b hA hy t i
  | 1 => rw [h1]; exact adv_fine b hA hy t j

variable (A)
/-- The first beams of a batch entry. -/
def start (k : Fin 2) : Beam where
  h := A.ctx b
  prob := if k = 0 then Ideal.ofBits .f32 0x3F800000#32 else ruledOut
  fin := False
  th := fun j => if j.val = 0 then 2#32 else 3#32
  sh := fun j => if k = 0 ∧ j.val = 0 then Ideal.ofBits .f32 0x3F800000#32 else 0
  tok := 2#32
variable {A}
theorem start_fine (hA : A.Fine) (k : Fin 2) : (start A b k).Fine := by
  refine ⟨hA.ctx b, ?_, show (2#32).toNat < 32000 by decide⟩
  unfold start
  dsimp only
  split_ifs
  · simp only [Ideal.ofBits, Ideal.ieee]
    simp
    exact Re.mul ⟨8388608, rfl⟩ ⟨_, rfl⟩
  · exact re_ruledOut

open Classical in
/-- The tokens of the better of two beams, the first of equal ones. -/
def bestTh (y : Fin 2 → Beam) (k : Fin 32) : BitVec 32 := if (y 1).prob ≤ (y 0).prob then (y 0).th k else (y 1).th k
open Classical in
/-- The scores of the better of two beams, the first of equal ones. -/
def bestSh (y : Fin 2 → Beam) (k : Fin 32) : EReal := if (y 1).prob ≤ (y 0).prob then (y 0).sh k else (y 1).sh k

end Cert.Spec
end
-- ==== Proof.DecVal.lean ====
/-
  The decoder's quantities of one step in plain mathematics: the new hidden rows, the logits of each vocabulary block, their
  maximum and the sum of exponentials, the candidates, and the two best of every beam.
-/
module

public import proofs.«01_k».proof.Proof.DecTop
public import proofs.«01_k».proof.Proof.DecSpec

@[expose] public section

set_option maxRecDepth 16384

noncomputable section

namespace Cert.KernelIdeal.Dec

open Cert.KernelIdeal Cert.KernelIdeal.Gen
open Idealize.ShloMosaic Idealize.ShloMosaic.TcCoe
open Cert.Two Cert.Spec

/-- Two-place and three-place positions of the buffers. -/
abbrev at2 {n m : ℕ} (a : Fin n) (b : Fin m) : (⟨2, ![n, m]⟩ : Shape).Idx := ix2 (n0 := n) (n1 := m) a b

/-- The operands' vectors, point by point, hold the decoder's operands. -/
structure Reads (X : Ins Ideal) (A : Args) : Prop where
  slab : ∀ t v : ℕ, t < 31 → ∀ hv : v < 5, ∀ (j : Fin 6400) (k : Fin 768), X.slab (5 * t + v) (ix2 (n0 := 6400) (n1 := 768) j k) = A.w ⟨6400 * v + j.val, by omega⟩ k
  bw : ∀ t v : ℕ, t < 31 → ∀ hv : v < 5, ∀ (b : Fin 16) (j : Fin 6400), X.bw (5 * t + v) (ix3 (n0 := 1) (n1 := 16) (n2 := 6400) 0 b j) = A.base b ⟨6400 * v + j.val, by omega⟩
  wih : ∀ t, t < 31 → ∀ (j : Fin 1536) (k : Fin 768), X.wih (5 * t) (ix2 (n0 := 1536) (n1 := 768) j k) = A.wih j k
  whh : ∀ t, t < 31 → ∀ (j : Fin 1536) (k : Fin 512), X.whh (5 * t) (ix2 (n0 := 1536) (n1 := 512) j k) = A.whh j k
  bih : ∀ t, t < 31 → ∀ (j : Fin 1536), X.bih (5 * t) (ix2 (n0 := 1) (n1 := 1536) 0 j) = A.bih j
  bhh : ∀ t, t < 31 → ∀ (j : Fin 1536), X.bhh (5 * t) (ix2 (n0 := 1) (n1 := 1536) 0 j) = A.bhh j
  ctx : ∀ t, t < 31 → ∀ (b : Fin 16) (k : Fin 512), X.ctx (5 * t) (ix2 (n0 := 16) (n1 := 512) b k) = A.ctx b k
  emb : ∀ (v : Fin 32000) (k : Fin 256), X.emb (ix2 (n0 := 32000) (n1 := 256) v k) = A.emb v k
  first : ∀ t v : ℕ, t < 31 → v < 5 → (gi (5 * t + v) 1).val = v

/-- Row `r` of the state. -/
def beam (s : St Ideal) (r : Fin 32) : Beam where
  h := fun k => s.h (ix2 (n0 := 32) (n1 := 512) r k)
  prob := s.prob (ix2 (n0 := 32) (n1 := 1) r 0)
  fin := 0 < s.fin (ix2 (n0 := 32) (n1 := 1) r 0)
  th := fun k => s.th (ix2 (n0 := 32) (n1 := 32) r k)
  sh := fun k => s.sh (ix2 (n0 := 32) (n1 := 32) r k)
  tok := s.tok (ix2 (n0 := 32) (n1 := 1) r 0)
/-- The batch entry of row `r`. -/
def bOf (r : Fin 32) : Fin 16 := if h : r.val < 16 then ⟨r.val, h⟩ else ⟨r.val - 16, by omega⟩

/-! ## The hidden rows and the logits -/

theorem gi_apply (e : Vec Ideal S32x256 .f32) (ctx : Vec Ideal S16x512 .f32) (wih : Vec Ideal S1536x768 .f32) (bih : Vec Ideal S1x1536 .f32) (r : Fin 32) (j : Fin 1536) :
    k0_pay13 ctx ctx e wih bih (ix2 (n0 := 32) (n1 := 1536) r j)
      = (∑ k : Fin 256, e (ix2 (n0 := 32) (n1 := 256) r k) * wih (ix2 (n0 := 1536) (n1 := 768) j ⟨k.val, by omega⟩)
        + ∑ k : Fin 512, (if h : r.val < 16 then ctx (ix2 (n0 := 16) (n1 := 512) ⟨r.val, h⟩ k) else ctx (ix2 (n0 := 16) (n1 := 512) ⟨r.val - 16, by omega⟩ k))
            * wih (ix2 (n0 := 1536) (n1 := 768) j ⟨256 + k.val, by omega⟩))
        + bih (ix2 (n0 := 1) (n1 := 1536) 0 j) := by
  pointwise [k0_pay13]
theorem nh_apply (h : Vec Ideal S32x512 .f32) (g : FVec Ideal S32x1536 .f32) (whh : Vec Ideal S1536x512 .f32) (bhh : Vec Ideal S1x1536 .f32) (r : Fin 32) (j : Fin 512) :
    k0_pay1 h g whh bhh (ix2 (n0 := 32) (n1 := 512) r j)
      = (1 - Ideal.logistic (g (at2 r ⟨512 + j.val, by omega⟩) + ((∑ k : Fin 512, h (at2 r k) * whh (at2 ⟨512 + j.val, by omega⟩ k)) + bhh (at2 0 ⟨512 + j.val, by omega⟩))))
          * Ideal.tanh (g (at2 r ⟨1024 + j.val, by omega⟩)
            + Ideal.logistic (g (at2 r ⟨j.val, by omega⟩) + ((∑ k : Fin 512, h (at2 r k) * whh (at2 ⟨j.val, by omega⟩ k)) + bhh (at2 0 ⟨j.val, by omega⟩)))
              * ((∑ k : Fin 512, h (at2 r k) * whh (at2 ⟨1024 + j.val, by omega⟩ k)) + bhh (at2 0 ⟨1024 + j.val, by omega⟩)))
        + Ideal.logistic (g (at2 r ⟨512 + j.val, by omega⟩) + ((∑ k : Fin 512, h (at2 r k) * whh (at2 ⟨512 + j.val, by omega⟩ k)) + bhh (at2 0 ⟨512 + j.val, by omega⟩)))
          * h (at2 r j) := by
  pointwise [k0_pay1]
theorem lg_apply (e : Vec Ideal S32x256 .f32) (nh : Vec Ideal S32x512 .f32) (base : Vec Ideal S1x16x6400 .f32) (w : Vec Ideal S6400x768 .bf16) (r : Fin 32) (j : Fin 6400) :
    k0_pay2 e nh base w (ix2 (n0 := 32) (n1 := 6400) r j)
      = (∑ k : Fin 256, e (at2 r k) * w (at2 j ⟨k.val, by omega⟩) + ∑ k : Fin 512, nh (at2 r k) * w (at2 j ⟨256 + k.val, by omega⟩))
        + (if h : r.val < 16 then base (ix3 (n0 := 1) (n1 := 16) (n2 := 6400) 0 ⟨r.val, h⟩ j) else base (ix3 (n0 := 1) (n1 := 16) (n2 := 6400) 0 ⟨r.val - 16, by omega⟩ j)) := by
  pointwise [k0_pay2]
theorem lg3_apply (e : Vec Ideal S32x256 .f32) (nh : Vec Ideal S32x512 .f32) (base : Vec Ideal S1x16x6400 .f32) (w : Vec Ideal S6400x768 .bf16) (r : Fin 32) (j : Fin 6400) :
    k0_pay3 e nh base w (ix3 (n0 := 1) (n1 := 32) (n2 := 6400) 0 r j) = k0_pay2 e nh base w (ix2 (n0 := 32) (n1 := 6400) r j) := by
  pointwise [k0_pay3]
theorem mx_apply (i : grid0.Coords) (e : Vec Ideal S32x256 .f32) (nh : Vec Ideal S32x512 .f32) (base : Vec Ideal S1x16x6400 .f32) (w : Vec Ideal S6400x768 .bf16) (m : Vec Ideal S32x1 .f32) (r : Fin 32) :
    k0_pay4 i e nh base w m (ix2 (n0 := 32) (n1 := 1) r 0)
      = Scalar.select (Scalar.cmpi .eq (BitVec.ofNat 32 (i 1).val) 0#32)
          (Finset.fold max (Ideal.ofBits .f32 0xFF800000#32) (fun x : Fin 6400 => k0_pay2 e nh base w (ix2 (n0 := 32) (n1 := 6400) r x)) Finset.univ)
          (max (m (at2 r 0)) (Finset.fold max (Ideal.ofBits .f32 0xFF800000#32) (fun x : Fin 6400 => k0_pay2 e nh base w (ix2 (n0 := 32) (n1 := 6400) r x)) Finset.univ)) := by
  pointwise [k0_pay4]
theorem p24_apply (m : Vec Ideal S32x1 .f32) (blk : Vec Ideal S1x32x6400 .f32) (r : Fin 32) (j : Fin 6400) :
    k0_pay24 m blk (ix3 (n0 := 1) (n1 := 32) (n2 := 6400) 0 r j) = Ideal.exp (blk (ix3 (n0 := 1) (n1 := 32) (n2 := 6400) 0 r j) - m (at2 r 0)) := by
  pointwise [k0_pay24, k0_pay23]
theorem p25_apply (m : Vec Ideal S32x1 .f32) (s : FVec Ideal S32x1 .f32) (blk : Vec Ideal S1x32x6400 .f32) (r : Fin 32) :
    k0_pay25 m s blk (ix2 (n0 := 32) (n1 := 1) r 0) = s (at2 r 0) + ∑ x : Fin 6400, Ideal.exp (blk (ix3 (n0 := 1) (n1 := 32) (n2 := 6400) 0 r x) - m (at2 r 0)) := by
  pointwise [k0_pay25, k0_pay23]
theorem p15_apply (prob fin : Vec Ideal S32x1 .f32) (s : FVec Ideal S32x1 .f32) (u : Fin k0_t2_loop.trips) (e : Vec Ideal S1x32x6400 .f32) (r : Fin 32) (x : Fin 6400) :
    crow prob fin s u e r x
      = Scalar.select (IntOp.cmpi .eq (IntOp.addi (BitVec.ofNat 32 x.val) (Scalar.muli (Scf.iv 0#32 1#32 u.val) 6400#32)) 3#32)
      (if 0 < fin (at2 r 0) then prob (at2 r 0)
      else
        if 0 < fin (at2 r 0) then Ideal.ofBits .f32 0xF149F2CA#32
        else Ideal.div (e (ix3 (n0 := 1) (n1 := 32) (n2 := 6400) 0 r x)) (s (at2 r 0)) * prob (at2 r 0))
      (if 0 < fin (at2 r 0) then Ideal.ofBits .f32 0xF149F2CA#32
      else Ideal.div (e (ix3 (n0 := 1) (n1 := 32) (n2 := 6400) 0 r x)) (s (at2 r 0)) * prob (at2 r 0)) := by
  unfold crow
  pointwise [k0_pay15, k0_pay14]

section Step
variable {X : Ins Ideal} {A : Args} (hX : Reads X A) (t : ℕ) (ht : t < 31) (s : St Ideal) (r : Fin 32)
include hX ht

theorem emT_eq (k : Fin 256) : X.emT s (at2 r k) = emb A (beam s r) k := by
  have e : tokAt s.tok r.val r.isLt = (beam s r).tok := by
    unfold tokAt
    refine congrArg s.tok (funext fun a => Fin.ext ?_)
    match a with
    | 0 => show r.val + 1 * _ = r.val; rw [show ((Shape.Idx.first (s := S1x1) _ : S1x1.Idx) 0).val = 0 from rfl]; omega
    | 1 => rfl
  have hg : X.emT s (at2 r k) = X.emb (ix2 (n0 := 32000) (n1 := 256) ⟨min (tokAt s.tok r.val r.isLt).toNat 31999, by omega⟩ k) := rfl
  rw [hg, hX.emb]
  exact congrArg (fun n => A.emb n k) (Fin.ext (congrArg (fun w : BitVec 32 => min w.toNat 31999) e))

theorem gi_eq (j : Fin 1536) : k0_pay13 (X.ctx (5 * t)) (X.ctx (5 * t)) (X.emT s) (X.wih (5 * t)) (X.bih (5 * t)) (at2 r j) = Spec.gi A (bOf r) (beam s r) j := by
  rw [gi_apply, hX.bih t ht]
  unfold Spec.gi
  congr 2
  · refine Finset.sum_congr rfl fun k _ => ?_
    rw [← emT_eq hX t ht, ← hX.wih t ht]
  · refine Finset.sum_congr rfl fun k _ => ?_
    rw [← hX.wih t ht]
    unfold bOf
    by_cases h : r.val < 16
    · rw [dif_pos h, dif_pos h, hX.ctx t ht]
    · rw [dif_neg h, dif_neg h, hX.ctx t ht]

theorem nh_eq (j : Fin 512) : X.nh t s (at2 r j) = Spec.nh A (bOf r) (beam s r) j := by
  unfold Ins.nh nhOf
  rw [nh_apply]
  have e : ∀ j : Fin 1536, (∑ k : Fin 512, s.h (at2 r k) * X.whh (5 * t) (at2 j k)) + X.bhh (5 * t) (at2 0 j) = gh A (beam s r) j := by
    intro j
    rw [hX.bhh t ht]
    unfold gh
    exact congrArg (· + _) (Finset.sum_congr rfl fun k _ => by rw [hX.whh t ht]; rfl)
  simp only [e, gi_eq hX t ht]
  rfl

theorem lg_eq (v : ℕ) (hv : v < 5) (j : Fin 6400) :
    k0_pay2 (X.emT s) (X.nh t s) (X.bw (5 * t + v)) (X.slab (5 * t + v)) (at2 r j) = logit A (bOf r) (beam s r) ⟨6400 * v + j.val, by omega⟩ := by
  rw [lg_apply]
  unfold logit
  refine congrArg₂ (· + ·) (congrArg₂ (· + ·) ?_ ?_) ?_
  · refine Finset.sum_congr rfl fun k _ => ?_
    rw [emT_eq hX t ht, hX.slab t v ht hv]
  · refine Finset.sum_congr rfl fun k _ => ?_
    rw [nh_eq hX t ht, hX.slab t v ht hv]
  · unfold bOf
    by_cases h : r.val < 16
    · rw [dif_pos h, dif_pos h, hX.bw t v ht hv]
    · rw [dif_neg h, dif_neg h, hX.bw t v ht hv]

theorem blk_eq (v : ℕ) (hv : v < 5) (j : Fin 6400) :
    X.blk t s v (ix3 (n0 := 1) (n1 := 32) (n2 := 6400) 0 r j) = logit A (bOf r) (beam s r) ⟨6400 * v + j.val, by omega⟩ := by
  unfold Ins.blk
  rw [lg3_apply]
  exact lg_eq hX t ht s r v hv j

theorem mx_le (v : ℕ) (hv : v < 5) (c : EReal) :
    X.mx t s (v + 1) (at2 r 0) ≤ c ↔ ∀ w : Fin 32000, w.val < 6400 * (v + 1) → logit A (bOf r) (beam s r) w ≤ c := by
  have hb : (Finset.fold max (Ideal.ofBits .f32 0xFF800000#32) (fun x : Fin 6400 => k0_pay2 (X.emT s) (X.nh t s) (X.bw (5 * t + v)) (X.slab (5 * t + v)) (ix2 (n0 := 32) (n1 := 6400) r x)) Finset.univ ≤ c)
      ↔ ∀ w : Fin 32000, 6400 * v ≤ w.val → w.val < 6400 * (v + 1) → logit A (bOf r) (beam s r) w ≤ c := by
    rw [neg_inf, Finset.fold_max_le]
    constructor
    · intro h w h1 h2
      have := h.2 ⟨w.val - 6400 * v, by omega⟩ (Finset.mem_univ _)
      rw [lg_eq hX t ht s r v hv] at this
      refine le_of_eq_of_le (congrArg _ (Fin.ext ?_)) this
      show w.val = 6400 * v + (w.val - 6400 * v)
      omega
    · intro h
      refine ⟨bot_le, fun x _ => ?_⟩
      rw [lg_eq hX t ht s r v hv]
      exact h _ (Nat.le_add_right _ _) (by show 6400 * v + x.val < 6400 * (v + 1); have := x.isLt; omega)
  show k0_pay4 (gi (5 * t + v)) (X.emT s) (X.nh t s) (X.bw (5 * t + v)) (X.slab (5 * t + v)) (X.mx t s v) (at2 r 0) ≤ c ↔ _
  rw [mx_apply, hX.first t v ht hv]
  rcases Nat.eq_zero_or_pos v with rfl | hp
  · rw [show Scalar.cmpi .eq (BitVec.ofNat 32 0) 0#32 = 1#1 from by decide]
    unfold Scalar.select
    rw [if_pos (show (1#1 : BitVec 1) = 1 from rfl), hb]
    exact ⟨fun h w h2 => h w (Nat.zero_le _) h2, fun h w _ h2 => h w h2⟩
  · rw [show Scalar.cmpi .eq (BitVec.ofNat 32 v) 0#32 = 0#1 from by interval_cases v <;> decide]
    unfold Scalar.select
    rw [if_neg (by decide), max_le_iff, hb]
    obtain ⟨v, rfl⟩ := Nat.exists_eq_succ_of_ne_zero hp.ne'
    rw [show v.succ = v + 1 from rfl, mx_le v (by omega) c]
    constructor
    · intro h w hw
      by_cases h1 : w.val < 6400 * (v + 1)
      · exact h.1 w h1
      · exact h.2 w (by omega) hw
    · intro h
      exact ⟨fun w hw => h w (by omega), fun w _ hw => h w hw⟩

theorem mx_eq : X.mx t s 5 (at2 r 0) = Spec.top A (bOf r) (beam s r) := by
  refine eq_of_forall_ge_iff fun c => ?_
  rw [mx_le hX t ht s r 4 (by decide) c]
  unfold Spec.top
  rw [Finset.fold_max_le]
  exact ⟨fun h => ⟨bot_le, fun w _ => h w (by have := w.isLt; omega)⟩, fun h w _ => h.2 w (Finset.mem_univ _)⟩

/-- The exponentials by place in the vocabulary. -/
def exN (A : Args) (b : Fin 16) (x : Beam) (n : ℕ) : EReal := if h : n < 32000 then Spec.ex A b x ⟨n, h⟩ else 0

theorem ex_eq (v : ℕ) (hv : v < 5) (j : Fin 6400) :
    Ideal.exp (X.blk t s v (ix3 (n0 := 1) (n1 := 32) (n2 := 6400) 0 r j) - X.mx t s 5 (at2 r 0)) = Spec.ex A (bOf r) (beam s r) ⟨6400 * v + j.val, by omega⟩ := by
  rw [blk_eq hX t ht s r v hv, mx_eq hX t ht s r]
  rfl

theorem sum_eq : ∀ k, k ≤ 5 → sumTo (X.mx t s 5) (fun u => X.blk t s u.val) k (at2 r 0) = ∑ n ∈ Finset.range (6400 * k), exN A (bOf r) (beam s r) n
  | 0, _ => by
    rw [Nat.mul_zero, Finset.range_zero, Finset.sum_empty]
    unfold sumTo
    pointwise [k0_pay22]
  | k + 1, hk => by
    unfold sumTo
    rw [dif_pos (show k < k0_t1_loop.trips from by rw [show k0_t1_loop.trips = 5 from by decide]; omega)]
    rw [p25_apply, sum_eq k (by omega), Nat.mul_add, Nat.mul_one, Finset.sum_range_add]
    refine congrArg (_ + ·) ?_
    rw [Finset.sum_range]
    refine Finset.sum_congr rfl fun x _ => ?_
    rw [ex_eq hX t ht s r k (by omega)]
    unfold exN
    rw [dif_pos (by have := x.isLt; omega)]

theorem tot_eq : sumTo (X.mx t s 5) (fun u => X.blk t s u.val) k0_t1_loop.trips (at2 r 0) = tot A (bOf r) (beam s r) := by
  refine (sum_eq hX t ht s r 5 le_rfl).trans ?_
  rw [show 6400 * 5 = 32000 from rfl, Finset.sum_range]
  unfold tot
  refine Finset.sum_congr rfl fun x _ => ?_
  unfold exN
  rw [dif_pos x.isLt]

/-- The candidates of the row by place in the vocabulary. -/
def candN (A : Args) (b : Fin 16) (x : Beam) (n : ℕ) : EReal := cand A b x ⟨n % 32000, Nat.mod_lt _ (by decide)⟩

/-- The step's exponentials of block `u`. -/
abbrev ebOf (X : Ins Ideal) (t : ℕ) (s : St Ideal) (u : Fin k0_t2_loop.trips) : Vec Ideal S1x32x6400 .f32 := k0_pay24 (X.mx t s 5) (X.blk t s u.val)
/-- The step's sum of exponentials. -/
abbrev totOf (X : Ins Ideal) (t : ℕ) (s : St Ideal) : FVec Ideal S32x1 .f32 := sumTo (X.mx t s 5) (fun u => X.blk t s u.val) k0_t1_loop.trips

theorem crow_eq (u : Fin k0_t2_loop.trips) (x : Fin 6400) :
    crow s.prob s.fin (totOf X t s) u (ebOf X t s u) r x = candN A (bOf r) (beam s r) (6400 * u.val + x.val) := by
  have hu : u.val < 5 := lt_of_lt_of_eq u.isLt trips2
  have hm : (6400 * u.val + x.val) % 32000 = 6400 * u.val + x.val := Nat.mod_eq_of_lt (by have := x.isLt; omega)
  rw [p15_apply, lane_word]
  unfold ebOf totOf
  rw [p24_apply, ex_eq hX t ht s r u.val hu, tot_eq hX t ht s r]
  unfold candN cand
  have hw : (IntOp.cmpi .eq (BitVec.ofNat 32 (x.val + 6400 * u.val)) 3#32) = BitVec.ofBool (decide (6400 * u.val + x.val = 3)) := by
    unfold IntOp.cmpi
    congr 1
    rw [beq_eq_decide, decide_eq_decide]
    constructor
    · intro h
      have := congrArg BitVec.toNat h
      rw [BitVec.toNat_ofNat, Nat.mod_eq_of_lt (by have := x.isLt; omega), show (3#32 : BitVec 32).toNat = 3 from rfl] at this
      omega
    · intro h; rw [show x.val + 6400 * u.val = 3 from by omega]
  rw [hw]
  simp only [hm]
  by_cases hf : (beam s r).fin
  · rw [if_pos hf]
    have hf' : 0 < s.fin (at2 r 0) := hf
    rw [if_pos hf', if_pos hf']
    by_cases h3 : 6400 * u.val + x.val = 3
    · rw [if_pos h3, decide_eq_true h3]; rfl
    · rw [if_neg h3, decide_eq_false h3]; rfl
  · rw [if_neg hf]
    have hf' : ¬ 0 < s.fin (at2 r 0) := hf
    rw [if_neg hf', if_neg hf']
    unfold Scalar.select
    rw [ite_self]
    rfl

/-! ## The two best of a beam -/

variable (hA : A.Fine) (hs : (beam s r).Fine)
include hA hs

theorem block_best (u : Fin k0_t2_loop.trips) : ∃ i j : ℕ, Best (candN A (bOf r) (beam s r)) (6400 * u.val) (6400 * u.val + 6400) i j
    ∧ k0_pay16 s.prob s.fin (totOf X t s) 0#32 1#32 u (ebOf X t s u) (ix2 (n0 := 32) (n1 := 1) r 0) = candN A (bOf r) (beam s r) i
    ∧ k0_pay17 s.prob s.fin (totOf X t s) 1073741824#32 0#32 1#32 u (ebOf X t s u) (ix2 (n0 := 32) (n1 := 1) r 0) = BitVec.ofNat 32 i
    ∧ k0_pay19 s.prob s.fin (totOf X t s) 1073741824#32 (Scalar.ofBits .f32 0xFF800000#32) 0#32 1#32 u (ebOf X t s u) (ix2 (n0 := 32) (n1 := 1) r 0)
        = candN A (bOf r) (beam s r) j
    ∧ k0_pay20 s.prob s.fin (totOf X t s) 1073741824#32 (Scalar.ofBits .f32 0xFF800000#32) 0#32 1#32 u (ebOf X t s u) (ix2 (n0 := 32) (n1 := 1) r 0)
        = BitVec.ofNat 32 j := by
  obtain ⟨i, j, f1, f2, e16, e17, e19, e20⟩ := best_block s.prob s.fin (totOf X t s) u (ebOf X t s u) r
  have hc := crow_eq hX t ht s r u
  generalize crow s.prob s.fin (totOf X t s) u (ebOf X t s u) r = c at *
  have hb : ∀ x, ⊥ < c x := fun x => by rw [hc]; exact (re_cand (bOf r) hA hs _).bot_lt
  have hne : i ≠ j := by
    rintro rfl
    have hk : ∃ k : Fin 6400, k ≠ i := by
      by_cases h : i.val = 0
      · exact ⟨⟨1, by decide⟩, fun e => by rw [← e] at h; exact absurd h (by decide)⟩
      · exact ⟨⟨0, by decide⟩, fun e => h (by rw [← e])⟩
    obtain ⟨k, hk⟩ := hk
    have := f2.1 k
    dsimp only at this
    rw [if_neg hk, if_pos rfl] at this
    exact absurd (hb k) (not_lt.mpr this)
  refine ⟨6400 * u.val + i.val, 6400 * u.val + j.val, ?_, e16.trans (hc i), e17.trans (by rw [Nat.add_comm]), ?_, e20.trans (by rw [Nat.add_comm])⟩
  · refine Best.shift (d := fun n => candN A (bOf r) (beam s r) (6400 * u.val + n)) _ ⟨Nat.zero_le _, i.isLt, Nat.zero_le _, j.isLt, fun e => hne (Fin.ext e), ?_, ?_⟩ fun k _ => rfl
    · intro k _ hk
      have h1 := f1.1 ⟨k, hk⟩
      have h2 := f1.2 ⟨k, hk⟩
      rw [hc, hc] at h1 h2
      exact ⟨h1, h2⟩
    · intro k _ hk hki
      have h1 := f2.1 ⟨k, hk⟩
      have h2 := f2.2 ⟨k, hk⟩
      dsimp only at h1 h2
      rw [if_neg (fun e => hki (congrArg Fin.val e)), if_neg hne.symm, hc, hc] at h1 h2
      exact ⟨h1, h2⟩
  · rw [e19, if_neg hne.symm, hc]

end Step

end Cert.KernelIdeal.Dec
end
-- ==== Proof.DecSel.lean ====
/-
  A decoding step of the kernel is a step of the beam search: the two best of the vocabulary blocks one after the other, of
  the two beams, and the rows of the state they make.
-/
module

public import proofs.«01_k».proof.Proof.DecVal

@[expose] public section

set_option maxRecDepth 16384

noncomputable section

namespace Cert.KernelIdeal.Dec

open Cert.KernelIdeal Cert.KernelIdeal.Gen
open Idealize.ShloMosaic Idealize.ShloMosaic.TcCoe
open Cert.Two Cert.Spec

/-- Two neighbouring stretches' best merged by comparing. -/
theorem merge_best {c : ℕ → EReal} {lo mid hi i1 i2 j1 j2 : ℕ} (h : Best c lo mid i1 i2) (g : Best c mid hi j1 j2)
    {o1 o2 n1 n2 : EReal} {u1 u2 v1 v2 : BitVec 32} (ho1 : o1 = c i1) (ho2 : o2 = c i2) (hn1 : n1 = c j1) (hn2 : n2 = c j2)
    (hu1 : u1 = BitVec.ofNat 32 i1) (hu2 : u2 = BitVec.ofNat 32 i2) (hv1 : v1 = BitVec.ofNat 32 j1) (hv2 : v2 = BitVec.ofNat 32 j2) :
    ∃ i j, Best c lo hi i j ∧ (if n1 ≤ o1 then o1 else n1) = c i ∧ (if n1 ≤ o1 then u1 else v1) = BitVec.ofNat 32 i
      ∧ (if (if n1 ≤ o1 then n1 else n2) ≤ (if n1 ≤ o1 then o2 else o1) then (if n1 ≤ o1 then o2 else o1) else (if n1 ≤ o1 then n1 else n2)) = c j
      ∧ (if (if n1 ≤ o1 then n1 else n2) ≤ (if n1 ≤ o1 then o2 else o1) then (if n1 ≤ o1 then u2 else u1) else (if n1 ≤ o1 then v1 else v2))
          = BitVec.ofNat 32 j := by
  subst ho1 ho2 hn1 hn2 hu1 hu2 hv1 hv2
  by_cases hc : c j1 ≤ c i1
  · refine ⟨_, _, h.left g hc, ?_, ?_, ?_, ?_⟩ <;> simp only [if_pos hc] <;> split_ifs <;> rfl
  · refine ⟨_, _, h.right g hc, ?_, ?_, ?_, ?_⟩ <;> simp only [if_neg hc] <;> split_ifs <;> rfl

section Quad
variable (a : Quad Ideal) (prob fin s : Vec Ideal S32x1 .f32) (u : Fin k0_t2_loop.trips) (e : Vec Ideal S1x32x6400 .f32) (r : Fin 32)
/-- The block's best and second best and where they stand. -/
abbrev n1 : EReal := k0_pay16 prob fin s 0#32 1#32 u e (ix2 (n0 := 32) (n1 := 1) r 0)
abbrev w1 : BitVec 32 := k0_pay17 prob fin s 1073741824#32 0#32 1#32 u e (ix2 (n0 := 32) (n1 := 1) r 0)
abbrev n2 : EReal := k0_pay19 prob fin s 1073741824#32 (Scalar.ofBits .f32 0xFF800000#32) 0#32 1#32 u e (ix2 (n0 := 32) (n1 := 1) r 0)
abbrev w2 : BitVec 32 := k0_pay20 prob fin s 1073741824#32 (Scalar.ofBits .f32 0xFF800000#32) 0#32 1#32 u e (ix2 (n0 := 32) (n1 := 1) r 0)

theorem sel1 : (selStep prob fin s u e a).1 (ix2 (n0 := 32) (n1 := 1) r 0) = (if n1 prob fin s u e r ≤ a.1 (at2 r 0) then a.1 (at2 r 0) else n1 prob fin s u e r) := by
  unfold selStep n1
  pointwise [k0_pay30, k0_pay21]
theorem sel2 : (selStep prob fin s u e a).2.1 (ix2 (n0 := 32) (n1 := 1) r 0) = (if n1 prob fin s u e r ≤ a.1 (at2 r 0) then a.2.1 (at2 r 0) else w1 prob fin s u e r) := by
  unfold selStep n1 w1
  pointwise [k0_pay31, k0_pay21]
theorem sel3 : (selStep prob fin s u e a).2.2.1 (ix2 (n0 := 32) (n1 := 1) r 0)
    = (if (if n1 prob fin s u e r ≤ a.1 (at2 r 0) then n1 prob fin s u e r else n2 prob fin s u e r) ≤ (if n1 prob fin s u e r ≤ a.1 (at2 r 0) then a.2.2.1 (at2 r 0) else a.1 (at2 r 0))
       then (if n1 prob fin s u e r ≤ a.1 (at2 r 0) then a.2.2.1 (at2 r 0) else a.1 (at2 r 0)) else (if n1 prob fin s u e r ≤ a.1 (at2 r 0) then n1 prob fin s u e r else n2 prob fin s u e r)) := by
  unfold selStep n1 n2
  pointwise [k0_pay35, k0_pay34, k0_pay32, k0_pay33, k0_pay21]
theorem sel4 : (selStep prob fin s u e a).2.2.2 (ix2 (n0 := 32) (n1 := 1) r 0)
    = (if (if n1 prob fin s u e r ≤ a.1 (at2 r 0) then n1 prob fin s u e r else n2 prob fin s u e r) ≤ (if n1 prob fin s u e r ≤ a.1 (at2 r 0) then a.2.2.1 (at2 r 0) else a.1 (at2 r 0))
       then (if n1 prob fin s u e r ≤ a.1 (at2 r 0) then a.2.2.2 (at2 r 0) else a.2.1 (at2 r 0)) else (if n1 prob fin s u e r ≤ a.1 (at2 r 0) then w1 prob fin s u e r else w2 prob fin s u e r)) := by
  unfold selStep n1 n2 w1 w2
  pointwise [k0_pay36, k0_pay34, k0_pay32, k0_pay33, k0_pay21]
end Quad

/-- A row's selection: the two best candidates of the first `n` places. -/
def Holds (q : Quad Ideal) (r : Fin 32) (c : ℕ → EReal) (n : ℕ) : Prop :=
  ∃ i j, Best c 0 n i j ∧ q.1 (at2 r 0) = c i ∧ q.2.1 (at2 r 0) = BitVec.ofNat 32 i ∧ q.2.2.1 (at2 r 0) = c j ∧ q.2.2.2 (at2 r 0) = BitVec.ofNat 32 j

section Step
variable {X : Ins Ideal} {A : Args} (hX : Reads X A) (t : ℕ) (ht : t < 31) (s : St Ideal) (r : Fin 32) (hA : A.Fine) (hs : (beam s r).Fine)
include hX ht hA hs

theorem sel_holds : ∀ k, k < 5 → Holds (selTo s.prob s.fin (totOf X t s) (ebOf X t s) (k + 1)) r (candN A (bOf r) (beam s r)) (6400 * (k + 1))
  | 0, _ => by
    obtain ⟨i, j, hb, e1, e2, e3, e4⟩ := block_best hX t ht s r hA hs ⟨0, by decide⟩
    have hi : ⊥ < candN A (bOf r) (beam s r) i := (re_cand (bOf r) hA hs _).bot_lt
    have hj : ⊥ < candN A (bOf r) (beam s r) j := (re_cand (bOf r) hA hs _).bot_lt
    obtain ⟨a, e, z1, z2⟩ : ∃ a : Quad Ideal, selTo s.prob s.fin (totOf X t s) (ebOf X t s) (0 + 1)
        = selStep s.prob s.fin (totOf X t s) ⟨0, by decide⟩ (ebOf X t s ⟨0, by decide⟩) a ∧ a.1 (at2 r 0) = ⊥ ∧ a.2.2.1 (at2 r 0) = ⊥ := by
      refine ⟨(k0_pay26, k0_pay27, k0_pay28, k0_pay29), ?_, ?_, ?_⟩
      · unfold selTo
        rw [dif_pos (show 0 < k0_t2_loop.trips by decide)]
        unfold selTo
        rfl
      · show (k0_pay26 : FVec Ideal S32x1 .f32) (at2 r 0) = ⊥
        rw [← neg_inf]; pointwise [k0_pay26]
      · show (k0_pay28 : FVec Ideal S32x1 .f32) (at2 r 0) = ⊥
        rw [← neg_inf]; pointwise [k0_pay28]
    have hi' : ¬ n1 s.prob s.fin (totOf X t s) ⟨0, by decide⟩ (ebOf X t s ⟨0, by decide⟩) r ≤ ⊥ := by unfold n1; rw [e1]; exact not_le.mpr hi
    have hj' : ¬ n2 s.prob s.fin (totOf X t s) ⟨0, by decide⟩ (ebOf X t s ⟨0, by decide⟩) r ≤ ⊥ := by unfold n2; rw [e3]; exact not_le.mpr hj
    rw [e]
    refine ⟨i, j, hb, ?_, ?_, ?_, ?_⟩
    · rw [sel1, z1, if_neg hi']; exact e1
    · rw [sel2, z1, if_neg hi']; exact e2
    · rw [sel3, z1, z2, if_neg hi', if_neg hi', if_neg hj']; exact e3
    · rw [sel4, z1, z2, if_neg hi', if_neg hi', if_neg hj', if_neg hi']; exact e4
  | k + 1, hk => by
    obtain ⟨i1, i2, h, h1, h2, h3, h4⟩ := sel_holds k (by omega)
    have hk' : k + 1 < k0_t2_loop.trips := by rw [trips2]; exact hk
    obtain ⟨j1, j2, g, e1, e2, e3, e4⟩ := block_best hX t ht s r hA hs ⟨k + 1, hk'⟩
    obtain ⟨i, j, hb, m1, m2, m3, m4⟩ := merge_best h g h1 h3 e1 e3 h2 h4 e2 e4
    unfold selTo
    rw [dif_pos hk']
    refine ⟨i, j, hb, ?_, ?_, ?_, ?_⟩
    · rw [sel1]; exact m1
    · rw [sel2]; exact m2
    · rw [sel3]; exact m3
    · rw [sel4]; exact m4

theorem row_holds : Holds (X.sel t s) r (candN A (bOf r) (beam s r)) 32000 := sel_holds hX t ht s r hA hs 4 (by decide)
end Step

/-- Row of beam `k` of batch entry `b`. -/
def row (b : Fin 16) (k : Fin 2) : Fin 32 := ⟨16 * k.val + b.val, by omega⟩
theorem bOf_row (b : Fin 16) (k : Fin 2) : bOf (row b k) = b := by
  unfold bOf row
  match k with
  | 0 => rw [dif_pos (show 16 * (0 : Fin 2).val + b.val < 16 from by show 16 * 0 + b.val < 16; omega)]; exact Fin.ext (by show 16 * 0 + b.val = b.val; omega)
  | 1 => rw [dif_neg (show ¬ 16 * (1 : Fin 2).val + b.val < 16 from by show ¬ 16 * 1 + b.val < 16; omega)]; exact Fin.ext (by show 16 * 1 + b.val - 16 = b.val; omega)
theorem row0 (b : Fin 16) : row b 0 = ⟨b.val, by omega⟩ := Fin.ext (by show 16 * 0 + b.val = b.val; omega)
theorem row1 (b : Fin 16) : row b 1 = ⟨16 + b.val, by omega⟩ := Fin.ext (by show 16 * 1 + b.val = 16 + b.val; omega)
/-- The two beams of a batch entry. -/
def beams (s : St Ideal) (b : Fin 16) (k : Fin 2) : Beam := beam s (row b k)

/-- The two beams' best merged. -/
def Picks (q : Quad Ideal) (b : Fin 16) (c : ℕ → EReal) : Prop :=
  ∃ i j, Best c 0 64000 i j ∧ x55 q (at2 b 0) = c i ∧ x56 q (at2 b 0) = BitVec.ofNat 32 i ∧ x62 q (at2 b 0) = c j ∧ x63 q (at2 b 0) = BitVec.ofNat 32 j

theorem sel_picks {X : Ins Ideal} {A : Args} (hX : Reads X A) (t : ℕ) (ht : t < 31) (s : St Ideal) (b : Fin 16) (hA : A.Fine)
    (hs : ∀ k, (beams s b k).Fine) : Picks (X.sel t s) b (cands A b (beams s b)) := by
  obtain ⟨i1, i2, h, h1, h2, h3, h4⟩ := row_holds hX t ht s (row b 0) hA (hs 0)
  obtain ⟨j1, j2, g, g1, g2, g3, g4⟩ := row_holds hX t ht s (row b 1) hA (hs 1)
  rw [bOf_row] at *
  have c0 : ∀ k, k < 32000 → candN A b (beam s (row b 0)) k = cands A b (beams s b) k := by
    intro k hk
    unfold candN cands par
    rw [if_pos hk]; rfl
  have c1 : ∀ k, k < 32000 → cands A b (beams s b) (32000 + k) = candN A b (beam s (row b 1)) k := by
    intro k hk
    unfold candN cands par
    rw [if_neg (by omega)]
    exact congrArg (cand A b _) (Fin.ext (by show (32000 + k) % 32000 = k % 32000; omega))
  have H := h.congr fun k _ hk => c0 k hk
  have G := g.shift (c := cands A b (beams s b)) 32000 c1
  have w : ∀ k, IntOp.addi (BitVec.ofNat 32 k) 32000#32 = BitVec.ofNat 32 (32000 + k) := fun k => by
    unfold IntOp.addi; rw [Nat.add_comm]; exact (BitVec.ofNat_add _ _).symm
  rw [row0] at h1 h2 h3 h4
  rw [row1] at g1 g2 g3 g4
  obtain ⟨i, j, hb, m1, m2, m3, m4⟩ := merge_best H G (h1.trans (by rw [← row0]; exact c0 _ h.i_hi)) (h3.trans (by rw [← row0]; exact c0 _ h.j_hi))
    (g1.trans (by rw [← row1]; exact (c1 _ g.i_hi).symm)) (g3.trans (by rw [← row1]; exact (c1 _ g.j_hi).symm)) h2 h4
    ((congrArg (IntOp.addi · 32000#32) g2).trans (w _)) ((congrArg (IntOp.addi · 32000#32) g4).trans (w _))
  refine ⟨i, j, hb, ?_, ?_, ?_, ?_⟩
  · rw [x55_apply]; exact m1
  · rw [x56_apply]; exact m2
  · rw [x62_apply]; exact m3
  · rw [x63_apply]; exact m4

end Cert.KernelIdeal.Dec
end
-- ==== Proof.DecStep.lean ====
/-
  The state the kernel's step leaves is the beam search's next one, its first state is the search's first, and its last
  step's results are the better beam's tokens and scores.
-/
module

public import proofs.«01_k».proof.Proof.DecSel

@[expose] public section

set_option maxRecDepth 16384

noncomputable section

namespace Cert.KernelIdeal.Dec

open Cert.KernelIdeal Cert.KernelIdeal.Gen
open Idealize.ShloMosaic Idealize.ShloMosaic.TcCoe
open Cert.Two Cert.Spec

theorem top_at {n : ℕ} {α : Type} (x : (⟨2, ![32, n]⟩ : Shape).Idx → α) (b : Fin 16) (k : Fin n) : topHalf (n := n) x (at2 b k) = x (at2 (row b 0) k) := by
  refine congrArg x (funext fun a => Fin.ext ?_)
  match a with
  | 0 => show 0 + 1 * b.val = 16 * 0 + b.val; omega
  | 1 => show 0 + 1 * k.val = k.val; omega
theorem bot_at {n : ℕ} {α : Type} (x : (⟨2, ![32, n]⟩ : Shape).Idx → α) (b : Fin 16) (k : Fin n) : botHalf (n := n) x (at2 b k) = x (at2 (row b 1) k) := by
  refine congrArg x (funext fun a => Fin.ext ?_)
  match a with
  | 0 => show 16 + 1 * b.val = 16 * 1 + b.val; omega
  | 1 => show 0 + 1 * k.val = k.val; omega
theorem inb_top (n : ℕ) : ∀ a, (![0, 0] : Fin 2 → ℕ) a + (![16, n] : Fin 2 → ℕ) a ≤ (⟨2, ![32, n]⟩ : Shape).size a := by
  intro a; match a with | 0 => show 0 + 16 ≤ 32; omega | 1 => show 0 + n ≤ n; omega
theorem inb_bot (n : ℕ) : ∀ a, (![16, 0] : Fin 2 → ℕ) a + (![16, n] : Fin 2 → ℕ) a ≤ (⟨2, ![32, n]⟩ : Shape).size a := by
  intro a; match a with | 0 => show 16 + 16 ≤ 32; omega | 1 => show 0 + n ≤ n; omega
theorem halves0 {n : ℕ} {α : Type} (x : (⟨2, ![32, n]⟩ : Shape).Idx → α) (u v : (⟨2, ![16, n]⟩ : Shape).Idx → α) (b : Fin 16) (k : Fin n) :
    halves (n := n) x u v (at2 (row b 0) k) = u (at2 b k) := by
  refine (top_at (halves (n := n) x u v) b k).symm.trans ?_
  have e1 := VecWindow.window_put_of_disjoint (s := ⟨2, ![32, n]⟩) (VecWindow.put (s := ⟨2, ![32, n]⟩) x ![0, 0] ![16, n] u) ![16, 0] ![16, n] ![0, 0] ![16, n]
    (inb_top n) v 0 (Or.inl (by show 0 + 16 ≤ 16; omega))
  have e2 := VecWindow.window_put_same (s := ⟨2, ![32, n]⟩) x ![0, 0] ![16, n] (inb_top n) u
  exact congrFun (e1.trans e2) (at2 b k)
theorem halves1 {n : ℕ} {α : Type} (x : (⟨2, ![32, n]⟩ : Shape).Idx → α) (u v : (⟨2, ![16, n]⟩ : Shape).Idx → α) (b : Fin 16) (k : Fin n) :
    halves (n := n) x u v (at2 (row b 1) k) = v (at2 b k) := by
  refine (bot_at (halves (n := n) x u v) b k).symm.trans ?_
  have e2 := VecWindow.window_put_same (s := ⟨2, ![32, n]⟩) (VecWindow.put (s := ⟨2, ![32, n]⟩) x ![0, 0] ![16, n] u) ![16, 0] ![16, n] (inb_bot n) v
  exact congrFun e2 (at2 b k)

theorem pick_lt (i : ℕ) (hi : i < 64000) : (BitVec.ofNat 32 i).toNat = i := by rw [BitVec.toNat_ofNat, Nat.mod_eq_of_lt (by omega)]

/-- A choice by the parent beam. -/
theorem sel_par {α : Type} (i : ℕ) (x : Fin 2 → α) : Scalar.select (BitVec.ofBool (decide (i < 32000))) (x 0) (x 1) = x (par i) := by
  unfold Scalar.select par
  by_cases h : i < 32000
  · rw [decide_eq_true h, if_pos h, if_pos (show BitVec.ofBool true = 1 from rfl)]
  · rw [decide_eq_false h, if_neg h, if_neg (by decide)]
theorem first_word (f : BitVec 32) (i : ℕ) (hi : i < 64000) (hf : f = BitVec.ofNat 32 i) :
    IntOp.cmpi .eq (BitVec.setWidth 32 (IntOp.cmpi .sge f 32000#32)) 0#32 = BitVec.ofBool (decide (i < 32000)) := by
  rw [sge_word f (by rw [hf, pick_lt i hi]; exact hi), hf, pick_lt i hi]
  by_cases h : i < 32000
  · rw [decide_eq_true h, decide_eq_false (by omega)]; decide
  · rw [decide_eq_false h, decide_eq_true (by omega)]; decide
theorem tokW_word (i : ℕ) (hi : i < 64000) : tokW (BitVec.ofNat 32 i) = BitVec.ofNat 32 (tokN i) := by
  apply BitVec.eq_of_toNat_eq
  rw [tokW_toNat _ (by rw [pick_lt i hi]; exact hi), pick_lt i hi, toNat_tokN]; rfl

theorem sel_bool {α : Type} (p : Prop) [Decidable p] (x y : α) : Scalar.select (BitVec.ofBool (decide p)) x y = if p then x else y := by
  unfold Scalar.select
  by_cases h : p
  · rw [decide_eq_true h, if_pos h, if_pos (show BitVec.ofBool true = 1 from rfl)]
  · rw [decide_eq_false h, if_neg h, if_neg (by decide)]
theorem slot_word (k : Fin 32) (t : ℕ) (ht : t < 31) :
    IntOp.cmpi .eq (BitVec.ofNat 32 k.val) (Scalar.addi (BitVec.ofNat 32 t) 1#32) = BitVec.ofBool (decide (k.val = t + 1)) :=
  (by decide +kernel : ∀ (k : Fin 32) (t : Fin 31), IntOp.cmpi .eq (BitVec.ofNat 32 k.val) (Scalar.addi (BitVec.ofNat 32 t.val) 1#32)
    = BitVec.ofBool (decide (k.val = t.val + 1))) k ⟨t, ht⟩
theorem eos_word (n : ℕ) : IntOp.cmpi .eq (BitVec.ofNat 32 (tokN n)) 3#32 = BitVec.ofBool (decide (tokN n = 3)) := by
  unfold IntOp.cmpi
  congr 1
  rw [beq_eq_decide, decide_eq_decide]
  constructor
  · intro h
    have := congrArg BitVec.toNat h
    rw [toNat_tokN] at this
    exact this
  · intro h; rw [h]
theorem pos_sel (p : Prop) [Decidable p] (x : EReal) : 0 < Scalar.select (BitVec.ofBool (decide p)) 1 x ↔ 0 < x ∨ p := by
  rw [sel_bool]
  by_cases h : p
  · rw [if_pos h]; exact ⟨fun _ => Or.inr h, fun _ => zero_lt_one⟩
  · rw [if_neg h]; exact ⟨Or.inl, fun hh => hh.resolve_right h⟩
open Classical in
theorem th_sel {α : Type} (k t : ℕ) (x : EReal) (u v : α) :
    Scalar.select (IntOp.andi (BitVec.ofBool (decide (k = t + 1))) (BitVec.ofBool (decide (x ≤ 0)))) u v = if k = t + 1 ∧ ¬ 0 < x then u else v := by
  by_cases h1 : k = t + 1 <;> by_cases h2 : x ≤ 0 <;> simp [h1, h2, Scalar.select, IntOp.andi]
open Classical in
theorem sh_sel (k t : ℕ) (x y z : EReal) :
    Scalar.select (BitVec.ofBool (decide (k = t + 1))) (if 0 < x then 0 else y) z = if k = t + 1 then (if 0 < x then 0 else y) else z := by
  rw [sel_bool]

section Next
variable (q : Quad Ideal) (b : Fin 16) (i j : ℕ) (hi : i < 64000) (hj : j < 64000)
  (e56 : x56 q (at2 b 0) = BitVec.ofNat 32 i) (e63 : x63 q (at2 b 0) = BitVec.ofNat 32 j)

section A
include hi e56
theorem p56 : k0_pay56 (x65 q) (ix2 (n0 := 16) (n1 := 1) b 0) = BitVec.ofBool (decide (i < 32000)) := by
  rw [← first_word _ i hi e56]
  unfold x65
  rw [show x56 q = k0_pay43 q.1 q.2.1 from rfl]
  pointwise [k0_pay56, k0_pay50, k0_pay49]
theorem t69 : x69 q (at2 b 0) = BitVec.ofNat 32 (tokN i) := by
  rw [x69_apply, show x56 q (ix2 (n0 := 16) (n1 := 1) b 0) = _ from e56, tokW_word i hi]
end A
section B
include hj e63
theorem p64 : k0_pay64 (k0_pay52 (x63 q)) (ix2 (n0 := 16) (n1 := 1) b 0) = BitVec.ofBool (decide (j < 32000)) := by
  rw [← first_word _ j hj e63]
  pointwise [k0_pay64, k0_pay52]
theorem t75 : x75 q (at2 b 0) = BitVec.ofNat 32 (tokN j) := by
  rw [x75_apply, show x63 q (ix2 (n0 := 16) (n1 := 1) b 0) = _ from e63, tokW_word j hj]
end B

variable (fin : Vec Ideal S32x1 .f32)
theorem fin54 : k0_pay54 fin (ix2 (n0 := 16) (n1 := 1) b 0) = fin (at2 (row b 0) 0) := by
  rw [row0]; pointwise [k0_pay54]
theorem fin55 : k0_pay55 fin (ix2 (n0 := 16) (n1 := 1) b 0) = fin (at2 (row b 1) 0) := by
  rw [row1]; pointwise [k0_pay55]

variable (t : ℕ) (ht : t < 31) (nh : Vec Ideal S32x512 .f32) (th : Vec Ideal S32x32 .i32) (sh : Vec Ideal S32x32 .f32)

section A
include hi e56
theorem f57 : k0_pay57 fin (x65 q) (ix2 (n0 := 16) (n1 := 1) b 0) = fin (at2 (row b (par i)) 0) := by
  rw [← sel_par i fun p => fin (at2 (row b p) 0), ← p56 q b i hi e56, ← fin54 b fin, ← fin55 b fin]
  pointwise [k0_pay57]
theorem x97_at (k : Fin 512) : x97 q nh (at2 b k) = nh (at2 (row b (par i)) k) := by
  rw [← sel_par i fun p => nh (at2 (row b p) k), ← p56 q b i hi e56, ← top_at (n := 512) nh b k, ← bot_at (n := 512) nh b k]
  unfold x97
  pointwise [k0_pay59]
theorem x119_at : 0 < x119 fin q (at2 b 0) ↔ 0 < fin (at2 (row b (par i)) 0) ∨ tokN i = 3 := by
  have e : x119 fin q (at2 b 0) = Scalar.select (IntOp.cmpi .eq (x69 q (at2 b 0)) 3#32) 1 (k0_pay57 fin (x65 q) (ix2 (n0 := 16) (n1 := 1) b 0)) := by
    unfold x119
    rw [show x88 fin q = k0_pay57 fin (x65 q) from rfl]
    pointwise [k0_pay63]
  rw [e, f57 q b i hi e56, t69 q b i hi e56, eos_word]
  exact pos_sel _ _
include ht in
theorem x106_at (k : Fin 32) : x106 (BitVec.ofNat 32 t) fin q th (at2 b k)
    = Scalar.select (IntOp.andi (BitVec.ofBool (decide (k.val = t + 1))) (BitVec.ofBool (decide (fin (at2 (row b (par i)) 0) ≤ 0))))
        (BitVec.ofNat 32 (tokN i)) (th (at2 (row b (par i)) k)) := by
  rw [← f57 q b i hi e56 fin, ← t69 q b i hi e56, ← sel_par i fun p => th (at2 (row b p) k), ← p56 q b i hi e56, ← top_at (n := 32) th b k, ← bot_at (n := 32) th b k,
    ← slot_word k t ht, show x69 q = k0_pay51 (x56 q) (x65 q) from rfl]
  unfold x106
  pointwise [k0_pay60]
include ht in
theorem x115_at (k : Fin 32) : x115 (BitVec.ofNat 32 t) fin q sh (at2 b k)
    = Scalar.select (BitVec.ofBool (decide (k.val = t + 1))) (if 0 < fin (at2 (row b (par i)) 0) then 0 else x55 q (at2 b 0)) (sh (at2 (row b (par i)) k)) := by
  rw [← f57 q b i hi e56 fin, ← sel_par i fun p => sh (at2 (row b p) k), ← p56 q b i hi e56, ← top_at (n := 32) sh b k, ← bot_at (n := 32) sh b k, ← slot_word k t ht]
  unfold x115
  rw [show x88 fin q = k0_pay57 fin (x65 q) from rfl]
  pointwise [k0_pay62, k0_pay58, k0_pay61]
end A
section B
include hj e63
theorem f65 : k0_pay65 (x72 q) (k0_pay54 fin) (k0_pay55 fin) (ix2 (n0 := 16) (n1 := 1) b 0) = fin (at2 (row b (par j)) 0) := by
  rw [← sel_par j fun p => fin (at2 (row b p) 0), ← p64 q b j hj e63, ← fin54 b fin, ← fin55 b fin]
  rw [show x72 q = k0_pay52 (x63 q) from rfl]
  generalize k0_pay54 fin = u
  generalize k0_pay55 fin = v
  pointwise [k0_pay65]
theorem x131_at (k : Fin 512) : x131 q nh (at2 b k) = nh (at2 (row b (par j)) k) := by
  rw [← sel_par j fun p => nh (at2 (row b p) k), ← p64 q b j hj e63, ← top_at (n := 512) nh b k, ← bot_at (n := 512) nh b k]
  unfold x131
  rw [show x72 q = k0_pay52 (x63 q) from rfl]
  pointwise [k0_pay66]
theorem x153_at : 0 < x153 fin q (at2 b 0) ↔ 0 < fin (at2 (row b (par j)) 0) ∨ tokN j = 3 := by
  have e : x153 fin q (at2 b 0) = Scalar.select (IntOp.cmpi .eq (x75 q (at2 b 0)) 3#32) 1 (k0_pay65 (x72 q) (k0_pay54 fin) (k0_pay55 fin) (ix2 (n0 := 16) (n1 := 1) b 0)) := by
    unfold x153
    generalize k0_pay54 fin = u
    generalize k0_pay55 fin = v
    pointwise [k0_pay69]
  rw [e, f65 q b j hj e63, t75 q b j hj e63, eos_word]
  exact pos_sel _ _
include ht in
theorem x140_at (k : Fin 32) : x140 (BitVec.ofNat 32 t) fin q th (at2 b k)
    = Scalar.select (IntOp.andi (BitVec.ofBool (decide (k.val = t + 1))) (BitVec.ofBool (decide (fin (at2 (row b (par j)) 0) ≤ 0))))
        (BitVec.ofNat 32 (tokN j)) (th (at2 (row b (par j)) k)) := by
  rw [← f65 q b j hj e63 fin, ← t75 q b j hj e63, ← sel_par j fun p => th (at2 (row b p) k), ← p64 q b j hj e63, ← top_at (n := 32) th b k, ← bot_at (n := 32) th b k,
    ← slot_word k t ht]
  unfold x140
  rw [show x72 q = k0_pay52 (x63 q) from rfl]
  generalize k0_pay54 fin = u
  generalize k0_pay55 fin = v
  pointwise [k0_pay67]
include ht in
theorem x149_at (k : Fin 32) : x149 (BitVec.ofNat 32 t) fin q sh (at2 b k)
    = Scalar.select (BitVec.ofBool (decide (k.val = t + 1))) (if 0 < fin (at2 (row b (par j)) 0) then 0 else x62 q (at2 b 0)) (sh (at2 (row b (par j)) k)) := by
  rw [← f65 q b j hj e63 fin, ← sel_par j fun p => sh (at2 (row b p) k), ← p64 q b j hj e63, ← top_at (n := 32) sh b k, ← bot_at (n := 32) sh b k, ← slot_word k t ht]
  unfold x149
  rw [show x72 q = k0_pay52 (x63 q) from rfl]
  generalize k0_pay54 fin = u
  generalize k0_pay55 fin = v
  pointwise [k0_pay68]
end B
end Next

/-! ## The state after a step -/

section Rows
variable (a0 : BitVec 32) (fin : Vec Ideal S32x1 .f32) (q : Quad Ideal) (nh : Vec Ideal S32x512 .f32) (th : Vec Ideal S32x32 .i32)
    (sh : Vec Ideal S32x32 .f32) (h : Vec Ideal S32x512 .f32) (b : Fin 16)
theorem cat0 {α : Type} (u v : Fin 16 → α) (b : Fin 16) :
    (if h : (row b 0).val < 16 then u ⟨(row b 0).val, h⟩ else v ⟨(row b 0).val - 16, by have := (row b 0).isLt; omega⟩) = u b := by
  have e : (row b 0).val = b.val := by show 16 * 0 + b.val = _; omega
  rw [dif_pos (by rw [e]; exact b.isLt)]
  exact congrArg u (Fin.ext e)
theorem cat1 {α : Type} (u v : Fin 16 → α) (b : Fin 16) :
    (if h : (row b 1).val < 16 then u ⟨(row b 1).val, h⟩ else v ⟨(row b 1).val - 16, by have := (row b 1).isLt; omega⟩) = v b := by
  have e : (row b 1).val = 16 + b.val := by show 16 * 1 + b.val = _; omega
  rw [dif_neg (by rw [e]; omega)]
  exact congrArg v (Fin.ext (by show (row b 1).val - 16 = b.val; omega))
theorem fin_at (r : Fin 32) : (nextOf a0 fin q nh th sh h).fin (at2 r 0)
    = (if h : r.val < 16 then x119 fin q (at2 ⟨r.val, h⟩ 0) else x153 fin q (at2 ⟨r.val - 16, by omega⟩ 0)) := by
  unfold nextOf
  dsimp only
  pointwise [k0_pay76]
theorem prob_at (r : Fin 32) : (nextOf a0 fin q nh th sh h).prob (at2 r 0)
    = (if h : r.val < 16 then x55 q (at2 ⟨r.val, h⟩ 0) else x62 q (at2 ⟨r.val - 16, by omega⟩ 0)) := by
  unfold nextOf
  dsimp only
  pointwise [k0_pay77]
theorem tok_at (r : Fin 32) : (nextOf a0 fin q nh th sh h).tok (at2 r 0)
    = (if h : r.val < 16 then x69 q (at2 ⟨r.val, h⟩ 0) else x75 q (at2 ⟨r.val - 16, by omega⟩ 0)) := by
  unfold nextOf
  dsimp only
  pointwise [k0_pay78]
theorem next0 : beam (nextOf a0 fin q nh th sh h) (row b 0) = ⟨fun k => x97 q nh (at2 b k), x55 q (at2 b 0), 0 < x119 fin q (at2 b 0),
    fun k => x106 a0 fin q th (at2 b k), fun k => x115 a0 fin q sh (at2 b k), x69 q (at2 b 0)⟩ := by
  refine Beam.ext (funext fun k => ?_) ?_ ?_ (funext fun k => ?_) (funext fun k => ?_) ?_
  · exact halves0 (n := 512) h _ _ b k |>.trans (by pointwise [k0_pay70])
  · exact (prob_at a0 fin q nh th sh h (row b 0)).trans (cat0 (fun b => x55 q (at2 b 0)) (fun b => x62 q (at2 b 0)) b)
  · exact congrArg (0 < ·) ((fin_at a0 fin q nh th sh h (row b 0)).trans (cat0 (fun b => x119 fin q (at2 b 0)) (fun b => x153 fin q (at2 b 0)) b))
  · exact halves0 (n := 32) th _ _ b k |>.trans (by pointwise [k0_pay72])
  · exact halves0 (n := 32) sh _ _ b k |>.trans (by pointwise [k0_pay74])
  · exact (tok_at a0 fin q nh th sh h (row b 0)).trans (cat0 (fun b => x69 q (at2 b 0)) (fun b => x75 q (at2 b 0)) b)
theorem next1 : beam (nextOf a0 fin q nh th sh h) (row b 1) = ⟨fun k => x131 q nh (at2 b k), x62 q (at2 b 0), 0 < x153 fin q (at2 b 0),
    fun k => x140 a0 fin q th (at2 b k), fun k => x149 a0 fin q sh (at2 b k), x75 q (at2 b 0)⟩ := by
  refine Beam.ext (funext fun k => ?_) ?_ ?_ (funext fun k => ?_) (funext fun k => ?_) ?_
  · exact halves1 (n := 512) h _ _ b k |>.trans (by pointwise [k0_pay71])
  · exact (prob_at a0 fin q nh th sh h (row b 1)).trans (cat1 (fun b => x55 q (at2 b 0)) (fun b => x62 q (at2 b 0)) b)
  · exact congrArg (0 < ·) ((fin_at a0 fin q nh th sh h (row b 1)).trans (cat1 (fun b => x119 fin q (at2 b 0)) (fun b => x153 fin q (at2 b 0)) b))
  · exact halves1 (n := 32) th _ _ b k |>.trans (by pointwise [k0_pay73])
  · exact halves1 (n := 32) sh _ _ b k |>.trans (by pointwise [k0_pay75])
  · exact (tok_at a0 fin q nh th sh h (row b 1)).trans (cat1 (fun b => x69 q (at2 b 0)) (fun b => x75 q (at2 b 0)) b)
end Rows

open Classical in
theorem step_holds {X : Ins Ideal} {A : Args} (hX : Reads X A) (t : ℕ) (ht : t < 31) (hp : Ins.pos t = BitVec.ofNat 32 t) (s : St Ideal) (b : Fin 16)
    (hA : A.Fine) (hs : ∀ k, (beams s b k).Fine) : Step A b t (beams s b) (beams (X.next t s) b) := by
  obtain ⟨i, j, hb, e55, e56, e62, e63⟩ := sel_picks hX t ht s b hA hs
  have hi := hb.i_hi
  have hj := hb.j_hi
  have hn : ∀ (p : Fin 2) (k : Fin 512), X.nh t s (at2 (row b p) k) = Spec.nh A b (beams s b p) k := fun p k => by
    rw [nh_eq hX t ht, bOf_row]; rfl
  have e0 : beams (X.next t s) b 0 = _ := next0 (Ins.pos t) s.fin (X.sel t s) (X.nh t s) s.th s.sh s.h b
  have e1 : beams (X.next t s) b 1 = _ := next1 (Ins.pos t) s.fin (X.sel t s) (X.nh t s) s.th s.sh s.h b
  refine ⟨i, j, hb, e0.trans ?_, e1.trans ?_⟩
  · rw [hp]
    clear e0 e1
    generalize X.sel t s = q at *
    generalize X.nh t s = nh at *
    unfold adv
    rw [Beam.mk.injEq]
    refine ⟨funext fun k => ?_, e55, ?_, funext fun k => ?_, funext fun k => ?_, t69 q b i hi e56⟩
    · exact (x97_at q b i hi e56 nh k).trans (hn _ k)
    · exact propext (x119_at q b i hi e56 s.fin)
    · exact (x106_at q b i hi e56 s.fin t ht s.th k).trans ((th_sel _ _ _ _ _).trans (if_congr Iff.rfl rfl rfl))
    · refine (x115_at q b i hi e56 s.fin t ht s.sh k).trans ?_
      rw [e55]
      exact (sh_sel _ _ _ _ _).trans (if_congr Iff.rfl (if_congr Iff.rfl rfl rfl) rfl)
  · rw [hp]
    clear e0 e1
    generalize X.sel t s = q at *
    generalize X.nh t s = nh at *
    unfold adv
    rw [Beam.mk.injEq]
    refine ⟨funext fun k => ?_, e62, ?_, funext fun k => ?_, funext fun k => ?_, t75 q b j hj e63⟩
    · exact (x131_at q b j hj e63 nh k).trans (hn _ k)
    · exact propext (x153_at q b j hj e63 s.fin)
    · exact (x140_at q b j hj e63 s.fin t ht s.th k).trans ((th_sel _ _ _ _ _).trans (if_congr Iff.rfl rfl rfl))
    · refine (x149_at q b j hj e63 s.fin t ht s.sh k).trans ?_
      rw [e62]
      exact (sh_sel _ _ _ _ _).trans (if_congr Iff.rfl (if_congr Iff.rfl rfl rfl) rfl)

/-! ## The first state and the results -/

theorem st0_beams {X : Ins Ideal} {A : Args} (hX : Reads X A) (b : Fin 16) : beams (X.st 0) b = start A b := by
  have h8 : ∀ (c : Vec Ideal S16x512 .f32) (r : Fin 32) (k : Fin 512), k0_pay8 c (at2 r k)
      = (if h : r.val < 16 then c (at2 ⟨r.val, h⟩ k) else c (at2 ⟨r.val - 16, by omega⟩ k)) := by
    intro c r k; pointwise [k0_pay8]
  have h9 : ∀ r : Fin 32, (k0_pay9 : FVec Ideal S32x1 .f32) (at2 r 0) = (if h : r.val < 16 then 1 else Ideal.ofBits .f32 0xF149F2CA#32) := by
    intro r; pointwise [k0_pay9]
  have h10 : ∀ r : Fin 32, (k0_pay10 : FVec Ideal S32x1 .f32) (at2 r 0) = 0 := by
    intro r; pointwise [k0_pay10]
  have h11 : ∀ (r k : Fin 32), (k0_pay11 : IVec S32x32 32) (at2 r k) = Scalar.select (IntOp.cmpi .eq (BitVec.ofNat 32 k.val) 0#32) 2#32 3#32 := by
    intro r k; pointwise [k0_pay11]
  have h12 : ∀ (r k : Fin 32), (k0_pay12 : FVec Ideal S32x32 .f32) (at2 r k) = Scalar.select
      (IntOp.andi (IntOp.cmpi .eq (BitVec.ofNat 32 k.val) 0#32) (IntOp.cmpi .slt (BitVec.ofNat 32 r.val) 16#32)) 1 0 := by
    intro r k; pointwise [k0_pay12]
  have hone : Ideal.ofBits .f32 0x3F800000#32 = 1 := by
    rw [show Ideal.ofBits .f32 0x3F800000#32 = (1 : EReal) from by pointwise]
  have hz : ∀ k : Fin 32, IntOp.cmpi .eq (BitVec.ofNat 32 k.val) 0#32 = BitVec.ofBool (decide (k.val = 0)) := by decide +kernel
  have hr : ∀ (b : Fin 16) (p : Fin 2), IntOp.cmpi .slt (BitVec.ofNat 32 (row b p).val) 16#32 = BitVec.ofBool (decide (p = 0)) := by decide +kernel
  funext p
  unfold beams
  show beam (st0 (X.ctx (5 * 0))) (row b p) = start A b p
  refine Beam.ext (funext fun k => ?_) ?_ ?_ (funext fun k => ?_) (funext fun k => ?_) ?_
  · show k0_pay8 (X.ctx (5 * 0)) (at2 (row b p) k) = A.ctx b k
    rw [h8]
    match p with
    | 0 => exact (cat0 (fun b => X.ctx (5 * 0) (at2 b k)) (fun b => X.ctx (5 * 0) (at2 b k)) b).trans (hX.ctx 0 (by decide) b k)
    | 1 => exact (cat1 (fun b => X.ctx (5 * 0) (at2 b k)) (fun b => X.ctx (5 * 0) (at2 b k)) b).trans (hX.ctx 0 (by decide) b k)
  · show (k0_pay9 : FVec Ideal S32x1 .f32) (at2 (row b p) 0) = (if p = 0 then Ideal.ofBits .f32 0x3F800000#32 else ruledOut)
    rw [h9, hone]
    match p with
    | 0 => exact (cat0 (fun _ => (1 : EReal)) (fun _ => ruledOut) b).trans (if_pos rfl).symm
    | 1 => exact (cat1 (fun _ => (1 : EReal)) (fun _ => ruledOut) b).trans (if_neg (by decide)).symm
  · show (0 < (k0_pay10 : FVec Ideal S32x1 .f32) (at2 (row b p) 0)) = False
    rw [h10]
    exact eq_false (lt_irrefl _)
  · show (k0_pay11 : IVec S32x32 32) (at2 (row b p) k) = (if k.val = 0 then 2#32 else 3#32)
    rw [h11, hz]
    exact sel_bool _ _ _
  · show (k0_pay12 : FVec Ideal S32x32 .f32) (at2 (row b p) k) = (if p = 0 ∧ k.val = 0 then Ideal.ofBits .f32 0x3F800000#32 else 0)
    rw [h12, hz, hr, hone]
    by_cases h1 : k.val = 0 <;> by_cases h2 : p = 0 <;> simp [h1, h2, Scalar.select, IntOp.andi]
  · rfl

theorem resT_at (X : Ins Ideal) (hp : Ins.pos 30 = BitVec.ofNat 32 30) (b : Fin 16) (k : Fin 32) : X.resT (at2 b k) = bestTh (beams (X.st 31) b) k := by
  have e : X.resT (at2 b k) = Scalar.select (BitVec.ofBool (decide (x62 (X.sel 30 (X.st 30)) (at2 b 0) ≤ x55 (X.sel 30 (X.st 30)) (at2 b 0))))
      (x106 (Ins.pos 30) (X.st 30).fin (X.sel 30 (X.st 30)) (X.st 30).th (at2 b k)) (x140 (Ins.pos 30) (X.st 30).fin (X.sel 30 (X.st 30)) (X.st 30).th (at2 b k)) := by
    unfold Ins.resT outT
    pointwise [k0_pay6, k0_pay5]
  rw [e, sel_bool]
  unfold bestTh beams
  show _ = (if (beam (X.next 30 (X.st 30)) (row b 1)).prob ≤ (beam (X.next 30 (X.st 30)) (row b 0)).prob then (beam (X.next 30 (X.st 30)) (row b 0)).th k else (beam (X.next 30 (X.st 30)) (row b 1)).th k)
  unfold Ins.next
  rw [next0, next1]
theorem resS_at (X : Ins Ideal) (hp : Ins.pos 30 = BitVec.ofNat 32 30) (b : Fin 16) (k : Fin 32) : X.resS (at2 b k) = bestSh (beams (X.st 31) b) k := by
  have e : X.resS (at2 b k) = Scalar.select (BitVec.ofBool (decide (x62 (X.sel 30 (X.st 30)) (at2 b 0) ≤ x55 (X.sel 30 (X.st 30)) (at2 b 0))))
      (x115 (Ins.pos 30) (X.st 30).fin (X.sel 30 (X.st 30)) (X.st 30).sh (at2 b k)) (x149 (Ins.pos 30) (X.st 30).fin (X.sel 30 (X.st 30)) (X.st 30).sh (at2 b k)) := by
    unfold Ins.resS outS
    pointwise [k0_pay7, k0_pay5]
  rw [e, sel_bool]
  unfold bestSh beams
  show _ = (if (beam (X.next 30 (X.st 30)) (row b 1)).prob ≤ (beam (X.next 30 (X.st 30)) (row b 0)).prob then (beam (X.next 30 (X.st 30)) (row b 0)).sh k else (beam (X.next 30 (X.st 30)) (row b 1)).sh k)
  unfold Ins.next
  rw [next0, next1]

/-- Every state is the one the beam search reaches. -/
theorem st_run {X : Ins Ideal} {A : Args} (hX : Reads X A) (hp : ∀ t, t < 31 → Ins.pos t = BitVec.ofNat 32 t) (hA : A.Fine) (b : Fin 16) :
    ∀ t, t ≤ 31 → ∀ k, (beams (X.st t) b k).Fine
  | 0, _ => by rw [st0_beams hX]; exact start_fine b hA
  | t + 1, h => (step_holds hX t (by omega) (hp t (by omega)) (X.st t) b hA (st_run hX hp hA b t (by omega))).fine b hA (st_run hX hp hA b t (by omega))

end Cert.KernelIdeal.Dec
end
-- ==== Proof.DecRef.lean ====
/-
  The reference decoder's step in plain mathematics: from the buffers that its loop carries, the new hidden rows, the logits,
  the candidates and the two best of them, and the beams that go on.
-/
module

public import proofs.«01_k».proof.Proof.DecSpec
public import proofs.«01_k».proof.Proof.Gen.ReferenceIdeal.Run
public import Idealize.ShloMosaic.Lib.Pointwise

@[expose] public section

set_option maxRecDepth 16384

noncomputable section

namespace Cert.ReferenceIdeal.Dec

open Cert.ReferenceIdeal Cert.ReferenceIdeal.Value
open Idealize.ShloMosaic Idealize.ShloMosaic.TcCoe
open Cert.Two Cert.Spec

variable (V : Valuation τ sig (Elt Ideal))

/-- The carried buffers. -/
abbrev bEmb : FVec Ideal S32000x256 .f32 := V (Proc.devRef .tc main_v29_0)
abbrev bCtx : FVec Ideal S16x2x512 .f32 := V (Proc.devRef .tc main_v29_1)
abbrev bBih : FVec Ideal S1x1536 .f32 := V (Proc.devRef .tc main_v29_2)
abbrev bBhh : FVec Ideal S1x1536 .f32 := V (Proc.devRef .tc main_v29_3)
abbrev bWih : FVec Ideal S1536x768 .f32 := V (Proc.devRef .tc main_v29_4)
abbrev bWhh : FVec Ideal S1536x512 .f32 := V (Proc.devRef .tc main_v29_5)
abbrev bW : FVec Ideal S32000x768 .f32 := V (Proc.devRef .tc main_v29_6)
abbrev bBase : FVec Ideal S16x1x32000 .f32 := V (Proc.devRef .tc main_v29_7)
abbrev bPlace : IVec S32 32 := V (Proc.devRef .tc main_v29_8)
abbrev bT : IVec S_ 32 := V (Proc.devRef .tc main_v29_10)
abbrev bTok : IVec S16x2 32 := V (Proc.devRef .tc main_v29_11)
abbrev bProb : FVec Ideal S16x2 .f32 := V (Proc.devRef .tc main_v29_12)
abbrev bHid : FVec Ideal S16x2x512 .f32 := V (Proc.devRef .tc main_v29_13)
abbrev bFin : IVec S16x2 1 := V (Proc.devRef .tc main_v29_14)
abbrev bTh : IVec S16x2x32 32 := V (Proc.devRef .tc main_v29_15)
abbrev bSh : FVec Ideal S16x2x32 .f32 := V (Proc.devRef .tc main_v29_16)

/-- The loop body's intermediate arrays. -/
abbrev rv53 : FVec Ideal S16x2x256 .f32 := res_main_while0b_v53 V
abbrev rv61 : FVec Ideal S16x2x1536 .f32 := res_main_while0b_v61 V
abbrev rv66 : FVec Ideal S16x2x1536 .f32 := res_main_while0b_v66 V
abbrev rv94 : FVec Ideal S16x2x512 .f32 := res_main_while0b_v94 V
abbrev rv99 : FVec Ideal S16x2x32000 .f32 := res_main_while0b_v99 V
abbrev rv104 : FVec Ideal S16x2x32000 .f32 := res_main_while0b_v104 V
abbrev rv120 : FVec Ideal S16x64000 .f32 := res_main_while0b_v120 V

/-- The operand buffers hold the decoder's operands. -/
structure RReads (A : Args) : Prop where
  emb : ∀ (v : Fin 32000) (k : Fin 256), bEmb V (ix2 (n0 := 32000) (n1 := 256) v k) = A.emb v k
  ctx : ∀ (b : Fin 16) (f : Fin 2) (k : Fin 512), bCtx V (ix3 (n0 := 16) (n1 := 2) (n2 := 512) b f k) = A.ctx b k
  bih : ∀ j : Fin 1536, bBih V (ix2 (n0 := 1) (n1 := 1536) 0 j) = A.bih j
  bhh : ∀ j : Fin 1536, bBhh V (ix2 (n0 := 1) (n1 := 1536) 0 j) = A.bhh j
  wih : ∀ (j : Fin 1536) (k : Fin 768), bWih V (ix2 (n0 := 1536) (n1 := 768) j k) = A.wih j k
  whh : ∀ (j : Fin 1536) (k : Fin 512), bWhh V (ix2 (n0 := 1536) (n1 := 512) j k) = A.whh j k
  w : ∀ (v : Fin 32000) (k : Fin 768), bW V (ix2 (n0 := 32000) (n1 := 768) v k) = A.w v k
  base : ∀ (b : Fin 16) (v : Fin 32000), bBase V (ix3 (n0 := 16) (n1 := 1) (n2 := 32000) b 0 v) = A.base b v
  place : ∀ k : Fin 32, bPlace V (ix1 (n0 := 32) k) = BitVec.ofNat 32 k.val

/-- The beams of a batch entry, of the carried buffers. -/
def beamsR (b : Fin 16) (k : Fin 2) : Beam where
  h := fun j => bHid V (ix3 (n0 := 16) (n1 := 2) (n2 := 512) b k j)
  prob := bProb V (ix2 (n0 := 16) (n1 := 2) b k)
  fin := bFin V (ix2 (n0 := 16) (n1 := 2) b k) = 1#1
  th := fun j => bTh V (ix3 (n0 := 16) (n1 := 2) (n2 := 32) b k j)
  sh := fun j => bSh V (ix3 (n0 := 16) (n1 := 2) (n2 := 32) b k j)
  tok := bTok V (ix2 (n0 := 16) (n1 := 2) b k)

/-! ## The embedding row of a token -/

/-- Rows taken by an index word, read signed and kept within the table. -/
theorem rows_at (x : FVec Ideal S32000x256 .f32) (idx : IVec S16x2x1 32) (b : Fin 16) (k : Fin 2) (j : Fin 256) :
    Host.gather gather_S32000x256_S16x2x1_S16x2x256_2_0_n_n_0_2_1256 x idx (ix3 (n0 := 16) (n1 := 2) (n2 := 256) b k j)
      = x (ix2 (n0 := 32000) (n1 := 256) ⟨min (idx (ix3 (n0 := 16) (n1 := 2) (n2 := 1) b k 0)).toInt.toNat 31999, by omega⟩ j) := by
  unfold Host.gather
  congr 1
  funext a
  refine Fin.ext ?_
  show GatherDims.start _ _ idx a + GatherDims.batchCoord _ _ a + GatherDims.offCoord _ _ a = _
  rw [GatherDims.batchCoord_eq_zero _ _ _ (by exact List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32000x256_S16x2x1_S16x2x256_2_0_n_n_0_2_1256.startIndexMap from List.mem_singleton.mpr rfl)]
    have hsi : gather_S32000x256_S16x2x1_S16x2x256_2_0_n_n_0_2_1256.siIdx (ix3 (n0 := 16) (n1 := 2) (n2 := 256) b k j)
        ⟨List.idxOf (0 : Fin 2) gather_S32000x256_S16x2x1_S16x2x256_2_0_n_n_0_2_1256.startIndexMap, List.idxOf_lt_length_iff.2 (List.mem_singleton.mpr rfl)⟩
          = ix3 (n0 := 16) (n1 := 2) (n2 := 1) b k 0 := by
      funext c
      refine Fin.ext ?_
      match c with
      | ⟨0, _⟩ => rfl
      | ⟨1, _⟩ => rfl
      | ⟨2, _⟩ => rfl
    exact congrArg (fun q => min (idx q).toInt.toNat 31999) hsi
  · unfold GatherDims.start
    rw [dif_neg (show (1 : Fin 2) ∉ gather_S32000x256_S16x2x1_S16x2x256_2_0_n_n_0_2_1256.startIndexMap from by decide)]
    simp only [Nat.zero_add]
    rfl

variable {V} {A : Args} (hV : RReads V A)
include hV

theorem emb_eq (b : Fin 16) (k : Fin 2) (ht : (beamsR V b k).tok.toNat < 32000) (j : Fin 256) :
    rv53 V (ix3 (n0 := 16) (n1 := 2) (n2 := 256) b k j) = Spec.emb A (beamsR V b k) j := by
  have hw : ∀ w : BitVec 32, w.toNat < 32000 → Scalar.select (IntOp.cmpi .slt w 0#32) (IntOp.addi w 32000#32) w = w := by
    intro w hw
    unfold Scalar.select IntOp.cmpi
    have : w.toInt = w.toNat := by rw [BitVec.toInt_eq_toNat_cond]; split_ifs <;> omega
    rw [if_neg]
    simp [BitVec.slt, this]
    rw [decide_eq_false (by omega)]; decide
  unfold rv53 res_main_while0b_v53
  refine (rows_at _ _ b k j).trans ?_
  have e : (broadcastInDim S16x2x1 ![0, 1] Gen.bcast_S16x2_S16x2x1_0_1 (select (cmpi .slt (bTok V) (broadcastInDim S16x2 ![] Gen.bcast_S_S16x2 (constantI S_ 32 0#32))) (addi (bTok V) (broadcastInDim S16x2 ![] Gen.bcast_S_S16x2 (constantI S_ 32 32000#32))) (bTok V)) : IVec S16x2x1 32)
      (ix3 (n0 := 16) (n1 := 2) (n2 := 1) b k 0) = Scalar.select (IntOp.cmpi .slt (bTok V (ix2 (n0 := 16) (n1 := 2) b k)) 0#32) (IntOp.addi (bTok V (ix2 (n0 := 16) (n1 := 2) b k)) 32000#32) (bTok V (ix2 (n0 := 16) (n1 := 2) b k)) := by
    pointwise []
  have ht' : (bTok V (ix2 (n0 := 16) (n1 := 2) b k)).toNat < 32000 := ht
  have e' := e.trans (hw _ ht')
  refine Eq.trans (congrArg (bEmb V) ?_) (hV.emb _ _)
  refine congrArg (fun q : Fin 32000 => ix2 (n0 := 32000) (n1 := 256) q j) (Fin.ext ?_)
  refine (congrArg (fun q : BitVec 32 => min q.toInt.toNat 31999) e').trans ?_
  show min (bTok V (ix2 (n0 := 16) (n1 := 2) b k)).toInt.toNat 31999 = min (bTok V (ix2 (n0 := 16) (n1 := 2) b k)).toNat 31999
  have : (bTok V (ix2 (n0 := 16) (n1 := 2) b k)).toInt = (bTok V (ix2 (n0 := 16) (n1 := 2) b k)).toNat := by
    rw [BitVec.toInt_eq_toNat_cond]; split_ifs <;> omega
  rw [this, Int.toNat_natCast]

/-! ## The gated unit and the logits -/

omit hV in
theorem v61_at (b : Fin 16) (k : Fin 2) (j : Fin 1536) : rv61 V (ix3 (n0 := 16) (n1 := 2) (n2 := 1536) b k j)
    = (∑ x : Fin 256, rv53 V (ix3 (n0 := 16) (n1 := 2) (n2 := 256) b k x) * bWih V (ix2 (n0 := 1536) (n1 := 768) j ⟨x.val, by omega⟩)
        + ∑ x : Fin 512, bCtx V (ix3 (n0 := 16) (n1 := 2) (n2 := 512) b k x) * bWih V (ix2 (n0 := 1536) (n1 := 768) j ⟨256 + x.val, by omega⟩))
      + bBih V (ix2 (n0 := 1) (n1 := 1536) 0 j) := by
  unfold rv61 rv53 res_main_while0b_v61
  generalize res_main_while0b_v53 V = e
  pointwise []
omit hV in
theorem v66_at (b : Fin 16) (k : Fin 2) (j : Fin 1536) : rv66 V (ix3 (n0 := 16) (n1 := 2) (n2 := 1536) b k j)
    = (∑ x : Fin 512, bHid V (ix3 (n0 := 16) (n1 := 2) (n2 := 512) b k x) * bWhh V (ix2 (n0 := 1536) (n1 := 512) j x)) + bBhh V (ix2 (n0 := 1) (n1 := 1536) 0 j) := by
  unfold rv66 res_main_while0b_v66
  pointwise []
omit hV in
theorem v94_at (b : Fin 16) (k : Fin 2) (j : Fin 512) (gi gh : Fin 1536 → EReal)
    (hi : ∀ j, rv61 V (ix3 (n0 := 16) (n1 := 2) (n2 := 1536) b k j) = gi j)
    (hh : ∀ j, rv66 V (ix3 (n0 := 16) (n1 := 2) (n2 := 1536) b k j) = gh j) :
    rv94 V (ix3 (n0 := 16) (n1 := 2) (n2 := 512) b k j)
    = (1 - Ideal.logistic (gi ⟨512 + j.val, by omega⟩ + gh ⟨512 + j.val, by omega⟩))
      * Ideal.tanh (gi ⟨1024 + j.val, by omega⟩
          + Ideal.logistic (gi ⟨j.val, by omega⟩ + gh ⟨j.val, by omega⟩) * gh ⟨1024 + j.val, by omega⟩)
    + Ideal.logistic (gi ⟨512 + j.val, by omega⟩ + gh ⟨512 + j.val, by omega⟩) * bHid V (ix3 (n0 := 16) (n1 := 2) (n2 := 512) b k j) := by
  unfold rv61 at hi
  unfold rv66 at hh
  unfold rv94 res_main_while0b_v94 res_main_while0b_v86
  generalize res_main_while0b_v61 V = e at hi
  generalize res_main_while0b_v66 V = e' at hh
  simp only [← hi, ← hh, show ∀ x, Ideal.logistic x = Ideal.div 1 (1 + Ideal.exp (-x)) from fun _ => rfl]
  pointwise []
omit hV in
theorem v99_at (b : Fin 16) (k : Fin 2) (j : Fin 32000) : rv99 V (ix3 (n0 := 16) (n1 := 2) (n2 := 32000) b k j)
    = (∑ x : Fin 256, rv53 V (ix3 (n0 := 16) (n1 := 2) (n2 := 256) b k x) * bW V (ix2 (n0 := 32000) (n1 := 768) j ⟨x.val, by omega⟩)
        + ∑ x : Fin 512, rv94 V (ix3 (n0 := 16) (n1 := 2) (n2 := 512) b k x) * bW V (ix2 (n0 := 32000) (n1 := 768) j ⟨256 + x.val, by omega⟩))
      + bBase V (ix3 (n0 := 16) (n1 := 1) (n2 := 32000) b 0 j) := by
  unfold rv99 rv53 rv94 res_main_while0b_v99
  generalize res_main_while0b_v53 V = e
  generalize res_main_while0b_v94 V = e'
  pointwise []

variable (b : Fin 16) (k : Fin 2) (ht : (beamsR V b k).tok.toNat < 32000)
include ht

theorem gi_eq (j : Fin 1536) :
    rv61 V (ix3 (n0 := 16) (n1 := 2) (n2 := 1536) b k j) = gi A b (beamsR V b k) j := by
  rw [v61_at]
  unfold gi
  refine congrArg₂ (· + ·) (congrArg₂ (· + ·) (Finset.sum_congr rfl fun x _ => ?_) (Finset.sum_congr rfl fun x _ => ?_)) (hV.bih j)
  · exact congrArg₂ (· * ·) (emb_eq hV b k ht x) (hV.wih _ _)
  · exact congrArg₂ (· * ·) (hV.ctx b k x) (hV.wih _ _)
omit ht in
theorem gh_eq (j : Fin 1536) :
    rv66 V (ix3 (n0 := 16) (n1 := 2) (n2 := 1536) b k j) = gh A (beamsR V b k) j := by
  rw [v66_at]
  unfold gh
  refine congrArg₂ (· + ·) (Finset.sum_congr rfl fun x _ => ?_) (hV.bhh j)
  exact congrArg₂ (· * ·) rfl (hV.whh _ _)
theorem nh_eq (j : Fin 512) :
    rv94 V (ix3 (n0 := 16) (n1 := 2) (n2 := 512) b k j) = nh A b (beamsR V b k) j :=
  v94_at b k j _ _ (gi_eq hV b k ht) (gh_eq hV b k)
theorem logit_eq (j : Fin 32000) :
    rv99 V (ix3 (n0 := 16) (n1 := 2) (n2 := 32000) b k j) = logit A b (beamsR V b k) j := by
  rw [v99_at]
  unfold logit
  refine congrArg₂ (· + ·) (congrArg₂ (· + ·) (Finset.sum_congr rfl fun x _ => ?_) (Finset.sum_congr rfl fun x _ => ?_)) (hV.base b j)
  · exact congrArg₂ (· * ·) (emb_eq hV b k ht x) (hV.w _ _)
  · exact congrArg₂ (· * ·) (nh_eq hV b k ht x) (hV.w _ _)

/-! ## The candidates -/

omit hV ht in
/-- The greatest entry of a row. -/
theorem fold_row (e : FVec Ideal S16x2x32000 .f32) :
    Finset.fold max (Ideal.ofBits .f32 0xFF800000#32) e {i | Gen.reducesTo_S16x2x32000_S16x2_d2.drop i = ix2 (n0 := 16) (n1 := 2) b k}
      = Finset.fold max (⊥ : EReal) (fun v : Fin 32000 => e (ix3 (n0 := 16) (n1 := 2) (n2 := 32000) b k v)) Finset.univ := by
  have hb : Ideal.ofBits .f32 0xFF800000#32 = (⊥ : EReal) := by simp [Ideal.ofBits, Ideal.ieee]
  rw [hb]
  refine eq_of_forall_ge_iff fun c => ?_
  rw [Finset.fold_max_le, Finset.fold_max_le]
  refine and_congr Iff.rfl ⟨fun h v _ => h _ (Finset.mem_filter.mpr ⟨Finset.mem_univ _, ?_⟩), fun h i hi => ?_⟩
  · funext a
    match a with
    | ⟨0, _⟩ => rfl
    | ⟨1, _⟩ => rfl
  · have hd := (Finset.mem_filter.mp hi).2
    have e' : i = ix3 (n0 := 16) (n1 := 2) (n2 := 32000) b k (i 2) := by
      funext a
      match a with
      | ⟨0, _⟩ => exact congrFun hd 0
      | ⟨1, _⟩ => exact congrFun hd 1
      | ⟨2, _⟩ => rfl
    rw [e']
    exact h _ (Finset.mem_univ _)
omit hV ht in
theorem exp_at (e : FVec Ideal S16x2x32000 .f32) (j : Fin 32000) :
    (Host.exp (subf e (broadcastInDim S16x2x32000 ![0, 1, 2] Gen.bcast_S16x2x1_S16x2x32000_0_1_2 (broadcastInDim S16x2x1 ![0, 1] Gen.bcast_S16x2_S16x2x1_0_1 (Host.reduce FloatOps.maximumf e (constant S_ .f32 0xFF800000#32) Gen.reducesTo_S16x2x32000_S16x2_d2 Gen.h_S_))))) (ix3 (n0 := 16) (n1 := 2) (n2 := 32000) b k j)
      = Ideal.exp (e (ix3 (n0 := 16) (n1 := 2) (n2 := 32000) b k j)
          - Finset.fold max (Ideal.ofBits .f32 0xFF800000#32) e {i | Gen.reducesTo_S16x2x32000_S16x2_d2.drop i = ix2 (n0 := 16) (n1 := 2) b k}) := by
  pointwise []
theorem ex_eq (j : Fin 32000) :
    rv104 V (ix3 (n0 := 16) (n1 := 2) (n2 := 32000) b k j) = ex A b (beamsR V b k) j := by
  have h := logit_eq hV b k ht
  unfold rv99 at h
  unfold rv104 res_main_while0b_v104
  generalize res_main_while0b_v99 V = e at h
  refine (exp_at b k e j).trans ?_
  rw [fold_row b k e]
  unfold ex top
  rw [h j, funext h]

omit hV ht in
theorem v120_at (f : Fin 64000) : rv120 V (ix2 (n0 := 16) (n1 := 64000) b f)
    = Scalar.select (bFin V (ix2 (n0 := 16) (n1 := 2) b ⟨f.val / 32000, by omega⟩))
        (Scalar.select (IntOp.cmpi .eq (BitVec.ofNat 32 (f.val % 32000)) 3#32) (bProb V (ix2 (n0 := 16) (n1 := 2) b ⟨f.val / 32000, by omega⟩)) (Ideal.ofBits .f32 0xF149F2CA#32))
        (Ideal.div (rv104 V (ix3 (n0 := 16) (n1 := 2) (n2 := 32000) b ⟨f.val / 32000, by omega⟩ ⟨f.val % 32000, by omega⟩))
            (∑ x : Fin 32000, rv104 V (ix3 (n0 := 16) (n1 := 2) (n2 := 32000) b ⟨f.val / 32000, by omega⟩ x))
          * bProb V (ix2 (n0 := 16) (n1 := 2) b ⟨f.val / 32000, by omega⟩)) := by
  unfold rv120 rv104 res_main_while0b_v120
  generalize res_main_while0b_v104 V = e
  simp only [id_eq]
  pointwise []

omit ht in
/-- The candidate at a place of the flattened candidates. -/
theorem cand_eq (htk : ∀ k, (beamsR V b k).tok.toNat < 32000) (f : Fin 64000) :
    rv120 V (ix2 (n0 := 16) (n1 := 64000) b f) = cands A b (beamsR V b) f.val := by
  have hp : (⟨f.val / 32000, by omega⟩ : Fin 2) = par f.val := by
    unfold par
    refine Fin.ext ?_
    split_ifs with h
    · show f.val / 32000 = 0; omega
    · show f.val / 32000 = 1; omega
  rw [v120_at b 0 f, hp, ex_eq hV b (par f.val) (htk _)]
  rw [Finset.sum_congr rfl fun x _ => ex_eq hV b (par f.val) (htk _) x]
  unfold cands cand Scalar.select
  have h3 : IntOp.cmpi .eq (BitVec.ofNat 32 (f.val % 32000)) 3#32 = 1 ↔ tokN f.val = 3 := by
    unfold IntOp.cmpi tokN
    have hlt : f.val % 32000 < 32000 := Nat.mod_lt _ (by decide)
    generalize f.val % 32000 = n at hlt
    show BitVec.ofBool (BitVec.ofNat 32 n == 3#32) = 1 ↔ n = 3
    by_cases h : n = 3
    · subst h; decide
    · have hne : BitVec.ofNat 32 n ≠ 3#32 := fun h' => h (by
        have := congrArg BitVec.toNat h'
        rw [BitVec.toNat_ofNat, Nat.mod_eq_of_lt (by omega)] at this
        exact this)
      rw [beq_eq_false_iff_ne.mpr hne]
      exact iff_of_false (by decide) h
  classical
  exact if_congr Iff.rfl (if_congr h3 rfl rfl) rfl

/-! ## The two best -/

omit hV ht in
theorem topK_at (x : FVec Ideal S16x64000 .f32) (c : ℕ → EReal) (hc : ∀ f : Fin 64000, x (ix2 (n0 := 16) (n1 := 64000) b f) = c f.val) {i j : ℕ} (hB : Best c 0 64000 i j) (q : Fin 2) :
    (Host.topK S16x2 1 (FloatOps.cmpfTotal .gt) x Gen.sliceFits_S16x64000_S16x2).1 (ix2 (n0 := 16) (n1 := 2) b q) = c (if q = 0 then i else j)
    ∧ (Host.topK S16x2 1 (FloatOps.cmpfTotal .gt) x Gen.sliceFits_S16x64000_S16x2).2 (ix2 (n0 := 16) (n1 := 2) b q) = BitVec.ofNat 32 (if q = 0 then i else j) := by
  let R : Fin 64000 → Fin 64000 → Bool := fun p p' => FloatOps.cmpfTotal (F := Ideal) (φ := .f32) .gt (x (ix2 (n0 := 16) (n1 := 64000) b p)) (x (ix2 (n0 := 16) (n1 := 64000) b p')) == 1#1
  have hR : ∀ p p', R p p' = decide (x (ix2 (n0 := 16) (n1 := 64000) b p') < x (ix2 (n0 := 16) (n1 := 64000) b p)) := by
    intro p p'
    show (FloatOps.cmpfTotal (F := Ideal) (φ := .f32) .gt (x (ix2 (n0 := 16) (n1 := 64000) b p)) (x (ix2 (n0 := 16) (n1 := 64000) b p')) == 1#1) = _
    generalize x (ix2 (n0 := 16) (n1 := 64000) b p) = u
    generalize x (ix2 (n0 := 16) (n1 := 64000) b p') = v
    show (BitVec.ofBool (decide (v < u)) == 1#1) = decide (v < u)
    cases decide (v < u) <;> rfl
  obtain ⟨h0, h1⟩ := sortedFrom_best (fun p => x (ix2 (n0 := 16) (n1 := 64000) b p)) c hc hB (by decide) R hR
  have hal : ∀ p : Fin 64000, (ix2 (n0 := 16) (n1 := 64000) b (⟨q.val, by omega⟩ : Fin 64000)).along 1 p = ix2 (n0 := 16) (n1 := 64000) b p := by
    intro p
    funext a
    match a with
    | ⟨0, _⟩ => rfl
    | ⟨1, _⟩ => rfl
  have hq : sortedFrom R (⟨q.val, by omega⟩ : Fin 64000) = ⟨if q = 0 then i else j, by split_ifs; exacts [hB.i_hi, hB.j_hi]⟩ := by
    match q with
    | 0 => exact h0
    | 1 => exact h1
  have key : ∀ J : S16x64000.Idx, J = ix2 (n0 := 16) (n1 := 64000) b (⟨q.val, by omega⟩ : Fin 64000) →
      J.along 1 (sortedFrom (fun p p' : Fin 64000 => FloatOps.cmpfTotal (F := Ideal) (φ := .f32) .gt (x (J.along 1 p)) (x (J.along 1 p')) == 1#1) (J 1))
        = ix2 (n0 := 16) (n1 := 64000) b ⟨if q = 0 then i else j, by split_ifs; exacts [hB.i_hi, hB.j_hi]⟩ := by
    rintro J rfl
    refine (hal _).trans ?_
    refine congrArg (fun p : Fin 64000 => ix2 (n0 := 16) (n1 := 64000) b p) ?_
    have hRR : (fun p p' : Fin 64000 => FloatOps.cmpfTotal (F := Ideal) (φ := .f32) .gt (x ((ix2 (n0 := 16) (n1 := 64000) b (⟨q.val, by omega⟩ : Fin 64000)).along 1 p)) (x ((ix2 (n0 := 16) (n1 := 64000) b (⟨q.val, by omega⟩ : Fin 64000)).along 1 p')) == 1#1) = R :=
      funext fun p => funext fun p' => congrArg₂ (fun u v => FloatOps.cmpfTotal (F := Ideal) (φ := .f32) .gt u v == 1#1) (congrArg x (hal p)) (congrArg x (hal p'))
    exact (congrArg (fun Q : Fin 64000 → Fin 64000 → Bool => sortedFrom Q (⟨q.val, by omega⟩ : Fin 64000)) hRR).trans hq
  unfold Host.topK Host.sort2 extractStridedSlice
  simp only [show (1 : ℕ) < S16x64000.rank from by decide, dif_pos]
  refine ⟨(congrArg x (key _ ?_)).trans (hc _), congrArg (fun I : S16x64000.Idx => BitVec.ofNat 32 (I 1).val) (key _ ?_)⟩ <;>
  · funext a
    refine Fin.ext ?_
    match a with
    | ⟨0, _⟩ => show 0 + b.val = b.val; omega
    | ⟨1, _⟩ => show 0 + q.val = q.val; omega

end Cert.ReferenceIdeal.Dec
end
-- ==== Proof.DecRefStep.lean ====
/-
  The reference decoder's step leaves the beam search's next beams; its first buffers are the search's first beams and its
  results are the better beam's tokens and scores.
-/
module

public import proofs.«01_k».proof.Proof.DecRef
public import Idealize.ShloMosaic.Lib.Routing.Words

@[expose] public section

set_option maxRecDepth 16384

noncomputable section

namespace Cert.ReferenceIdeal.Dec

open Cert.ReferenceIdeal Cert.ReferenceIdeal.Value
open Idealize.ShloMosaic Idealize.ShloMosaic.TcCoe
open Cert.Two Cert.Spec

variable (V : Valuation τ sig (Elt Ideal))

/-- The places of the two best candidates. -/
abbrev rIdx : IVec S16x2 32 := res_main_while0b_indices V
abbrev rVal : FVec Ideal S16x2 .f32 := res_main_while0b_values V
abbrev r129 : IVec S16x2 1 := res_main_while0b_v129 V

theorem s13_at (b : Fin 16) (k : Fin 2) (j : Fin 512) : (step_main_v29_13 V : FVec Ideal S16x2x512 .f32) (ix3 (n0 := 16) (n1 := 2) (n2 := 512) b k j)
    = Scalar.select (IntOp.cmpi .eq (IntOp.divsi .host (rIdx V (ix2 (n0 := 16) (n1 := 2) b k)) 32000#32) 0#32)
        (rv94 V (ix3 (n0 := 16) (n1 := 2) (n2 := 512) b 0 j)) (rv94 V (ix3 (n0 := 16) (n1 := 2) (n2 := 512) b 1 j)) := by
  unfold rIdx step_main_v29_13 rv94 res_main_while0b_v122
  generalize res_main_while0b_indices V = e
  generalize res_main_while0b_v94 V = e'
  simp only [id_eq]
  pointwise []
theorem v129_at (b : Fin 16) (k : Fin 2) : r129 V (ix2 (n0 := 16) (n1 := 2) b k)
    = Scalar.select (IntOp.cmpi .eq (IntOp.divsi .host (rIdx V (ix2 (n0 := 16) (n1 := 2) b k)) 32000#32) 0#32)
        (bFin V (ix2 (n0 := 16) (n1 := 2) b 0)) (bFin V (ix2 (n0 := 16) (n1 := 2) b 1)) := by
  unfold r129 rIdx res_main_while0b_v129 res_main_while0b_v122
  generalize res_main_while0b_indices V = e
  pointwise []
theorem s11_at (b : Fin 16) (k : Fin 2) : (step_main_v29_11 V : IVec S16x2 32) (ix2 (n0 := 16) (n1 := 2) b k)
    = IntOp.remsi .host (rIdx V (ix2 (n0 := 16) (n1 := 2) b k)) 32000#32 := by
  unfold rIdx step_main_v29_11 res_main_while0b_v124
  generalize res_main_while0b_indices V = e
  simp only [id_eq]
  pointwise []
theorem s14_at (b : Fin 16) (k : Fin 2) : (step_main_v29_14 V : IVec S16x2 1) (ix2 (n0 := 16) (n1 := 2) b k)
    = IntOp.ori (r129 V (ix2 (n0 := 16) (n1 := 2) b k))
        (IntOp.cmpi .eq (IntOp.remsi .host (rIdx V (ix2 (n0 := 16) (n1 := 2) b k)) 32000#32) 3#32) := by
  unfold r129 rIdx step_main_v29_14 res_main_while0b_v124
  generalize res_main_while0b_indices V = e
  generalize res_main_while0b_v129 V = e''
  simp only [id_eq]
  pointwise []
theorem s15_at (b : Fin 16) (k : Fin 2) (j : Fin 32) : (step_main_v29_15 V : IVec S16x2x32 32) (ix3 (n0 := 16) (n1 := 2) (n2 := 32) b k j)
    = Scalar.select (IntOp.andi (IntOp.cmpi .eq (bPlace V (ix1 (n0 := 32) j)) (bT V ix0)) (~~~ r129 V (ix2 (n0 := 16) (n1 := 2) b k)))
        (IntOp.remsi .host (rIdx V (ix2 (n0 := 16) (n1 := 2) b k)) 32000#32)
        (Scalar.select (IntOp.cmpi .eq (IntOp.divsi .host (rIdx V (ix2 (n0 := 16) (n1 := 2) b k)) 32000#32) 0#32)
          (bTh V (ix3 (n0 := 16) (n1 := 2) (n2 := 32) b 0 j)) (bTh V (ix3 (n0 := 16) (n1 := 2) (n2 := 32) b 1 j))) := by
  unfold r129 rIdx step_main_v29_15 res_main_while0b_v132 res_main_while0b_v122 res_main_while0b_v124
  generalize res_main_while0b_indices V = e
  generalize res_main_while0b_v129 V = e''
  simp only [id_eq]
  pointwise []
theorem s16_at (b : Fin 16) (k : Fin 2) (j : Fin 32) : (step_main_v29_16 V : FVec Ideal S16x2x32 .f32) (ix3 (n0 := 16) (n1 := 2) (n2 := 32) b k j)
    = Scalar.select (IntOp.cmpi .eq (bPlace V (ix1 (n0 := 32) j)) (bT V ix0))
        (Scalar.select (r129 V (ix2 (n0 := 16) (n1 := 2) b k)) 0 (rVal V (ix2 (n0 := 16) (n1 := 2) b k)))
        (Scalar.select (IntOp.cmpi .eq (IntOp.divsi .host (rIdx V (ix2 (n0 := 16) (n1 := 2) b k)) 32000#32) 0#32)
          (bSh V (ix3 (n0 := 16) (n1 := 2) (n2 := 32) b 0 j)) (bSh V (ix3 (n0 := 16) (n1 := 2) (n2 := 32) b 1 j))) := by
  unfold r129 rIdx rVal step_main_v29_16 res_main_while0b_v132 res_main_while0b_v122
  generalize res_main_while0b_indices V = e
  generalize res_main_while0b_values V = e'
  generalize res_main_while0b_v129 V = e''
  simp only [id_eq]
  pointwise []

/-! ## Words -/

theorem sel_par {α : Type} (g : ℕ) (hg : g < 64000) (f : Fin 2 → α) :
    Scalar.select (IntOp.cmpi .eq (IntOp.divsi .host (BitVec.ofNat 32 g) 32000#32) 0#32) (f 0) (f 1) = f (par g) := by
  rw [Routing.divsi_word .host (by omega) (by decide) (by decide)]
  unfold par
  by_cases h : g < 32000
  · rw [if_pos h, Nat.div_eq_of_lt h]; rfl
  · rw [if_neg h, show g / 32000 = 1 by omega]; rfl
theorem rem_tok (g : ℕ) (hg : g < 64000) : IntOp.remsi .host (BitVec.ofNat 32 g) 32000#32 = BitVec.ofNat 32 (tokN g) := by
  rw [Routing.remsi_word .host (by omega) (by decide) (by decide)]
  rfl
theorem place_eq : ∀ (k : Fin 32) (t : Fin 31), IntOp.cmpi .eq (BitVec.ofNat 32 k.val) (BitVec.ofNat 32 (t.val + 1)) = BitVec.ofBool (decide (k.val = t.val + 1)) := by
  decide +kernel
theorem eos_iff (g : ℕ) : IntOp.cmpi .eq (BitVec.ofNat 32 (tokN g)) 3#32 = 1#1 ↔ tokN g = 3 := by
  have hlt := tokN_lt g
  generalize tokN g = n at hlt
  show BitVec.ofBool (BitVec.ofNat 32 n == 3#32) = 1 ↔ n = 3
  by_cases h : n = 3
  · subst h; decide
  · have hne : BitVec.ofNat 32 n ≠ 3#32 := fun h' => h (by
      have := congrArg BitVec.toNat h'
      rw [BitVec.toNat_ofNat, Nat.mod_eq_of_lt (by omega)] at this
      exact this)
    rw [beq_eq_false_iff_ne.mpr hne]
    exact iff_of_false (by decide) h
theorem ori_iff : ∀ x y : BitVec 1, IntOp.ori x y = 1#1 ↔ x = 1#1 ∨ y = 1#1 := by decide
theorem and_not : ∀ (p : Bool) (x : BitVec 1), IntOp.andi (BitVec.ofBool p) (~~~ x) = 1 ↔ p = true ∧ ¬ x = 1#1 := by decide

/-! ## The beams that go on -/

theorem beamsR_h (b : Fin 16) (q : Fin 2) (k : Fin 512) : (beamsR V b q).h k = bHid V (ix3 (n0 := 16) (n1 := 2) (n2 := 512) b q k) := rfl
theorem beamsR_tok (b : Fin 16) (q : Fin 2) : (beamsR V b q).tok = bTok V (ix2 (n0 := 16) (n1 := 2) b q) := rfl
theorem adv_h (A : Args) (b : Fin 16) (t : ℕ) (y : Fin 2 → Beam) (g : ℕ) (k : Fin 512) : (adv A b t y g).h k = nh A b (y (par g)) k := rfl
theorem adv_tok (A : Args) (b : Fin 16) (t : ℕ) (y : Fin 2 → Beam) (g : ℕ) : (adv A b t y g).tok = BitVec.ofNat 32 (tokN g) := rfl

open Classical in
theorem next_eq {V : Valuation τ sig (Elt Ideal)} {A : Args} (hV : RReads V A) (t : ℕ) (ht : t < 31) (hT : bT V ix0 = BitVec.ofNat 32 (t + 1)) (b : Fin 16)
    (htk : ∀ k, (beamsR V b k).tok.toNat < 32000) {i j : ℕ} (hB : Best (cands A b (beamsR V b)) 0 64000 i j) (q : Fin 2) :
    beamsR (STEP V) b q = adv A b t (beamsR V b) (if q = 0 then i else j) := by
  obtain ⟨hval, hidx⟩ := topK_at b (rv120 V) _ (fun f => cand_eq hV b htk f) hB q
  have hg : (if q = 0 then i else j) < 64000 := by split_ifs; exacts [hB.i_hi, hB.j_hi]
  generalize (if q = 0 then i else j) = g at *
  have hi : rIdx V (ix2 (n0 := 16) (n1 := 2) b q) = BitVec.ofNat 32 g := hidx
  have hv : rVal V (ix2 (n0 := 16) (n1 := 2) b q) = cands A b (beamsR V b) g := hval
  have h129 : r129 V (ix2 (n0 := 16) (n1 := 2) b q) = bFin V (ix2 (n0 := 16) (n1 := 2) b (par g)) := by
    rw [v129_at, hi]; exact sel_par g hg fun p => bFin V (ix2 (n0 := 16) (n1 := 2) b p)
  have hpl : ∀ k : Fin 32, IntOp.cmpi .eq (bPlace V (ix1 (n0 := 32) k)) (bT V ix0) = BitVec.ofBool (decide (k.val = t + 1)) := fun k => by
    rw [hV.place, hT]; exact place_eq k ⟨t, ht⟩
  refine Beam.ext (funext fun k => ?_) ?_ ?_ (funext fun k => ?_) (funext fun k => ?_) ?_
  · have e : bHid (STEP V) (ix3 (n0 := 16) (n1 := 2) (n2 := 512) b q k) = _ := (congrFun (STEP_main_v29_13 V) (ix3 (n0 := 16) (n1 := 2) (n2 := 512) b q k)).trans (s13_at V b q k)
    rw [beamsR_h, adv_h, e, hi]
    refine (sel_par g hg fun p => rv94 V (ix3 (n0 := 16) (n1 := 2) (n2 := 512) b p k)).trans ?_
    exact nh_eq hV b (par g) (htk _) k
  · have e : bProb (STEP V) (ix2 (n0 := 16) (n1 := 2) b q) = rVal V (ix2 (n0 := 16) (n1 := 2) b q) := congrFun (STEP_main_v29_12 V) (ix2 (n0 := 16) (n1 := 2) b q)
    exact e.trans hv
  · refine propext ?_
    have e : bFin (STEP V) (ix2 (n0 := 16) (n1 := 2) b q) = _ := (congrFun (STEP_main_v29_14 V) (ix2 (n0 := 16) (n1 := 2) b q)).trans (s14_at V b q)
    show bFin (STEP V) (ix2 (n0 := 16) (n1 := 2) b q) = 1#1 ↔ (bFin V (ix2 (n0 := 16) (n1 := 2) b (par g)) = 1#1) ∨ tokN g = 3
    rw [e, h129, hi, rem_tok g hg, ori_iff, eos_iff]
  · have e : bTh (STEP V) (ix3 (n0 := 16) (n1 := 2) (n2 := 32) b q k) = _ := (congrFun (STEP_main_v29_15 V) (ix3 (n0 := 16) (n1 := 2) (n2 := 32) b q k)).trans (s15_at V b q k)
    refine e.trans ?_
    rw [hi, hpl, h129, rem_tok g hg]
    rw [sel_par g hg fun p => bTh V (ix3 (n0 := 16) (n1 := 2) (n2 := 32) b p k)]
    unfold Scalar.select
    exact if_congr ((and_not _ _).trans (and_congr decide_eq_true_iff Iff.rfl)) rfl rfl
  · have e : bSh (STEP V) (ix3 (n0 := 16) (n1 := 2) (n2 := 32) b q k) = _ := (congrFun (STEP_main_v29_16 V) (ix3 (n0 := 16) (n1 := 2) (n2 := 32) b q k)).trans (s16_at V b q k)
    refine e.trans ?_
    rw [hi, hpl, h129, hv]
    rw [sel_par g hg fun p => bSh V (ix3 (n0 := 16) (n1 := 2) (n2 := 32) b p k)]
    unfold Scalar.select
    refine if_congr ?_ (if_congr Iff.rfl rfl rfl) rfl
    by_cases h : k.val = t + 1 <;> simp [h]
  · have e : bTok (STEP V) (ix2 (n0 := 16) (n1 := 2) b q) = _ := (congrFun (STEP_main_v29_11 V) (ix2 (n0 := 16) (n1 := 2) b q)).trans (s11_at V b q)
    rw [beamsR_tok, adv_tok, e, hi, rem_tok g hg]

theorem step_ref {V : Valuation τ sig (Elt Ideal)} {A : Args} (hV : RReads V A) (t : ℕ) (ht : t < 31) (hT : bT V ix0 = BitVec.ofNat 32 (t + 1)) (b : Fin 16)
    (htk : ∀ k, (beamsR V b k).tok.toNat < 32000) {z : Fin 2 → Beam} (hz : Step A b t (beamsR V b) z) : beamsR (STEP V) b = z := by
  obtain ⟨i, j, hB, h0, h1⟩ := hz
  funext q
  match q with
  | 0 => exact (next_eq hV t ht hT b htk hB 0).trans h0.symm
  | 1 => exact (next_eq hV t ht hT b htk hB 1).trans h1.symm

/-- The operands stay as they are. -/
theorem reads_step {V : Valuation τ sig (Elt Ideal)} {A : Args} (hV : RReads V A) : RReads (STEP V) A where
  emb := fun v k => (congrFun (STEP_main_v29_0 V) _).trans (hV.emb v k)
  ctx := fun b f k => (congrFun (STEP_main_v29_1 V) _).trans (hV.ctx b f k)
  bih := fun j => (congrFun (STEP_main_v29_2 V) _).trans (hV.bih j)
  bhh := fun j => (congrFun (STEP_main_v29_3 V) _).trans (hV.bhh j)
  wih := fun j k => (congrFun (STEP_main_v29_4 V) _).trans (hV.wih j k)
  whh := fun j k => (congrFun (STEP_main_v29_5 V) _).trans (hV.whh j k)
  w := fun v k => (congrFun (STEP_main_v29_6 V) _).trans (hV.w v k)
  base := fun b v => (congrFun (STEP_main_v29_7 V) _).trans (hV.base b v)
  place := fun k => (congrFun (STEP_main_v29_8 V) _).trans (hV.place k)
theorem t_step (V : Valuation τ sig (Elt Ideal)) (t : ℕ) (h : bT V ix0 = BitVec.ofNat 32 t) : bT (STEP V) ix0 = BitVec.ofNat 32 (t + 1) := by
  have e : bT (STEP V) ix0 = IntOp.addi (bT V ix0) 1#32 := congrFun (STEP_main_v29_10 V) _
  rw [e, h]
  exact (BitVec.ofNat_add t 1).symm

/-! ## The results -/

theorem o40_at (b : Fin 16) (k : Fin 32) : (out_main_v40 V : IVec S16x32 32) (ix2 (n0 := 16) (n1 := 32) b k) = bestTh (beamsR V b) k := by
  have h : (out_main_v40 V : IVec S16x32 32) (ix2 (n0 := 16) (n1 := 32) b k) = if bProb V (ix2 (n0 := 16) (n1 := 2) b 1) ≤ bProb V (ix2 (n0 := 16) (n1 := 2) b 0) then bTh V (ix3 (n0 := 16) (n1 := 2) (n2 := 32) b 0 k) else bTh V (ix3 (n0 := 16) (n1 := 2) (n2 := 32) b 1 k) := by
    unfold out_main_v40
    pointwise []
  refine h.trans ?_
  unfold bestTh
  exact if_congr Iff.rfl rfl rfl
theorem o45_at (b : Fin 16) (k : Fin 32) : (out_main_v45 V : FVec Ideal S16x32 .f32) (ix2 (n0 := 16) (n1 := 32) b k) = bestSh (beamsR V b) k := by
  have h : (out_main_v45 V : FVec Ideal S16x32 .f32) (ix2 (n0 := 16) (n1 := 32) b k) = if bProb V (ix2 (n0 := 16) (n1 := 2) b 1) ≤ bProb V (ix2 (n0 := 16) (n1 := 2) b 0) then bSh V (ix3 (n0 := 16) (n1 := 2) (n2 := 32) b 0 k) else bSh V (ix3 (n0 := 16) (n1 := 2) (n2 := 32) b 1 k) := by
    unfold out_main_v45
    pointwise []
  refine h.trans ?_
  unfold bestSh
  exact if_congr Iff.rfl rfl rfl

end Cert.ReferenceIdeal.Dec
end
-- ==== Proof.DecRefEntry.lean ====
/-
  The reference decoder's buffers before its first step: the operands it reads, and the search's first beams.
-/
module

public import proofs.«01_k».proof.Proof.DecRefStep
public import Idealize.ShloMosaic.Lib.StableHlo.RunLoop
public import Idealize.ShloMosaic.Lib.StableHlo.RunRead

@[expose] public section

set_option maxRecDepth 16384

noncomputable section

namespace Cert.ReferenceIdeal.Dec

open Cert.ReferenceIdeal Cert.ReferenceIdeal.Value Cert.ReferenceIdeal.Gen
open Idealize.ShloMosaic Idealize.ShloMosaic.TcCoe Idealize.ShloMosaic.Tactic
open Idealize.ShloMosaic.StableHlo
open Idealize.SL Idealize.SL.Sem
open Cert.Two Cert.Spec

variable (m : (ℓ : Loc nD τ sig) → Buf (Elt Ideal) ℓ) (c : Dev nD)

abbrev a0 : FVec Ideal S32000x768 .bf16 := m ((c.tc : Thread nD τ).loc main_arg0)
abbrev a1 : FVec Ideal S5x16x6400 .f32 := m ((c.tc : Thread nD τ).loc main_arg1)
abbrev a2 : FVec Ideal S1536x768 .f32 := m ((c.tc : Thread nD τ).loc main_arg2)
abbrev a3 : FVec Ideal S1536x512 .f32 := m ((c.tc : Thread nD τ).loc main_arg3)
abbrev a4 : FVec Ideal S1x1536 .f32 := m ((c.tc : Thread nD τ).loc main_arg4)
abbrev a5 : FVec Ideal S1x1536 .f32 := m ((c.tc : Thread nD τ).loc main_arg5)
abbrev a6 : FVec Ideal S16x512 .f32 := m ((c.tc : Thread nD τ).loc main_arg6)
abbrev a7 : FVec Ideal S32000x256 .f32 := m ((c.tc : Thread nD τ).loc main_arg7)

/-- The decoder's operands from the eight argument arrays. -/
def argsOf (x0 : FVec Ideal S32000x768 .bf16) (x1 : FVec Ideal S5x16x6400 .f32) (x2 : FVec Ideal S1536x768 .f32) (x3 : FVec Ideal S1536x512 .f32)
    (x4 x5 : FVec Ideal S1x1536 .f32) (x6 : FVec Ideal S16x512 .f32) (x7 : FVec Ideal S32000x256 .f32) : Args where
  w v k := x0 (ix2 (n0 := 32000) (n1 := 768) v k)
  base b v := x1 (ix3 (n0 := 5) (n1 := 16) (n2 := 6400) ⟨v.val / 6400, by have := v.isLt; omega⟩ b ⟨v.val % 6400, Nat.mod_lt _ (by decide)⟩)
  wih j k := x2 (ix2 (n0 := 1536) (n1 := 768) j k)
  whh j k := x3 (ix2 (n0 := 1536) (n1 := 512) j k)
  bih j := x4 (ix2 (n0 := 1) (n1 := 1536) 0 j)
  bhh j := x5 (ix2 (n0 := 1) (n1 := 1536) 0 j)
  ctx b k := x6 (ix2 (n0 := 16) (n1 := 512) b k)
  emb v k := x7 (ix2 (n0 := 32000) (n1 := 256) v k)

/-- The buffers before the first step. -/
abbrev V0 : Valuation τ sig (Elt Ideal) := entryContents preI m c
abbrev refArgs : Args := argsOf (a0 m c) (a1 m c) (a2 m c) (a3 m c) (a4 m c) (a5 m c) (a6 m c) (a7 m c)

theorem en0 : bEmb (V0 m c) = a7 m c := by
  simp only [entryContents, afterL_cons, afterL_nil]
  after_reads_simp <;> rfl
theorem en2 : bBih (V0 m c) = a4 m c := by
  simp only [entryContents, afterL_cons, afterL_nil]
  after_reads_simp <;> rfl
theorem en3 : bBhh (V0 m c) = a5 m c := by
  simp only [entryContents, afterL_cons, afterL_nil]
  after_reads_simp <;> rfl
theorem en4 : bWih (V0 m c) = a2 m c := by
  simp only [entryContents, afterL_cons, afterL_nil]
  after_reads_simp <;> rfl
theorem en5 : bWhh (V0 m c) = a3 m c := by
  simp only [entryContents, afterL_cons, afterL_nil]
  after_reads_simp <;> rfl
abbrev ctxRows (x : FVec Ideal S16x512 .f32) : FVec Ideal S16x2x512 .f32 :=
  broadcastInDim S16x2x512 ![0, 1, 2] bcast_S16x1x512_S16x2x512_0_1_2 (broadcastInDim S16x1x512 ![0, 2] bcast_S16x512_S16x1x512_0_2 x)
theorem en1 : bCtx (V0 m c) = ctxRows (a6 m c) := by
  simp only [entryContents, afterL_cons, afterL_nil]
  after_reads_simp <;> rfl
theorem en13 : bHid (V0 m c) = ctxRows (a6 m c) := by
  simp only [entryContents, afterL_cons, afterL_nil]
  after_reads_simp <;> rfl
theorem en6 : bW (V0 m c) = extf .f32 (a0 m c) bitsLt_bf16_f32 := by
  simp only [entryContents, afterL_cons, afterL_nil]
  after_reads_simp <;> rfl
theorem en7 : bBase (V0 m c) = shapeCast S16x1x32000 (transpose S16x5x6400 [1, 0, 2] (a1 m c) transposes_S5x16x6400_S16x5x6400_1_0_2) shapeCasts_S16x5x6400_S16x1x32000 := by
  simp only [entryContents, afterL_cons, afterL_nil]
  after_reads_simp <;> rfl
theorem en8 : bPlace (V0 m c) = iotaInDim S32 32 0 := by
  simp only [entryContents, afterL_cons, afterL_nil]
  after_reads_simp <;> rfl
theorem en10 : bT (V0 m c) = constantI S_ 32 1#32 := by
  simp only [entryContents, afterL_cons, afterL_nil]
  after_reads_simp <;> rfl
theorem en11 : bTok (V0 m c) = broadcastInDim S16x2 ![] bcast_S_S16x2 (constantI S_ 32 2#32) := by
  simp only [entryContents, afterL_cons, afterL_nil]
  after_reads_simp <;> rfl
theorem en14 : bFin (V0 m c) = broadcastInDim S16x2 ![] bcast_S_S16x2 (constantI S_ 1 0#1) := by
  simp only [entryContents, afterL_cons, afterL_nil]
  after_reads_simp <;> rfl
theorem en12 : bProb (V0 m c) = broadcastInDim S16x2 ![1] bcast_S2_S16x2_1 (select
      (cmpi CmpIPredicate.eq (iotaInDim S2 32 0) (broadcastInDim S2 ![] bcast_S_S2 (constantI S_ 32 0#32)))
      (broadcastInDim S2 ![] bcast_S_S2 (constant (F := Ideal) S_ FTy.f32 0x3F800000#32))
      (broadcastInDim S2 ![] bcast_S_S2 (constant (F := Ideal) S_ FTy.f32 0xF149F2CA#32))) := by
  simp only [entryContents, afterL_cons, afterL_nil]
  after_reads_simp <;> rfl
theorem en15 : bTh (V0 m c) = broadcastInDim S16x2x32 ![2] bcast_S32_S16x2x32_2 (select
      (cmpi CmpIPredicate.eq (iotaInDim S32 32 0) (broadcastInDim S32 ![] bcast_S_S32 (constantI S_ 32 0#32)))
      (broadcastInDim S32 ![] bcast_S_S32 (constantI S_ 32 2#32))
      (broadcastInDim S32 ![] bcast_S_S32 (constantI S_ 32 3#32))) := by
  simp only [entryContents, afterL_cons, afterL_nil]
  after_reads_simp <;> rfl
theorem en16 : bSh (V0 m c) = broadcastInDim S16x2x32 ![1, 2] bcast_S2x32_S16x2x32_1_2 (select
      (andi
        (broadcastInDim S2x32 ![0, 1] bcast_S2x1_S2x32_0_1
          (cmpi CmpIPredicate.eq (broadcastInDim S2x1 ![0] bcast_S2_S2x1_0 (iotaInDim S2 32 0)) (broadcastInDim S2x1 ![] bcast_S_S2x1 (constantI S_ 32 0#32))))
        (broadcastInDim S2x32 ![0, 1] bcast_S1x32_S2x32_0_1
          (cmpi CmpIPredicate.eq (broadcastInDim S1x32 ![1] bcast_S32_S1x32_1 (iotaInDim S32 32 0)) (broadcastInDim S1x32 ![] bcast_S_S1x32 (constantI S_ 32 0#32)))))
      (broadcastInDim S2x32 ![] bcast_S_S2x32 (constant (F := Ideal) S_ FTy.f32 0x3F800000#32))
      (broadcastInDim S2x32 ![] bcast_S_S2x32 (constant (F := Ideal) S_ FTy.f32 0#32))) := by
  simp only [entryContents, afterL_cons, afterL_nil]
  after_reads_simp <;> rfl

theorem ctxRows_at (x : FVec Ideal S16x512 .f32) (b : Fin 16) (f : Fin 2) (k : Fin 512) :
    ctxRows x (ix3 (n0 := 16) (n1 := 2) (n2 := 512) b f k) = x (ix2 (n0 := 16) (n1 := 512) b k) := by
  unfold ctxRows
  pointwise []

theorem base_at (x : FVec Ideal S5x16x6400 .f32) (b : Fin 16) (v : Fin 32000) :
    (shapeCast S16x1x32000 (transpose S16x5x6400 [1, 0, 2] x transposes_S5x16x6400_S16x5x6400_1_0_2) shapeCasts_S16x5x6400_S16x1x32000 : FVec Ideal S16x1x32000 .f32)
      (ix3 (n0 := 16) (n1 := 1) (n2 := 32000) b 0 v)
    = x (ix3 (n0 := 5) (n1 := 16) (n2 := 6400) ⟨v.val / 6400, by have := v.isLt; omega⟩ b ⟨v.val % 6400, Nat.mod_lt _ (by decide)⟩) := by
  pointwise []

/-- The buffers hold the operands. -/
theorem reads_entry : RReads (V0 m c) (refArgs m c) where
  emb v k := by rw [en0]; rfl
  ctx b f k := by rw [en1, ctxRows_at]; rfl
  bih j := by rw [en2]; rfl
  bhh j := by rw [en3]; rfl
  wih j k := by rw [en4]; rfl
  whh j k := by rw [en5]; rfl
  w v k := by rw [en6]; rfl
  base b v := by rw [en7, base_at]; rfl
  place k := by rw [en8]; pointwise []

theorem t_entry : bT (V0 m c) ix0 = BitVec.ofNat 32 1 := by rw [en10]; rfl

/-- The buffers hold the first beams. -/
theorem beams_entry (b : Fin 16) : beamsR (V0 m c) b = start (refArgs m c) b := by
  funext k
  refine Beam.ext (funext fun j => ?_) ?_ ?_ (funext fun j => ?_) (funext fun j => ?_) ?_
  · show bHid (V0 m c) (ix3 (n0 := 16) (n1 := 2) (n2 := 512) b k j) = _
    rw [en13, ctxRows_at]; rfl
  · show bProb (V0 m c) (ix2 (n0 := 16) (n1 := 2) b k) = _
    rw [en12]
    show _ = if k = 0 then _ else ruledOut
    fin_cases k <;> rfl
  · show (bFin (V0 m c) (ix2 (n0 := 16) (n1 := 2) b k) = 1#1) = False
    rw [en14]
    exact eq_false (by show ¬ (0#1 = 1#1); decide)
  · show bTh (V0 m c) (ix3 (n0 := 16) (n1 := 2) (n2 := 32) b k j) = if j.val = 0 then 2#32 else 3#32
    rw [en15]
    fin_cases j <;> rfl
  · show bSh (V0 m c) (ix3 (n0 := 16) (n1 := 2) (n2 := 32) b k j) = if k = 0 ∧ j.val = 0 then Ideal.ofBits .f32 0x3F800000#32 else 0
    rw [en16]
    have hz : (Ideal.ofBits .f32 0#32 : EReal) = 0 := by simp [Ideal.ofBits, Ideal.ieee]
    rw [← hz]
    have hc : ∀ (k : Fin 2) (j : Fin 32), IntOp.andi (IntOp.cmpi .eq (BitVec.ofNat 32 k.val) 0#32) (IntOp.cmpi .eq (BitVec.ofNat 32 j.val) 0#32)
        = if k = 0 ∧ j.val = 0 then 1#1 else 0#1 := by decide
    show Scalar.select (IntOp.andi (IntOp.cmpi .eq (BitVec.ofNat 32 k.val) 0#32) (IntOp.cmpi .eq (BitVec.ofNat 32 j.val) 0#32)) _ _ = _
    rw [hc k j]
    by_cases h : k = 0 ∧ j.val = 0
    · rw [if_pos h, if_pos h]; exact if_pos rfl
    · rw [if_neg h, if_neg h]; exact if_neg (by decide)
  · show bTok (V0 m c) (ix2 (n0 := 16) (n1 := 2) b k) = 2#32
    rw [en11]; rfl

end Cert.ReferenceIdeal.Dec

end
-- ==== Proof.DecOps.lean ====
/-
  The blocks the beam decoder's grid points read are the operand arrays' own rows, and its two result arrays end holding
  what the last point leaves.
-/
module

public import proofs.«01_k».proof.Proof.DecRun
public import proofs.«01_k».proof.Proof.DecStep
public import proofs.«01_k».proof.Proof.DecRefEntry
public import Idealize.ShloMosaic.Lib.Pipeline.Value

@[expose] public section

set_option maxRecDepth 16384

noncomputable section

namespace Cert.KernelIdeal.Dec

open Cert.KernelIdeal Cert.KernelIdeal.Gen
open Idealize.ShloMosaic Idealize.ShloMosaic.TcCoe
open Idealize.SL.Sem
open Idealize.ShloMosaic.Pipeline (Dat Cfg Window)
open Cert.Two Cert.Spec

variable (m : (ℓ : Loc nD τ sig) → Buf (Elt Ideal) ℓ) (ρ : Dev nD → PrngReg) (c : Dev nD)

/-- The decoder's operands on core `c`. -/
abbrev kerArgs : Args := Cert.ReferenceIdeal.Dec.argsOf (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))

/-- The index maps' values at a grid point. -/
theorem ix_0 : ∀ t : Fin cfg0.N, win0_0.index t 0 = t.val % 5 ∧ win0_0.index t 1 = 0 := (by decide +kernel : ∀ t : Fin grid0.N, _)
theorem ix_1 : ∀ t : Fin cfg0.N, win0_1.index t 0 = 0 ∧ win0_1.index t 1 = 0 ∧ win0_1.index t 2 = 0 := (by decide +kernel : ∀ t : Fin grid0.N, _)
theorem ix_2 : ∀ t : Fin cfg0.N, win0_2.index t 0 = 0 ∧ win0_2.index t 1 = 0 := (by decide +kernel : ∀ t : Fin grid0.N, _)
theorem ix_3 : ∀ t : Fin cfg0.N, win0_3.index t 0 = 0 ∧ win0_3.index t 1 = 0 := (by decide +kernel : ∀ t : Fin grid0.N, _)
theorem ix_4 : ∀ t : Fin cfg0.N, win0_4.index t 0 = 0 ∧ win0_4.index t 1 = 0 := (by decide +kernel : ∀ t : Fin grid0.N, _)
theorem ix_5 : ∀ t : Fin cfg0.N, win0_5.index t 0 = 0 ∧ win0_5.index t 1 = 0 := (by decide +kernel : ∀ t : Fin grid0.N, _)
theorem ix_6 : ∀ t : Fin cfg0.N, win0_6.index t 0 = 0 ∧ win0_6.index t 1 = 0 := (by decide +kernel : ∀ t : Fin grid0.N, _)
theorem ix_7 : ∀ t : Fin cfg0.N, win0_7.index t 0 = 0 ∧ win0_7.index t 1 = 0 := (by decide +kernel : ∀ t : Fin grid0.N, _)
theorem ix_8 : ∀ t : Fin cfg0.N, win0_8.index t 0 = 0 ∧ win0_8.index t 1 = 0 := (by decide +kernel : ∀ t : Fin grid0.N, _)
theorem gi_facts : ∀ t : Fin grid0.N, (grid0.coords t 0).val = t.val / 5 ∧ (grid0.coords t 1).val = t.val % 5 := by decide +kernel

theorem gi_0 (n : ℕ) (h : n < 155) : (gi n 0).val = n / 5 := by
  rw [show gi n = grid0.coords ⟨n, by rw [gN]; exact h⟩ from (gi_coords ⟨n, by rw [gN]; exact h⟩).symm]
  exact (gi_facts _).1
theorem gi_1 (n : ℕ) (h : n < 155) : (gi n 1).val = n % 5 := by
  rw [show gi n = grid0.coords ⟨n, by rw [gN]; exact h⟩ from (gi_coords ⟨n, by rw [gN]; exact h⟩).symm]
  exact (gi_facts _).2

theorem pos_eq (t : ℕ) (ht : t < 31) : Ins.pos t = BitVec.ofNat 32 t := by
  unfold Ins.pos
  rw [gi_0 _ (by omega)]
  exact congrArg (BitVec.ofNat 32) (by omega)

theorem blk0_at (t : Fin cfg0.N) (j : Fin 6400) (k : Fin 768) : iblk m c 0 t (ix2 j k)
    = (m ((c.tc : Thread nD τ).loc main_arg0) : S32000x768.Idx → EReal) (ix2 (n0 := 32000) (n1 := 768) ⟨6400 * (t.val % 5) + j.val, by omega⟩ k) := by
  obtain ⟨h0, h1⟩ := ix_0 t
  refine congrArg (m ((c.tc : Thread nD τ).loc main_arg0)) (funext fun a => Fin.ext ?_)
  match a with
  | ⟨0, _⟩ => show win0_0.index t 0 * 6400 + 1 * j.val = 6400 * (t.val % 5) + j.val; omega
  | ⟨1, _⟩ => show win0_0.index t 1 * 768 + 1 * k.val = k.val; omega
theorem blk1_at (t : Fin cfg0.N) (v : Fin 5) (b : Fin 16) (j : Fin 6400) : iblk m c 1 t (ix3 v b j)
    = (m ((c.tc : Thread nD τ).loc main_arg1) : S5x16x6400.Idx → EReal) (ix3 (n0 := 5) (n1 := 16) (n2 := 6400) v b j) := by
  obtain ⟨h0, h1, h2⟩ := ix_1 t
  refine congrArg (m ((c.tc : Thread nD τ).loc main_arg1)) (funext fun a => Fin.ext ?_)
  match a with
  | ⟨0, _⟩ => show win0_1.index t 0 * 5 + 1 * v.val = v.val; omega
  | ⟨1, _⟩ => show win0_1.index t 1 * 16 + 1 * b.val = b.val; omega
  | ⟨2, _⟩ => show win0_1.index t 2 * 6400 + 1 * j.val = j.val; omega
theorem blk2_at (t : Fin cfg0.N) (j : Fin 1536) (k : Fin 768) : iblk m c 2 t (ix2 j k)
    = (m ((c.tc : Thread nD τ).loc main_arg2) : S1536x768.Idx → EReal) (ix2 (n0 := 1536) (n1 := 768) j k) := by
  obtain ⟨h0, h1⟩ := ix_2 t
  refine congrArg (m ((c.tc : Thread nD τ).loc main_arg2)) (funext fun a => Fin.ext ?_)
  match a with
  | ⟨0, _⟩ => show win0_2.index t 0 * 1536 + 1 * j.val = j.val; omega
  | ⟨1, _⟩ => show win0_2.index t 1 * 768 + 1 * k.val = k.val; omega
theorem blk3_at (t : Fin cfg0.N) (j : Fin 1536) (k : Fin 512) : iblk m c 3 t (ix2 j k)
    = (m ((c.tc : Thread nD τ).loc main_arg3) : S1536x512.Idx → EReal) (ix2 (n0 := 1536) (n1 := 512) j k) := by
  obtain ⟨h0, h1⟩ := ix_3 t
  refine congrArg (m ((c.tc : Thread nD τ).loc main_arg3)) (funext fun a => Fin.ext ?_)
  match a with
  | ⟨0, _⟩ => show win0_3.index t 0 * 1536 + 1 * j.val = j.val; omega
  | ⟨1, _⟩ => show win0_3.index t 1 * 512 + 1 * k.val = k.val; omega
theorem blk4_at (t : Fin cfg0.N) (z : Fin 1) (j : Fin 1536) : iblk m c 4 t (ix2 z j)
    = (m ((c.tc : Thread nD τ).loc main_arg4) : S1x1536.Idx → EReal) (ix2 (n0 := 1) (n1 := 1536) z j) := by
  obtain ⟨h0, h1⟩ := ix_4 t
  refine congrArg (m ((c.tc : Thread nD τ).loc main_arg4)) (funext fun a => Fin.ext ?_)
  match a with
  | ⟨0, _⟩ => show win0_4.index t 0 * 1 + 1 * z.val = z.val; omega
  | ⟨1, _⟩ => show win0_4.index t 1 * 1536 + 1 * j.val = j.val; omega
theorem blk5_at (t : Fin cfg0.N) (z : Fin 1) (j : Fin 1536) : iblk m c 5 t (ix2 z j)
    = (m ((c.tc : Thread nD τ).loc main_arg5) : S1x1536.Idx → EReal) (ix2 (n0 := 1) (n1 := 1536) z j) := by
  obtain ⟨h0, h1⟩ := ix_5 t
  refine congrArg (m ((c.tc : Thread nD τ).loc main_arg5)) (funext fun a => Fin.ext ?_)
  match a with
  | ⟨0, _⟩ => show win0_5.index t 0 * 1 + 1 * z.val = z.val; omega
  | ⟨1, _⟩ => show win0_5.index t 1 * 1536 + 1 * j.val = j.val; omega
theorem blk6_at (t : Fin cfg0.N) (b : Fin 16) (k : Fin 512) : iblk m c 6 t (ix2 b k)
    = (m ((c.tc : Thread nD τ).loc main_arg6) : S16x512.Idx → EReal) (ix2 (n0 := 16) (n1 := 512) b k) := by
  obtain ⟨h0, h1⟩ := ix_6 t
  refine congrArg (m ((c.tc : Thread nD τ).loc main_arg6)) (funext fun a => Fin.ext ?_)
  match a with
  | ⟨0, _⟩ => show win0_6.index t 0 * 16 + 1 * b.val = b.val; omega
  | ⟨1, _⟩ => show win0_6.index t 1 * 512 + 1 * k.val = k.val; omega

theorem slab_at (t v : ℕ) (ht : t < 31) (hv : v < 5) (j : Fin 6400) (k : Fin 768) :
    (ins m c).slab (5 * t + v) (ix2 (n0 := 6400) (n1 := 768) j k) = (kerArgs m c).w ⟨6400 * v + j.val, by omega⟩ k := by
  refine (blk0_at m c (pt (5 * t + v)) j k).trans ?_
  have e : (pt (5 * t + v)).val % 5 = v := by show (5 * t + v) % 155 % 5 = v; omega
  show _ = (m ((c.tc : Thread nD τ).loc main_arg0) : S32000x768.Idx → EReal) _
  refine congrArg (m ((c.tc : Thread nD τ).loc main_arg0)) (funext fun a => Fin.ext ?_)
  match a with
  | ⟨0, _⟩ => show 6400 * ((pt (5 * t + v)).val % 5) + j.val = 6400 * v + j.val; rw [e]
  | ⟨1, _⟩ => rfl

theorem bw_at (t v : ℕ) (ht : t < 31) (hv : v < 5) (b : Fin 16) (j : Fin 6400) :
    (ins m c).bw (5 * t + v) (ix3 (n0 := 1) (n1 := 16) (n2 := 6400) 0 b j) = (kerArgs m c).base b ⟨6400 * v + j.val, by omega⟩ := by
  have eo : k0_off65 (gi (5 * t + v)) = ![v, 0, 0] := by
    rw [k0_off65_eq, gi_1 _ (by omega)]
    exact congrArg (fun x : ℕ => (![x, 0, 0] : Fin 3 → ℕ)) (by omega)
  have e : (ins m c).bw (5 * t + v) (ix3 (n0 := 1) (n1 := 16) (n2 := 6400) 0 b j) = (ins m c).base (5 * t + v) (ix3 (n0 := 5) (n1 := 16) (n2 := 6400) ⟨v, hv⟩ b j) := by
    unfold Ins.bw VecWindow.window
    refine congrArg _ (funext fun a => Fin.ext ?_)
    match a with
    | ⟨0, _⟩ => show k0_off65 (gi (5 * t + v)) 0 + 1 * 0 = v; rw [eo]; rfl
    | ⟨1, _⟩ => show k0_off65 (gi (5 * t + v)) 1 + 1 * b.val = b.val; rw [eo]; show 0 + 1 * b.val = b.val; omega
    | ⟨2, _⟩ => show k0_off65 (gi (5 * t + v)) 2 + 1 * j.val = j.val; rw [eo]; show 0 + 1 * j.val = j.val; omega
  rw [e]
  refine (blk1_at m c (pt (5 * t + v)) ⟨v, hv⟩ b j).trans ?_
  refine congrArg (m ((c.tc : Thread nD τ).loc main_arg1)) (funext fun a => Fin.ext ?_)
  have hj := j.isLt
  match a with
  | ⟨0, _⟩ => show v = (6400 * v + j.val) / 6400; omega
  | ⟨1, _⟩ => rfl
  | ⟨2, _⟩ => show j.val = (6400 * v + j.val) % 6400; omega

/-- The decoder's operands are the argument arrays. -/
theorem reads_ins : Reads (ins m c) (kerArgs m c) where
  slab := fun t v ht hv j k => slab_at m c t v ht hv j k
  bw := fun t v ht hv b j => bw_at m c t v ht hv b j
  wih := fun t ht j k => by refine (blk2_at m c (pt (5 * t)) j k).trans ?_; rfl
  whh := fun t ht j k => by refine (blk3_at m c (pt (5 * t)) j k).trans ?_; rfl
  bih := fun t ht j => by refine (blk4_at m c (pt (5 * t)) 0 j).trans ?_; rfl
  bhh := fun t ht j => by refine (blk5_at m c (pt (5 * t)) 0 j).trans ?_; rfl
  ctx := fun t ht b k => by refine (blk6_at m c (pt (5 * t)) b k).trans ?_; rfl
  emb := fun v k => rfl
  first := fun t v ht hv => by rw [gi_1 _ (by omega)]; omega

/-! ## The result arrays -/

variable (hT : ToksOk m)

theorem mem7 (t : Fin cfg0.N) (i : S16x32.Idx) : i ∈ ((cfg0.win 7).blk t).view.set := by
  show i ∈ ((View.whole main_v0_0).slice (win0_7.rect t)).set
  rw [View.set_slice_whole, Rect.mem_set_unit]
  obtain ⟨e0, e1⟩ := ix_7 t
  have h0 : (i 0 : Nat) < 16 := (i 0).isLt
  have h1 : (i 1 : Nat) < 32 := (i 1).isLt
  intro a
  match a with
  | ⟨0, _⟩ => show win0_7.index t 0 * 16 ≤ (i 0 : Nat) ∧ (i 0 : Nat) < win0_7.index t 0 * 16 + 16; omega
  | ⟨1, _⟩ => show win0_7.index t 1 * 32 ≤ (i 1 : Nat) ∧ (i 1 : Nat) < win0_7.index t 1 * 32 + 32; omega
theorem mem8 (t : Fin cfg0.N) (i : S16x32.Idx) : i ∈ ((cfg0.win 8).blk t).view.set := by
  show i ∈ ((View.whole main_v0_1).slice (win0_8.rect t)).set
  rw [View.set_slice_whole, Rect.mem_set_unit]
  obtain ⟨e0, e1⟩ := ix_8 t
  have h0 : (i 0 : Nat) < 16 := (i 0).isLt
  have h1 : (i 1 : Nat) < 32 := (i 1).isLt
  intro a
  match a with
  | ⟨0, _⟩ => show win0_8.index t 0 * 16 ≤ (i 0 : Nat) ∧ (i 0 : Nat) < win0_8.index t 0 * 16 + 16; omega
  | ⟨1, _⟩ => show win0_8.index t 1 * 32 ≤ (i 1 : Nat) ∧ (i 1 : Nat) < win0_8.index t 1 * 32 + 32; omega

theorem fl7 (t : Fin cfg0.N) : (dats m hT 0 c).flushed 7 t = ((cfg0.win 7).blk t).view.read (Elt Ideal) ((ins m c).resT) := by
  show (cfg0.win 7).cut (grid0.coords t) ((dats m hT 0 c).after 7 t) = _
  rw [after0_7]
  generalize (ins m c).resT = R
  funext j
  idx_vars j
  obtain ⟨e0, e1⟩ := ix_7 t
  show R (ix2 j0 j1) = R ((win0_7.blk t).view.emb (ix2 j0 j1))
  refine congrArg R (funext fun a => Fin.ext ?_)
  match a with
  | ⟨0, _⟩ => show j0.val = win0_7.index t 0 * 16 + 1 * j0.val; omega
  | ⟨1, _⟩ => show j1.val = win0_7.index t 1 * 32 + 1 * j1.val; omega
theorem fl8 (t : Fin cfg0.N) : (dats m hT 0 c).flushed 8 t = ((cfg0.win 8).blk t).view.read (Elt Ideal) ((ins m c).resS) := by
  show (cfg0.win 8).cut (grid0.coords t) ((dats m hT 0 c).after 8 t) = _
  rw [after0_8]
  generalize (ins m c).resS = R
  funext j
  idx_vars j
  obtain ⟨e0, e1⟩ := ix_8 t
  show R (ix2 j0 j1) = R ((win0_8.blk t).view.emb (ix2 j0 j1))
  refine congrArg R (funext fun a => Fin.ext ?_)
  match a with
  | ⟨0, _⟩ => show j0.val = win0_8.index t 0 * 16 + 1 * j0.val; omega
  | ⟨1, _⟩ => show j1.val = win0_8.index t 1 * 32 + 1 * j1.val; omega

theorem last_lt : 154 < cfg0.N := by show 154 < grid0.N; rw [gN]; decide

theorem arr7 : (dats m hT 0 c).arrAt 7 cfg0.N = (ins m c).resT :=
  (dats m hT 0 c).arrAt_eq_of_cover 7 _ (fun t _ => fl7 m c hT t) fun i => ⟨⟨154, last_lt⟩, (flush0_7 _).2 rfl, mem7 _ i⟩
theorem arr8 : (dats m hT 0 c).arrAt 8 cfg0.N = (ins m c).resS :=
  (dats m hT 0 c).arrAt_eq_of_cover 8 _ (fun t _ => fl8 m c hT t) fun i => ⟨⟨154, last_lt⟩, (flush0_8 _).2 rfl, mem8 _ i⟩

end Cert.KernelIdeal.Dec

end
-- ==== Proof.DecClaims.lean ====
/-
  The claims about the beam decoder: both programs leave their arguments and semaphores as they were, and at extended
  reals, from finite weights, logit parts, contexts and embeddings, they end with the same tokens and scores.
-/
module

public import proofs.«01_k».proof.Defs
public import proofs.«01_k».proof.Proof.DecOps
public import proofs.«01_k».proof.Proof.Gen.Pre_finite_args
public import Idealize.ShloMosaic.Lib.Quiescent
public import Idealize.ShloMosaic.Lib.ReduceAll

@[expose] public section

set_option maxRecDepth 16384

noncomputable section

namespace Cert.Proof.DecClaims

open Idealize.ShloMosaic Idealize.ShloMosaic.TcCoe
open Idealize.SL.Sem
open Cert.Spec

/-! ## Finite arguments -/

theorem inf_eq : (Ideal.ofBits .f32 0x7F800000#32 : EReal) = ⊤ := by simp [Ideal.ofBits, Ideal.ieee]

theorem re_of_abs {x : EReal} (h : BitVec.ofBool (decide (max x (-x) < ⊤)) = 1#1) : Re x := by
  have h' : max x (-x) < ⊤ := by
    by_contra hn
    rw [decide_eq_false hn] at h
    exact absurd h (by decide)
  have h1 : x ≠ ⊤ := fun e => by rw [e] at h'; exact absurd h' (by simp)
  have h2 : x ≠ ⊥ := fun e => by rw [e] at h'; exact absurd h' (by simp)
  exact ⟨x.toReal, (EReal.coe_toReal h1 h2).symm⟩

section Pre
open Cert.Pre_finite_args Cert.Pre_finite_args.Gen

instance : Subsingleton S_.Idx := ⟨fun a b => funext fun i => absurd i.isLt (by show ¬ i.val < 0; omega)⟩

variable (x0 : FVec Ideal S32000x768 .bf16) (x1 : FVec Ideal S5x16x6400 .f32) (x2 : FVec Ideal S1536x768 .f32) (x3 : FVec Ideal S1536x512 .f32)
  (x4 x5 : FVec Ideal S1x1536 .f32) (x6 : FVec Ideal S16x512 .f32) (x7 : FVec Ideal S32000x256 .f32)

theorem fine_of_pre (h : Cert.Pre_finite_args.fn (F := Ideal) x0 x1 x2 x3 x4 x5 x6 x7 = fun _ => 1#1) :
    (Cert.ReferenceIdeal.Dec.argsOf x0 x1 x2 x3 x4 x5 x6 x7).Fine := by
  have h0 := congrFun h ix0
  unfold Cert.Pre_finite_args.fn Cert.Pre_finite_args.fn_part1 at h0
  dsimp only at h0
  have both : ∀ a b : IVec S_ 1, andi a b ix0 = 1#1 → a ix0 = 1#1 ∧ b ix0 = 1#1 := fun a b h =>
    (show ∀ p q : BitVec 1, IntOp.andi p q = 1#1 → p = 1#1 ∧ q = 1#1 by decide) _ _ h
  obtain ⟨h1, he⟩ := both _ _ h0
  obtain ⟨h2, hc⟩ := both _ _ h1
  obtain ⟨hw, hb⟩ := both _ _ h2
  have hw' := fun i => Host.reduce_andi_all _ _ _ _ _ hw i
  have hb' := fun i => Host.reduce_andi_all _ _ _ _ _ hb i
  have hc' := fun i => Host.reduce_andi_all _ _ _ _ _ hc i
  have he' := fun i => Host.reduce_andi_all _ _ _ _ _ he i
  refine ⟨fun v k => re_of_abs ?_, fun b v => re_of_abs ?_, fun b k => re_of_abs ?_, fun v k => re_of_abs ?_⟩
  · rw [← inf_eq]; exact hw' (ix2 (n0 := 32000) (n1 := 768) v k)
  · rw [← inf_eq]; exact hb' _
  · rw [← inf_eq]; exact hc' (ix2 (n0 := 16) (n1 := 512) b k)
  · rw [← inf_eq]; exact he' (ix2 (n0 := 32000) (n1 := 256) v k)
end Pre

/-! ## The two searches hold the same beams -/

section Same
open Cert.KernelIdeal.Dec Cert.ReferenceIdeal.Dec Cert.ReferenceIdeal.Value

variable {X : Ins Ideal} {A : Args} (hX : Reads X A) (hp : ∀ t, t < 31 → Ins.pos t = BitVec.ofNat 32 t) (hA : A.Fine)
variable {V : Valuation Cert.ReferenceIdeal.τ Cert.ReferenceIdeal.sig (Elt Ideal)} (hV : RReads V A) (hT : bT V ix0 = BitVec.ofNat 32 1)
  (hS : ∀ b, beamsR V b = start A b)
include hX hp hA hV hT hS

/-- After `t` steps the reference's beams are the kernel's. -/
theorem same : ∀ t, t ≤ 31 → RReads (STEP^[t] V) A ∧ bT (STEP^[t] V) ix0 = BitVec.ofNat 32 (t + 1)
    ∧ ∀ b, beamsR (STEP^[t] V) b = beams (X.st t) b
  | 0, _ => ⟨hV, hT, fun b => (hS b).trans (st0_beams hX b).symm⟩
  | t + 1, h => by
    obtain ⟨h1, h2, h3⟩ := same t (by omega)
    rw [Function.iterate_succ_apply']
    have hF := fun b => st_run hX hp hA b t (by omega)
    refine ⟨reads_step h1, t_step _ _ h2, fun b => ?_⟩
    refine step_ref h1 t (by omega) h2 b (fun k => ?_) ?_
    · rw [h3 b]; exact (hF b k).tok
    · rw [h3 b]; exact step_holds hX t (by omega) (hp t (by omega)) (X.st t) b hA (hF b)

theorem tokens_eq : (out_main_v40 (STEP^[31] V) : IVec Cert.ReferenceIdeal.S16x32 32) = X.resT := by
  funext i
  idx_vars i
  refine (o40_at (STEP^[31] V) i0 i1).trans ?_
  rw [(same hX hp hA hV hT hS 31 le_rfl).2.2 i0]
  exact (resT_at X (hp 30 (by omega)) i0 i1).symm

theorem scores_eq : (out_main_v45 (STEP^[31] V) : FVec Ideal Cert.ReferenceIdeal.S16x32 .f32) = X.resS := by
  funext i
  idx_vars i
  refine (o45_at (STEP^[31] V) i0 i1).trans ?_
  rw [(same hX hp hA hV hT hS 31 le_rfl).2.2 i0]
  exact (resS_at X (hp 30 (by omega)) i0 i1).symm
end Same

/-! ## The claims -/

section Kernel
open Cert.KernelIdeal Cert.KernelIdeal.Gen Cert.KernelIdeal.Dec

variable (m : (ℓ : Loc nD τ sig) → Buf (Elt Ideal) ℓ) (ρ : Dev nD → PrngReg)

theorem toksOk : ToksOk m := fun c t => st_tok (ins m c) t

/-- The kernel's run with both results named. -/
theorem run : θ_run defs (onTc (τ := τ) (main (F := Ideal))) ⟨m, fun _ => 0, ρ⟩ fun r => ∀ c : Dev nD,
      r.2.mem ((c.tc : Thread nD τ).loc main_v0_0) = (ins m c).resT
      ∧ r.2.mem ((c.tc : Thread nD τ).loc main_v0_1) = (ins m c).resS
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ ⟨h, _⟩ c => ⟨((h c).1 7).trans (arr7 m c (toksOk m)), ((h c).1 8).trans (arr8 m c (toksOk m)),
      ((h c).1 0).trans (((dats m (toksOk m) 0 c).arrAt_in 0 rfl _).trans ((A_eq m (toksOk m) c 0).trans rfl)),
      ((h c).1 1).trans (((dats m (toksOk m) 0 c).arrAt_in 1 rfl _).trans ((A_eq m (toksOk m) c 1).trans rfl)),
      ((h c).1 2).trans (((dats m (toksOk m) 0 c).arrAt_in 2 rfl _).trans ((A_eq m (toksOk m) c 2).trans rfl)),
      ((h c).1 3).trans (((dats m (toksOk m) 0 c).arrAt_in 3 rfl _).trans ((A_eq m (toksOk m) c 3).trans rfl)),
      ((h c).1 4).trans (((dats m (toksOk m) 0 c).arrAt_in 4 rfl _).trans ((A_eq m (toksOk m) c 4).trans rfl)),
      ((h c).1 5).trans (((dats m (toksOk m) 0 c).arrAt_in 5 rfl _).trans ((A_eq m (toksOk m) c 5).trans rfl)),
      ((h c).1 6).trans (((dats m (toksOk m) 0 c).arrAt_in 6 rfl _).trans ((A_eq m (toksOk m) c 6).trans rfl)),
      ((h c).2 main_arg7 (Pipeline.mem_restRefs_of main_arg7 (by decide) (by decide))).trans rfl⟩) (run_main m ρ (toksOk m))
end Kernel

theorem frame_pi : Cert.quiescent_KernelIdeal := fun m ρ _ => Cert.KernelIdeal.Dec.frame_of_toks m ρ (toksOk m)
theorem frame_pi_pre : Cert.quiescent_KernelIdeal_pre_finite_args := fun m ρ _ => Cert.KernelIdeal.Dec.frame_of_toks m ρ (toksOk m)
/-- The reference declares no semaphore; its run is read at the arguments. -/
theorem frame_ri : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)
theorem frame_ri_pre : Cert.quiescent_ReferenceIdeal_pre_finite_args := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- From finite arguments both programs end with the same tokens and the same scores. -/
theorem algebraic : Cert.algebraic_KernelIdeal_ReferenceIdeal_pre_finite_args := by
  intro m ρ m' ρ' hpre hag
  refine ⟨_, _, run m ρ, ?_⟩
  have hargs : ∀ c, Cert.ReferenceIdeal.Dec.refArgs m' c = Cert.KernelIdeal.Dec.kerArgs m c := fun c => by
    obtain ⟨h0, h1, h2, h3, h4, h5, h6, h7⟩ := hag c
    unfold Cert.ReferenceIdeal.Dec.refArgs Cert.KernelIdeal.Dec.kerArgs Cert.ReferenceIdeal.Dec.a0 Cert.ReferenceIdeal.Dec.a1
      Cert.ReferenceIdeal.Dec.a2 Cert.ReferenceIdeal.Dec.a3 Cert.ReferenceIdeal.Dec.a4 Cert.ReferenceIdeal.Dec.a5
      Cert.ReferenceIdeal.Dec.a6 Cert.ReferenceIdeal.Dec.a7
    rw [h0, h1, h2, h3, h4, h5, h6, h7]
  have hA : ∀ c, (Cert.KernelIdeal.Dec.kerArgs m c).Fine := fun c => fine_of_pre _ _ _ _ _ _ _ _ (hpre c)
  have hV : ∀ c, Cert.ReferenceIdeal.Dec.RReads (Cert.ReferenceIdeal.Dec.V0 m' c) (Cert.KernelIdeal.Dec.kerArgs m c) := fun c => by
    rw [← hargs c]; exact Cert.ReferenceIdeal.Dec.reads_entry m' c
  have hS : ∀ c b, Cert.ReferenceIdeal.Dec.beamsR (Cert.ReferenceIdeal.Dec.V0 m' c) b = start (Cert.KernelIdeal.Dec.kerArgs m c) b := fun c b => by
    rw [← hargs c]; exact Cert.ReferenceIdeal.Dec.beams_entry m' c b
  refine (θ_run Cert.ReferenceIdeal.defs _ _).mono (fun _ h c => ⟨(h c).1.trans ?_, (h c).2.1.trans ?_, (h c).2.2⟩)
    (Cert.ReferenceIdeal.Value.run (F := Ideal) m' ρ')
  · exact tokens_eq (Cert.KernelIdeal.Dec.reads_ins m c) Cert.KernelIdeal.Dec.pos_eq (hA c) (hV c) (Cert.ReferenceIdeal.Dec.t_entry m' c) (hS c)
  · exact scores_eq (Cert.KernelIdeal.Dec.reads_ins m c) Cert.KernelIdeal.Dec.pos_eq (hA c) (hV c) (Cert.ReferenceIdeal.Dec.t_entry m' c) (hS c)

end Cert.Proof.DecClaims

end
-- ==== Proof.EncRules.lean ====
/-
  The rules by which the encoder's body is run: a load, a store and a word read on a memref held at named values,
  and the two ends of a row copy out of the embedding table. Every rule has the form "from the state before, the rest of
  the program is met from the state after".
-/
module

public import proofs.«01_k».proof.Proof.Gen.EncIdeal.Launch
public import proofs.«01_k».proof.Proof.Gen.EncIdeal.Skeleton
public import proofs.«01_k».proof.Proof.Gen.EncIdeal.Points
public import Idealize.ShloMosaic.Lib.Pipeline.FrameBody
public import Idealize.ShloMosaic.Lib.Batch
public import Idealize.ShloMosaic.Lib.VecWindow
public import Idealize.ShloMosaic.Lib.Tactic

@[expose] public section

set_option maxRecDepth 16384

noncomputable section

namespace Cert.EncIdeal.Enc

open Cert.EncIdeal Cert.EncIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

/-- The weakest precondition of a piece of the body on core `c`. -/
abbrev wpb {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

variable (c : Dev nD)

theorem ret_intro {α : Type} {x : α} {Q : α → sProp 𝕄} : Q x ⊢ wpb c (.ret x) Q := by
  iintro H
  unfold wpb
  rw [wp_ret]; imodintro
  iexact H

theorem seq {α β : Type} {S : sProp 𝕄} {p : Prog (TpuEff nD τ sig (Elt F) Λ₀ .tc) β} {R : β → sProp 𝕄}
    {k : β → Prog (TpuEff nD τ sig (Elt F) Λ₀ .tc) α} {Q : α → sProp 𝕄}
    (h1 : S ⊢ wpb c p R) (h2 : ∀ x, R x ⊢ wpb c (k x) Q) : S ⊢ wpb c (p >>= k) Q :=
  by
  unfold wpb
  rw [wp_bind]
  exact h1.trans (wp_mono _ _ _ h2)

theorem seqw {α β : Type} {S : sProp 𝕄} {p : Prog (TpuEff nD τ sig (Elt F) Λ₀ .tc) β} {R : β → sProp 𝕄}
    {k : β → Prog (TpuEff nD τ sig (Elt F) Λ₀ .tc) α} {Q : α → sProp 𝕄}
    (h1 : S ⊢ wpb c p R) : S ⊢ iprop((∀ x, R x -∗ wpb c (k x) Q) -∗ wpb c (p >>= k) Q) := by
  unfold wpb
  rw [wp_bind]
  iintro HS Hk
  iapply (wp_wand_r frame (wpE (defs₀ (F := F)) Variants.none (c : Thread nD τ) none) Set.univ)
  isplitl [HS]
  · iapply h1; iexact HS
  · iexact Hk

section Access
variable {cs : CoreSpace} {s : Shape} {e : EltTy} {m : Memref sig .tc cs s e} {α : Type}

/-- A load of the memref's own sizes reads what it is held at. -/
theorem ld_full {off : Fin s.rank → ℕ} {inb : ∀ a, off a + s.size a ≤ s.size a} {hl : m.view.LoadsAt (Rect.unit off s.size inb).toLoadRect}
    {k : (s.Idx → Elt F e) → Prog (TpuEff nD τ sig (Elt F) Λ₀ .tc) α} {v : s.Idx → Elt F e} {Q : α → sProp 𝕄} :
    (owns (c : Thread nD τ) m fullShare v : sProp 𝕄)
      ⊢ iprop((owns (c : Thread nD τ) m fullShare v -∗ wpb c (k v) Q) -∗ wpb c (.op (.load m (Rect.unit off s.size inb).toLoadRect hl) k) Q) := by
  unfold owns
  iintro ⟨%f, %hf, H⟩ Hk
  iapply (wp_load Variants.none (c : Thread nD τ) none Set.univ (S := m.view.set) (q := fullShare) (f := f) (View.setOn_subset_set _ _)) $$ H
  iintro H
  rw [View.readAt_full, hf]
  iapply Hk
  iexists f
  isplitr; · ipureintro; exact hf
  iexact H

/-- A load at a unit-stride rectangle reads that window of what the memref is held at. -/
theorem ld_win {off size : Fin s.rank → ℕ} {inb : ∀ a, off a + size a ≤ s.size a} {hl : m.view.LoadsAt (Rect.unit off size inb).toLoadRect}
    {k : ((Rect.unit off size inb).shape.Idx → Elt F e) → Prog (TpuEff nD τ sig (Elt F) Λ₀ .tc) α} {v : s.Idx → Elt F e} {Q : α → sProp 𝕄} :
    (owns (c : Thread nD τ) m fullShare v : sProp 𝕄)
      ⊢ iprop((owns (c : Thread nD τ) m fullShare v -∗ wpb c (k (VecWindow.window v off size inb)) Q)
          -∗ wpb c (.op (.load m (Rect.unit off size inb).toLoadRect hl) k) Q) := by
  unfold owns
  iintro ⟨%f, %hf, H⟩ Hk
  iapply (wp_load Variants.none (c : Thread nD τ) none Set.univ (S := m.view.set) (q := fullShare) (f := f) (View.setOn_subset_set _ _)) $$ H
  iintro H
  rw [View.readAt_unit m.view f inb rfl inb, hf]
  iapply Hk
  iexists f
  isplitr; · ipureintro; exact hf
  iexact H

/-- An unmasked store of the memref's own sizes leaves the payload. -/
theorem st_full {off : Fin s.rank → ℕ} {inb : ∀ a, off a + s.size a ≤ s.size a} {w : s.Idx → Elt F e}
    {hx : (m.access (Rect.unit off s.size inb)).Stores Finset.univ} {hm : Finset.univ = Finset.univ ∨ ∀ a, (Rect.unit off s.size inb).stride a = 1}
    {k : PUnit → Prog (TpuEff nD τ sig (Elt F) Λ₀ .tc) α} {v : s.Idx → Elt F e} {Q : α → sProp 𝕄} :
    (owns (c : Thread nD τ) m fullShare v : sProp 𝕄)
      ⊢ iprop((owns (c : Thread nD τ) m fullShare w -∗ wpb c (k ⟨⟩) Q)
          -∗ wpb c (.op (.store m (Rect.unit off s.size inb) w Finset.univ hx hm) k) Q) := by
  unfold owns
  iintro ⟨%f, %hf, H⟩ Hk
  iapply (wp_store Variants.none (c : Thread nD τ) none Set.univ (m := m)
    (r := Rect.unit off s.size inb) (S := m.view.set) (f := f)
    (by rw [View.setOn_univ]; exact View.set_slice_subset _ _)) $$ H
  iintro H
  iapply Hk
  iexists _
  isplitr; swap; · iexact H
  ipureintro
  exact View.read_writes_full m.view f inb w []

/-- An unmasked store at a unit-stride rectangle puts the payload over that window. -/
theorem st_win {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) α} {v : s.Idx → Elt F e} {Q : α → sProp 𝕄} :
    (owns (c : Thread nD τ) m fullShare v : sProp 𝕄)
      ⊢ iprop((owns (c : Thread nD τ) m fullShare (VecWindow.put v off size w) -∗ wpb c (k ⟨⟩) Q)
          -∗ wpb c (.op (.store m (Rect.unit off size inb) w Finset.univ hx hm) k) Q) := by
  unfold owns
  iintro ⟨%f, %hf, H⟩ Hk
  iapply (wp_store Variants.none (c : Thread nD τ) none Set.univ (m := m)
    (r := Rect.unit off size inb) (S := m.view.set) (f := f)
    (by rw [View.setOn_univ]; exact View.set_slice_subset _ _)) $$ H
  iintro H
  iapply Hk
  iexists _
  isplitr; swap; · iexact H
  ipureintro
  exact (View.read_writes_cons_put m.view f inb w [] rfl).trans (by rw [View.writes_nil, hf])

end Access

/-! ## The row copies out of the embedding table -/

section Rows

/-- The counters of the transfers, in the proof's algebra. -/
abbrev EC : UEmb Counters 𝕄 := countersEmb (U := Pipeline.UD sig nD τ)

theorem tok_inb (r : ℕ) (hr : r < 2048) : ∀ a, (![r] : Fin 1 → ℕ) a + S1.size a ≤ S2048.size a := by
  intro a; match a with
  | 0 => show r + 1 ≤ 2048; omega
theorem dst_inb (r : ℕ) (hr : r < 2048) : ∀ a, (![r, 0] : Fin 2 → ℕ) a + S1x256.size a ≤ S2048x256.size a := by
  intro a; match a with
  | 0 => show r + 1 ≤ 2048; omega
  | 1 => show 0 + 256 ≤ 256; omega
theorem row_inb (n : ℕ) (hn : n < 32000) : ∀ a, (![n, 0] : Fin 2 → ℕ) a + S1x256.size a ≤ S32000x256.size a := by
  intro a; match a with
  | 0 => show n + 1 ≤ 32000; omega
  | 1 => show 0 + 256 ≤ 256; omega

/-- The token of row `r`. -/
def tokAt (t : S2048.Idx → BitVec 32) (r : ℕ) (hr : r < 2048) : BitVec 32 :=
  t ((Rect.unit (s := S2048) ![r] S1.size (tok_inb r hr)).emb (Shape.Idx.first (numel1_S1.symm ▸ Nat.one_pos)))

/-- Every token names a row of the embedding table. -/
def TokOk (t : S2048.Idx → BitVec 32) : Prop := ∀ r (hr : r < 2048), (tokAt t r hr).toNat < 32000

variable (A9 : Memref sig .tc .hbm S32000x256 .f32) (A15 : Memref sig .tc .vmem S2048x256 .f32)
  (A17 : Memref sig .tc .smem S2048 .i32) (A23 : DmaSems sig S_)

/-- Row `r` of the gathered block. -/
abbrev dstRow (r : ℕ) (hr : r < 2048) : Memref sig .tc .vmem S256 .f32 :=
  (A15.slice (Rect.unit (s := S2048x256) ![r, 0] S1x256.size (dst_inb r hr)) (fun _ => rfl)).squeeze S256 squeezes_S1x256_S256
/-- Row `n` of the embedding table. -/
abbrev srcRow (n : ℕ) (hn : n < 32000) : Memref sig .tc .hbm S256 .f32 :=
  (A9.slice (Rect.unit (s := S32000x256) ![n, 0] S1x256.size (row_inb n hn)) (fun _ => rfl)).squeeze S256 squeezes_S1x256_S256

/-- The shares the copies borrow of the table: half of what is left, one after another. -/
def restSh : ℕ → PosShare TreeShare
  | 0 => fullShare
  | n + 1 => (restSh n).right
def lendSh (n : ℕ) : PosShare TreeShare := (restSh n).left

variable (E : Buf (Elt F) (A9.view.loc (c : Thread nD τ))) (t : S2048.Idx → BitVec 32) (ht : TokOk t)

/-- What the copy of row `r` takes. -/
def Give (r : Fin 2048) : sProp 𝕄 :=
  iprop((((srcRow A9 (tokAt t r.val r.isLt).toNat (ht r.val r.isLt)).view.loc (c : Thread nD τ))
      ↦[(srcRow A9 (tokAt t r.val r.isLt).toNat (ht r.val r.isLt)).view.set]{lendSh r.val} E)
    ∗ ∃ fd, (((dstRow A15 r.val r.isLt).view.loc (c : Thread nD τ)) ↦[(dstRow A15 r.val r.isLt).view.set]{fullShare} fd))

/-- What it brings: the row of the table in the block's row, and the table's row back. -/
def Deliv (r : Fin 2048) : sProp 𝕄 :=
  iprop(owns (c : Thread nD τ) (dstRow A15 r.val r.isLt) fullShare
      ((srcRow A9 (tokAt t r.val r.isLt).toNat (ht r.val r.isLt)).view.read (Elt F) E)
    ∗ ((srcRow A9 (tokAt t r.val r.isLt).toNat (ht r.val r.isLt)).view.loc (c : Thread nD τ))
      ↦[(srcRow A9 (tokAt t r.val r.isLt).toNat (ht r.val r.isLt)).view.set]{lendSh r.val} E)

instance (r : Fin 2048) : BI.Storable (upEmb : UEmb _ 𝕄) (Deliv c A9 A15 E t ht r) := by
  unfold Deliv owns; infer_instance

/-- The units of one row. -/
abbrev rowN : ℕ := A15.view.ref.dmaCredit S256 .f32

/-- Copies `r, …, 2047` not yet issued. -/
def Iss (r : ℕ) : sProp 𝕄 :=
  iprop(owns (c : Thread nD τ) A17 fullShare t ∗ bigSep (Transfers.pending r) (Give c A9 A15 E t ht)
    ∗ Transfers.Batch EC (c : Thread nD τ) (.dma A23.sem) () (rowN A15) (Deliv c A9 A15 E t ht) r 0)

theorem iss_row {α : Type} (r : ℕ) (hr : r < 2048) {o o' : Fin 2 → ℕ} (eo : o = ![(tokAt t r hr).toNat, 0]) (eo' : o' = ![r, 0])
    {inbF : ∀ a, o a + S1x256.size a ≤ S32000x256.size a} {inbD : ∀ a, o' a + S1x256.size a ≤ S2048x256.size a}
    {hs} {hd} {hc}
    {k : PUnit → Prog (TpuEff nD τ sig (Elt F) Λ₀ .tc) α} {Q : α → sProp 𝕄}
    (h : Iss c A9 A15 A17 A23 E t ht (r + 1) ⊢ wpb c (k ⟨⟩) Q) :
    Iss c A9 A15 A17 A23 E t ht r ⊢ wpb c (Prog.lift (TpuEff.enqueueDma
      ((A9.slice (Rect.unit (s := S32000x256) o S1x256.size inbF) (fun _ => rfl)).squeeze S256 squeezes_S1x256_S256)
      (.here ((A15.slice (Rect.unit (s := S2048x256) o' S1x256.size inbD) (fun _ => rfl)).squeeze S256 squeezes_S1x256_S256)) (.dma A23.sem) hs hd hc) >>= k) Q := by
  subst eo eo'
  unfold Iss
  rw [Transfers.bigSep_pending_step _ r hr]
  unfold Give
  iintro ⟨HT, ⟨⟨Hs, %fd, Hd⟩, HP⟩, HB⟩
  iapply (Transfers.wp_dmaBatch EC Variants.none (c : Thread nD τ) none
    (src := srcRow A9 (tokAt t r hr).toNat (ht r hr)) (dst := dstRow A15 r hr) (q := lendSh r) (fs := E) (fd := fd)
    (D := Deliv c A9 A15 E t ht) (Sd := (dstRow A15 r hr).view.set) () (rowN A15) rfl subset_rfl hr (Nat.zero_le _) (by
      unfold Deliv
      iintro ⟨Hd, Hs⟩
      isplitl [Hd]
      · unfold owns
        iexists _
        isplitr; swap; · iexact Hd
        ipureintro
        exact View.read_write_univ _ _
      · iexact Hs)) $$ [Hs Hd HB]
  · isplitl [Hs]; · iexact Hs
    isplitl [Hd]; · iexact Hd
    iexact HB
  · iintro HB
    iapply h
    unfold Iss
    isplitl [HT]; · iexact HT
    isplitl [HP]; · iexact HP
    iexact HB

/-- The word of row `r` read, and the condition of its copy checked. -/
theorem word_row {α : Type} {R : sProp 𝕄} (r : ℕ) (hr : r < 2048) {o : Fin 1 → ℕ} (eo : o = ![r]) {inb : ∀ a, o a + S1.size a ≤ S2048.size a}
    {h1} {hp} {P : BitVec 32 → Prop} {d : ∀ v, Decidable (P v)} (hP : P (tokAt t r hr))
    {k : ∀ v, PLift (P v) → Prog (TpuEff nD τ sig (Elt F) Λ₀ .tc) α} {Q : α → sProp 𝕄}
    (h : iprop(owns (c : Thread nD τ) A17 fullShare t ∗ R) ⊢ wpb c (k (tokAt t r hr) ⟨hP⟩) Q) :
    iprop(owns (c : Thread nD τ) A17 fullShare t ∗ R) ⊢ wpb c (smemLoad A17 (Rect.unit (s := S2048) o S1.size inb) h1 hp >>= fun v =>
      Prog.lift (TpuEff.assume (P v) (d v)) >>= k v) Q := by
  subst eo
  iintro ⟨HT, HR⟩
  iapply (ld_win c (m := A17)) $$ HT
  iintro HT
  iapply (wp_assume Variants.none (c : Thread nD τ) none Set.univ hP)
  iapply h
  isplitl [HT]; · iexact HT
  iexact HR

/-- The copies waited for: `r` rows' units taken off the semaphore so far. -/
def Wai (r : ℕ) : sProp 𝕄 :=
  iprop(owns (c : Thread nD τ) A17 fullShare t
    ∗ (Transfers.Batch EC (c : Thread nD τ) (.dma A23.sem) () (rowN A15) (Deliv c A9 A15 E t ht) 2048 (r * rowN A15)
      ∗ ∃ W, owes (c : Thread nD τ) 0 W))

theorem row_units {r n : ℕ} (hr : r + 1 < 2048) (hpos : 0 < n) : r * n + n < n * 2048 := by
  have h := Nat.mul_lt_mul_of_pos_right hr hpos
  rw [Nat.add_mul, Nat.one_mul] at h
  rw [Nat.mul_comm n 2048]; exact h

theorem wai_row {α : Type} (r : ℕ) (hr : r + 1 < 2048) {o' : Fin 2 → ℕ} (eo' : o' = ![r, 0]) {inbD : ∀ a, o' a + S1x256.size a ≤ S2048x256.size a} (hpos : 0 < rowN A15) {src : Memref sig .tc .hbm S256 .f32}
    {hs} {hd} {k : PUnit → Prog (TpuEff nD τ sig (Elt F) Λ₀ .tc) α} {Q : α → sProp 𝕄}
    (h : Wai c A9 A15 A17 A23 E t ht (r + 1) ⊢ wpb c (k ⟨⟩) Q) :
    Wai c A9 A15 A17 A23 E t ht r ⊢ wpb c (Prog.lift (TpuEff.waitDma2 A23.sem src ((A15.slice (Rect.unit (s := S2048x256) o' S1x256.size inbD) (fun _ => rfl)).squeeze S256 squeezes_S1x256_S256) hs hd) >>= k) Q := by
  subst eo'
  unfold Wai
  iintro ⟨HT, HB, %W, HO⟩
  iapply (Transfers.wp_waitBatch EC Variants.none (c : Thread nD τ) none () (N := rowN A15) rfl
    (D := Deliv c A9 A15 E t ht) (W := W)
    (u := r * rowN A15) (row_units hr hpos)) $$ [HB HO]
  · isplitl [HB]; · iexact HB
    iexact HO
  · iintro ⟨HB, HO⟩
    iapply h
    unfold Wai
    isplitl [HT]; · iexact HT
    isplitl [HB]
    · rw [Nat.add_mul, Nat.one_mul]; iexact HB
    · iexists _; iexact HO

/-- After the last wait everything is back. -/
def Col : sProp 𝕄 :=
  iprop(owns (c : Thread nD τ) A17 fullShare t
    ∗ (bigSep Finset.univ (Deliv c A9 A15 E t ht) ∗ semVal ((c : Thread nD τ), (SemLoc.dma A23.sem)) 0
      ∗ ∃ W, owes (c : Thread nD τ) 0 W))

theorem wai_last {α : Type} {o' : Fin 2 → ℕ} (eo' : o' = ![2047, 0]) {inbD : ∀ a, o' a + S1x256.size a ≤ S2048x256.size a} (hpos : 0 < rowN A15) {src : Memref sig .tc .hbm S256 .f32}
    {hs} {hd} {k : PUnit → Prog (TpuEff nD τ sig (Elt F) Λ₀ .tc) α} {Q : α → sProp 𝕄}
    (h : Col c A9 A15 A17 A23 E t ht ⊢ wpb c (k ⟨⟩) Q) :
    Wai c A9 A15 A17 A23 E t ht 2047 ⊢ wpb c (Prog.lift (TpuEff.waitDma2 A23.sem src ((A15.slice (Rect.unit (s := S2048x256) o' S1x256.size inbD) (fun _ => rfl)).squeeze S256 squeezes_S1x256_S256) hs hd) >>= k) Q := by
  subst eo'
  unfold Wai
  iintro ⟨HT, HB, %W, HO⟩
  iapply (Transfers.wp_waitBatchLast EC Variants.none (c : Thread nD τ) none () (N := rowN A15) rfl hpos
    (D := Deliv c A9 A15 E t ht) (W := W)
    (u := 2047 * rowN A15) (by omega)) $$ [HB HO]
  · isplitl [HB]; · iexact HB
    iexact HO
  · iintro ⟨HD, HV, HO⟩
    iapply h
    unfold Col
    isplitl [HT]; · iexact HT
    isplitl [HD]; · iexact HD
    isplitl [HV]; · iexact HV
    iexists _; iexact HO

end Rows

end Cert.EncIdeal.Enc

end
-- ==== Proof.EncShare.lean ====
/-
  The embedding table lent to the 2048 row copies in shares, and the gathered block cut into its rows: both ways.
-/
module

public import proofs.«01_k».proof.Proof.EncRules
public import Idealize.ShloMosaic.Lib.Ring
public import Idealize.ShloMosaic.Lib.Pointwise
public import Idealize.ShloMosaic.Lib.Pipeline.TableIdle

@[expose] public section

set_option maxRecDepth 16384

noncomputable section

namespace Cert.EncIdeal.Enc

open Cert.EncIdeal Cert.EncIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

variable (c : Dev nD)

variable (A9 : Memref sig .tc .hbm S32000x256 .f32) (A15 : Memref sig .tc .vmem S2048x256 .f32)
  (E : Buf (Elt F) (A9.view.loc (c : Thread nD τ))) (t : S2048.Idx → BitVec 32) (ht : TokOk t)

/-- The rows of the embedding table the tokens name. -/
def gath (emb : Vec F S32000x256 .f32) (t : Vec F S2048 .i32) : Vec F S2048x256 .f32 := fun j =>
  emb (ix2 (n0 := 32000) (n1 := 256) ⟨min (tokAt t (j 0).val (j 0).isLt).toNat 31999, by omega⟩ (j 1))

/-! ## The table lent in shares -/

theorem shares_step (S : Finset (Idx (A9.view.loc (c : Thread nD τ)))) (k : ℕ) (hk : k ≤ 2048) :
    ((A9.view.loc (c : Thread nD τ)) ↦[S]{restSh (2048 - k)} E : sProp 𝕄)
      ⊣⊢ iprop(bigSep (Transfers.pending (n := 2048) (2048 - k)) (fun r => (A9.view.loc (c : Thread nD τ)) ↦[S]{lendSh r.val} E)
        ∗ (A9.view.loc (c : Thread nD τ)) ↦[S]{restSh 2048} E) := by
  induction k with
  | zero =>
    have e : Transfers.pending (n := 2048) (2048 - 0) = ∅ := by
      ext x
      have hx := x.isLt
      simp [Transfers.pending]
    rw [e, bigSep_empty]
    constructor
    · iintro H; isplitr; · iempintro
      iexact H
    · iintro ⟨-, H⟩; iexact H
  | succ k ih =>
    have hlt : 2048 - (k + 1) < 2048 := by omega
    have es : 2048 - (k + 1) + 1 = 2048 - k := by omega
    have ih' := ih (by omega)
    rw [Transfers.bigSep_pending_step _ (2048 - (k + 1)) hlt, es]
    have hs := pointsTo_share (ℓ := A9.view.loc (c : Thread nD τ)) (I := S) (f := E) (Lvl := ℕ) (Name := ℕ) (Ix := Unit) (U := Pipeline.UD sig nD τ)
      (PosShare.mem_left_op_right (restSh (2048 - (k + 1))))
    have hr : (restSh (2048 - (k + 1))).right = restSh (2048 - k) := by rw [← es]; rfl
    rw [hr] at hs
    constructor
    · refine hs.1.trans ?_
      iintro ⟨H1, H2⟩
      ihave H2 := ih'.1 $$ H2
      icases H2 with ⟨H2, H3⟩
      isplitr [H3]; swap; · iexact H3
      isplitl [H1]; · iexact H1
      iexact H2
    · refine BIBase.Entails.trans ?_ hs.2
      iintro ⟨⟨H1, H2⟩, H3⟩
      isplitl [H1]; · iexact H1
      iapply ih'.2
      isplitl [H2]; · iexact H2
      iexact H3

theorem shares (S : Finset (Idx (A9.view.loc (c : Thread nD τ)))) :
    ((A9.view.loc (c : Thread nD τ)) ↦[S]{fullShare} E : sProp 𝕄)
      ⊣⊢ iprop(bigSep Finset.univ (fun r : Fin 2048 => (A9.view.loc (c : Thread nD τ)) ↦[S]{lendSh r.val} E)
        ∗ (A9.view.loc (c : Thread nD τ)) ↦[S]{restSh 2048} E) := by
  have h := shares_step c A9 E S 2048 le_rfl
  rw [Nat.sub_self, Transfers.pending_zero] at h
  exact h

/-- What of the table the copies do not take. -/
def EmbRest : sProp 𝕄 :=
  iprop(bigSep Finset.univ (fun r : Fin 2048 => (A9.view.loc (c : Thread nD τ))
      ↦[A9.view.set \ (srcRow A9 (tokAt t r.val r.isLt).toNat (ht r.val r.isLt)).view.set]{lendSh r.val} E)
    ∗ (A9.view.loc (c : Thread nD τ)) ↦[A9.view.set]{restSh 2048} E)

theorem src_subset (n : ℕ) (hn : n < 32000) : (srcRow A9 n hn).view.set ⊆ A9.view.set := by
  show (View.reshape _ _ _).set ⊆ _
  rw [View.set_reshape]
  exact View.set_slice_subset _ _

theorem emb_split :
    ((A9.view.loc (c : Thread nD τ)) ↦[A9.view.set]{fullShare} E : sProp 𝕄)
      ⊣⊢ iprop(bigSep Finset.univ (fun r : Fin 2048 => (A9.view.loc (c : Thread nD τ))
        ↦[(srcRow A9 (tokAt t r.val r.isLt).toNat (ht r.val r.isLt)).view.set]{lendSh r.val} E) ∗ EmbRest c A9 E t ht) := by
  unfold EmbRest
  have h := shares c A9 E A9.view.set
  have e : (bigSep Finset.univ (fun r : Fin 2048 => ((A9.view.loc (c : Thread nD τ)) ↦[A9.view.set]{lendSh r.val} E : sProp 𝕄)))
      = iprop(bigSep Finset.univ (fun r : Fin 2048 => (A9.view.loc (c : Thread nD τ))
        ↦[(srcRow A9 (tokAt t r.val r.isLt).toNat (ht r.val r.isLt)).view.set]{lendSh r.val} E)
        ∗ bigSep Finset.univ (fun r : Fin 2048 => (A9.view.loc (c : Thread nD τ))
      ↦[A9.view.set \ (srcRow A9 (tokAt t r.val r.isLt).toNat (ht r.val r.isLt)).view.set]{lendSh r.val} E)) := by
    refine Eq.trans (bigSep_congr fun r _ => ?_) (bigSep_sep _ _ _)
    have h2 := pointsTo_split_subset (ℓ := A9.view.loc (c : Thread nD τ)) (q := lendSh r.val) (f := E) (Lvl := ℕ) (Name := ℕ) (Ix := Unit) (U := Pipeline.UD sig nD τ)
      (src_subset A9 _ (ht r.val r.isLt))
    exact Idealize.SL.BI.equiv_iff.mp ⟨h2.1, h2.2⟩
  rw [e] at h
  constructor
  · refine h.1.trans ?_
    iintro ⟨⟨H1, H2⟩, H3⟩
    isplitl [H1]; · iexact H1
    isplitl [H2]; · iexact H2
    iexact H3
  · refine BIBase.Entails.trans ?_ h.2
    iintro ⟨H1, H2, H3⟩
    isplitr [H3]; swap; · iexact H3
    isplitl [H1]; · iexact H1
    iexact H2

/-! ## The gathered block in rows -/

abbrev rowI (r : Fin 2048) : Finset (Idx (A15.view.loc (c : Thread nD τ))) := (dstRow A15 r.val r.isLt).view.set

theorem rowI_eq (r : Fin 2048) : rowI c A15 r
    = (Rect.unit (s := S2048x256) ![r.val, 0] S1x256.size (dst_inb r.val r.isLt)).set.map A15.view.emb := by
  show (View.reshape _ _ _).set = _
  rw [View.set_reshape]
  exact View.set_slice _ _

theorem rows_disjoint (b b' : Fin 2048) (h : b ≠ b') : Disjoint (rowI c A15 b) (rowI c A15 b') := by
  rw [rowI_eq, rowI_eq]
  refine (Finset.disjoint_map _).mpr ?_
  exact Ring.lead_disjoint (s := S2048x256) (NB := 2048) (0 : Fin 2) 1 (fun b => ![b.val, 0]) S1x256.size (fun b => dst_inb b.val b.isLt)
    (fun b => (Nat.one_mul _).symm) rfl b b' h

theorem set_sub {cs : CoreSpace} {sh : Shape} {e : EltTy} (A : Memref sig .tc cs sh e) {T : Finset (Idx (A.view.loc (c : Thread nD τ)))}
    (h : ∀ y, A.view.emb y ∈ T) : A.view.set ⊆ T := by
  intro x hx
  obtain ⟨y, -, e⟩ := Finset.mem_map.mp hx
  exact e ▸ h y

theorem cover_gen {n : ℕ} {cs : CoreSpace} {sh : Shape} {e : EltTy} (A : Memref sig .tc cs sh e) (I : Fin n → Finset (Idx (A.view.loc (c : Thread nD τ))))
    (h1 : ∀ r, I r ⊆ A.view.set) (h2 : ∀ y, ∃ r, A.view.emb y ∈ I r) : Finset.univ.biUnion I = A.view.set := by
  refine Finset.Subset.antisymm (Finset.biUnion_subset.mpr fun r _ => h1 r) (set_sub c A fun y => ?_)
  obtain ⟨r, hr⟩ := h2 y
  exact Finset.mem_biUnion.mpr ⟨r, Finset.mem_univ _, hr⟩

theorem row_mem (y : S2048x256.Idx) (r : Fin 2048) (hr : r.val = (y 0).val) : A15.view.emb y ∈ rowI c A15 r := by
  rw [rowI_eq]
  refine Finset.mem_map_of_mem _ (Rect.mem_set_unit.mpr fun a => ?_)
  match a with
  | 0 => show r.val ≤ (y 0).val ∧ (y 0).val < r.val + 1; omega
  | 1 =>
    have h1 : (y 1).val < 256 := (y 1).isLt
    show 0 ≤ (y 1).val ∧ (y 1).val < 0 + 256; omega

theorem row_sub (r : Fin 2048) : rowI c A15 r ⊆ A15.view.set := by
  rw [rowI_eq]
  intro x hx
  obtain ⟨y, -, rfl⟩ := Finset.mem_map.mp hx
  exact View.emb_mem_set _ y

theorem rows_cover : Finset.univ.biUnion (rowI c A15) = A15.view.set :=
  cover_gen c A15 (rowI c A15) (row_sub c A15) fun y => by
    have hy : (y (0 : Fin 2)).val < 2048 := (y (0 : Fin 2)).isLt
    exact Exists.intro (Fin.mk (y (0 : Fin 2)).val hy) (row_mem c A15 y _ rfl)

theorem rows_split {x : Vec F S2048x256 .f32} : (owns (c : Thread nD τ) A15 fullShare x : sProp 𝕄)
    ⊢ bigSep Finset.univ (fun r : Fin 2048 => iprop(∃ fd, (((dstRow A15 r.val r.isLt).view.loc (c : Thread nD τ)) ↦[(dstRow A15 r.val r.isLt).view.set]{fullShare} fd))) := by
  unfold owns
  iintro ⟨%f, -, H⟩
  have ent : ∀ r : Fin 2048, (((dstRow A15 r.val r.isLt).view.loc (c : Thread nD τ)) ↦[(dstRow A15 r.val r.isLt).view.set]{fullShare} f : sProp 𝕄)
      ⊢ iprop(∃ fd, (((dstRow A15 r.val r.isLt).view.loc (c : Thread nD τ)) ↦[(dstRow A15 r.val r.isLt).view.set]{fullShare} fd)) := fun r => by
    iintro H; iexists f; iexact H
  have key := (Entails.of_eq (Ring.pointsTo_sub_blocks (Lvl := ℕ) (Name := ℕ) (Ix := Unit) (U := Pipeline.UD sig nD τ) (q := fullShare) (rowI c A15) (rows_disjoint c A15) A15.view.set (rows_cover c A15) f)).trans
    (bigSep_mono fun r _ => ent r)
  iapply key
  iexact H

theorem rows_join : bigSep Finset.univ (fun r : Fin 2048 => (owns (c : Thread nD τ) (dstRow A15 r.val r.isLt) fullShare
      ((srcRow A9 (tokAt t r.val r.isLt).toNat (ht r.val r.isLt)).view.read (Elt F) E) : sProp 𝕄))
    ⊢ (owns (c : Thread nD τ) A15 fullShare (gath (A9.view.read (Elt F) E) t) : sProp 𝕄) := by
  refine (Entails.of_eq (bigSep_congr fun r _ => owns_eq_rep (c : Thread nD τ) (dstRow A15 r.val r.isLt) fullShare _)).trans ?_
  let fs : Fin 2048 → Buf (Elt F) (A15.view.loc (c : Thread nD τ)) := fun r =>
    (dstRow A15 r.val r.isLt).view.rep ((srcRow A9 (tokAt t r.val r.isLt).toNat (ht r.val r.isLt)).view.read (Elt F) E)
  refine (pointsTo_biUnion_join Finset.univ (rowI c A15) fs (fs 0) (fun b _ b' _ h => rows_disjoint c A15 b b' h)).trans ?_
  rw [rows_cover]
  iintro ⟨%g, %hg, H⟩
  unfold owns
  iexists g
  isplitr; swap; · iexact H
  ipureintro
  funext j
  let r : Fin 2048 := ⟨(j 0).val, (j 0).isLt⟩
  let z : S1x256.Idx := ix2 (n0 := 1) (n1 := 256) 0 (j 1)
  let y : S256.Idx := (Shape.reshapeEquiv (squeezes_S1x256_S256).numel_eq).symm z
  have e1 : A15.view.emb j = (dstRow A15 r.val r.isLt).view.emb y := by
    show A15.view.emb j = A15.view.emb ((Rect.unit (s := S2048x256) ![r.val, 0] S1x256.size (dst_inb r.val r.isLt)).emb (Shape.reshapeEquiv _ y))
    refine congrArg _ ?_
    rw [show Shape.reshapeEquiv (squeezes_S1x256_S256).numel_eq y = z from Equiv.apply_symm_apply _ _]
    funext a
    refine Fin.ext ?_
    match a with
    | 0 => show (j 0).val = (j 0).val + 1 * 0; omega
    | 1 => show (j 1).val = 0 + 1 * (j 1).val; omega
  have e2 : (srcRow A9 (tokAt t r.val r.isLt).toNat (ht r.val r.isLt)).view.emb y
      = A9.view.emb (ix2 (n0 := 32000) (n1 := 256) ⟨min (tokAt t r.val r.isLt).toNat 31999, by omega⟩ (j 1)) := by
    show A9.view.emb ((Rect.unit (s := S32000x256) ![(tokAt t r.val r.isLt).toNat, 0] S1x256.size (row_inb _ (ht r.val r.isLt))).emb (Shape.reshapeEquiv _ y)) = _
    refine congrArg _ ?_
    rw [show Shape.reshapeEquiv (squeezes_S1x256_S256).numel_eq y = z from Equiv.apply_symm_apply _ _]
    funext a
    refine Fin.ext ?_
    have hn := ht r.val r.isLt
    match a with
    | 0 => show (tokAt t r.val r.isLt).toNat + 1 * 0 = min (tokAt t r.val r.isLt).toNat 31999; omega
    | 1 => show 0 + 1 * (j 1).val = (j 1).val; omega
  have e3 := hg r (Finset.mem_univ _) ((dstRow A15 r.val r.isLt).view.emb y) (View.emb_mem_set _ y)
  have e4 : (dstRow A15 r.val r.isLt).view.read (Elt F) g y
      = (srcRow A9 (tokAt t r.val r.isLt).toNat (ht r.val r.isLt)).view.read (Elt F) E y := by
    refine (View.read_congr_at _ e3).trans ?_
    exact congrFun (View.read_rep _ _) y
  refine Eq.trans ?_ (e4.trans ?_)
  · rw [View.read_apply, View.read_apply, e1]
  · rw [View.read_apply, e2]; rfl

/-! ## Before the copies are issued, and after the last wait -/

variable (A17 : Memref sig .tc .smem S2048 .i32) (A23 : DmaSems sig S_)

/-- The table and the block are what the copies take, beside the rest of the table. -/
theorem prep {x : Vec F S2048x256 .f32} :
    iprop(owns (c : Thread nD τ) A15 fullShare x ∗ ((A9.view.loc (c : Thread nD τ)) ↦[A9.view.set]{fullShare} E))
      ⊢ (iprop(bigSep (Transfers.pending 0) (Give c A9 A15 E t ht) ∗ EmbRest c A9 E t ht) : sProp 𝕄) := by
  rw [Transfers.pending_zero]
  have e : bigSep Finset.univ (Give c A9 A15 E t ht)
      = (iprop(bigSep Finset.univ (fun r : Fin 2048 => (A9.view.loc (c : Thread nD τ))
        ↦[(srcRow A9 (tokAt t r.val r.isLt).toNat (ht r.val r.isLt)).view.set]{lendSh r.val} E)
        ∗ bigSep Finset.univ (fun r : Fin 2048 => iprop(∃ fd, (((dstRow A15 r.val r.isLt).view.loc (c : Thread nD τ)) ↦[(dstRow A15 r.val r.isLt).view.set]{fullShare} fd)))) : sProp 𝕄) :=
    bigSep_sep _ _ _
  rw [e]
  iintro ⟨H15, H9⟩
  ihave H9 := (emb_split c A9 E t ht).1 $$ H9
  icases H9 with ⟨H9, HR⟩
  isplitr [HR]; swap; · iexact HR
  isplitl [H9]; · iexact H9
  iapply (rows_split c A15)
  iexact H15

/-- The copies' rows and the rest of the table are the gathered block and the table. -/
theorem unprep : iprop(Col c A9 A15 A17 A23 E t ht ∗ EmbRest c A9 E t ht)
    ⊢ (iprop((owns (c : Thread nD τ) A17 fullShare t ∗ semVal ((c : Thread nD τ), (SemLoc.dma A23.sem)) 0 ∗ (∃ W, owes (c : Thread nD τ) 0 W)
        ∗ ((A9.view.loc (c : Thread nD τ)) ↦[A9.view.set]{fullShare} E))
      ∗ owns (c : Thread nD τ) A15 fullShare (gath (A9.view.read (Elt F) E) t)) : sProp 𝕄) := by
  unfold Col
  have e : bigSep Finset.univ (Deliv c A9 A15 E t ht)
      = (iprop(bigSep Finset.univ (fun r : Fin 2048 => owns (c : Thread nD τ) (dstRow A15 r.val r.isLt) fullShare
          ((srcRow A9 (tokAt t r.val r.isLt).toNat (ht r.val r.isLt)).view.read (Elt F) E))
        ∗ bigSep Finset.univ (fun r : Fin 2048 => (A9.view.loc (c : Thread nD τ))
        ↦[(srcRow A9 (tokAt t r.val r.isLt).toNat (ht r.val r.isLt)).view.set]{lendSh r.val} E)) : sProp 𝕄) :=
    bigSep_sep _ _ _
  rw [e]
  iintro ⟨⟨HT, ⟨HA, HB⟩, HV, HO⟩, HR⟩
  isplitr [HA]
  · isplitl [HT]; · iexact HT
    isplitl [HV]; · iexact HV
    isplitl [HO]; · iexact HO
    iapply (emb_split c A9 E t ht).2
    isplitl [HB]; · iexact HB
    iexact HR
  · iapply (rows_join c A9 A15 E t ht)
    iexact HA

end Cert.EncIdeal.Enc

end
-- ==== Proof.EncBody.lean ====
/-
  The encoder's body run once: the rows of the embedding table copied in by 2048 copies, the copies waited for, the input
  product, the 128 steps of the gated unit, and the last hidden rows stored.
-/
module

public import proofs.«01_k».proof.Proof.EncShare

@[expose] public section

set_option maxRecDepth 16384

noncomputable section

namespace Cert.EncIdeal.Enc

open Cert.EncIdeal Cert.EncIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

/-! ## The loops' counters -/

theorem trips1 : k0_t1_loop.trips = 2048 := by decide +kernel
theorem trips2 : k0_t2_loop.trips = 2048 := by decide +kernel
theorem trips3 : k0_t3_loop.trips = 128 := by decide +kernel
theorem off1_eq : ∀ u : Fin k0_t1_loop.trips, k0_off1 u = ![u.val] := by decide +kernel
theorem off2_eq : ∀ u : Fin k0_t1_loop.trips, k0_off2 u = ![u.val, 0] := by decide +kernel
theorem off4_eq : ∀ u : Fin k0_t2_loop.trips, k0_off4 u = ![u.val] := by decide +kernel
theorem off5_eq : ∀ u : Fin k0_t2_loop.trips, k0_off5 u = ![u.val, 0] := by decide +kernel
theorem off7_eq : ∀ u : Fin k0_t3_loop.trips, k0_off7 u = ![16 * u.val, 0] := by decide +kernel

/-- The hidden rows after `k` steps. -/
def hsT (xp : Vec F S2048x1536 .f32) (whh : Vec F S1536x512 .f32) (bhh : Vec F S1x1536 .f32) : ℕ → Vec F S16x512 .f32
  | 0 => k0_pay2
  | k + 1 => if hk : k < k0_t3_loop.trips then
      k0_pay3 (hsT xp whh bhh k) (VecWindow.window xp (k0_off7 ⟨k, hk⟩) S16x1536.size (k0_off7_inb ⟨k, hk⟩)) whh bhh
    else hsT xp whh bhh k

/-- What the encoder stores. -/
def resOf (emb : Vec F S32000x256 .f32) (t : Vec F S2048 .i32) (wih : Vec F S1536x256 .f32) (whh : Vec F S1536x512 .f32)
    (bih bhh : Vec F S1x1536 .f32) : Vec F S16x512 .f32 :=
  hsT (k0_pay1 (gath emb t) wih bih) whh bhh k0_t3_loop.trips

variable (c : Dev nD)
  (arg0 : Memref sig .tc .smem S2048 .i32) (harg0 : arg0.IsWhole) (arg1 : Memref sig .tc .hbm S32000x256 .f32) (harg1 : arg1.IsWhole)
  (arg2 : Memref sig .tc .vmem S1536x256 .f32) (harg2 : arg2.IsWhole) (arg3 : Memref sig .tc .vmem S1536x512 .f32) (harg3 : arg3.IsWhole)
  (arg4 : Memref sig .tc .vmem S1x1536 .f32) (harg4 : arg4.IsWhole) (arg5 : Memref sig .tc .vmem S1x1536 .f32) (harg5 : arg5.IsWhole)
  (arg6 : Memref sig .tc .vmem S16x512 .f32) (harg6 : arg6.IsWhole) (arg7 : Memref sig .tc .vmem S2048x256 .f32) (harg7 : arg7.IsWhole)
  (arg8 : Memref sig .tc .vmem S2048x1536 .f32) (harg8 : arg8.IsWhole) (arg9 : Memref sig .tc .vmem S16x512 .f32) (harg9 : arg9.IsWhole)
  (arg10 : DmaSems sig S_)
  (E : Buf (Elt F) (arg1.view.loc (c : Thread nD τ))) (t : S2048.Idx → BitVec 32) (ht : TokOk t)

theorem t1_step (k : Fin k0_t1_loop.trips) :
    Iss c arg1 arg7 arg0 arg10 E t ht k.val ⊢ wpb c (k0_t1_body arg0 harg0 arg1 harg1 arg2 harg2 arg3 harg3 arg4 harg4 arg5 harg5 arg6 harg6 arg7 harg7 arg8 harg8 arg9 harg9 arg10 k ())
      (fun _ => Iss c arg1 arg7 arg0 arg10 E t ht (k.val + 1)) := by
  have hk : k.val < 2048 := lt_of_lt_of_eq k.isLt trips1
  unfold k0_t1_body
  exact word_row c arg0 t k.val hk (off1_eq k) (P := k0_chk1) (row_inb _ (ht k.val hk))
    (iss_row c arg1 arg7 arg0 arg10 E t ht k.val hk rfl (off2_eq k) (ret_intro c))

theorem t1_loop :
    Iss c arg1 arg7 arg0 arg10 E t ht 0 ⊢ wpb c (Scf.Loop.for k0_t1_loop k0_t1_ok ⟨⟩ (k0_t1_body arg0 harg0 arg1 harg1 arg2 harg2 arg3 harg3 arg4 harg4 arg5 harg5 arg6 harg6 arg7 harg7 arg8 harg8 arg9 harg9 arg10))
      (fun _ => Iss c arg1 arg7 arg0 arg10 E t ht 2048) := by
  iintro H
  iapply (Scf.wp_for frame (wpE (defs₀ (F := F)) Variants.none (c : Thread nD τ) none) Set.univ
    k0_t1_loop.lb k0_t1_loop.ub k0_t1_loop.st k0_t1_ok ⟨⟩ (k0_t1_body arg0 harg0 arg1 harg1 arg2 harg2 arg3 harg3 arg4 harg4 arg5 harg5 arg6 harg6 arg7 harg7 arg8 harg8 arg9 harg9 arg10)
    (fun k _ => Iss c arg1 arg7 arg0 arg10 E t ht k)
    (fun k _ => t1_step c arg0 harg0 arg1 harg1 arg2 harg2 arg3 harg3 arg4 harg4 arg5 harg5 arg6 harg6 arg7 harg7 arg8 harg8 arg9 harg9 arg10 E t ht k))
  isplitl [H]; · iexact H
  iintro %_ H
  iapply (Entails.of_eq (congrArg (Iss c arg1 arg7 arg0 arg10 E t ht) trips1))
  iexact H

/-- The state between two waits, and after the last. -/
def Wst (k : ℕ) : sProp 𝕄 := if k < 2048 then Wai c arg1 arg7 arg0 arg10 E t ht k else Col c arg1 arg7 arg0 arg10 E t ht

theorem t2_step (hpos : 0 < rowN arg7) (k : Fin k0_t2_loop.trips) :
    Wst c arg0 arg1 arg7 arg10 E t ht k.val ⊢ wpb c (k0_t2_body arg0 harg0 arg1 harg1 arg2 harg2 arg3 harg3 arg4 harg4 arg5 harg5 arg6 harg6 arg7 harg7 arg8 harg8 arg9 harg9 arg10 k ())
      (fun _ => Wst c arg0 arg1 arg7 arg10 E t ht (k.val + 1)) := by
  have hk : k.val < 2048 := lt_of_lt_of_eq k.isLt trips2
  unfold k0_t2_body Wst
  rw [if_pos hk]
  by_cases h1 : k.val + 1 < 2048
  · rw [if_pos h1]
    exact word_row c arg0 t k.val hk (off4_eq k) (P := k0_chk2) (row_inb _ (ht k.val hk))
      (wai_row c arg1 arg7 arg0 arg10 E t ht k.val h1 (off5_eq k) hpos (ret_intro c))
  · rw [if_neg h1]
    have hl : k.val = 2047 := by omega
    have h5 := off5_eq k
    have hw : Wai c arg1 arg7 arg0 arg10 E t ht k.val = Wai c arg1 arg7 arg0 arg10 E t ht 2047 := by rw [hl]
    have h5' : k0_off5 k = ![2047, 0] := by rw [h5, hl]
    refine word_row c arg0 t k.val hk (off4_eq k) (P := k0_chk2) (row_inb _ (ht k.val hk)) ?_
    exact (Entails.of_eq hw).trans (wai_last c arg1 arg7 arg0 arg10 E t ht h5' hpos (ret_intro c))

theorem t2_loop (hpos : 0 < rowN arg7) :
    Wai c arg1 arg7 arg0 arg10 E t ht 0 ⊢ wpb c (Scf.Loop.for k0_t2_loop k0_t2_ok ⟨⟩ (k0_t2_body arg0 harg0 arg1 harg1 arg2 harg2 arg3 harg3 arg4 harg4 arg5 harg5 arg6 harg6 arg7 harg7 arg8 harg8 arg9 harg9 arg10))
      (fun _ => Col c arg1 arg7 arg0 arg10 E t ht) := by
  iintro H
  iapply (Scf.wp_for frame (wpE (defs₀ (F := F)) Variants.none (c : Thread nD τ) none) Set.univ
    k0_t2_loop.lb k0_t2_loop.ub k0_t2_loop.st k0_t2_ok ⟨⟩ (k0_t2_body arg0 harg0 arg1 harg1 arg2 harg2 arg3 harg3 arg4 harg4 arg5 harg5 arg6 harg6 arg7 harg7 arg8 harg8 arg9 harg9 arg10)
    (fun k _ => Wst c arg0 arg1 arg7 arg10 E t ht k)
    (fun k _ => t2_step c arg0 harg0 arg1 harg1 arg2 harg2 arg3 harg3 arg4 harg4 arg5 harg5 arg6 harg6 arg7 harg7 arg8 harg8 arg9 harg9 arg10 E t ht hpos k))
  have e0 : Wst c arg0 arg1 arg7 arg10 E t ht 0 = Wai c arg1 arg7 arg0 arg10 E t ht 0 := if_pos (by decide)
  have e1 : Wst c arg0 arg1 arg7 arg10 E t ht k0_t2_loop.trips = Col c arg1 arg7 arg0 arg10 E t ht := if_neg (by rw [trips2]; decide)
  isplitl [H]
  · iapply (Entails.of_eq e0.symm); iexact H
  iintro %_ H
  iapply (Entails.of_eq e1)
  iexact H

section Steps
variable (xp : Vec F S2048x1536 .f32) (whh : Vec F S1536x512 .f32) (bhh : Vec F S1x1536 .f32)

/-- The gated unit's state after `k` steps. -/
def Gst (k : ℕ) : sProp 𝕄 :=
  iprop(owns (c : Thread nD τ) arg9 fullShare (hsT xp whh bhh k) ∗ owns (c : Thread nD τ) arg8 fullShare xp
    ∗ owns (c : Thread nD τ) arg3 fullShare whh ∗ owns (c : Thread nD τ) arg5 fullShare bhh)

theorem t3_step (k : Fin k0_t3_loop.trips) :
    Gst c arg3 arg5 arg8 arg9 xp whh bhh k.val ⊢ wpb c (k0_t3_body arg0 harg0 arg1 harg1 arg2 harg2 arg3 harg3 arg4 harg4 arg5 harg5 arg6 harg6 arg7 harg7 arg8 harg8 arg9 harg9 arg10 k ())
      (fun _ => Gst c arg3 arg5 arg8 arg9 xp whh bhh (k.val + 1)) := by
  unfold k0_t3_body Gst
  iintro ⟨H9, H8, H3, H5⟩
  iapply (ld_full c (m := arg9)) $$ H9; iintro H9
  iapply (ld_win c (m := arg8)) $$ H8; iintro H8
  iapply (ld_full c (m := arg3)) $$ H3; iintro H3
  iapply (ld_full c (m := arg5)) $$ H5; iintro H5
  iapply (ld_full c (m := arg9)) $$ H9; iintro H9
  iapply (st_full c (m := arg9)) $$ H9; iintro H9
  iapply (ret_intro c)
  rw [show hsT xp whh bhh (k.val + 1) = k0_pay3 (hsT xp whh bhh k.val) (VecWindow.window xp (k0_off7 k) S16x1536.size (k0_off7_inb k)) whh bhh from by
    rw [hsT, dif_pos k.isLt]]
  isplitl [H9]; · iexact H9
  isplitl [H8]; · iexact H8
  isplitl [H3]; · iexact H3
  iexact H5

theorem t3_loop :
    Gst c arg3 arg5 arg8 arg9 xp whh bhh 0 ⊢ wpb c (Scf.Loop.for k0_t3_loop k0_t3_ok ⟨⟩ (k0_t3_body arg0 harg0 arg1 harg1 arg2 harg2 arg3 harg3 arg4 harg4 arg5 harg5 arg6 harg6 arg7 harg7 arg8 harg8 arg9 harg9 arg10))
      (fun _ => Gst c arg3 arg5 arg8 arg9 xp whh bhh k0_t3_loop.trips) := by
  iintro H
  iapply (Scf.wp_for frame (wpE (defs₀ (F := F)) Variants.none (c : Thread nD τ) none) Set.univ
    k0_t3_loop.lb k0_t3_loop.ub k0_t3_loop.st k0_t3_ok ⟨⟩ (k0_t3_body arg0 harg0 arg1 harg1 arg2 harg2 arg3 harg3 arg4 harg4 arg5 harg5 arg6 harg6 arg7 harg7 arg8 harg8 arg9 harg9 arg10)
    (fun k _ => Gst c arg3 arg5 arg8 arg9 xp whh bhh k)
    (fun k _ => t3_step c arg0 harg0 arg1 harg1 arg2 harg2 arg3 harg3 arg4 harg4 arg5 harg5 arg6 harg6 arg7 harg7 arg8 harg8 arg9 harg9 arg10 xp whh bhh k))
  isplitl [H]; · iexact H
  iintro %_ H
  iexact H
end Steps

/-- The scratch buffers at anything, the semaphore at zero, and the table. -/
def Any : sProp 𝕄 :=
  iprop((∃ x, owns (c : Thread nD τ) arg7 fullShare x) ∗ (∃ x, owns (c : Thread nD τ) arg8 fullShare x) ∗ (∃ x, owns (c : Thread nD τ) arg9 fullShare x)
    ∗ semVal ((c : Thread nD τ), (SemLoc.dma arg10.sem)) 0 ∗ ((arg1.view.loc (c : Thread nD τ)) ↦[arg1.view.set]{fullShare} E))

include ht in
/-- The body's run. -/
theorem body_run (hpos : 0 < rowN arg7) {wih : Vec F S1536x256 .f32} {whh : Vec F S1536x512 .f32} {bih bhh : Vec F S1x1536 .f32} {o : Vec F S16x512 .f32} :
    iprop(Any c arg1 arg7 arg8 arg9 arg10 E ∗ (∃ W, owes (c : Thread nD τ) 0 W) ∗ owns (c : Thread nD τ) arg0 fullShare t
      ∗ owns (c : Thread nD τ) arg2 fullShare wih ∗ owns (c : Thread nD τ) arg3 fullShare whh ∗ owns (c : Thread nD τ) arg4 fullShare bih
      ∗ owns (c : Thread nD τ) arg5 fullShare bhh ∗ owns (c : Thread nD τ) arg6 fullShare o)
    ⊢ wpb c (cc0_enc_gru (F := F) arg0 harg0 arg1 harg1 arg2 harg2 arg3 harg3 arg4 harg4 arg5 harg5 arg6 harg6 arg7 harg7 arg8 harg8 arg9 harg9 arg10)
      (fun _ => iprop(Any c arg1 arg7 arg8 arg9 arg10 E ∗ (∃ W, owes (c : Thread nD τ) 0 W) ∗ owns (c : Thread nD τ) arg0 fullShare t
      ∗ owns (c : Thread nD τ) arg2 fullShare wih ∗ owns (c : Thread nD τ) arg3 fullShare whh ∗ owns (c : Thread nD τ) arg4 fullShare bih
      ∗ owns (c : Thread nD τ) arg5 fullShare bhh ∗ owns (c : Thread nD τ) arg6 fullShare (resOf (arg1.view.read (Elt F) E) t wih whh bih bhh))) := by
  rw [cc0_enc_gru_eq_skeleton]; unfold cc0_enc_gru_skel
  unfold Any
  iintro ⟨⟨⟨%x7, H7⟩, ⟨%x8, H8⟩, ⟨%x9, H9⟩, Hs, H1⟩, HO, H0, H2, H3, H4, H5, H6⟩
  ihave HP := (prep c arg1 arg7 E t ht) $$ [H7 H1]
  · isplitl [H7]; · iexact H7
    iexact H1
  icases HP with ⟨HP, HR⟩
  imod (Transfers.batch_alloc' (Lvl := ℕ) EC (c : Thread nD τ) () (rowN arg7) (Deliv c arg1 arg7 E t ht) (sm := .dma arg10.sem) (E := Set.univ)) $$ Hs with HB
  iapply (seqw c (t1_loop c arg0 harg0 arg1 harg1 arg2 harg2 arg3 harg3 arg4 harg4 arg5 harg5 arg6 harg6 arg7 harg7 arg8 harg8 arg9 harg9 arg10 E t ht)) $$ [H0 HP HB]
  · unfold Iss
    isplitl [H0]; · iexact H0
    isplitl [HP]; · iexact HP
    iexact HB
  unfold Iss
  iintro %_ ⟨H0, -, HB⟩
  iapply (seqw c (t2_loop c arg0 harg0 arg1 harg1 arg2 harg2 arg3 harg3 arg4 harg4 arg5 harg5 arg6 harg6 arg7 harg7 arg8 harg8 arg9 harg9 arg10 E t ht hpos)) $$ [H0 HB HO]
  · unfold Wai
    rw [Nat.zero_mul]
    isplitl [H0]; · iexact H0
    isplitl [HB]; · iexact HB
    iexact HO
  iintro %_ HC
  ihave HU := (unprep c arg1 arg7 E t ht arg0 arg10) $$ [HC HR]
  · isplitl [HC]; · iexact HC
    iexact HR
  icases HU with ⟨⟨H0, Hs, HO, H1⟩, H7⟩
  iapply (ld_full c (m := arg7)) $$ H7; iintro H7
  iapply (ld_full c (m := arg2)) $$ H2; iintro H2
  iapply (ld_full c (m := arg4)) $$ H4; iintro H4
  iapply (ld_full c (m := arg8)) $$ H8; iintro H8
  iapply (st_full c (m := arg8)) $$ H8; iintro H8
  iapply (ld_full c (m := arg9)) $$ H9; iintro H9
  iapply (st_full c (m := arg9)) $$ H9; iintro H9
  iapply (seqw c (t3_loop c arg0 harg0 arg1 harg1 arg2 harg2 arg3 harg3 arg4 harg4 arg5 harg5 arg6 harg6 arg7 harg7 arg8 harg8 arg9 harg9 arg10 (k0_pay1 (gath (arg1.view.read (Elt F) E) t) wih bih) whh bhh)) $$ [H9 H8 H3 H5]
  · unfold Gst
    isplitl [H9]; · iexact H9
    isplitl [H8]; · iexact H8
    isplitl [H3]; · iexact H3
    iexact H5
  unfold Gst
  iintro %_ ⟨H9, H8, H3, H5⟩
  iapply (ld_full c (m := arg9)) $$ H9; iintro H9
  iapply (ld_full c (m := arg6)) $$ H6; iintro H6
  iapply (st_full c (m := arg6)) $$ H6; iintro H6
  iapply (ret_intro c)
  isplitl [H7 H8 H9 Hs H1]
  · isplitl [H7]; · iexists _; iexact H7
    isplitl [H8]; · iexists _; iexact H8
    isplitl [H9]; · iexists _; iexact H9
    isplitl [Hs]; · iexact Hs
    iexact H1
  isplitl [HO]; · iexact HO
  isplitl [H0]; · iexact H0
  isplitl [H2]; · iexact H2
  isplitl [H3]; · iexact H3
  isplitl [H4]; · iexact H4
  isplitl [H5]; · iexact H5
  iexact H6

end Cert.EncIdeal.Enc

end
-- ==== Proof.EncRun.lean ====
/-
  The encoder's run: the pipeline of one point around the body's run, what the result holds after it, and the frame.
-/
module

public import proofs.«01_k».proof.Proof.EncBody
public import proofs.«01_k».proof.Proof.Gen.EncIdeal.Frame

@[expose] public section

set_option maxRecDepth 16384

noncomputable section

namespace Cert.EncIdeal.Enc

open Cert.EncIdeal Cert.EncIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The operands and the scratch buffers -/

abbrev hbM : Memref sig .tc .hbm S32000x256 .f32 := Memref.whole main_arg1
abbrev sM0 : Memref sig .tc .vmem S2048x256 .f32 := Memref.whole cc0_scratch0
abbrev sM1 : Memref sig .tc .vmem S2048x1536 .f32 := Memref.whole cc0_scratch1
abbrev sM2 : Memref sig .tc .vmem S16x512 .f32 := Memref.whole cc0_scratch2

/-- Every token names a row of the table. -/
def ToksOk : Prop := ∀ (c : Dev nD) (t : Fin cfg0.N), TokOk (iblk m c 0 t)

/-- What the call leaves in its result at a point. -/
def resAt (c : Dev nD) (t : Fin cfg0.N) : Vec F S16x512 .f32 :=
  resOf (hbM.view.read (Elt F) (V m c main_arg1)) (iblk m c 0 t) (iblk m c 1 t) (iblk m c 2 t) (iblk m c 3 t) (iblk m c 4 t)

theorem hpos0 : 0 < rowN sM0 := by decide

/-! ## The invariant at entry and exit -/

abbrev osem0 : Fin 1 → SemLoc sig := fun j => (![.dma cc0_scratch3.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), (SemLoc.dma cc0_scratch3.sem)) 0) := by
  rw [Pipeline.ownSems0_eq_of_list c osem0 [0] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = ((c : Thread nD τ).loc main_arg1 ↦{fullShare} V m c main_arg1) := by
  rw [BI.bigSep_eq_bigSepL_of_eq [main_arg1] (by decide) (by decide)]; rfl

/-- The scratch buffers of core `c` at anything. -/
abbrev any0 (c : Dev nD) : sProp 𝕄 := Any c hbM sM0 sM1 sM2 cc0_scratch3 (V m c main_arg1)

theorem any0_eq (c : Dev nD) : any0 m c = (iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ semVal ((c : Thread nD τ), (SemLoc.dma cc0_scratch3.sem)) 0
    ∗ ((c : Thread nD τ).loc main_arg1 ↦{fullShare} V m c main_arg1)) : sProp 𝕄) := by
  unfold any0 Any
  simp only [sM0, sM1, sM2, owns_whole]
  rw [show hbM.view.set = Finset.univ from View.set_whole _]
  rfl

theorem PhiD0_eq (c : Dev nD) :
    (Pipeline.ΦD osem0 spec0 H0 (V m) c : sProp 𝕄) ⊣⊢ iprop(any0 m c ∗ ∃ r, prngReg c r) := by
  rw [Pipeline.ΦD_eq, scopedRest0_eq, ownSems00_eq, hbmPts0_eq, any0_eq]
  constructor
  · iintro ⟨⟨H0, H1, H2⟩, Hg, Hs, H9⟩
    isplitr [Hg]; swap; · iexact Hg
    isplitl [H0]; · iexact H0
    isplitl [H1]; · iexact H1
    isplitl [H2]; · iexact H2
    isplitl [Hs]; · iexact Hs
    iexact H9
  · iintro ⟨⟨H0, H1, H2, Hs, H9⟩, Hg⟩
    isplitl [H0 H1 H2]
    · isplitl [H0]; · iexact H0
      isplitl [H1]; · iexact H1
      iexact H2
    isplitl [Hg]; · iexact Hg
    isplitl [Hs]; · iexact Hs
    iexact H9

/-! ## The pipeline's data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resAt m c t
  Φ k := iprop(any0 m c ∗ ∃ r, prngReg c r)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = resAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

variable (hT : ToksOk m)

include hT in
/-- The point's run from the invariant, at any contents of the result's buffer. -/
theorem run_point (c : Dev nD) (t : Fin cfg0.N) {o : Vec F S16x512 .f32} :
    iprop(any0 m c ∗ (∃ W, owes (c : Thread nD τ) 0 W) ∗ owns (c : Thread nD τ) (st0_0 t) fullShare (iblk m c 0 t)
      ∗ owns (c : Thread nD τ) (st0_1 t) fullShare (iblk m c 1 t) ∗ owns (c : Thread nD τ) (st0_2 t) fullShare (iblk m c 2 t)
      ∗ owns (c : Thread nD τ) (st0_3 t) fullShare (iblk m c 3 t) ∗ owns (c : Thread nD τ) (st0_4 t) fullShare (iblk m c 4 t)
      ∗ owns (c : Thread nD τ) (st0_5 t) fullShare o)
    ⊢ wpb c (bodyAt0 (F := F) t) (fun _ => iprop(any0 m c ∗ (∃ W, owes (c : Thread nD τ) 0 W) ∗ owns (c : Thread nD τ) (st0_0 t) fullShare (iblk m c 0 t)
      ∗ owns (c : Thread nD τ) (st0_1 t) fullShare (iblk m c 1 t) ∗ owns (c : Thread nD τ) (st0_2 t) fullShare (iblk m c 2 t)
      ∗ owns (c : Thread nD τ) (st0_3 t) fullShare (iblk m c 3 t) ∗ owns (c : Thread nD τ) (st0_4 t) fullShare (iblk m c 4 t)
      ∗ owns (c : Thread nD τ) (st0_5 t) fullShare (resAt m c t))) :=
  body_run (F := F) c (st0_0 t) (hstage0_0 0) hbM (Memref.isWhole_whole _) (st0_1 t) (hstage0_1 0) (st0_2 t) (hstage0_2 0) (st0_3 t) (hstage0_3 0) (st0_4 t) (hstage0_4 0) (st0_5 t) (hstage0_5 0) sM0 (Memref.isWhole_whole _) sM1 (Memref.isWhole_whole _) sM2 (Memref.isWhole_whole _) cc0_scratch3 (V m c main_arg1) (iblk m c 0 t) (hT c t) hpos0 (o := o)

include hT in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = iprop(any0 m c ∗ ∃ r, prngReg c r) from rfl,
    show (dats m 0 c).Φ t.castSucc = iprop(any0 m c ∗ ∃ r, prngReg c r) from rfl]
  simp only [before0_0, before0_1, before0_2, before0_3, before0_4,
    after0_0, after0_1, after0_2, after0_3, after0_4, after0_5]
  unfold Dat.owesAt Pipeline.owesWithin
  rw [show (dats m 0 c).owed t.castSucc = 0 from rfl, show (dats m 0 c).owed t.succ = 0 from rfl]
  iintro ⟨⟨HP, Hg⟩, ⟨%W, -, HW⟩, ⟨%d0, H0⟩, ⟨%d1, H1⟩, ⟨%d2, H2⟩, ⟨%d3, H3⟩, ⟨%d4, H4⟩, ⟨%d5, H5⟩⟩
  iapply (wp_wand_r frame (wpE (defs₀ (F := F)) Variants.none (c : Thread nD τ) none) Set.univ)
  isplitr [Hg]
  · iapply (run_point m hT c t)
    isplitl [HP]; · iexact HP
    isplitl [HW]; · iexists W; iexact HW
    isplitl [H0]; · iexact H0
    isplitl [H1]; · iexact H1
    isplitl [H2]; · iexact H2
    isplitl [H3]; · iexact H3
    isplitl [H4]; · iexact H4
    iexact H5
  iintro %_ ⟨HP, ⟨%W', HW⟩, H0, H1, H2, H3, H4, H5⟩
  isplitl [HP Hg]
  · isplitl [HP]; · iexact HP
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

include hT in
theorem body_obligation (c : Dev nD) : BodyObligation (dats (F := F) m 0 c) (defs₀ (F := F)) Variants.none () Set.univ := fun t => by
  rw [bigSep_W0, bigSep_W0, defs₀_row]
  exact triple_restated (sound_body m hT c t) rfl .rfl fun _ => .rfl

/-! ## The run and the frame -/

theorem hmainD : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

include hT in
set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hT c).loose) (hshare := fun c => (dats m 0 c).share_full fun _ => rfl)
    (howed := fun _ _ => rfl) (V := V m) (hmain := hmainD m) (hA := A_eq m)
    (hin := fun c => (PhiD0_eq m c).1) (hout := fun c => (PhiD0_eq m c).2)

/-! ## The result array -/

theorem ix_5 : ∀ t : Fin cfg0.N, win0_5.index t 0 = 0 ∧ win0_5.index t 1 = 0 := (by decide +kernel : ∀ t : Fin grid0.N, _)

theorem mem5 (t : Fin cfg0.N) (i : S16x512.Idx) : i ∈ ((cfg0.win 5).blk t).view.set := by
  show i ∈ ((View.whole main_v0).slice (win0_5.rect t)).set
  rw [View.set_slice_whole, Rect.mem_set_unit]
  obtain ⟨e0, e1⟩ := ix_5 t
  have h0 : (i 0 : Nat) < 16 := (i 0).isLt
  have h1 : (i 1 : Nat) < 512 := (i 1).isLt
  intro a
  match a with
  | ⟨0, _⟩ => show win0_5.index t 0 * 16 ≤ (i 0 : Nat) ∧ (i 0 : Nat) < win0_5.index t 0 * 16 + 16; omega
  | ⟨1, _⟩ => show win0_5.index t 1 * 512 ≤ (i 1 : Nat) ∧ (i 1 : Nat) < win0_5.index t 1 * 512 + 512; omega

/-- The one grid point. -/
abbrev p0 : Fin cfg0.N := ⟨0, by show 0 < grid0.N; decide⟩
theorem p0_eq : ∀ t : Fin cfg0.N, t = p0 := (by decide +kernel : ∀ t : Fin grid0.N, _)

theorem fl5 (c : Dev nD) (t : Fin cfg0.N) : (dats m 0 c).flushed 5 t = ((cfg0.win 5).blk t).view.read (Elt F) (resAt m c p0) := by
  show (cfg0.win 5).cut (grid0.coords t) ((dats m 0 c).after 5 t) = _
  rw [after0_5, p0_eq t]
  generalize resAt m c p0 = R
  funext j
  idx_vars j
  obtain ⟨e0, e1⟩ := ix_5 p0
  show R (ix2 j0 j1) = R ((win0_5.blk p0).view.emb (ix2 j0 j1))
  refine congrArg R (funext fun a => Fin.ext ?_)
  match a with
  | ⟨0, _⟩ => show j0.val = win0_5.index p0 0 * 16 + 1 * j0.val; omega
  | ⟨1, _⟩ => show j1.val = win0_5.index p0 1 * 512 + 1 * j1.val; omega

theorem arr5 (c : Dev nD) : (dats m 0 c).arrAt 5 cfg0.N = resAt m c p0 :=
  (dats m 0 c).arrAt_eq_of_cover 5 _ (fun t _ => fl5 m c t) fun i => ⟨p0, flush0_5 _, mem5 _ i⟩

include hT in
/-- The run with the result named: the operands are as they were and the semaphores are zero. -/
theorem run : θ_run defs (onTc (τ := τ) (main (F := F))) ⟨m, fun _ => 0, ρ⟩ (fun r => (∀ c : Dev nD,
      r.2.mem ((c.tc : Thread nD τ).loc main_v0) = resAt m c p0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ ⟨h, hz⟩ => ⟨fun c => ⟨((h c).1 5).trans (arr5 m c),
      ((h c).1 0).trans (((dats m 0 c).arrAt_in 0 rfl _).trans ((A_eq m c 0).trans rfl)),
      ((h c).2 main_arg1 (Pipeline.mem_restRefs_of main_arg1 (by decide) (by decide))).trans rfl,
      ((h c).1 1).trans (((dats m 0 c).arrAt_in 1 rfl _).trans ((A_eq m c 1).trans rfl)),
      ((h c).1 2).trans (((dats m 0 c).arrAt_in 2 rfl _).trans ((A_eq m c 2).trans rfl)),
      ((h c).1 3).trans (((dats m 0 c).arrAt_in 3 rfl _).trans ((A_eq m c 3).trans rfl)),
      ((h c).1 4).trans (((dats m 0 c).arrAt_in 4 rfl _).trans ((A_eq m c 4).trans rfl))⟩, hz⟩) (run_main m ρ hT)

end Cert.EncIdeal.Enc

end
-- ==== Proof.EncSpec.lean ====
/-
  The gated unit run over a sequence in plain mathematics, on the extended reals.
-/
module

public import Idealize.ShloMosaic.Lib.Pointwise

@[expose] public section

noncomputable section

namespace Cert.EncSpec

open Idealize.ShloMosaic

/-- The encoder's operands: the tokens step by step (sixteen to a step), the embedding table, the weights and the biases. -/
structure Args where
  tok : Fin 2048 → BitVec 32
  emb : Fin 32000 → Fin 256 → EReal
  wih : Fin 1536 → Fin 256 → EReal
  whh : Fin 1536 → Fin 512 → EReal
  bih : Fin 1536 → EReal
  bhh : Fin 1536 → EReal

/-- Every token names a row of the table. -/
def Args.Ok (A : Args) : Prop := ∀ n, (A.tok n).toNat < 32000

variable (A : Args)

/-- The token of batch entry `b` at step `k`. -/
def row (k : ℕ) (b : Fin 16) : Fin 2048 := ⟨(16 * k + b.val) % 2048, Nat.mod_lt _ (by decide)⟩
/-- The row of the table that token `n` names. -/
def emb (n : Fin 2048) (k : Fin 256) : EReal := A.emb ⟨min (A.tok n).toNat 31999, by omega⟩ k
def gi (n : Fin 2048) (j : Fin 1536) : EReal := (∑ k : Fin 256, emb A n k * A.wih j k) + A.bih j
def gh (h : Fin 512 → EReal) (j : Fin 1536) : EReal := (∑ k : Fin 512, h k * A.whh j k) + A.bhh j
/-- The gated unit, from its two inner products and the old hidden row. -/
def gru (u v : Fin 1536 → EReal) (h : Fin 512 → EReal) (j : Fin 512) : EReal :=
  (1 - Ideal.logistic (u ⟨512 + j.val, by omega⟩ + v ⟨512 + j.val, by omega⟩))
      * Ideal.tanh (u ⟨1024 + j.val, by omega⟩ + Ideal.logistic (u ⟨j.val, by omega⟩ + v ⟨j.val, by omega⟩) * v ⟨1024 + j.val, by omega⟩)
    + Ideal.logistic (u ⟨512 + j.val, by omega⟩ + v ⟨512 + j.val, by omega⟩) * h j
/-- The hidden rows after `k` steps. -/
def hid : ℕ → Fin 16 → Fin 512 → EReal
  | 0 => fun _ _ => 0
  | k + 1 => fun b => gru (gi A (row k b)) (gh A (hid k b)) (hid k b)

end Cert.EncSpec

end
-- ==== Proof.EncVal.lean ====
/-
  What the encoder stores, in plain mathematics: its hidden rows step by step are the gated unit's.
-/
module

public import proofs.«01_k».proof.Proof.EncRun
public import proofs.«01_k».proof.Proof.EncSpec
public import Idealize.ShloMosaic.Lib.Pointwise

@[expose] public section

set_option maxRecDepth 16384

noncomputable section

namespace Cert.EncIdeal.Enc

open Cert.EncIdeal Cert.EncIdeal.Gen
open Idealize.ShloMosaic Idealize.ShloMosaic.TcCoe
open Idealize.SL.Sem
open Idealize.ShloMosaic.Pipeline (Dat Cfg Window)
open Cert.EncSpec

/-- An index of two coordinates. -/
abbrev at2 {n m : ℕ} (a : Fin n) (b : Fin m) : (⟨2, ![n, m]⟩ : Shape).Idx := ix2 (n0 := n) (n1 := m) a b

theorem pay1_at (g : Vec Ideal S2048x256 .f32) (w : Vec Ideal S1536x256 .f32) (bi : Vec Ideal S1x1536 .f32) (r : Fin 2048) (j : Fin 1536) :
    k0_pay1 g w bi (ix2 (n0 := 2048) (n1 := 1536) r j) = (∑ k : Fin 256, g (at2 r k) * w (at2 j k)) + bi (at2 0 j) := by
  pointwise [k0_pay1]
theorem pay2_at (b : Fin 16) (j : Fin 512) : (k0_pay2 : FVec Ideal S16x512 .f32) (ix2 (n0 := 16) (n1 := 512) b j) = 0 := by
  pointwise [k0_pay2]
theorem pay3_at (h : Vec Ideal S16x512 .f32) (g : Vec Ideal S16x1536 .f32) (whh : Vec Ideal S1536x512 .f32) (bhh : Vec Ideal S1x1536 .f32) (r : Fin 16) (j : Fin 512) :
    k0_pay3 h g whh bhh (ix2 (n0 := 16) (n1 := 512) r j)
      = (1 - Ideal.logistic (g (at2 r ⟨512 + j.val, by omega⟩) + ((∑ k : Fin 512, h (at2 r k) * whh (at2 ⟨512 + j.val, by omega⟩ k)) + bhh (at2 0 ⟨512 + j.val, by omega⟩))))
          * Ideal.tanh (g (at2 r ⟨1024 + j.val, by omega⟩)
            + Ideal.logistic (g (at2 r ⟨j.val, by omega⟩) + ((∑ k : Fin 512, h (at2 r k) * whh (at2 ⟨j.val, by omega⟩ k)) + bhh (at2 0 ⟨j.val, by omega⟩)))
              * ((∑ k : Fin 512, h (at2 r k) * whh (at2 ⟨1024 + j.val, by omega⟩ k)) + bhh (at2 0 ⟨1024 + j.val, by omega⟩)))
        + Ideal.logistic (g (at2 r ⟨512 + j.val, by omega⟩) + ((∑ k : Fin 512, h (at2 r k) * whh (at2 ⟨512 + j.val, by omega⟩ k)) + bhh (at2 0 ⟨512 + j.val, by omega⟩)))
          * h (at2 r j) := by
  pointwise [k0_pay3]
theorem win_at (x : FVec Ideal S2048x1536 .f32) (u : Fin k0_t3_loop.trips) (b : Fin 16) (j : Fin 1536) :
    VecWindow.window x (k0_off7 u) S16x1536.size (k0_off7_inb u) (ix2 (n0 := 16) (n1 := 1536) b j)
      = x (ix2 (n0 := 2048) (n1 := 1536) (row u.val b) j) := by
  have hu : u.val < 128 := lt_of_lt_of_eq u.isLt trips3
  refine congrArg x (funext fun a => Fin.ext ?_)
  have e := off7_eq u
  match a with
  | ⟨0, _⟩ =>
    show k0_off7 u 0 + 1 * b.val = (16 * u.val + b.val) % 2048
    rw [e]
    show 16 * u.val + 1 * b.val = _
    omega
  | ⟨1, _⟩ =>
    show k0_off7 u 1 + 1 * j.val = j.val
    rw [e]
    show 0 + 1 * j.val = _
    omega

/-- The arrays hold the encoder's operands. -/
structure Holds (A : Args) (emb : Vec Ideal S32000x256 .f32) (t : Vec Ideal S2048 .i32) (wih : Vec Ideal S1536x256 .f32)
    (whh : Vec Ideal S1536x512 .f32) (bih bhh : Vec Ideal S1x1536 .f32) : Prop where
  emb : ∀ v k, emb (ix2 (n0 := 32000) (n1 := 256) v k) = A.emb v k
  tok : ∀ n, t (ix1 (n0 := 2048) n) = A.tok n
  wih : ∀ j k, wih (ix2 (n0 := 1536) (n1 := 256) j k) = A.wih j k
  whh : ∀ j k, whh (ix2 (n0 := 1536) (n1 := 512) j k) = A.whh j k
  bih : ∀ j, bih (ix2 (n0 := 1) (n1 := 1536) 0 j) = A.bih j
  bhh : ∀ j, bhh (ix2 (n0 := 1) (n1 := 1536) 0 j) = A.bhh j

theorem tokAt_eq (t : S2048.Idx → BitVec 32) (r : Fin 2048) : tokAt t r.val r.isLt = t (ix1 (n0 := 2048) r) := by
  unfold tokAt
  refine congrArg t (funext fun a => Fin.ext ?_)
  match a with
  | ⟨0, _⟩ =>
    show r.val + 1 * 0 = r.val
    omega

variable {A : Args} {emb : Vec Ideal S32000x256 .f32} {t : Vec Ideal S2048 .i32} {wih : Vec Ideal S1536x256 .f32}
  {whh : Vec Ideal S1536x512 .f32} {bih bhh : Vec Ideal S1x1536 .f32} (hX : Holds A emb t wih whh bih bhh)
include hX

theorem gath_at (n : Fin 2048) (k : Fin 256) : gath emb t (ix2 (n0 := 2048) (n1 := 256) n k) = EncSpec.emb A n k := by
  have e : tokAt t n.val n.isLt = A.tok n := (tokAt_eq t n).trans (hX.tok n)
  refine (show _ = emb (ix2 (n0 := 32000) (n1 := 256) ⟨min (tokAt t n.val n.isLt).toNat 31999, by omega⟩ k) from rfl).trans ?_
  rw [hX.emb]
  exact congrArg (fun q => A.emb q k) (Fin.ext (congrArg (fun w : BitVec 32 => min w.toNat 31999) e))

theorem gi_at (n : Fin 2048) (j : Fin 1536) : k0_pay1 (gath emb t) wih bih (ix2 (n0 := 2048) (n1 := 1536) n j) = gi A n j := by
  rw [pay1_at]
  unfold gi
  exact congrArg₂ (· + ·) (Finset.sum_congr rfl fun k _ => congrArg₂ (· * ·) (gath_at hX n k) (hX.wih j k)) (hX.bih j)

theorem hsT_at : ∀ k, k ≤ 128 → ∀ (b : Fin 16) (j : Fin 512),
    hsT (k0_pay1 (gath emb t) wih bih) whh bhh k (ix2 (n0 := 16) (n1 := 512) b j) = hid A k b j
  | 0, _, b, j => pay2_at b j
  | k + 1, h, b, j => by
    have hk : k < k0_t3_loop.trips := by rw [trips3]; omega
    have ih := hsT_at k (by omega) b
    have e : ∀ j : Fin 1536, VecWindow.window (k0_pay1 (gath emb t) wih bih) (k0_off7 ⟨k, hk⟩) S16x1536.size (k0_off7_inb ⟨k, hk⟩) (ix2 (n0 := 16) (n1 := 1536) b j)
        = gi A (row k b) j := fun j => (win_at _ ⟨k, hk⟩ b j).trans (gi_at hX _ j)
    unfold hsT
    rw [dif_pos hk]
    generalize VecWindow.window (k0_pay1 (gath emb t) wih bih) (k0_off7 ⟨k, hk⟩) S16x1536.size (k0_off7_inb ⟨k, hk⟩) = g at e
    generalize hsT (k0_pay1 (gath emb t) wih bih) whh bhh k = y at ih
    refine (pay3_at y g whh bhh b j).trans ?_
    have eh : ∀ j : Fin 1536, (∑ k : Fin 512, y (at2 b k) * whh (at2 j k)) + bhh (at2 0 j) = gh A (hid A k b) j := fun j => by
      unfold gh
      exact congrArg₂ (· + ·) (Finset.sum_congr rfl fun x _ => congrArg₂ (· * ·) (ih x) (hX.whh j x)) (hX.bhh j)
    simp only [eh, e]
    rw [show y (at2 b j) = hid A k b j from ih j]
    rfl

theorem resOf_at (b : Fin 16) (j : Fin 512) : resOf emb t wih whh bih bhh (ix2 (n0 := 16) (n1 := 512) b j) = hid A 128 b j := by
  have h := hsT_at hX 128 le_rfl b j
  unfold resOf
  rw [trips3]
  exact h

end Cert.EncIdeal.Enc

end
-- ==== Proof.EncRef.lean ====
/-
  The reference encoder's step in plain mathematics: from the buffers that its loop carries, the new hidden rows are the gated
  unit's, and the first buffers hold the operands.
-/
module

public import proofs.«01_k».proof.Proof.EncSpec
public import proofs.«01_k».proof.Proof.Gen.RefEncIdeal.Run
public import Idealize.ShloMosaic.Lib.Pointwise
public import Idealize.ShloMosaic.Lib.DynamicIndex
public import Idealize.ShloMosaic.Lib.StableHlo.RunLoop
public import Idealize.ShloMosaic.Lib.StableHlo.RunRead

@[expose] public section

set_option maxRecDepth 16384

noncomputable section

namespace Cert.RefEncIdeal.Enc

open Cert.RefEncIdeal Cert.RefEncIdeal.Value Cert.RefEncIdeal.Gen
open Idealize.ShloMosaic Idealize.ShloMosaic.TcCoe Idealize.ShloMosaic.Tactic
open Idealize.ShloMosaic.StableHlo
open Idealize.SL Idealize.SL.Sem
open Cert.EncSpec

variable (V : Valuation τ sig (Elt Ideal))

/-- The carried buffers. -/
abbrev bSrc : IVec S128x16 32 := V (Proc.devRef .tc main_v2_0)
abbrev bEmb : FVec Ideal S32000x256 .f32 := V (Proc.devRef .tc main_v2_1)
abbrev bBih : FVec Ideal S1x1536 .f32 := V (Proc.devRef .tc main_v2_2)
abbrev bBhh : FVec Ideal S1x1536 .f32 := V (Proc.devRef .tc main_v2_3)
abbrev bWih : FVec Ideal S1536x256 .f32 := V (Proc.devRef .tc main_v2_4)
abbrev bWhh : FVec Ideal S1536x512 .f32 := V (Proc.devRef .tc main_v2_5)
abbrev bT : IVec S_ 32 := V (Proc.devRef .tc main_v2_6)
abbrev bHid : FVec Ideal S16x512 .f32 := V (Proc.devRef .tc main_v2_7)

/-- The loop body's intermediate arrays. -/
abbrev rv3 : IVec S16 32 := res_main_while0b_v3 V
abbrev rv17 : FVec Ideal S16x1536 .f32 := res_main_while0b_v17 V
abbrev rv22 : FVec Ideal S16x1536 .f32 := res_main_while0b_v22 V

/-- The operand buffers hold the encoder's operands. -/
structure Reads (A : Args) : Prop where
  src : ∀ (k : Fin 128) (b : Fin 16), bSrc V (ix2 (n0 := 128) (n1 := 16) k b) = A.tok (row k.val b)
  emb : ∀ (v : Fin 32000) (k : Fin 256), bEmb V (ix2 (n0 := 32000) (n1 := 256) v k) = A.emb v k
  bih : ∀ j : Fin 1536, bBih V (ix2 (n0 := 1) (n1 := 1536) 0 j) = A.bih j
  bhh : ∀ j : Fin 1536, bBhh V (ix2 (n0 := 1) (n1 := 1536) 0 j) = A.bhh j
  wih : ∀ (j : Fin 1536) (k : Fin 256), bWih V (ix2 (n0 := 1536) (n1 := 256) j k) = A.wih j k
  whh : ∀ (j : Fin 1536) (k : Fin 512), bWhh V (ix2 (n0 := 1536) (n1 := 512) j k) = A.whh j k

/-! ## The embedding row of a token -/

/-- Rows taken by an index word, read signed and kept within the table. -/
theorem rows_at (x : FVec Ideal S32000x256 .f32) (idx : IVec S16x1 32) (b : Fin 16) (j : Fin 256) :
    Host.gather gather_S32000x256_S16x1_S16x256_1_0_n_n_0_1_1256 x idx (ix2 (n0 := 16) (n1 := 256) b j)
      = x (ix2 (n0 := 32000) (n1 := 256) ⟨min (idx (ix2 (n0 := 16) (n1 := 1) b 0)).toInt.toNat 31999, by omega⟩ j) := by
  unfold Host.gather
  congr 1
  funext a
  refine Fin.ext ?_
  show GatherDims.start _ _ idx a + GatherDims.batchCoord _ _ a + GatherDims.offCoord _ _ a = _
  rw [GatherDims.batchCoord_eq_zero _ _ _ (by exact List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32000x256_S16x1_S16x256_1_0_n_n_0_1_1256.startIndexMap from List.mem_singleton.mpr rfl)]
    have hsi : gather_S32000x256_S16x1_S16x256_1_0_n_n_0_1_1256.siIdx (ix2 (n0 := 16) (n1 := 256) b j)
        ⟨List.idxOf (0 : Fin 2) gather_S32000x256_S16x1_S16x256_1_0_n_n_0_1_1256.startIndexMap, List.idxOf_lt_length_iff.2 (List.mem_singleton.mpr rfl)⟩
          = ix2 (n0 := 16) (n1 := 1) b 0 := by
      funext c
      refine Fin.ext ?_
      match c with
      | ⟨0, _⟩ => rfl
      | ⟨1, _⟩ => rfl
    exact congrArg (fun q => min (idx q).toInt.toNat 31999) hsi
  · unfold GatherDims.start
    rw [dif_neg (show (1 : Fin 2) ∉ gather_S32000x256_S16x1_S16x256_1_0_n_n_0_1_1256.startIndexMap from by decide)]
    simp only [Nat.zero_add]
    rfl

theorem slice_at (x : IVec S128x16 32) (k : ℕ) (hk : k < 128) (st : Fin 2 → ℤ) (h0 : st 0 = k) (h1 : st 1 = 0) (b : Fin 16) :
    shapeCast S16 (Host.dynamicSlice S1x16 x st sliceFits_S128x16_S1x16) shapeCasts_S1x16_S16 (ix1 (n0 := 16) b)
      = x (ix2 (n0 := 128) (n1 := 16) ⟨k, hk⟩ b) := by
  have hs : S128x16.Slices ![k, 0] S1x16 := ⟨rfl, fun a => by
    match a with
    | ⟨0, _⟩ => show k + 1 ≤ 128; omega
    | ⟨1, _⟩ => show 0 + 16 ≤ 16; omega⟩
  rw [Host.dynamicSlice_eq_extractStridedSlice S1x16 x st ![k, 0] sliceFits_S128x16_S1x16 hs (fun a => by
    match a with
    | ⟨0, _⟩ => exact h0
    | ⟨1, _⟩ => exact h1)]
  pointwise []

variable {V} {A : Args}

/-- The tokens of step `k`. -/
theorem v3_at (hV : Reads V A) (k : ℕ) (hk : k < 128) (hT : bT V ix0 = BitVec.ofNat 32 k) (b : Fin 16) :
    rv3 V (ix1 (n0 := 16) b) = A.tok (row k b) := by
  unfold rv3 res_main_while0b_v3
  refine (slice_at _ k hk _ ?_ ?_ b).trans (hV.src ⟨k, hk⟩ b)
  · have e : bT V (Shape.Idx.first h_S_) = BitVec.ofNat 32 k := (congrArg (bT V) (funext fun a => absurd a.isLt (by show ¬ a.val < 0; omega))).trans hT
    exact (congrArg BitVec.toInt e).trans (toInt_ofNat_of_lt (by omega))
  · rfl

theorem wrap_eq (w : BitVec 32) (hw : w.toNat < 32000) : Scalar.select (IntOp.cmpi .slt w 0#32) (IntOp.addi w 32000#32) w = w := by
  unfold Scalar.select IntOp.cmpi
  have : w.toInt = w.toNat := by rw [BitVec.toInt_eq_toNat_cond]; split_ifs <;> omega
  rw [if_neg]
  simp [BitVec.slt, this]
  rw [decide_eq_false (by omega)]; decide

theorem idx_at (e : IVec S16 32) (b : Fin 16) :
    (broadcastInDim S16x1 ![0] bcast_S16_S16x1_0 (select (cmpi .slt e (broadcastInDim S16 ![] bcast_S_S16 (constantI S_ 32 0#32))) (addi e (broadcastInDim S16 ![] bcast_S_S16 (constantI S_ 32 32000#32))) e) : IVec S16x1 32)
      (ix2 (n0 := 16) (n1 := 1) b 0) = Scalar.select (IntOp.cmpi .slt (e (ix1 (n0 := 16) b)) 0#32) (IntOp.addi (e (ix1 (n0 := 16) b)) 32000#32) (e (ix1 (n0 := 16) b)) := by
  pointwise []

theorem emb_at (x : FVec Ideal S32000x256 .f32) (hx : ∀ v k, x (ix2 (n0 := 32000) (n1 := 256) v k) = A.emb v k) (e : IVec S16 32) (b : Fin 16) (n : Fin 2048)
    (he : e (ix1 (n0 := 16) b) = A.tok n) (ht : (A.tok n).toNat < 32000) (j : Fin 256) :
    Host.gather gather_S32000x256_S16x1_S16x256_1_0_n_n_0_1_1256 x (broadcastInDim S16x1 ![0] bcast_S16_S16x1_0 (select (cmpi .slt e (broadcastInDim S16 ![] bcast_S_S16 (constantI S_ 32 0#32))) (addi e (broadcastInDim S16 ![] bcast_S_S16 (constantI S_ 32 32000#32))) e)) (ix2 (n0 := 16) (n1 := 256) b j)
      = EncSpec.emb A n j := by
  refine (rows_at _ _ b j).trans ?_
  have e' := (idx_at e b).trans ((congrArg (fun w => Scalar.select (IntOp.cmpi .slt w 0#32) (IntOp.addi w 32000#32) w) he).trans (wrap_eq _ ht))
  refine Eq.trans (congrArg x ?_) (hx _ _)
  refine congrArg (fun q : Fin 32000 => ix2 (n0 := 32000) (n1 := 256) q j) (Fin.ext ?_)
  refine (congrArg (fun q : BitVec 32 => min q.toInt.toNat 31999) e').trans ?_
  show min (A.tok n).toInt.toNat 31999 = min (A.tok n).toNat 31999
  have : (A.tok n).toInt = (A.tok n).toNat := by
    rw [BitVec.toInt_eq_toNat_cond]; split_ifs <;> omega
  rw [this, Int.toNat_natCast]

/-! ## The gated unit -/

theorem mul_in_at (x : FVec Ideal S16x256 .f32) (w : FVec Ideal S1536x256 .f32) (bi : FVec Ideal S1x1536 .f32) (b : Fin 16) (j : Fin 1536) :
    (addf (Host.dotGeneral dot_S16x256_S256x1536_S16x1536_1_0_0_1_n_n none x (transpose S256x1536 [1, 0] w transposes_S1536x256_S256x1536_1_0)) (broadcastInDim S16x1536 ![0, 1] bcast_S1x1536_S16x1536_0_1 (broadcastInDim S1x1536 ![1] bcast_S1536_S1x1536_1 (shapeCast S1536 bi shapeCasts_S1x1536_S1536))) : FVec Ideal S16x1536 .f32)
      (ix2 (n0 := 16) (n1 := 1536) b j)
    = (∑ k : Fin 256, x (ix2 (n0 := 16) (n1 := 256) b k) * w (ix2 (n0 := 1536) (n1 := 256) j k)) + bi (ix2 (n0 := 1) (n1 := 1536) 0 j) := by
  pointwise []
theorem v22_at (b : Fin 16) (j : Fin 1536) : rv22 V (ix2 (n0 := 16) (n1 := 1536) b j)
    = (∑ x : Fin 512, bHid V (ix2 (n0 := 16) (n1 := 512) b x) * bWhh V (ix2 (n0 := 1536) (n1 := 512) j x)) + bBhh V (ix2 (n0 := 1) (n1 := 1536) 0 j) := by
  unfold rv22 res_main_while0b_v22
  pointwise []

variable (V) in
theorem step_at (b : Fin 16) (j : Fin 512) (u v : Fin 1536 → EReal) (h : Fin 512 → EReal)
    (hu : ∀ j, rv17 V (ix2 (n0 := 16) (n1 := 1536) b j) = u j)
    (hv : ∀ j, rv22 V (ix2 (n0 := 16) (n1 := 1536) b j) = v j) (hh : ∀ j, bHid V (ix2 (n0 := 16) (n1 := 512) b j) = h j) :
    (step_main_v2_7 V : FVec Ideal S16x512 .f32) (ix2 (n0 := 16) (n1 := 512) b j) = gru u v h j := by
  unfold rv17 at hu
  unfold rv22 at hv
  unfold step_main_v2_7 res_main_while0b_v42 gru
  generalize res_main_while0b_v17 V = e at hu
  generalize res_main_while0b_v22 V = e' at hv
  simp only [id_eq, ← hu, ← hv, ← hh, show ∀ x, Ideal.logistic x = Ideal.div 1 (1 + Ideal.exp (-x)) from fun _ => rfl]
  pointwise []

/-- One step: the new hidden row of batch entry `b`. -/
theorem step_hid (hV : Reads V A) (hA : A.Ok) (k : ℕ) (hk : k < 128) (hT : bT V ix0 = BitVec.ofNat 32 k)
    (hH : ∀ b j, bHid V (ix2 (n0 := 16) (n1 := 512) b j) = hid A k b j) (b : Fin 16) (j : Fin 512) :
    bHid (STEP V) (ix2 (n0 := 16) (n1 := 512) b j) = hid A (k + 1) b j := by
  refine (congrFun (STEP_main_v2_7 V) _).trans (step_at V b j (gi A (row k b)) (gh A (hid A k b)) (hid A k b) (fun j => ?_) (fun j => ?_) (hH b))
  · have h3 := v3_at hV k hk hT b
    unfold rv3 at h3
    unfold rv17 res_main_while0b_v17
    generalize res_main_while0b_v3 V = e at h3
    refine (mul_in_at _ _ _ b j).trans ?_
    unfold gi
    exact congrArg₂ (· + ·) (Finset.sum_congr rfl fun x _ => congrArg₂ (· * ·) (emb_at _ hV.emb e b (row k b) h3 (hA _) x) (hV.wih j x)) (hV.bih j)
  · rw [v22_at]
    unfold gh
    exact congrArg₂ (· + ·) (Finset.sum_congr rfl fun x _ => congrArg₂ (· * ·) (hH b x) (hV.whh j x)) (hV.bhh j)

/-- The operands stay as they are. -/
theorem reads_step (hV : Reads V A) : Reads (STEP V) A where
  src := fun k b => (congrFun (STEP_main_v2_0 V) _).trans (hV.src k b)
  emb := fun v k => (congrFun (STEP_main_v2_1 V) _).trans (hV.emb v k)
  bih := fun j => (congrFun (STEP_main_v2_2 V) _).trans (hV.bih j)
  bhh := fun j => (congrFun (STEP_main_v2_3 V) _).trans (hV.bhh j)
  wih := fun j k => (congrFun (STEP_main_v2_4 V) _).trans (hV.wih j k)
  whh := fun j k => (congrFun (STEP_main_v2_5 V) _).trans (hV.whh j k)
theorem t_step (V : Valuation τ sig (Elt Ideal)) (t : ℕ) (h : bT V ix0 = BitVec.ofNat 32 t) : bT (STEP V) ix0 = BitVec.ofNat 32 (t + 1) := by
  have e : bT (STEP V) ix0 = IntOp.addi (bT V ix0) 1#32 := congrFun (STEP_main_v2_6 V) _
  rw [e, h]
  exact (BitVec.ofNat_add t 1).symm

/-- After `k` steps. -/
theorem steps (hV : Reads V A) (hA : A.Ok) (hT : bT V ix0 = 0#32) (hH : ∀ b j, bHid V (ix2 (n0 := 16) (n1 := 512) b j) = 0) :
    ∀ k, k ≤ 128 → Reads (STEP^[k] V) A ∧ bT (STEP^[k] V) ix0 = BitVec.ofNat 32 k
      ∧ ∀ b j, bHid (STEP^[k] V) (ix2 (n0 := 16) (n1 := 512) b j) = hid A k b j
  | 0, _ => ⟨hV, hT, hH⟩
  | k + 1, h => by
    obtain ⟨h1, h2, h3⟩ := steps hV hA hT hH k (by omega)
    rw [Function.iterate_succ_apply']
    exact ⟨reads_step h1, t_step _ _ h2, step_hid h1 hA k (by omega) h2 h3⟩

/-! ## The first buffers -/

variable (m : (ℓ : Loc nD τ sig) → Buf (Elt Ideal) ℓ) (c : Dev nD)

/-- The encoder's operands from the six argument arrays. -/
def argsOf (x0 : IVec S2048 32) (x1 : FVec Ideal S32000x256 .f32) (x2 : FVec Ideal S1536x256 .f32) (x3 : FVec Ideal S1536x512 .f32)
    (x4 x5 : FVec Ideal S1x1536 .f32) : Args where
  tok n := x0 (ix1 (n0 := 2048) n)
  emb v k := x1 (ix2 (n0 := 32000) (n1 := 256) v k)
  wih j k := x2 (ix2 (n0 := 1536) (n1 := 256) j k)
  whh j k := x3 (ix2 (n0 := 1536) (n1 := 512) j k)
  bih j := x4 (ix2 (n0 := 1) (n1 := 1536) 0 j)
  bhh j := x5 (ix2 (n0 := 1) (n1 := 1536) 0 j)

abbrev a0 : IVec S2048 32 := m ((c.tc : Thread nD τ).loc main_arg0)
abbrev a1 : FVec Ideal S32000x256 .f32 := m ((c.tc : Thread nD τ).loc main_arg1)
abbrev a2 : FVec Ideal S1536x256 .f32 := m ((c.tc : Thread nD τ).loc main_arg2)
abbrev a3 : FVec Ideal S1536x512 .f32 := m ((c.tc : Thread nD τ).loc main_arg3)
abbrev a4 : FVec Ideal S1x1536 .f32 := m ((c.tc : Thread nD τ).loc main_arg4)
abbrev a5 : FVec Ideal S1x1536 .f32 := m ((c.tc : Thread nD τ).loc main_arg5)

/-- The buffers before the first step. -/
abbrev V0 : Valuation τ sig (Elt Ideal) := entryContents preI m c
abbrev refArgs : Args := argsOf (a0 m c) (a1 m c) (a2 m c) (a3 m c) (a4 m c) (a5 m c)

theorem en0 : bSrc (V0 m c) = shapeCast S128x16 (a0 m c) shapeCasts_S2048_S128x16 := by
  simp only [entryContents, afterL_cons, afterL_nil]
  after_reads_simp <;> rfl
theorem en1 : bEmb (V0 m c) = a1 m c := by
  simp only [entryContents, afterL_cons, afterL_nil]
  after_reads_simp <;> rfl
theorem en2 : bBih (V0 m c) = a4 m c := by
  simp only [entryContents, afterL_cons, afterL_nil]
  after_reads_simp <;> rfl
theorem en3 : bBhh (V0 m c) = a5 m c := by
  simp only [entryContents, afterL_cons, afterL_nil]
  after_reads_simp <;> rfl
theorem en4 : bWih (V0 m c) = a2 m c := by
  simp only [entryContents, afterL_cons, afterL_nil]
  after_reads_simp <;> rfl
theorem en5 : bWhh (V0 m c) = a3 m c := by
  simp only [entryContents, afterL_cons, afterL_nil]
  after_reads_simp <;> rfl
theorem en6 : bT (V0 m c) = constantI S_ 32 0#32 := by
  simp only [entryContents, afterL_cons, afterL_nil]
  after_reads_simp <;> rfl
theorem en7 : bHid (V0 m c) = broadcastInDim S16x512 ![] bcast_S_S16x512 (constant (F := Ideal) S_ .f32 0x00000000#32) := by
  simp only [entryContents, afterL_cons, afterL_nil]
  after_reads_simp <;> rfl

theorem src_at (x : IVec S2048 32) (k : Fin 128) (b : Fin 16) :
    (shapeCast S128x16 x shapeCasts_S2048_S128x16 : IVec S128x16 32) (ix2 (n0 := 128) (n1 := 16) k b) = x (ix1 (n0 := 2048) (row k.val b)) := by
  have e : (shapeCast S128x16 x shapeCasts_S2048_S128x16 : IVec S128x16 32) (ix2 (n0 := 128) (n1 := 16) k b)
      = x (ix1 (n0 := 2048) ⟨k.val * 16 + b.val, by omega⟩) := by
    pointwise []
  rw [e]
  exact congrArg (fun q : Fin 2048 => x (ix1 (n0 := 2048) q)) (Fin.ext (by show k.val * 16 + b.val = (16 * k.val + b.val) % 2048; omega))
theorem zero_at (b : Fin 16) (j : Fin 512) :
    (broadcastInDim S16x512 ![] bcast_S_S16x512 (constant (F := Ideal) S_ .f32 0x00000000#32) : FVec Ideal S16x512 .f32) (ix2 (n0 := 16) (n1 := 512) b j) = 0 := by
  pointwise []

/-- The buffers hold the operands. -/
theorem reads_entry : Reads (V0 m c) (refArgs m c) where
  src k b := by rw [en0, src_at]; rfl
  emb v k := by rw [en1]; rfl
  bih j := by rw [en2]; rfl
  bhh j := by rw [en3]; rfl
  wih j k := by rw [en4]; rfl
  whh j k := by rw [en5]; rfl

/-- The result: the hidden rows after all the steps. -/
theorem result_at (hA : (refArgs m c).Ok) (b : Fin 16) (j : Fin 512) :
    bHid (STEP^[128] (V0 m c)) (ix2 (n0 := 16) (n1 := 512) b j) = hid (refArgs m c) 128 b j :=
  (steps (reads_entry m c) hA (by rw [en6]; rfl) (fun b j => by rw [en7]; exact zero_at b j) 128 le_rfl).2.2 b j

end Cert.RefEncIdeal.Enc

end
-- ==== Proof.EncClaims.lean ====
/-
  The claims about the encoder: from tokens that name rows of the table, both programs leave their arguments and semaphores
  as they were, and at extended reals they end with the same hidden rows.
-/
module

public import proofs.«01_k».proof.Defs
public import proofs.«01_k».proof.Proof.EncBitsRun
public import proofs.«01_k».proof.Proof.EncVal
public import proofs.«01_k».proof.Proof.EncRef
public import proofs.«01_k».proof.Proof.Gen.Pre_tokens_in_range
public import Idealize.ShloMosaic.Lib.Quiescent
public import Idealize.ShloMosaic.Lib.ReduceAll

@[expose] public section

set_option maxRecDepth 16384

noncomputable section

namespace Cert.Proof.EncClaims

open Idealize.ShloMosaic Idealize.ShloMosaic.TcCoe
open Idealize.SL.Sem
open Cert.EncSpec

/-! ## Tokens in range -/

theorem word_range (w : BitVec 32) (h0 : IntOp.cmpi .sge w 0#32 = 1#1) (h1 : IntOp.cmpi .slt w 32000#32 = 1#1) : w.toNat < 32000 := by
  have g0 : (0#32).sle w = true := by
    cases h : (0#32).sle w
    · exact absurd (show BitVec.ofBool ((0#32).sle w) = 1#1 from h0) (by rw [h]; decide)
    · rfl
  have g1 : w.slt 32000#32 = true := by
    cases h : w.slt 32000#32
    · exact absurd (show BitVec.ofBool (w.slt 32000#32) = 1#1 from h1) (by rw [h]; decide)
    · rfl
  have e0 : (0 : ℤ) ≤ w.toInt := by simpa [BitVec.sle] using g0
  have e1 : w.toInt < 32000 := by simpa [BitVec.slt] using g1
  rw [BitVec.toInt_eq_toNat_cond] at e0 e1
  split_ifs at e0 e1 <;> omega

section Pre
open Cert.Pre_tokens_in_range Cert.Pre_tokens_in_range.Gen

instance : Subsingleton S_.Idx := ⟨fun a b => funext fun i => absurd i.isLt (by show ¬ i.val < 0; omega)⟩

theorem range_of_pre {F : FTy → Type} [FloatOps F] (x0 : IVec S2048 32) (x1 : FVec F S32000x256 .f32) (x2 : FVec F S1536x256 .f32) (x3 : FVec F S1536x512 .f32)
    (x4 x5 : FVec F S1x1536 .f32) (h : Cert.Pre_tokens_in_range.fn (F := F) x0 x1 x2 x3 x4 x5 = fun _ => 1#1) (n : Fin 2048) :
    (x0 (ix1 (n0 := 2048) n)).toNat < 32000 := by
  have h0 := congrFun h ix0
  unfold Cert.Pre_tokens_in_range.fn at h0
  dsimp only at h0
  have hn := Host.reduce_andi_all _ _ _ _ _ h0 (ix1 (n0 := 2048) n)
  have hb := (show ∀ p q : BitVec 1, IntOp.andi p q = 1#1 → p = 1#1 ∧ q = 1#1 by decide) _ _ hn
  exact word_range _ hb.1 hb.2
end Pre

/-! ## The kernel's operands -/

section Bits
open Cert.Enc Cert.Enc.Gen Cert.Enc.Enc

variable {F : FTy → Type} [FloatOps F] (m : (ℓ : Loc nD τ sig) → Buf (Elt F) ℓ)

theorem toksOkBits (h : ∀ (c : Dev nD) (n : Fin 2048), ((m ((c.tc : Thread nD τ).loc main_arg0) : S2048.Idx → BitVec 32) (ix1 (n0 := 2048) n)).toNat < 32000) :
    Cert.Enc.Enc.ToksOk m := by
  intro c t r hr
  have e : Cert.Enc.Enc.tokAt (iblk m c 0 t) r hr = (m ((c.tc : Thread nD τ).loc main_arg0) : S2048.Idx → BitVec 32) (ix1 (n0 := 2048) ⟨r, hr⟩) := by
    have hx : win0_0.index t 0 = 0 := (by decide +kernel : ∀ t : Fin grid0.N, win0_0.index t 0 = 0) t
    refine congrArg (m ((c.tc : Thread nD τ).loc main_arg0)) (funext fun a => Fin.ext ?_)
    match a with
    | ⟨0, _⟩ =>
      show win0_0.index t 0 * 2048 + 1 * (r + 1 * 0) = r
      omega
  rw [e]
  exact h c ⟨r, hr⟩
end Bits

section Kernel
open Cert.EncIdeal Cert.EncIdeal.Gen Cert.EncIdeal.Enc

variable {F : FTy → Type} [FloatOps F] (m : (ℓ : Loc nD τ sig) → Buf (Elt F) ℓ)

theorem blk0_at (c : Dev nD) (t : Fin cfg0.N) (n : Fin 2048) : (iblk m c 0 t : S2048.Idx → BitVec 32) (ix1 (n0 := 2048) n)
    = (m ((c.tc : Thread nD τ).loc main_arg0) : S2048.Idx → BitVec 32) (ix1 (n0 := 2048) n) := by
  have hx : win0_0.index t 0 = 0 := (by decide +kernel : ∀ t : Fin grid0.N, win0_0.index t 0 = 0) t
  refine congrArg (m ((c.tc : Thread nD τ).loc main_arg0)) (funext fun a => Fin.ext ?_)
  match a with
  | ⟨0, _⟩ => show win0_0.index t 0 * 2048 + 1 * n.val = n.val; omega
theorem blk1_at (c : Dev nD) (t : Fin cfg0.N) (j : Fin 1536) (k : Fin 256) : iblk m c 1 t (ix2 j k)
    = (m ((c.tc : Thread nD τ).loc main_arg2) : S1536x256.Idx → F .f32) (ix2 (n0 := 1536) (n1 := 256) j k) := by
  have hx : win0_1.index t 0 = 0 ∧ win0_1.index t 1 = 0 := (by decide +kernel : ∀ t : Fin grid0.N, win0_1.index t 0 = 0 ∧ win0_1.index t 1 = 0) t
  refine congrArg (m ((c.tc : Thread nD τ).loc main_arg2)) (funext fun a => Fin.ext ?_)
  match a with
  | ⟨0, _⟩ => show win0_1.index t 0 * 1536 + 1 * j.val = j.val; omega
  | ⟨1, _⟩ => show win0_1.index t 1 * 256 + 1 * k.val = k.val; omega
theorem blk2_at (c : Dev nD) (t : Fin cfg0.N) (j : Fin 1536) (k : Fin 512) : iblk m c 2 t (ix2 j k)
    = (m ((c.tc : Thread nD τ).loc main_arg3) : S1536x512.Idx → F .f32) (ix2 (n0 := 1536) (n1 := 512) j k) := by
  have hx : win0_2.index t 0 = 0 ∧ win0_2.index t 1 = 0 := (by decide +kernel : ∀ t : Fin grid0.N, win0_2.index t 0 = 0 ∧ win0_2.index t 1 = 0) t
  refine congrArg (m ((c.tc : Thread nD τ).loc main_arg3)) (funext fun a => Fin.ext ?_)
  match a with
  | ⟨0, _⟩ => show win0_2.index t 0 * 1536 + 1 * j.val = j.val; omega
  | ⟨1, _⟩ => show win0_2.index t 1 * 512 + 1 * k.val = k.val; omega
theorem blk3_at (c : Dev nD) (t : Fin cfg0.N) (z : Fin 1) (j : Fin 1536) : iblk m c 3 t (ix2 z j)
    = (m ((c.tc : Thread nD τ).loc main_arg4) : S1x1536.Idx → F .f32) (ix2 (n0 := 1) (n1 := 1536) z j) := by
  have hx : win0_3.index t 0 = 0 ∧ win0_3.index t 1 = 0 := (by decide +kernel : ∀ t : Fin grid0.N, win0_3.index t 0 = 0 ∧ win0_3.index t 1 = 0) t
  refine congrArg (m ((c.tc : Thread nD τ).loc main_arg4)) (funext fun a => Fin.ext ?_)
  match a with
  | ⟨0, _⟩ => show win0_3.index t 0 * 1 + 1 * z.val = z.val; omega
  | ⟨1, _⟩ => show win0_3.index t 1 * 1536 + 1 * j.val = j.val; omega
theorem blk4_at (c : Dev nD) (t : Fin cfg0.N) (z : Fin 1) (j : Fin 1536) : iblk m c 4 t (ix2 z j)
    = (m ((c.tc : Thread nD τ).loc main_arg5) : S1x1536.Idx → F .f32) (ix2 (n0 := 1) (n1 := 1536) z j) := by
  have hx : win0_4.index t 0 = 0 ∧ win0_4.index t 1 = 0 := (by decide +kernel : ∀ t : Fin grid0.N, win0_4.index t 0 = 0 ∧ win0_4.index t 1 = 0) t
  refine congrArg (m ((c.tc : Thread nD τ).loc main_arg5)) (funext fun a => Fin.ext ?_)
  match a with
  | ⟨0, _⟩ => show win0_4.index t 0 * 1 + 1 * z.val = z.val; omega
  | ⟨1, _⟩ => show win0_4.index t 1 * 1536 + 1 * j.val = j.val; omega

theorem toksOk (h : ∀ (c : Dev nD) (n : Fin 2048), ((m ((c.tc : Thread nD τ).loc main_arg0) : S2048.Idx → BitVec 32) (ix1 (n0 := 2048) n)).toNat < 32000) :
    ToksOk m := by
  intro c t r hr
  have e : tokAt (iblk m c 0 t) r hr = (m ((c.tc : Thread nD τ).loc main_arg0) : S2048.Idx → BitVec 32) (ix1 (n0 := 2048) ⟨r, hr⟩) :=
    (tokAt_eq (iblk m c 0 t) ⟨r, hr⟩).trans (blk0_at m c t ⟨r, hr⟩)
  rw [e]
  exact h c ⟨r, hr⟩
end Kernel

section Value
open Cert.EncIdeal Cert.EncIdeal.Gen Cert.EncIdeal.Enc

variable (m : (ℓ : Loc nD τ sig) → Buf (Elt Ideal) ℓ)

/-- The encoder's operands on core `c`. -/
abbrev kerArgs (c : Dev nD) : Args := Cert.RefEncIdeal.Enc.argsOf (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5))

theorem holds (c : Dev nD) (t : Fin cfg0.N) : Holds (kerArgs m c) (hbM.view.read (Elt Ideal) (V m c main_arg1)) (iblk m c 0 t) (iblk m c 1 t)
    (iblk m c 2 t) (iblk m c 3 t) (iblk m c 4 t) where
  emb := fun v k => rfl
  tok := fun n => blk0_at m c t n
  wih := fun j k => blk1_at m c t j k
  whh := fun j k => blk2_at m c t j k
  bih := fun j => blk3_at m c t 0 j
  bhh := fun j => blk4_at m c t 0 j

theorem resAt_at (c : Dev nD) (b : Fin 16) (j : Fin 512) : resAt m c p0 (ix2 (n0 := 16) (n1 := 512) b j) = hid (kerArgs m c) 128 b j :=
  resOf_at (holds m c p0) b j
end Value

/-! ## The claims -/

theorem frame_p : Cert.quiescent_Enc := fun m ρ hpre =>
  (θ_run Cert.Enc.defs _ _).mono (fun _ ⟨h, hz⟩ => ⟨fun c => (h c).2, hz⟩)
    (Cert.Enc.Enc.run m ρ (toksOkBits m fun c n => range_of_pre _ _ _ _ _ _ (hpre c) n))
theorem frame_pi : Cert.quiescent_EncIdeal := fun m ρ hpre =>
  (θ_run Cert.EncIdeal.defs _ _).mono (fun _ ⟨h, hz⟩ => ⟨fun c => (h c).2, hz⟩)
    (Cert.EncIdeal.Enc.run m ρ (toksOk m fun c n => range_of_pre _ _ _ _ _ _ (hpre c) n))
/-- The reference declares no semaphore; its run is read at the arguments. -/
theorem frame_ri : Cert.quiescent_RefEncIdeal := fun m ρ _ =>
  (θ_run Cert.RefEncIdeal.defs _ _).mono (fun r h => ⟨fun c => (h c).2, Idealize.ShloMosaic.sem_eq_zero_of_no_sems (by decide) r.2⟩)
    (Cert.RefEncIdeal.Value.run (F := Ideal) m ρ)
theorem frame_ri_pre : Cert.quiescent_RefEncIdeal_pre_tokens_in_range := fun m ρ _ =>
  (θ_run Cert.RefEncIdeal.defs _ _).mono (fun r h => ⟨fun c => (h c).2, Idealize.ShloMosaic.sem_eq_zero_of_no_sems (by decide) r.2⟩)
    (Cert.RefEncIdeal.Value.run (F := Ideal) m ρ)
theorem preserves : Cert.preserves_Enc_EncIdeal := trivial

/-- From tokens that name rows of the table both programs end with the same hidden rows. -/
theorem algebraic : Cert.algebraic_EncIdeal_RefEncIdeal := by
  intro m ρ m' ρ' hpre hag
  have hr := fun c n => range_of_pre _ _ _ _ _ _ (hpre c) n
  refine ⟨fun c => Cert.EncIdeal.Enc.resAt m c Cert.EncIdeal.Enc.p0,
    (θ_run Cert.EncIdeal.defs _ _).mono (fun _ h c => h.1 c) (Cert.EncIdeal.Enc.run m ρ (toksOk m hr)), ?_⟩
  have hargs : ∀ c, Cert.RefEncIdeal.Enc.refArgs m' c = kerArgs m c := fun c => by
    obtain ⟨h0, h1, h2, h3, h4, h5⟩ := hag c
    unfold Cert.RefEncIdeal.Enc.refArgs kerArgs Cert.RefEncIdeal.Enc.a0 Cert.RefEncIdeal.Enc.a1
      Cert.RefEncIdeal.Enc.a2 Cert.RefEncIdeal.Enc.a3 Cert.RefEncIdeal.Enc.a4 Cert.RefEncIdeal.Enc.a5
    rw [h0, h1, h2, h3, h4, h5]
  have hA : ∀ c, (Cert.RefEncIdeal.Enc.refArgs m' c).Ok := fun c => by rw [hargs c]; exact fun n => hr c n
  refine (θ_run Cert.RefEncIdeal.defs _ _).mono (fun _ h c => ⟨(h c).1.trans ?_, (h c).2⟩)
    (Cert.RefEncIdeal.Value.run (F := Ideal) m' ρ')
  refine funext fun (i : Cert.EncIdeal.S16x512.Idx) => ?_
  idx_vars i
  refine (Cert.RefEncIdeal.Enc.result_at m' c (hA c) i0 i1).trans ?_
  rw [hargs c]
  exact (resAt_at m c i0 i1).symm

end Cert.Proof.EncClaims

end
-- ==== Proof.lean ====
/-
  The claims, put together: the beam decoder (frames at extended reals, and the same tokens and scores as the reference
  from finite arguments) and the logits' part that depends on the context alone (frames, preserves, and the same arrays).
-/
module

public import proofs.«01_k».proof.Defs
public import proofs.«01_k».proof.Proof.Gen.Base
public import proofs.«01_k».proof.Proof.Gen.Base.Skeleton
public import proofs.«01_k».proof.Proof.Gen.Base.Launch
public import proofs.«01_k».proof.Proof.Gen.Base.Points
public import proofs.«01_k».proof.Proof.Gen.Base.Frame
public import proofs.«01_k».proof.Proof.Gen.BaseIdeal
public import proofs.«01_k».proof.Proof.Gen.BaseIdeal.Skeleton
public import proofs.«01_k».proof.Proof.Gen.BaseIdeal.Launch
public import proofs.«01_k».proof.Proof.Gen.BaseIdeal.Points
public import proofs.«01_k».proof.Proof.Gen.BaseIdeal.Frame
public import proofs.«01_k».proof.Proof.Gen.BaseIdeal.Value
public import proofs.«01_k».proof.Proof.Gen.RefBaseIdeal
public import proofs.«01_k».proof.Proof.Gen.RefBaseIdeal.Run
public import proofs.«01_k».proof.Proof.Gen.RefBaseIdeal.Read
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_args
public import proofs.«01_k».proof.Proof.Gen.Enc
public import proofs.«01_k».proof.Proof.Gen.Enc.Skeleton
public import proofs.«01_k».proof.Proof.Gen.Enc.Loops
public import proofs.«01_k».proof.Proof.Gen.Enc.Launch
public import proofs.«01_k».proof.Proof.Gen.Enc.Points
public import proofs.«01_k».proof.Proof.Gen.Enc.Frame
public import proofs.«01_k».proof.Proof.Gen.EncIdeal
public import proofs.«01_k».proof.Proof.Gen.EncIdeal.Skeleton
public import proofs.«01_k».proof.Proof.Gen.EncIdeal.Loops
public import proofs.«01_k».proof.Proof.Gen.EncIdeal.Launch
public import proofs.«01_k».proof.Proof.Gen.EncIdeal.Points
public import proofs.«01_k».proof.Proof.Gen.EncIdeal.Frame
public import proofs.«01_k».proof.Proof.Gen.RefEncIdeal
public import proofs.«01_k».proof.Proof.Gen.RefEncIdeal.Run
public import proofs.«01_k».proof.Proof.Gen.Pre_tokens_in_range
public import proofs.«01_k».proof.Proof.BaseClaims
public import proofs.«01_k».proof.Proof.DecClaims
public import proofs.«01_k».proof.Proof.EncClaims
public import Idealize.ShloMosaic.Adequacy
public import Idealize.ShloMosaic.Init

@[expose] public section

noncomputable section

namespace Cert.Proof

open Idealize.ShloMosaic Idealize.SL.Sem

theorem claim : Cert.Claim := ⟨Cert.KernelIdeal.Gen.facts, Cert.ReferenceIdeal.Gen.facts, Cert.Base.Gen.facts, Cert.BaseIdeal.Gen.facts,
  Cert.RefBaseIdeal.Gen.facts, Cert.Enc.Gen.facts, Cert.EncIdeal.Gen.facts,
  Cert.RefEncIdeal.Gen.facts, Cert.Pre_finite_args.Gen.facts, Cert.Pre_tokens_in_range.Gen.facts,
  DecClaims.frame_pi, DecClaims.frame_pi_pre, DecClaims.frame_ri, DecClaims.frame_ri_pre,
  BaseClaims.frame_p, BaseClaims.frame_pi, BaseClaims.frame_ri,
  EncClaims.frame_p, EncClaims.frame_pi, EncClaims.frame_ri, EncClaims.frame_ri_pre,
  DecClaims.algebraic, BaseClaims.preserves, BaseClaims.algebraic,
  EncClaims.preserves, EncClaims.algebraic⟩

end Cert.Proof

end
